-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "exp2_scale" .f32 0x3DB8AA3B#32 (((1 / 16) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S3x4x2x8192x256 : Shape := ⟨5, ![3, 4, 2, 8192, 256]⟩
abbrev S3x4x8192x256 : Shape := ⟨4, ![3, 4, 8192, 256]⟩
abbrev S3x4x256x8192 : Shape := ⟨4, ![3, 4, 256, 8192]⟩
abbrev S_ : Shape := ⟨0, ![]⟩

class Facts : Prop where
  bcast_S_S3x4x2x8192x256 : S_.BroadcastsInDim S3x4x2x8192x256 (![] : Fin 0 → Fin S3x4x2x8192x256.rank)
  bcast_S_S3x4x8192x256 : S_.BroadcastsInDim S3x4x8192x256 (![] : Fin 0 → Fin S3x4x8192x256.rank)

variable [Facts]

def fn {F : FTy → Type} [FloatOps F] (main_arg0 : FVec F S3x4x2x8192x256 .bf16) (main_arg1 : FVec F S3x4x8192x256 .bf16) (main_arg2 : FVec F S3x4x256x8192 .bf16) : IVec S3x4x2x8192x256 1 × IVec S3x4x8192x256 1 :=
  let main_v0 : FVec F S3x4x2x8192x256 .bf16 := Host.absf main_arg0
  let main_cst : FVec F S_ .bf16 := constant S_ .bf16 0x7F80#16
  let main_v1 : FVec F S3x4x2x8192x256 .bf16 := broadcastInDim S3x4x2x8192x256 ![] bcast_S_S3x4x2x8192x256 main_cst
  let main_v2 : IVec S3x4x2x8192x256 1 := cmpf .olt main_v0 main_v1
  let main_v3 : FVec F S3x4x8192x256 .bf16 := Host.absf main_arg1
  let main_cst_0 : FVec F S_ .bf16 := constant S_ .bf16 0x7F80#16
  let main_v4 : FVec F S3x4x8192x256 .bf16 := broadcastInDim S3x4x8192x256 ![] bcast_S_S3x4x8192x256 main_cst_0
  let main_v5 : IVec S3x4x8192x256 1 := cmpf .olt main_v3 main_v4
  (main_v2, main_v5)
-- ==== Kernel.lean ====
abbrev S3x4x2x8192x256 : Shape := ⟨5, ![3, 4, 2, 8192, 256]⟩
abbrev S3x4x8192x256 : Shape := ⟨4, ![3, 4, 8192, 256]⟩
abbrev S3x4x256x8192 : Shape := ⟨4, ![3, 4, 256, 8192]⟩
abbrev S3x8x8192x256 : Shape := ⟨4, ![3, 8, 8192, 256]⟩
abbrev S3x4x2x8192 : Shape := ⟨4, ![3, 4, 2, 8192]⟩
abbrev S1x1x2x8192x256 : Shape := ⟨5, ![1, 1, 2, 8192, 256]⟩
abbrev S1x1x1024x256 : Shape := ⟨4, ![1, 1, 1024, 256]⟩
abbrev S1x1x256x1024 : Shape := ⟨4, ![1, 1, 256, 1024]⟩
abbrev S1x2x1024x256 : Shape := ⟨4, ![1, 2, 1024, 256]⟩
abbrev S1x1x2x1024 : Shape := ⟨4, ![1, 1, 2, 1024]⟩
abbrev S32x256x512 : Shape := ⟨3, ![32, 256, 512]⟩
abbrev S32x8x512 : Shape := ⟨3, ![32, 8, 512]⟩
abbrev S2x1024x512 : Shape := ⟨3, ![2, 1024, 512]⟩
abbrev S2x2x8x512 : Shape := ⟨4, ![2, 2, 8, 512]⟩
abbrev S256x512 : Shape := ⟨2, ![256, 512]⟩
abbrev S1x256x512 : Shape := ⟨3, ![1, 256, 512]⟩
abbrev S1x1x2x256x256 : Shape := ⟨5, ![1, 1, 2, 256, 256]⟩
abbrev S2x256x256 : Shape := ⟨3, ![2, 256, 256]⟩
abbrev S512x256 : Shape := ⟨2, ![512, 256]⟩
abbrev S1x1x256x256 : Shape := ⟨4, ![1, 1, 256, 256]⟩
abbrev S256x256 : Shape := ⟨2, ![256, 256]⟩
abbrev S8x512 : Shape := ⟨2, ![8, 512]⟩
abbrev S1x1x8x512 : Shape := ⟨4, ![1, 1, 8, 512]⟩
abbrev S1x8x512 : Shape := ⟨3, ![1, 8, 512]⟩
abbrev S512 : Shape := ⟨1, ![512]⟩
abbrev S1x512 : Shape := ⟨2, ![1, 512]⟩
abbrev S1x256 : Shape := ⟨2, ![1, 256]⟩
abbrev S1x1x1x256 : Shape := ⟨4, ![1, 1, 1, 256]⟩
abbrev S1x1x256x512 : Shape := ⟨4, ![1, 1, 256, 512]⟩
abbrev S1x512x512 : Shape := ⟨3, ![1, 512, 512]⟩
abbrev S512x512 : Shape := ⟨2, ![512, 512]⟩
abbrev S1x1x256x768 : Shape := ⟨4, ![1, 1, 256, 768]⟩
abbrev S256x768 : Shape := ⟨2, ![256, 768]⟩
abbrev S1x768x512 : Shape := ⟨3, ![1, 768, 512]⟩
abbrev S768x512 : Shape := ⟨2, ![768, 512]⟩
abbrev S256x1024 : Shape := ⟨2, ![256, 1024]⟩
abbrev S1x1024x512 : Shape := ⟨3, ![1, 1024, 512]⟩
abbrev S1024x512 : Shape := ⟨2, ![1024, 512]⟩

abbrev nBuf : Space → Nat
  | .hbm => 6
  | .vmem => 19
  | .smem => 0
  | _ => 0

abbrev bufTy : (tb : Table) → Fin (tcTables nBuf tb) → BufTy
  | .hbm, ⟨0, _⟩ => ⟨S3x4x2x8192x256, .bf16⟩
  | .hbm, ⟨1, _⟩ => ⟨S3x4x8192x256, .bf16⟩
  | .hbm, ⟨2, _⟩ => ⟨S3x4x256x8192, .bf16⟩
  | .hbm, ⟨3, _⟩ => ⟨S3x8x8192x256, .f32⟩
  | .hbm, ⟨4, _⟩ => ⟨S3x4x2x8192, .f32⟩
  | .hbm, ⟨5, _⟩ => ⟨S3x4x2x8192, .f32⟩
  | .local _ .vmem, ⟨0, _⟩ => ⟨S1x1x2x8192x256, .bf16⟩
  | .local _ .vmem, ⟨1, _⟩ => ⟨S1x1x2x8192x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x2x1024x256, .f32⟩
  | .local _ .vmem, ⟨7, _⟩ => ⟨S1x2x1024x256, .f32⟩
  | .local _ .vmem, ⟨8, _⟩ => ⟨S1x1x2x1024, .f32⟩
  | .local _ .vmem, ⟨9, _⟩ => ⟨S1x1x2x1024, .f32⟩
  | .local _ .vmem, ⟨10, _⟩ => ⟨S1x1x2x1024, .f32⟩
  | .local _ .vmem, ⟨11, _⟩ => ⟨S1x1x2x1024, .f32⟩
  | .local _ .vmem, ⟨12, _⟩ => ⟨S32x256x512, .f32⟩
  | .local _ .vmem, ⟨13, _⟩ => ⟨S32x8x512, .f32⟩
  | .local _ .vmem, ⟨14, _⟩ => ⟨S32x8x512, .f32⟩
  | .local _ .vmem, ⟨15, _⟩ => ⟨S32x8x512, .f32⟩
  | .local _ .vmem, ⟨16, _⟩ => ⟨S2x1024x512, .f32⟩
  | .local _ .vmem, ⟨17, _⟩ => ⟨S2x1024x512, .bf16⟩
  | .local _ .vmem, ⟨18, _⟩ => ⟨S2x2x8x512, .f32⟩
  | _, _ => ⟨S3x4x2x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_527 : BitVec 32 := 0#32
  let c32_i32_528 : BitVec 32 := 32#32
  let v786 : BitVec 32 := Scalar.addi c0_i32_527 c32_i32_528
  let c1_i32_529 : BitVec 32 := 1#32
  ⟨c0_i32_527, v786, c1_i32_529⟩
def k0_off1 (k0_t1 : Fin k0_t1_loop.trips) : Fin 3 → Nat :=
  let c0_i32_527 : BitVec 32 := 0#32
  let c1_i32_529 : BitVec 32 := 1#32
  let arg15 : BitVec 32 := Scf.iv c0_i32_527 c1_i32_529 k0_t1
  let v800 : Index := Scalar.indexCast arg15
  let c0_544 : Index := 0#32
  let c0_545 : Index := 0#32
  ![v800.toNat, 0, 0]
def k0_off2 (i : grid0.Coords) : Fin 5 → Nat :=
  let c0 : Index := 0#32
  let c0_2 : Index := 0#32
  let c0_3 : Index := 0#32
  let arg1 : BitVec 32 := BitVec.ofNat 32 (i 1).val
  let c4_i32 : BitVec 32 := 4#32
  let v5 : BitVec 32 := Scalar.muli arg1 c4_i32
  let c256_i32 : BitVec 32 := 256#32
  let v6 : BitVec 32 := Scalar.muli v5 c256_i32
  let v7 : Index := Scalar.indexCast v6
  let c0_4 : Index := 0#32
  ![0, 0, 0, v7.toNat, 0]
def k0_off3 (i : grid0.Coords) (c0_i32_23 : BitVec 32) : Fin 5 → Nat :=
  let c0_25 : Index := 0#32
  let c0_26 : Index := 0#32
  let c0_27 : Index := 0#32
  let arg1 : BitVec 32 := BitVec.ofNat 32 (i 1).val
  let c4_i32 : BitVec 32 := 4#32
  let v5 : BitVec 32 := Scalar.muli arg1 c4_i32
  let v36 : BitVec 32 := Scalar.addi v5 c0_i32_23
  let c1_i32 : BitVec 32 := 1#32
  let v37 : BitVec 32 := Scalar.addi v36 c1_i32
  let c256_i32_24 : BitVec 32 := 256#32
  let v38 : BitVec 32 := Scalar.muli v37 c256_i32_24
  let v39 : Index := Scalar.indexCast v38
  let c0_28 : Index := 0#32
  ![0, 0, 0, v39.toNat, 0]
def k0_off4 (i : grid0.Coords) (c0_i32_59 : BitVec 32) : Fin 3 → Nat :=
  let arg1 : BitVec 32 := BitVec.ofNat 32 (i 1).val
  let c4_i32 : BitVec 32 := 4#32
  let v5 : BitVec 32 := Scalar.muli arg1 c4_i32
  let v80 : BitVec 32 := Scalar.addi v5 c0_i32_59
  let v85 : Index := Scalar.indexCast v80
  let c0_68 : Index := 0#32
  let c0_69 : Index := 0#32
  ![v85.toNat, 0, 0]
def k0_off5 (i : grid0.Coords) (c0_i32_59 : BitVec 32) : Fin 3 → Nat :=
  let arg1 : BitVec 32 := BitVec.ofNat 32 (i 1).val
  let c4_i32 : BitVec 32 := 4#32
  let v5 : BitVec 32 := Scalar.muli arg1 c4_i32
  let v80 : BitVec 32 := Scalar.addi v5 c0_i32_59
  let v128 : Index := Scalar.indexCast v80
  let c0_93 : Index := 0#32
  let c0_94 : Index := 0#32
  ![v128.toNat, 0, 0]
def k0_cond2 (i : grid0.Coords) : BitVec 1 :=
  let c32_i32 : BitVec 32 := 32#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let c0_i32_525 : BitVec 32 := 0#32
  let v783 : BitVec 1 := Scalar.cmpi .sgt v782 c0_i32_525
  let v784 : BitVec 32 := Scalar.extui v783
  let c0_i32_526 : BitVec 32 := 0#32
  let v785 : BitVec 1 := Scalar.cmpi .ne v784 c0_i32_526
  v785

def k0_off6 (i : grid0.Coords) : Fin 5 → Nat :=
  let c0_528 : Index := 0#32
  let c0_529 : Index := 0#32
  let c0_530 : Index := 0#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c256_i32_527 : BitVec 32 := 256#32
  let v786 : BitVec 32 := Scalar.muli v764 c256_i32_527
  let v787 : Index := Scalar.indexCast v786
  let c0_531 : Index := 0#32
  ![0, 0, 0, v787.toNat, 0]
@[reducible] def k0_t2_loop (i : grid0.Coords) : Scf.Loop 32 :=
  let c0_i32_580 : BitVec 32 := 0#32
  let c32_i32 : BitVec 32 := 32#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_583 : BitVec 32 := 1#32
  ⟨c0_i32_580, v847, c1_i32_583⟩
def k0_off7 (i : grid0.Coords) (k0_t2 : Fin (k0_t2_loop i).trips) : Fin 5 → Nat :=
  let c0_588 : Index := 0#32
  let c0_589 : Index := 0#32
  let c0_590 : Index := 0#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c1_i32_583 : BitVec 32 := 1#32
  let arg15 : BitVec 32 := Scf.iv c0_i32_580 c1_i32_583 k0_t2
  let v850 : BitVec 32 := Scalar.muli c2_i32_585 arg15
  let v851 : BitVec 32 := Scalar.addi v764 v850
  let c1_i32_586 : BitVec 32 := 1#32
  let v852 : BitVec 32 := Scalar.addi v851 c1_i32_586
  let c256_i32_587 : BitVec 32 := 256#32
  let v853 : BitVec 32 := Scalar.muli v852 c256_i32_587
  let v854 : Index := Scalar.indexCast v853
  let c0_591 : Index := 0#32
  ![0, 0, 0, v854.toNat, 0]
def k0_off8 (i : grid0.Coords) (k0_t2 : Fin (k0_t2_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c1_i32_583 : BitVec 32 := 1#32
  let arg15 : BitVec 32 := Scf.iv c0_i32_580 c1_i32_583 k0_t2
  let v850 : BitVec 32 := Scalar.muli c2_i32_585 arg15
  let v851 : BitVec 32 := Scalar.addi v764 v850
  let v914 : Index := Scalar.indexCast v851
  let c0_648 : Index := 0#32
  let c0_649 : Index := 0#32
  ![v914.toNat, 0, 0]
def k0_off9 (i : grid0.Coords) (k0_t2 : Fin (k0_t2_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c1_i32_583 : BitVec 32 := 1#32
  let arg15 : BitVec 32 := Scf.iv c0_i32_580 c1_i32_583 k0_t2
  let v850 : BitVec 32 := Scalar.muli c2_i32_585 arg15
  let v851 : BitVec 32 := Scalar.addi v764 v850
  let v1005 : Index := Scalar.indexCast v851
  let c0_697 : Index := 0#32
  let c0_698 : Index := 0#32
  ![v1005.toNat, 0, 0]
def k0_off10 (i : grid0.Coords) (k0_t2 : Fin (k0_t2_loop i).trips) : Fin 5 → Nat :=
  let c0_709 : Index := 0#32
  let c0_710 : Index := 0#32
  let c0_711 : Index := 0#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c1_i32_583 : BitVec 32 := 1#32
  let arg15 : BitVec 32 := Scf.iv c0_i32_580 c1_i32_583 k0_t2
  let v850 : BitVec 32 := Scalar.muli c2_i32_585 arg15
  let v851 : BitVec 32 := Scalar.addi v764 v850
  let c2_i32_707 : BitVec 32 := 2#32
  let v1031 : BitVec 32 := Scalar.addi v851 c2_i32_707
  let c31_i32 : BitVec 32 := 31#32
  let v1032 : BitVec 32 := Scalar.minsi v1031 c31_i32
  let c256_i32_708 : BitVec 32 := 256#32
  let v1033 : BitVec 32 := Scalar.muli v1032 c256_i32_708
  let v1034 : Index := Scalar.indexCast v1033
  let c0_712 : Index := 0#32
  ![0, 0, 0, v1034.toNat, 0]
def k0_off11 (i : grid0.Coords) (k0_t2 : Fin (k0_t2_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c1_i32_583 : BitVec 32 := 1#32
  let arg15 : BitVec 32 := Scf.iv c0_i32_580 c1_i32_583 k0_t2
  let v850 : BitVec 32 := Scalar.muli c2_i32_585 arg15
  let v851 : BitVec 32 := Scalar.addi v764 v850
  let c1_i32_761 : BitVec 32 := 1#32
  let v1090 : BitVec 32 := Scalar.addi v851 c1_i32_761
  let v1095 : Index := Scalar.indexCast v1090
  let c0_770 : Index := 0#32
  let c0_771 : Index := 0#32
  ![v1095.toNat, 0, 0]
def k0_off12 (i : grid0.Coords) (k0_t2 : Fin (k0_t2_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c1_i32_583 : BitVec 32 := 1#32
  let arg15 : BitVec 32 := Scf.iv c0_i32_580 c1_i32_583 k0_t2
  let v850 : BitVec 32 := Scalar.muli c2_i32_585 arg15
  let v851 : BitVec 32 := Scalar.addi v764 v850
  let c1_i32_761 : BitVec 32 := 1#32
  let v1090 : BitVec 32 := Scalar.addi v851 c1_i32_761
  let v1186 : Index := Scalar.indexCast v1090
  let c0_819 : Index := 0#32
  let c0_820 : Index := 0#32
  ![v1186.toNat, 0, 0]
@[reducible] def k0_t3_loop (i : grid0.Coords) : Scf.Loop 32 :=
  let c0_i32_580 : BitVec 32 := 0#32
  let c32_i32 : BitVec 32 := 32#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let v844 : BitVec 32 := Scalar.addi c0_i32_580 v843
  let c1_i32_584 : BitVec 32 := 1#32
  ⟨v847, v844, c1_i32_584⟩
def k0_off13 (i : grid0.Coords) (k0_t3 : Fin (k0_t3_loop i).trips) : Fin 5 → Nat :=
  let c0_588 : Index := 0#32
  let c0_589 : Index := 0#32
  let c0_590 : Index := 0#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c32_i32 : BitVec 32 := 32#32
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_584 : BitVec 32 := 1#32
  let arg15 : BitVec 32 := Scf.iv v847 c1_i32_584 k0_t3
  let v850 : BitVec 32 := Scalar.muli c2_i32_585 arg15
  let v851 : BitVec 32 := Scalar.addi v764 v850
  let c1_i32_586 : BitVec 32 := 1#32
  let v852 : BitVec 32 := Scalar.addi v851 c1_i32_586
  let c256_i32_587 : BitVec 32 := 256#32
  let v853 : BitVec 32 := Scalar.muli v852 c256_i32_587
  let v854 : Index := Scalar.indexCast v853
  let c0_591 : Index := 0#32
  ![0, 0, 0, v854.toNat, 0]
def k0_off14 (i : grid0.Coords) (k0_t3 : Fin (k0_t3_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c32_i32 : BitVec 32 := 32#32
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_584 : BitVec 32 := 1#32
  let arg15 : BitVec 32 := Scf.iv v847 c1_i32_584 k0_t3
  let v850 : BitVec 32 := Scalar.muli c2_i32_585 arg15
  let v851 : BitVec 32 := Scalar.addi v764 v850
  let v914 : Index := Scalar.indexCast v851
  let c0_648 : Index := 0#32
  let c0_649 : Index := 0#32
  ![v914.toNat, 0, 0]
def k0_off15 (i : grid0.Coords) (k0_t3 : Fin (k0_t3_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c32_i32 : BitVec 32 := 32#32
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_584 : BitVec 32 := 1#32
  let arg15 : BitVec 32 := Scf.iv v847 c1_i32_584 k0_t3
  let v850 : BitVec 32 := Scalar.muli c2_i32_585 arg15
  let v851 : BitVec 32 := Scalar.addi v764 v850
  let v1005 : Index := Scalar.indexCast v851
  let c0_697 : Index := 0#32
  let c0_698 : Index := 0#32
  ![v1005.toNat, 0, 0]
def k0_off16 (i : grid0.Coords) (k0_t3 : Fin (k0_t3_loop i).trips) : Fin 5 → Nat :=
  let c0_709 : Index := 0#32
  let c0_710 : Index := 0#32
  let c0_711 : Index := 0#32
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c32_i32 : BitVec 32 := 32#32
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_584 : BitVec 32 := 1#32
  let arg15 : BitVec 32 := Scf.iv v847 c1_i32_584 k0_t3
  let v850 : BitVec 32 := Scalar.muli c2_i32_585 arg15
  let v851 : BitVec 32 := Scalar.addi v764 v850
  let c2_i32_707 : BitVec 32 := 2#32
  let v1031 : BitVec 32 := Scalar.addi v851 c2_i32_707
  let c31_i32 : BitVec 32 := 31#32
  let v1032 : BitVec 32 := Scalar.minsi v1031 c31_i32
  let c256_i32_708 : BitVec 32 := 256#32
  let v1033 : BitVec 32 := Scalar.muli v1032 c256_i32_708
  let v1034 : Index := Scalar.indexCast v1033
  let c0_712 : Index := 0#32
  ![0, 0, 0, v1034.toNat, 0]
def k0_off17 (i : grid0.Coords) (k0_t3 : Fin (k0_t3_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c32_i32 : BitVec 32 := 32#32
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_584 : BitVec 32 := 1#32
  let arg15 : BitVec 32 := Scf.iv v847 c1_i32_584 k0_t3
  let v850 : BitVec 32 := Scalar.muli c2_i32_585 arg15
  let v851 : BitVec 32 := Scalar.addi v764 v850
  let c1_i32_761 : BitVec 32 := 1#32
  let v1090 : BitVec 32 := Scalar.addi v851 c1_i32_761
  let v1095 : Index := Scalar.indexCast v1090
  let c0_770 : Index := 0#32
  let c0_771 : Index := 0#32
  ![v1095.toNat, 0, 0]
def k0_off18 (i : grid0.Coords) (k0_t3 : Fin (k0_t3_loop i).trips) : Fin 3 → Nat :=
  let arg1 : BitVec 32 := BitVec.ofNat 32 (i 1).val
  let c4_i32 : BitVec 32 := 4#32
  let v5 : BitVec 32 := Scalar.muli arg1 c4_i32
  let c4_i32_517 : BitVec 32 := 4#32
  let v764 : BitVec 32 := Scalar.addi v5 c4_i32_517
  let c2_i32_585 : BitVec 32 := 2#32
  let c0_i32_580 : BitVec 32 := 0#32
  let c32_i32 : BitVec 32 := 32#32
  let v765 : BitVec 32 := Scalar.subi c32_i32 v764
  let c0_i32_519 : BitVec 32 := 0#32
  let v767 : BitVec 1 := Scalar.cmpi .sgt v765 c0_i32_519
  let v768 : BitVec 32 := Scalar.extui v767
  let c0_i32_520 : BitVec 32 := 0#32
  let v769 : BitVec 1 := Scalar.cmpi .slt v765 c0_i32_520
  let v770 : BitVec 32 := Scalar.extui v769
  let v771 : BitVec 32 := Scalar.subi v768 v770
  let c2_i32_518 : BitVec 32 := 2#32
  let c0_i32_521 : BitVec 32 := 0#32
  let v772 : BitVec 1 := Scalar.cmpi .sgt c2_i32_518 c0_i32_521
  let v773 : BitVec 32 := Scalar.extui v772
  let c0_i32_522 : BitVec 32 := 0#32
  let v774 : BitVec 1 := Scalar.cmpi .slt c2_i32_518 c0_i32_522
  let v775 : BitVec 32 := Scalar.extui v774
  let v776 : BitVec 32 := Scalar.subi v773 v775
  let v777 : BitVec 1 := Scalar.cmpi .ne v771 v776
  let v778 : BitVec 32 := Scalar.remsi v765 c2_i32_518
  let c0_i32_523 : BitVec 32 := 0#32
  let v779 : BitVec 1 := Scalar.cmpi .ne v778 c0_i32_523
  let v780 : BitVec 1 := Scalar.andi v777 v779
  let v766 : BitVec 32 := Scalar.divsi v765 c2_i32_518
  let c1_i32_524 : BitVec 32 := 1#32
  let v781 : BitVec 32 := Scalar.subi v766 c1_i32_524
  let v782 : BitVec 32 := Scalar.select v780 v781 v766
  let v843 : BitVec 32 := Scalar.subi v782 c0_i32_580
  let c1_i32_582 : BitVec 32 := 1#32
  let v845 : BitVec 32 := Scalar.divsi v843 c1_i32_582
  let v846 : BitVec 32 := Scalar.muli v845 c1_i32_582
  let v847 : BitVec 32 := Scalar.addi c0_i32_580 v846
  let c1_i32_584 : BitVec 32 := 1#32
  let arg15 : BitVec 32 := Scf.iv v847 c1_i32_584 k0_t3
  let v850 : BitVec 32 := Scalar.muli c2_i32_585 arg15
  let v851 : BitVec 32 := Scalar.addi v764 v850
  let c1_i32_761 : BitVec 32 := 1#32
  let v1090 : BitVec 32 := Scalar.addi v851 c1_i32_761
  let v1186 : Index := Scalar.indexCast v1090
  let c0_819 : Index := 0#32
  let c0_820 : Index := 0#32
  ![v1186.toNat, 0, 0]
def cc0_transform_0 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

abbrev stage0_0 : Fin 2 → Memref sig .tc .vmem S1x1x2x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "exp2_scale" => some (((1 / 16) * (Real.log 2)⁻¹ : ℝ) : EReal)
  | _ => none
-- ==== ReferenceIdeal.lean ====
abbrev S3x4x2x8192x256 : Shape := ⟨5, ![3, 4, 2, 8192, 256]⟩
abbrev S3x4x8192x256 : Shape := ⟨4, ![3, 4, 8192, 256]⟩
abbrev S3x4x256x8192 : Shape := ⟨4, ![3, 4, 256, 8192]⟩
abbrev S3x4x2x8192x8192 : Shape := ⟨5, ![3, 4, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x1x8192x8192 : Shape := ⟨5, ![1, 1, 1, 8192, 8192]⟩
abbrev S3x4x2x8192 : Shape := ⟨4, ![3, 4, 2, 8192]⟩
abbrev S3x4x2x8192x1 : Shape := ⟨5, ![3, 4, 2, 8192, 1]⟩
abbrev S3x8x8192x256 : Shape := ⟨4, ![3, 8, 8192, 256]⟩

abbrev nBuf : Space → Nat
  | .hbm => 46
  | .vmem => 0
  | .smem => 0
  | _ => 0

abbrev bufTy : (tb : Table) → Fin (tcTables nBuf tb) → BufTy
  | .hbm, ⟨0, _⟩ => ⟨S3x4x2x8192x256, .bf16⟩
  | .hbm, ⟨1, _⟩ => ⟨S3x4x8192x256, .bf16⟩
  | .hbm, ⟨2, _⟩ => ⟨S3x4x256x8192, .bf16⟩
  | .hbm, ⟨3, _⟩ => ⟨S3x4x2x8192x8192, .f32⟩
  | .hbm, ⟨4, _⟩ => ⟨S_, .f32⟩
  | .hbm, ⟨5, _⟩ => ⟨S3x4x2x8192x8192, .f32⟩
  | .hbm, ⟨6, _⟩ => ⟨S3x4x2x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x1x1x8192x8192, .i1⟩
  | .hbm, ⟨14, _⟩ => ⟨S3x4x2x8192x8192, .f32⟩
  | .hbm, ⟨15, _⟩ => ⟨S_, .f32⟩
  | .hbm, ⟨16, _⟩ => ⟨S3x4x2x8192x8192, .i1⟩
  | .hbm, ⟨17, _⟩ => ⟨S3x4x2x8192x8192, .f32⟩
  | .hbm, ⟨18, _⟩ => ⟨S3x4x2x8192x8192, .f32⟩
  | .hbm, ⟨19, _⟩ => ⟨S_, .f32⟩
  | .hbm, ⟨20, _⟩ => ⟨S3x4x2x8192, .f32⟩
  | .hbm, ⟨21, _⟩ => ⟨S_, .f32⟩
  | .hbm, ⟨22, _⟩ => ⟨S_, .f32⟩
  | .hbm, ⟨23, _⟩ => ⟨S3x4x2x8192x8192, .i1⟩
  | .hbm, ⟨24, _⟩ => ⟨S3x4x2x8192x8192, .f32⟩
  | .hbm, ⟨25, _⟩ => ⟨S3x4x2x8192x8192, .f32⟩
  | .hbm, ⟨26, _⟩ => ⟨S_, .f32⟩
  | .hbm, ⟨27, _⟩ => ⟨S3x4x2x8192, .f32⟩
  | .hbm, ⟨28, _⟩ => ⟨S_, .f32⟩
  | .hbm, ⟨29, _⟩ => ⟨S3x4x2x8192, .f32⟩
  | .hbm, ⟨30, _⟩ => ⟨S3x4x2x8192, .f32⟩
  | .hbm, ⟨31, _⟩ => ⟨S3x4x2x8192x1, .f32⟩
  | .hbm, ⟨32, _⟩ => ⟨S3x4x2x8192x8192, .f32⟩
  | .hbm, ⟨33, _⟩ => ⟨S3x4x2x8192x8192, .f32⟩
  | .hbm, ⟨34, _⟩ => ⟨S3x4x2x8192x8192, .f32⟩
  | .hbm, ⟨35, _⟩ => ⟨S_, .f32⟩
  | .hbm, ⟨36, _⟩ => ⟨S3x4x2x8192, .f32⟩
  | .hbm, ⟨37, _⟩ => ⟨S3x4x2x8192x1, .f32⟩
  | .hbm, ⟨38, _⟩ => ⟨S3x4x2x8192x8192, .f32⟩
  | .hbm, ⟨39, _⟩ => ⟨S3x4x2x8192x8192, .f32⟩
  | .hbm, ⟨40, _⟩ => ⟨S3x4x2x8192x8192, .bf16⟩
  | .hbm, ⟨41, _⟩ => ⟨S3x4x2x8192x256, .f32⟩
  | .hbm, ⟨42, _⟩ => ⟨S3x4x2x8192x256, .f32⟩
  | .hbm, ⟨43, _⟩ => ⟨S_, .f32⟩
  | .hbm, ⟨44, _⟩ => ⟨S3x4x2x8192, .f32⟩
  | .hbm, ⟨45, _⟩ => ⟨S3x8x8192x256, .f32⟩
  | _, _ => ⟨S3x4x2x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.KernelSplit.lean ====
/-
  The attention kernel's body cut in three.

  `initP` is what the first grid point of all does: it resets the running statistics and the accumulators of all 32
  blocks of queries. `midP` is what every point does with the keys and values of its chunk and the four blocks of
  queries on the diagonal: it brings their statistics up to date, divides, and writes the three results. `tailP` is
  what every point but the last of a row does with the blocks of queries below the diagonal. The printed body is the
  three in sequence (`attn_eq`).
-/
module

public import proofs.«01_k».proof.Proof.Gen.Kernel.Loops
public import proofs.«01_k».proof.Proof.Gen.Kernel.Points

@[expose] public section

set_option maxRecDepth 8192

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen
variable {F : FTy → Type} [FloatOps F]

/-- The reset of every statistic and accumulator, at the first grid point of all. -/
def initP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    Prog (TpuEff nD τ sig (Elt F) Λ₀ .tc) PUnit := do
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 k0_h1)
    let v788 : Vec F S32x8x512 .f32 ← Prog.lift (.load arg9 (Rect.unit (s := S32x8x512) ![0, 0, 0] S32x8x512.size inb_S32x8x512_S32x8x512_0_0_0).toLoadRect (View.loadsAt_vmem h_S32x8x512))
    Prog.lift (.store arg9 (Rect.unit (s := S32x8x512) ![0, 0, 0] S32x8x512.size inb_S32x8x512_S32x8x512_0_0_0) (k0_pay166 (F := F)) Finset.univ (View.stores_vmem_bits_univ h_S32x8x512 rfl) (.inl rfl))
    let v792 : Vec F S32x8x512 .f32 ← Prog.lift (.load arg10 (Rect.unit (s := S32x8x512) ![0, 0, 0] S32x8x512.size inb_S32x8x512_S32x8x512_0_0_0).toLoadRect (View.loadsAt_vmem h_S32x8x512))
    Prog.lift (.store arg10 (Rect.unit (s := S32x8x512) ![0, 0, 0] S32x8x512.size inb_S32x8x512_S32x8x512_0_0_0) (k0_pay167 (F := F)) Finset.univ (View.stores_vmem_bits_univ h_S32x8x512 rfl) (.inl rfl))
    let v796 : Vec F S32x8x512 .f32 ← Prog.lift (.load arg11 (Rect.unit (s := S32x8x512) ![0, 0, 0] S32x8x512.size inb_S32x8x512_S32x8x512_0_0_0).toLoadRect (View.loadsAt_vmem h_S32x8x512))
    Prog.lift (.store arg11 (Rect.unit (s := S32x8x512) ![0, 0, 0] S32x8x512.size inb_S32x8x512_S32x8x512_0_0_0) (k0_pay168 (F := F)) Finset.univ (View.stores_vmem_bits_univ h_S32x8x512 rfl) (.inl rfl))
    pure ⟨⟩
  else do
    pure ⟨⟩

/-- The rest of the first part of the straight line: the scores of the first block of queries on the diagonal. -/
def headP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    Prog (TpuEff nD τ sig (Elt F) Λ₀ .tc) (Σ' (v5 : BitVec 32) (v27 : FVec F S8x512 .f32), FVec F S8x512 .f32) := do
  let arg1 : BitVec 32 := BitVec.ofNat 32 (i 1).val
  let v5 : BitVec 32 := Scalar.muli arg1 4#32
  let v8 : Vec F S1x1x2x256x256 .bf16 ← Prog.lift (.load arg2 (Rect.unit (s := S1x1x2x8192x256) (k0_off2 i) S1x1x2x256x256.size (k0_off2_inb i)).toLoadRect (View.loadsAt_vmem h_S1x1x2x256x256))
  let v11 : Vec F S1x1x256x256 .bf16 ← Prog.lift (.load arg3 (Rect.unit (s := S1x1x1024x256) ![0, 0, 0, 0] S1x1x256x256.size inb_S1x1x1024x256_S1x1x256x256_0_0_0_0).toLoadRect (View.loadsAt_vmem h_S1x1x256x256))
  let v23 : Vec F S1x256x512 .f32 ← Prog.lift (.load arg12 (Rect.unit (s := S2x1024x512) ![0, 0, 0] S1x256x512.size inb_S2x1024x512_S1x256x512_0_0_0).toLoadRect (View.loadsAt_vmem h_S1x256x512))
  Prog.lift (.store arg12 (Rect.unit (s := S2x1024x512) ![0, 0, 0] S1x256x512.size inb_S2x1024x512_S1x256x512_0_0_0) (k0_pay172 v8 v11) Finset.univ (View.stores_vmem_bits_univ h_S1x256x512 rfl) (.inl rfl))
  pure ⟨v5, k0_pay173 v8 v11, k0_pay174 v8 v11⟩

/-- The straight line: the four blocks of queries on the diagonal, from their scores to the three results. It hands on
    the first block below the diagonal and the number of pairs of such blocks. -/
def midP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    Prog (TpuEff nD τ sig (Elt F) Λ₀ .tc) (BitVec 32 × BitVec 32) := do
  let ⟨v5, v27, v29⟩ : Σ' (v5 : BitVec 32) (v27 : FVec F S8x512 .f32), FVec F S8x512 .f32 ← headP i arg2 harg2 arg3 harg3 arg4 harg4 arg5 harg5 arg6 harg6 arg7 harg7 arg8 harg8 arg9 harg9 arg10 harg10 arg11 harg11 arg12 harg12 arg13 harg13 arg14 harg14
  let ⟨v50, v52, v55, v56, v59⟩ : Σ' (v50 : FVec F S8x512 .f32) (v52 : FVec F S8x512 .f32) (v55 : FVec F S256x512 .f32) (v56 : IVec S256x512 32), IVec S256x512 32 ← k0_part24 i arg2 harg2 arg3 harg3 arg4 harg4 arg5 harg5 arg6 harg6 arg7 harg7 arg8 harg8 arg9 harg9 arg10 harg10 arg11 harg11 arg12 harg12 arg13 harg13 arg14 harg14 v5 v27 v29
  let ⟨v80, v82, v84, v87, v89⟩ : Σ' (v80 : BitVec 32) (v82 : FVec F S8x512 .f32) (v84 : FVec F S8x512 .f32) (v87 : FVec F S8x512 .f32), FVec F S1x512 .f32 ← k0_part25 i arg2 harg2 arg3 harg3 arg4 harg4 arg5 harg5 arg6 harg6 arg7 harg7 arg8 harg8 arg9 harg9 arg10 harg10 arg11 harg11 arg12 harg12 arg13 harg13 arg14 harg14 v5 v50 v52 v55 v56 v59
  let ⟨v95, v102, v117, v124, v126, cst_92⟩ : Σ' (v95 : FVec F S8x512 .f32) (v102 : FVec F S8x512 .f32) (v117 : FVec F S8x512 .f32) (v124 : FVec F S256x256 .bf16) (v126 : FVec F S256x512 .bf16), FVec F S256x512 .f32 ← k0_part26 i arg2 harg2 arg3 harg3 arg4 harg4 arg5 harg5 arg6 harg6 arg7 harg7 arg8 harg8 arg9 harg9 arg10 harg10 arg11 harg11 arg12 harg12 arg13 harg13 arg14 harg14 v80 v82 v84 v87 v89
  let ⟨v146, v150, v164⟩ : Σ' (v146 : FVec F S1x512 .f32) (v150 : FVec F S1x512 .f32), FVec F S256x256 .f32 ← k0_part27 i arg2 harg2 arg3 harg3 arg4 harg4 arg5 harg5 arg6 harg6 arg7 harg7 arg8 harg8 arg9 harg9 arg10 harg10 arg11 harg11 arg12 harg12 arg13 harg13 arg14 harg14 v80 v95 v102 v117 v124 v126 cst_92
  let v191 : FVec F S8x512 .f32 ← k0_part28 i arg2 harg2 arg3 harg3 arg4 harg4 arg5 harg5 arg6 harg6 arg7 harg7 arg8 harg8 arg9 harg9 arg10 harg10 arg11 harg11 arg12 harg12 arg13 harg13 arg14 harg14 v80 v146 v150 v164
  let ⟨v202, v223, v224⟩ : Σ' (v202 : FVec F S512x256 .bf16) (v223 : FVec F S8x512 .f32), FVec F S8x512 .f32 ← k0_part29 i arg2 harg2 arg3 harg3 arg4 harg4 arg5 harg5 arg6 harg6 arg7 harg7 arg8 harg8 arg9 harg9 arg10 harg10 arg11 harg11 arg12 harg12 arg13 harg13 arg14 harg14 v5 v191
  let ⟨v252, v254⟩ : Σ' (v252 : BitVec 32), FVec F S8x512 .f32 ← k0_part30 i arg2 harg2 arg3 harg3 arg4 harg4 arg5 harg5 arg6 harg6 arg7 harg7 arg8 harg8 arg9 harg9 arg10 harg10 arg11 harg11 arg12 harg12 arg13 harg13 arg14 harg14 v5 v202 v223 v224
  let ⟨v263, v267, v274, v289, v294⟩ : Σ' (v263 : FVec F S8x512 .f32) (v267 : FVec F S8x512 .f32) (v274 : FVec F S8x512 .f32) (v289 : FVec F S8x512 .f32), FVec F S1x256x512 .bf16 ← k0_part31 i arg2 harg2 arg3 harg3 arg4 harg4 arg5 harg5 arg6 harg6 arg7 harg7 arg8 harg8 arg9 harg9 arg10 harg10 arg11 harg11 arg12 harg12 arg13 harg13 arg14 harg14 v252 v254
  let ⟨v331, v332⟩ : Σ' (v331 : FVec F S256x512 .f32), FVec F S256x512 .f32 ← k0_part32 i arg2 harg2 arg3 harg3 arg4 harg4 arg5 harg5 arg6 harg6 arg7 harg7 arg8 harg8 arg9 harg9 arg10 harg10 arg11 harg11 arg12 harg12 arg13 harg13 arg14 harg14 v252 v263 v267 v289 v294
  let v360 : FVec F S1x256 .f32 ← k0_part33 i arg2 harg2 arg3 harg3 arg4 harg4 arg5 harg5 arg6 harg6 arg7 harg7 arg8 harg8 arg9 harg9 arg10 harg10 arg11 harg11 arg12 harg12 arg13 harg13 arg14 harg14 v274 v331 v332
  let ⟨v390, v392⟩ : Σ' (v390 : FVec F S512x256 .bf16), FVec F S256x256 .bf16 ← k0_part34 i arg2 harg2 arg3 harg3 arg4 harg4 arg5 harg5 arg6 harg6 arg7 harg7 arg8 harg8 arg9 harg9 arg10 harg10 arg11 harg11 arg12 harg12 arg13 harg13 arg14 harg14 v5 v252 v360
  let ⟨v412, v422, v423⟩ : Σ' (v412 : FVec F S8x512 .f32) (v422 : FVec F S8x512 .f32), FVec F S8x512 .f32 ← k0_part35 i arg2 harg2 arg3 harg3 arg4 harg4 arg5 harg5 arg6 harg6 arg7 harg7 arg8 harg8 arg9 harg9 arg10 harg10 arg11 harg11 arg12 harg12 arg13 harg13 arg14 harg14 v390 v392
  let ⟨v452, v454⟩ : Σ' (v452 : BitVec 32), FVec F S8x512 .f32 ← k0_part36 i arg2 harg2 arg3 harg3 arg4 harg4 arg5 harg5 arg6 harg6 arg7 harg7 arg8 harg8 arg9 harg9 arg10 harg10 arg11 harg11 arg12 harg12 arg13 harg13 arg14 harg14 v5 v390 v412 v422 v423
  let ⟨v463, v467, v474, v489, v491⟩ : Σ' (v463 : FVec F S8x512 .f32) (v467 : FVec F S8x512 .f32) (v474 : FVec F S8x512 .f32) (v489 : FVec F S8x512 .f32), FVec F S256x512 .bf16 ← k0_part37 i arg2 harg2 arg3 harg3 arg4 harg4 arg5 harg5 arg6 harg6 arg7 harg7 arg8 harg8 arg9 harg9 arg10 harg10 arg11 harg11 arg12 harg12 arg13 harg13 arg14 harg14 v452 v454
  let ⟨v521, v528⟩ : Σ' (v521 : FVec F S8x512 .f32), FVec F S256x768 .bf16 ← k0_part38 i arg2 harg2 arg3 harg3 arg4 harg4 arg5 harg5 arg6 harg6 arg7 harg7 arg8 harg8 arg9 harg9 arg10 harg10 arg11 harg11 arg12 harg12 arg13 harg13 arg14 harg14 v463 v489 v491
  let ⟨v550, v554, v555, v564, v565⟩ : Σ' (v550 : FVec F S1x512 .f32) (v554 : FVec F S1x512 .f32) (v555 : FVec F S512x256 .f32) (v564 : FVec F S1x256 .f32), Vec F S1x1x1x256 .f32 ← k0_part39 i arg2 harg2 arg3 harg3 arg4 harg4 arg5 harg5 arg6 harg6 arg7 harg7 arg8 harg8 arg9 harg9 arg10 harg10 arg11 harg11 arg12 harg12 arg13 harg13 arg14 harg14 v452 v467 v474 v521 v528
  let v595 : FVec F S8x512 .f32 ← k0_part40 i arg2 harg2 arg3 harg3 arg4 harg4 arg5 harg5 arg6 harg6 arg7 harg7 arg8 harg8 arg9 harg9 arg10 harg10 arg11 harg11 arg12 harg12 arg13 harg13 arg14 harg14 v452 v550 v554 v555 v564 v565
  let ⟨v600, v611, v615, v622, v626, v632⟩ : Σ' (v600 : BitVec 32) (v611 : FVec F S8x512 .f32) (v615 : FVec F S8x512 .f32) (v622 : FVec F S8x512 .f32) (v626 : FVec F S8x512 .f32), FVec F S32x8x512 .f32 ← k0_part41 i arg2 harg2 arg3 harg3 arg4 harg4 arg5 harg5 arg6 harg6 arg7 harg7 arg8 harg8 arg9 harg9 arg10 harg10 arg11 harg11 arg12 harg12 arg13 harg13 arg14 harg14 v5 v595
  let ⟨v669, v671⟩ : Σ' (v669 : FVec F S8x512 .f32), FVec F S256x512 .bf16 ← k0_part42 i arg2 harg2 arg3 harg3 arg4 harg4 arg5 harg5 arg6 harg6 arg7 harg7 arg8 harg8 arg9 harg9 arg10 harg10 arg11 harg11 arg12 harg12 arg13 harg13 arg14 harg14 v611 v626 v632
  let ⟨v705, v707, cst_477⟩ : Σ' (v705 : FVec F S256x512 .f32) (v707 : FVec F S1x512 .f32), F .f32 ← k0_part43 i arg2 harg2 arg3 harg3 arg4 harg4 arg5 harg5 arg6 harg6 arg7 harg7 arg8 harg8 arg9 harg9 arg10 harg10 arg11 harg11 arg12 harg12 arg13 harg13 arg14 harg14 v600 v611 v615 v669 v671
  let v718 : FVec F S1x512 .f32 ← k0_part44 i arg2 harg2 arg3 harg3 arg4 harg4 arg5 harg5 arg6 harg6 arg7 harg7 arg8 harg8 arg9 harg9 arg10 harg10 arg11 harg11 arg12 harg12 arg13 harg13 arg14 harg14 v622 v705 v707 cst_477
  let ⟨v764, v765, c2_i32_518, v766, v771, v772⟩ : Σ' (v764 : BitVec 32) (v765 : BitVec 32) (c2_i32_518 : BitVec 32) (v766 : BitVec 32) (v771 : BitVec 32), BitVec 1 ← k0_part45 i arg2 harg2 arg3 harg3 arg4 harg4 arg5 harg5 arg6 harg6 arg7 harg7 arg8 harg8 arg9 harg9 arg10 harg10 arg11 harg11 arg12 harg12 arg13 harg13 arg14 harg14 v5 v600 v718
  let v773 : BitVec 32 := Scalar.extui v772
  let v774 : BitVec 1 := Scalar.cmpi .slt c2_i32_518 0#32
  let v775 : BitVec 32 := Scalar.extui v774
  let v776 : BitVec 32 := Scalar.subi v773 v775
  let v777 : BitVec 1 := Scalar.cmpi .ne v771 v776
  let v778 : BitVec 32 := Scalar.remsi v765 c2_i32_518
  let v779 : BitVec 1 := Scalar.cmpi .ne v778 0#32
  let v780 : BitVec 1 := Scalar.andi v777 v779
  let v781 : BitVec 32 := Scalar.subi v766 1#32
  let v782 : BitVec 32 := Scalar.select v780 v781 v766
  pure ⟨v764, v782⟩

/-- The scores of the first block of queries below the diagonal. -/
def scoreP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) (v764 v782 : BitVec 32) (k0_h2 : k0_cond2 i = 1#1) :
    Prog (TpuEff nD τ sig (Elt F) Λ₀ .tc) (BitVec 32 × BitVec 32 × BitVec 32) := do
  let ⟨v790, v811, v812, v814⟩ : Σ' (v790 : FVec F S512x256 .bf16) (v811 : FVec F S8x512 .f32) (v812 : FVec F S8x512 .f32), FVec F S256x256 .bf16 ← k0_part21 i arg2 harg2 arg3 harg3 arg4 harg4 arg5 harg5 arg6 harg6 arg7 harg7 arg8 harg8 arg9 harg9 arg10 harg10 arg11 harg11 arg12 harg12 arg13 harg13 arg14 harg14 v764 k0_h2
  let ⟨c0_i32_580, c0_i32_581, v843⟩ : Σ' (c0_i32_580 : BitVec 32) (c0_i32_581 : BitVec 32), BitVec 32 ← k0_part22 i arg2 harg2 arg3 harg3 arg4 harg4 arg5 harg5 arg6 harg6 arg7 harg7 arg8 harg8 arg9 harg9 arg10 harg10 arg11 harg11 arg12 harg12 arg13 harg13 arg14 harg14 v782 v790 v811 v812 v814
  pure ⟨c0_i32_580, c0_i32_581, v843⟩

/-- The loop over the blocks of queries below the diagonal, two at a time. -/
def loopP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) (v764 : BitVec 32) (k0_h2 : k0_cond2 i = 1#1) (c0_i32_580 c0_i32_581 v843 : BitVec 32) :
    Prog (TpuEff nD τ sig (Elt F) Λ₀ .tc) PUnit := do
  let v845 : BitVec 32 := Scalar.divsi v843 1#32
  let v846 : BitVec 32 := Scalar.muli v845 1#32
  let v847 : BitVec 32 := Scalar.addi c0_i32_580 v846
  let v848 : BitVec 32 ← Scf.Loop.for (k0_t2_loop i) (k0_t2_ok i k0_h2) c0_i32_581 (k0_t2_body i arg2 harg2 arg3 harg3 arg4 harg4 arg5 harg5 arg6 harg6 arg7 harg7 arg8 harg8 arg9 harg9 arg10 harg10 arg11 harg11 arg12 harg12 arg13 harg13 arg14 harg14 v764 k0_h2 c0_i32_580)
  let v849 : BitVec 32 ← Scf.Loop.for (k0_t3_loop i) (k0_t3_ok i k0_h2) v848 (k0_t3_body i arg2 harg2 arg3 harg3 arg4 harg4 arg5 harg5 arg6 harg6 arg7 harg7 arg8 harg8 arg9 harg9 arg10 harg10 arg11 harg11 arg12 harg12 arg13 harg13 arg14 harg14 v764 k0_h2 v847)
  pure ⟨⟩

/-- The blocks of queries below the diagonal. -/
def tailP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) (v764 v782 : BitVec 32) :
    Prog (TpuEff nD τ sig (Elt F) Λ₀ .tc) PUnit := do
  if k0_h2 : k0_cond2 i = 1#1 then do
    let p ← scoreP i arg2 harg2 arg3 harg3 arg4 harg4 arg5 harg5 arg6 harg6 arg7 harg7 arg8 harg8 arg9 harg9 arg10 harg10 arg11 harg11 arg12 harg12 arg13 harg13 arg14 harg14 v764 v782 k0_h2
    loopP i arg2 harg2 arg3 harg3 arg4 harg4 arg5 harg5 arg6 harg6 arg7 harg7 arg8 harg8 arg9 harg9 arg10 harg10 arg11 harg11 arg12 harg12 arg13 harg13 arg14 harg14 v764 k0_h2 p.1 p.2.1 p.2.2
  else do
    pure ⟨⟩

theorem part23_eq (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    k0_part23 (F := F) i arg2 harg2 arg3 harg3 arg4 harg4 arg5 harg5 arg6 harg6 arg7 harg7 arg8 harg8 arg9 harg9 arg10 harg10 arg11 harg11 arg12 harg12 arg13 harg13 arg14 harg14 = (initP i arg2 harg2 arg3 harg3 arg4 harg4 arg5 harg5 arg6 harg6 arg7 harg7 arg8 harg8 arg9 harg9 arg10 harg10 arg11 harg11 arg12 harg12 arg13 harg13 arg14 harg14 >>= fun _ => headP i arg2 harg2 arg3 harg3 arg4 harg4 arg5 harg5 arg6 harg6 arg7 harg7 arg8 harg8 arg9 harg9 arg10 harg10 arg11 harg11 arg12 harg12 arg13 harg13 arg14 harg14) := by
  rw [k0_part23_eq_skeleton]
  unfold k0_part23_skel initP headP
  by_cases h : k0_cond1 i = 1#1
  · simp only [dif_pos h, bind_assoc, pure_bind]
  · simp only [dif_neg h, bind_assoc, pure_bind]

/-- The printed body is the three in sequence. -/
theorem attn_eq (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14
      = (initP i arg2 harg2 arg3 harg3 arg4 harg4 arg5 harg5 arg6 harg6 arg7 harg7 arg8 harg8 arg9 harg9 arg10 harg10 arg11 harg11 arg12 harg12 arg13 harg13 arg14 harg14 >>= fun _ => midP i arg2 harg2 arg3 harg3 arg4 harg4 arg5 harg5 arg6 harg6 arg7 harg7 arg8 harg8 arg9 harg9 arg10 harg10 arg11 harg11 arg12 harg12 arg13 harg13 arg14 harg14 >>= fun p => tailP i arg2 harg2 arg3 harg3 arg4 harg4 arg5 harg5 arg6 harg6 arg7 harg7 arg8 harg8 arg9 harg9 arg10 harg10 arg11 harg11 arg12 harg12 arg13 harg13 arg14 harg14 p.1 p.2) := by
  rw [cc0_attn_eq_skeleton]
  unfold cc0_attn_skel midP tailP scoreP loopP
  simp only [part23_eq, bind_assoc, pure_bind]

end Cert.Proof.Kernel
-- ==== Proof.KernelTrip.lean ====
/-
  One trip of the loop over the blocks of queries below the diagonal, run once at a symbolic trip: what it leaves in
  each scratch buffer, as a function of what it found (`trip`), the buffers before each trip (`tripSt`), and the loop
  by that invariant.
-/
module

public import proofs.«01_k».proof.Proof.KernelSplit

@[expose] public section

set_option maxRecDepth 8192

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen
variable {F : FTy → Type} [FloatOps F]
local notation "𝕄G" => MT nD τ sig Unit (Elt F) ℕ (UR sig nD τ) ℕ

/-- A buffer's contents. -/
abbrev Bf (c : Dev nD) {sp : Space} {S : Shape} {e : EltTy} (M : Memref sig .tc sp S e) : Type := BufTy.Contents (Elt F) M.view.ty
/-- A buffer, whole, at contents `f`. -/
abbrev pt (c : Dev nD) {sp : Space} {S : Shape} {e : EltTy} (M : Memref sig .tc sp S e) (f : Bf (F := F) c M) : sProp 𝕄G :=
  iprop(M.view.loc (c : Thread nD τ) ↦[M.view.set]{fullShare} f)

/-- The seven scratch buffers' contents: the accumulators, the running maxima, the running denominators, the running
    largest scores in absolute value, the two slots of scores, of weights and of score extrema. -/
structure Scr (c : Dev nD) (arg8 : Memref sig .tc .vmem S32x256x512 .f32) (arg9 : Memref sig .tc .vmem S32x8x512 .f32) (arg10 : Memref sig .tc .vmem S32x8x512 .f32) (arg11 : Memref sig .tc .vmem S32x8x512 .f32) (arg12 : Memref sig .tc .vmem S2x1024x512 .f32) (arg13 : Memref sig .tc .vmem S2x1024x512 .bf16) (arg14 : Memref sig .tc .vmem S2x2x8x512 .f32) where
  a8 : Bf (F := F) c arg8
  a9 : Bf (F := F) c arg9
  a10 : Bf (F := F) c arg10
  a11 : Bf (F := F) c arg11
  a12 : Bf (F := F) c arg12
  a13 : Bf (F := F) c arg13
  a14 : Bf (F := F) c arg14

/-- The three results' contents. -/
structure Outs (c : Dev nD) (arg5 : Memref sig .tc .vmem S1x2x1024x256 .f32) (arg6 : Memref sig .tc .vmem S1x1x2x1024 .f32) (arg7 : Memref sig .tc .vmem S1x1x2x1024 .f32) where
  a5 : Bf (F := F) c arg5
  a6 : Bf (F := F) c arg6
  a7 : Bf (F := F) c arg7

/-- ONE TRIP at a symbolic `k`: the contents it leaves in the scratch buffers are the run's own finds. -/
def trip (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (k : Fin (k0_t2_loop i).trips) (f2 : Bf (F := F) c arg2) (f3 : Bf (F := F) c arg3) (f4 : Bf (F := F) c arg4)
  (s : Scr (F := F) c arg8 arg9 arg10 arg11 arg12 arg13 arg14) :
  { W : Scr (F := F) c arg8 arg9 arg10 arg11 arg12 arg13 arg14 // ∀ (E : Set ℕ) (v764 c0 acc : BitVec 32),
    iprop(pt c arg2 f2 ∗ pt c arg3 f3 ∗ pt c arg4 f4 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 v764 k0_h2 c0 k acc)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E v764 c0 acc => ?run⟩
  case run =>
    unfold k0_t2_body
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

/-- The scratch buffers before trip `k`, from `s` at the loop's entry. -/
def tripSt (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (s : Scr (F := F) c arg8 arg9 arg10 arg11 arg12 arg13 arg14) : ℕ → Scr (F := F) c arg8 arg9 arg10 arg11 arg12 arg13 arg14
  | 0 => s
  | k + 1 => if h : k < (k0_t2_loop i).trips then
      (trip c i arg2 harg2 arg3 harg3 arg4 harg4 arg5 harg5 arg6 harg6 arg7 harg7 arg8 harg8 arg9 harg9 arg10 harg10 arg11 harg11 arg12 harg12 arg13 harg13 arg14 harg14 k0_h2 ⟨k, h⟩ f2 f3 f4 (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s k)).1
    else tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s k

theorem tripSt_succ (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (s : Scr (F := F) c arg8 arg9 arg10 arg11 arg12 arg13 arg14) (k : Fin (k0_t2_loop i).trips) :
    tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s (k.val + 1)
      = (trip c i arg2 harg2 arg3 harg3 arg4 harg4 arg5 harg5 arg6 harg6 arg7 harg7 arg8 harg8 arg9 harg9 arg10 harg10 arg11 harg11 arg12 harg12 arg13 harg13 arg14 harg14 k0_h2 k f2 f3 f4 (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s k.val)).1 := by
  rw [tripSt]; exact dif_pos k.isLt

/-- The loop's invariant before trip `k`: the inputs as they are, the scratch at `tripSt … k`. -/
abbrev inv_t2 (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) (k : ℕ) (_acc : BitVec 32) : sProp 𝕄G :=
  iprop(pt c arg2 f2 ∗ pt c arg3 f3 ∗ pt c arg4 f4 ∗ (∃ f, pt c arg8 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a8⌝) ∗ (∃ f, pt c arg9 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a9⌝) ∗ (∃ f, pt c arg10 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a10⌝) ∗ (∃ f, pt c arg11 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a11⌝) ∗ (∃ f, pt c arg12 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a12⌝) ∗ (∃ f, pt c arg13 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a13⌝) ∗ (∃ f, pt c arg14 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a14⌝))

set_option warn.classDefReducibility false in
/-- The loop by its invariant. -/
@[sl_loop] def loopInv_t2 (c : Dev nD) (E : Set ℕ) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (v764 : BitVec 32) (k0_h2 : k0_cond2 i = 1#1) (c0 init : BitVec 32) (f2 : Bf (F := F) c arg2) (f3 : Bf (F := F) c arg3) (f4 : Bf (F := F) c arg4) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v764 k0_h2 c0 init where
  inv := inv_t2 c i arg2 harg2 arg3 harg3 arg4 harg4 arg5 harg5 arg6 harg6 arg7 harg7 arg8 harg8 arg9 harg9 arg10 harg10 arg11 harg11 arg12 harg12 arg13 harg13 arg14 harg14 k0_h2 f2 f3 f4 g8 g9 g10 g11 g12 g13 g14
  step k acc := by
    iintro ⟨H2, H3, H4, ⟨%f8', H8, %e8⟩, ⟨%f9', H9, %e9⟩, ⟨%f10', H10, %e10⟩, ⟨%f11', H11, %e11⟩, ⟨%f12', H12, %e12⟩, ⟨%f13', H13, %e13⟩, ⟨%f14', H14, %e14⟩⟩
    iapply (wp_wand_r Idealize.ShloMosaic.frame (wpE (defs₀ (F := F)) Variants.none (c : Thread nD τ) none) E)
    isplitl [H2 H3 H4 H8 H9 H10 H11 H12 H13 H14]
    · iapply ((trip c i arg2 harg2 arg3 harg3 arg4 harg4 arg5 harg5 arg6 harg6 arg7 harg7 arg8 harg8 arg9 harg9 arg10 harg10 arg11 harg11 arg12 harg12 arg13 harg13 arg14 harg14 k0_h2 k f2 f3 f4 (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k.val)).2 E v764 c0 acc)
      subst e8 e9 e10 e11 e12 e13 e14
      isplitl [H2]; · iexact H2
      isplitl [H3]; · iexact H3
      isplitl [H4]; · iexact H4
      isplitl [H8]; · iexact H8
      isplitl [H9]; · iexact H9
      isplitl [H10]; · iexact H10
      isplitl [H11]; · iexact H11
      isplitl [H12]; · iexact H12
      isplitl [H13]; · iexact H13
      iexact H14
    · iintro %_ ⟨H2, H3, H4, H8, H9, H10, H11, H12, H13, H14⟩
      unfold inv_t2
      rw [tripSt_succ]
      isplitl [H2]; · iexact H2
      isplitl [H3]; · iexact H3
      isplitl [H4]; · iexact H4
      isplitl [H8]
      · iexists _; isplitl [H8]; · iexact H8
        ipureintro; rfl
      isplitl [H9]
      · iexists _; isplitl [H9]; · iexact H9
        ipureintro; rfl
      isplitl [H10]
      · iexists _; isplitl [H10]; · iexact H10
        ipureintro; rfl
      isplitl [H11]
      · iexists _; isplitl [H11]; · iexact H11
        ipureintro; rfl
      isplitl [H12]
      · iexists _; isplitl [H12]; · iexact H12
        ipureintro; rfl
      isplitl [H13]
      · iexists _; isplitl [H13]; · iexact H13
        ipureintro; rfl
      iexists _; isplitl [H14]; · iexact H14
      ipureintro; rfl

set_option warn.classDefReducibility false in
/-- The loop after it, over a pair left over: the blocks come in pairs, and it makes no trip. -/
@[sl_loop] def loopInv_t3 (c : Dev nD) (E : Set ℕ) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (v764 : BitVec 32) (k0_h2 : k0_cond2 i = 1#1) (v847 init : BitVec 32) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v764 k0_h2 v847 init where
  inv _ _ := iprop(emp)
  step k acc := absurd k.isLt (Nat.not_lt.2 ((k0_t3_abs i).2.1.trans (Nat.zero_le _)))

end Cert.Proof.Kernel
-- ==== Proof.KernelRuns.lean ====
/-
  The pieces of the body, run once each at symbolic grid coordinates: what each leaves in every buffer, as a
  function of what it found (`initZ`, `mid`, `score`, `loopT`), and the body from them (`body_run`).
-/
module

public import proofs.«01_k».proof.Proof.KernelTrip

@[expose] public section

set_option maxRecDepth 8192

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen
variable {F : FTy → Type} [FloatOps F]
local notation "𝕄G" => MT nD τ sig Unit (Elt F) ℕ (UR sig nD τ) ℕ

set_option maxHeartbeats 4000000 in
/-- The reset, at the first grid point. -/
def initZ (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h1 : k0_cond1 i = 1#1) (f2 : Bf (F := F) c arg2) (f3 : Bf (F := F) c arg3) (f4 : Bf (F := F) c arg4) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Scr (F := F) c arg8 arg9 arg10 arg11 arg12 arg13 arg14 // ∀ (E : Set ℕ),
    iprop(pt c arg2 f2 ∗ pt c arg3 f3 ∗ pt c arg4 f4 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (initP (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E => ?run⟩
  case run =>
    unfold initP
    rw [dif_pos k0_h1]
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The straight line. -/
def mid (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Outs (F := F) c arg5 arg6 arg7 × Scr (F := F) c arg8 arg9 arg10 arg11 arg12 arg13 arg14 // ∀ (E : Set ℕ),
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (midP (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg5 W.1.a5 ∗ pt c arg6 W.1.a6 ∗ pt c arg7 W.1.a7 ∗ pt c arg8 W.2.a8 ∗ pt c arg9 W.2.a9 ∗ pt c arg10 W.2.a10 ∗ pt c arg11 W.2.a11 ∗ pt c arg12 W.2.a12 ∗ pt c arg13 W.2.a13 ∗ pt c arg14 W.2.a14)) } := by
  refine ⟨⟨⟨?_, ?_, ?_⟩, ⟨?_, ?_, ?_, ?_, ?_, ?_, ?_⟩⟩, fun E => ?run⟩
  case run =>
    unfold midP headP
    iintro ⟨H2, H3, H4, H5, H6, H7, H8, H9, H10, H11, H12, H13, H14⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The scores of the first block below the diagonal. -/
def score (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Scr (F := F) c arg8 arg9 arg10 arg11 arg12 arg13 arg14 // ∀ (E : Set ℕ) (v764 v782 : BitVec 32),
    iprop(pt c arg2 f2 ∗ pt c arg3 f3 ∗ pt c arg4 f4 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (scoreP (F := F) i arg2 harg2 arg3 harg3 arg4 harg4 arg5 harg5 arg6 harg6 arg7 harg7 arg8 harg8 arg9 harg9 arg10 harg10 arg11 harg11 arg12 harg12 arg13 harg13 arg14 harg14 v764 v782 k0_h2)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E v764 v782 => ?run⟩
  case run =>
    unfold scoreP
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The loop over the blocks below the diagonal. -/
def loopT (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Scr (F := F) c arg8 arg9 arg10 arg11 arg12 arg13 arg14 // ∀ (E : Set ℕ) (v764 c0 c1 v843 : BitVec 32),
    iprop(pt c arg2 f2 ∗ pt c arg3 f3 ∗ pt c arg4 f4 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (loopP (F := F) i arg2 harg2 arg3 harg3 arg4 harg4 arg5 harg5 arg6 harg6 arg7 harg7 arg8 harg8 arg9 harg9 arg10 harg10 arg11 harg11 arg12 harg12 arg13 harg13 arg14 harg14 v764 k0_h2 c0 c1 v843)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E v764 c0 c1 v843 => ?run⟩
  case run =>
    unfold loopP
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

/-- The scratch after the reset, which only the first grid point makes. -/
def initO (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) : Scr (F := F) c arg8 arg9 arg10 arg11 arg12 arg13 arg14 :=
  if h : k0_cond1 i = 1#1 then (initZ c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1 else s

/-- The scratch after the blocks below the diagonal, of which the last grid point of a row has none. -/
def tailO (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) : Scr (F := F) c arg8 arg9 arg10 arg11 arg12 arg13 arg14 :=
  if h : k0_cond2 i = 1#1 then (loopT c i arg2 harg2 arg3 harg3 arg4 harg4 arg5 harg5 arg6 harg6 arg7 harg7 arg8 harg8 arg9 harg9 arg10 harg10 arg11 harg11 arg12 harg12 arg13 harg13 arg14 harg14 h f2 f3 f4 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a8 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a9 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a10 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a11 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a12 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a13 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a14).1 else s

/-- The results and the scratch a grid point leaves. -/
def bodyO (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (o : Outs (F := F) c arg5 arg6 arg7) (s : Scr (F := F) c arg8 arg9 arg10 arg11 arg12 arg13 arg14) : Outs (F := F) c arg5 arg6 arg7 × Scr (F := F) c arg8 arg9 arg10 arg11 arg12 arg13 arg14 :=
  let r := (mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 (initO c i arg2 harg2 arg3 harg3 arg4 harg4 arg5 harg5 arg6 harg6 arg7 harg7 arg8 harg8 arg9 harg9 arg10 harg10 arg11 harg11 arg12 harg12 arg13 harg13 arg14 harg14 f2 f3 f4 s).a8 (initO c i arg2 harg2 arg3 harg3 arg4 harg4 arg5 harg5 arg6 harg6 arg7 harg7 arg8 harg8 arg9 harg9 arg10 harg10 arg11 harg11 arg12 harg12 arg13 harg13 arg14 harg14 f2 f3 f4 s).a9 (initO c i arg2 harg2 arg3 harg3 arg4 harg4 arg5 harg5 arg6 harg6 arg7 harg7 arg8 harg8 arg9 harg9 arg10 harg10 arg11 harg11 arg12 harg12 arg13 harg13 arg14 harg14 f2 f3 f4 s).a10 (initO c i arg2 harg2 arg3 harg3 arg4 harg4 arg5 harg5 arg6 harg6 arg7 harg7 arg8 harg8 arg9 harg9 arg10 harg10 arg11 harg11 arg12 harg12 arg13 harg13 arg14 harg14 f2 f3 f4 s).a11 (initO c i arg2 harg2 arg3 harg3 arg4 harg4 arg5 harg5 arg6 harg6 arg7 harg7 arg8 harg8 arg9 harg9 arg10 harg10 arg11 harg11 arg12 harg12 arg13 harg13 arg14 harg14 f2 f3 f4 s).a12 (initO c i arg2 harg2 arg3 harg3 arg4 harg4 arg5 harg5 arg6 harg6 arg7 harg7 arg8 harg8 arg9 harg9 arg10 harg10 arg11 harg11 arg12 harg12 arg13 harg13 arg14 harg14 f2 f3 f4 s).a13 (initO c i arg2 harg2 arg3 harg3 arg4 harg4 arg5 harg5 arg6 harg6 arg7 harg7 arg8 harg8 arg9 harg9 arg10 harg10 arg11 harg11 arg12 harg12 arg13 harg13 arg14 harg14 f2 f3 f4 s).a14).1
  (r.1, (tailO c i arg2 harg2 arg3 harg3 arg4 harg4 arg5 harg5 arg6 harg6 arg7 harg7 arg8 harg8 arg9 harg9 arg10 harg10 arg11 harg11 arg12 harg12 arg13 harg13 arg14 harg14 f2 f3 f4 r.2))

theorem init_run (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) (E : Set ℕ) :
    iprop(pt c arg2 f2 ∗ pt c arg3 f3 ∗ pt c arg4 f4 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (initP (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg8 (initO c i arg2 harg2 arg3 harg3 arg4 harg4 arg5 harg5 arg6 harg6 arg7 harg7 arg8 harg8 arg9 harg9 arg10 harg10 arg11 harg11 arg12 harg12 arg13 harg13 arg14 harg14 f2 f3 f4 s).a8 ∗ pt c arg9 (initO c i arg2 harg2 arg3 harg3 arg4 harg4 arg5 harg5 arg6 harg6 arg7 harg7 arg8 harg8 arg9 harg9 arg10 harg10 arg11 harg11 arg12 harg12 arg13 harg13 arg14 harg14 f2 f3 f4 s).a9 ∗ pt c arg10 (initO c i arg2 harg2 arg3 harg3 arg4 harg4 arg5 harg5 arg6 harg6 arg7 harg7 arg8 harg8 arg9 harg9 arg10 harg10 arg11 harg11 arg12 harg12 arg13 harg13 arg14 harg14 f2 f3 f4 s).a10 ∗ pt c arg11 (initO c i arg2 harg2 arg3 harg3 arg4 harg4 arg5 harg5 arg6 harg6 arg7 harg7 arg8 harg8 arg9 harg9 arg10 harg10 arg11 harg11 arg12 harg12 arg13 harg13 arg14 harg14 f2 f3 f4 s).a11 ∗ pt c arg12 (initO c i arg2 harg2 arg3 harg3 arg4 harg4 arg5 harg5 arg6 harg6 arg7 harg7 arg8 harg8 arg9 harg9 arg10 harg10 arg11 harg11 arg12 harg12 arg13 harg13 arg14 harg14 f2 f3 f4 s).a12 ∗ pt c arg13 (initO c i arg2 harg2 arg3 harg3 arg4 harg4 arg5 harg5 arg6 harg6 arg7 harg7 arg8 harg8 arg9 harg9 arg10 harg10 arg11 harg11 arg12 harg12 arg13 harg13 arg14 harg14 f2 f3 f4 s).a13 ∗ pt c arg14 (initO c i arg2 harg2 arg3 harg3 arg4 harg4 arg5 harg5 arg6 harg6 arg7 harg7 arg8 harg8 arg9 harg9 arg10 harg10 arg11 harg11 arg12 harg12 arg13 harg13 arg14 harg14 f2 f3 f4 s).a14)) := by
  by_cases h : k0_cond1 i = 1#1
  · unfold initO; rw [dif_pos h]
    exact (initZ c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).2 E
  · unfold initO; rw [dif_neg h]; unfold initP; rw [dif_neg h]
    iintro H
    sl_step
    iexact H

theorem tail_run (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) (E : Set ℕ) (v764 v782 : BitVec 32) :
    iprop(pt c arg2 f2 ∗ pt c arg3 f3 ∗ pt c arg4 f4 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (tailP (F := F) i arg2 harg2 arg3 harg3 arg4 harg4 arg5 harg5 arg6 harg6 arg7 harg7 arg8 harg8 arg9 harg9 arg10 harg10 arg11 harg11 arg12 harg12 arg13 harg13 arg14 harg14 v764 v782)
      (fun _ => iprop(pt c arg2 f2 ∗ pt c arg3 f3 ∗ pt c arg4 f4 ∗ pt c arg8 (tailO c i arg2 harg2 arg3 harg3 arg4 harg4 arg5 harg5 arg6 harg6 arg7 harg7 arg8 harg8 arg9 harg9 arg10 harg10 arg11 harg11 arg12 harg12 arg13 harg13 arg14 harg14 f2 f3 f4 s).a8 ∗ pt c arg9 (tailO c i arg2 harg2 arg3 harg3 arg4 harg4 arg5 harg5 arg6 harg6 arg7 harg7 arg8 harg8 arg9 harg9 arg10 harg10 arg11 harg11 arg12 harg12 arg13 harg13 arg14 harg14 f2 f3 f4 s).a9 ∗ pt c arg10 (tailO c i arg2 harg2 arg3 harg3 arg4 harg4 arg5 harg5 arg6 harg6 arg7 harg7 arg8 harg8 arg9 harg9 arg10 harg10 arg11 harg11 arg12 harg12 arg13 harg13 arg14 harg14 f2 f3 f4 s).a10 ∗ pt c arg11 (tailO c i arg2 harg2 arg3 harg3 arg4 harg4 arg5 harg5 arg6 harg6 arg7 harg7 arg8 harg8 arg9 harg9 arg10 harg10 arg11 harg11 arg12 harg12 arg13 harg13 arg14 harg14 f2 f3 f4 s).a11 ∗ pt c arg12 (tailO c i arg2 harg2 arg3 harg3 arg4 harg4 arg5 harg5 arg6 harg6 arg7 harg7 arg8 harg8 arg9 harg9 arg10 harg10 arg11 harg11 arg12 harg12 arg13 harg13 arg14 harg14 f2 f3 f4 s).a12 ∗ pt c arg13 (tailO c i arg2 harg2 arg3 harg3 arg4 harg4 arg5 harg5 arg6 harg6 arg7 harg7 arg8 harg8 arg9 harg9 arg10 harg10 arg11 harg11 arg12 harg12 arg13 harg13 arg14 harg14 f2 f3 f4 s).a13 ∗ pt c arg14 (tailO c i arg2 harg2 arg3 harg3 arg4 harg4 arg5 harg5 arg6 harg6 arg7 harg7 arg8 harg8 arg9 harg9 arg10 harg10 arg11 harg11 arg12 harg12 arg13 harg13 arg14 harg14 f2 f3 f4 s).a14)) := by
  by_cases h : k0_cond2 i = 1#1
  · unfold tailO; rw [dif_pos h]; unfold tailP; rw [dif_pos h, wp_bind]
    iintro H
    iapply (wp_wand_r Idealize.ShloMosaic.frame (wpE (defs₀ (F := F)) Variants.none (c : Thread nD τ) none) E)
    isplitl [H]
    · iapply ((score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).2 E v764 v782)
      iexact H
    · iintro %p H
      iapply ((loopT c i arg2 harg2 arg3 harg3 arg4 harg4 arg5 harg5 arg6 harg6 arg7 harg7 arg8 harg8 arg9 harg9 arg10 harg10 arg11 harg11 arg12 harg12 arg13 harg13 arg14 harg14 h f2 f3 f4 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a8 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a9 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a10 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a11 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a12 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a13 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a14).2 E v764 p.1 p.2.1 p.2.2)
      iexact H
  · unfold tailO; rw [dif_neg h]; unfold tailP; rw [dif_neg h]
    iintro H
    sl_step
    iexact H

/-- The whole body at a grid point. -/
theorem body_run (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (o : Outs (F := F) c arg5 arg6 arg7) (s : Scr (F := F) c arg8 arg9 arg10 arg11 arg12 arg13 arg14) (E : Set ℕ) :
    iprop(pt c arg2 f2 ∗ pt c arg3 f3 ∗ pt c arg4 f4 ∗ pt c arg5 o.a5 ∗ pt c arg6 o.a6 ∗ pt c arg7 o.a7 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (cc0_attn (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg5 (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a5 ∗ pt c arg6 (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a6 ∗ pt c arg7 (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a7 ∗ pt c arg8 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a8 ∗ pt c arg9 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a9 ∗ pt c arg10 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a10 ∗ pt c arg11 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a11 ∗ pt c arg12 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a12 ∗ pt c arg13 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a13 ∗ pt c arg14 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a14)) := by
  rw [attn_eq, wp_bind]
  simp only [wp_bind]
  iintro ⟨H2, H3, H4, H5, H6, H7, H8, H9, H10, H11, H12, H13, H14⟩
  iapply (wp_wand_r Idealize.ShloMosaic.frame (wpE (defs₀ (F := F)) Variants.none (c : Thread nD τ) none) E)
  isplitl [H2 H3 H4 H8 H9 H10 H11 H12 H13 H14]
  · iapply (init_run c i arg2 harg2 arg3 harg3 arg4 harg4 arg5 harg5 arg6 harg6 arg7 harg7 arg8 harg8 arg9 harg9 arg10 harg10 arg11 harg11 arg12 harg12 arg13 harg13 arg14 harg14 f2 f3 f4 s E)
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14
  iintro %_ ⟨H2, H3, H4, H8, H9, H10, H11, H12, H13, H14⟩
  iapply (wp_wand_r Idealize.ShloMosaic.frame (wpE (defs₀ (F := F)) Variants.none (c : Thread nD τ) none) E)
  isplitl [H2 H3 H4 H5 H6 H7 H8 H9 H10 H11 H12 H13 H14]
  · iapply ((mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 (initO c i arg2 harg2 arg3 harg3 arg4 harg4 arg5 harg5 arg6 harg6 arg7 harg7 arg8 harg8 arg9 harg9 arg10 harg10 arg11 harg11 arg12 harg12 arg13 harg13 arg14 harg14 f2 f3 f4 s).a8 (initO c i arg2 harg2 arg3 harg3 arg4 harg4 arg5 harg5 arg6 harg6 arg7 harg7 arg8 harg8 arg9 harg9 arg10 harg10 arg11 harg11 arg12 harg12 arg13 harg13 arg14 harg14 f2 f3 f4 s).a9 (initO c i arg2 harg2 arg3 harg3 arg4 harg4 arg5 harg5 arg6 harg6 arg7 harg7 arg8 harg8 arg9 harg9 arg10 harg10 arg11 harg11 arg12 harg12 arg13 harg13 arg14 harg14 f2 f3 f4 s).a10 (initO c i arg2 harg2 arg3 harg3 arg4 harg4 arg5 harg5 arg6 harg6 arg7 harg7 arg8 harg8 arg9 harg9 arg10 harg10 arg11 harg11 arg12 harg12 arg13 harg13 arg14 harg14 f2 f3 f4 s).a11 (initO c i arg2 harg2 arg3 harg3 arg4 harg4 arg5 harg5 arg6 harg6 arg7 harg7 arg8 harg8 arg9 harg9 arg10 harg10 arg11 harg11 arg12 harg12 arg13 harg13 arg14 harg14 f2 f3 f4 s).a12 (initO c i arg2 harg2 arg3 harg3 arg4 harg4 arg5 harg5 arg6 harg6 arg7 harg7 arg8 harg8 arg9 harg9 arg10 harg10 arg11 harg11 arg12 harg12 arg13 harg13 arg14 harg14 f2 f3 f4 s).a13 (initO c i arg2 harg2 arg3 harg3 arg4 harg4 arg5 harg5 arg6 harg6 arg7 harg7 arg8 harg8 arg9 harg9 arg10 harg10 arg11 harg11 arg12 harg12 arg13 harg13 arg14 harg14 f2 f3 f4 s).a14).2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %p ⟨H2, H3, H4, H5, H6, H7, H8, H9, H10, H11, H12, H13, H14⟩
  iapply (wp_wand_r Idealize.ShloMosaic.frame (wpE (defs₀ (F := F)) Variants.none (c : Thread nD τ) none) E)
  isplitl [H2 H3 H4 H8 H9 H10 H11 H12 H13 H14]
  · iapply (tail_run c i arg2 harg2 arg3 harg3 arg4 harg4 arg5 harg5 arg6 harg6 arg7 harg7 arg8 harg8 arg9 harg9 arg10 harg10 arg11 harg11 arg12 harg12 arg13 harg13 arg14 harg14 f2 f3 f4 (mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 (initO c i arg2 harg2 arg3 harg3 arg4 harg4 arg5 harg5 arg6 harg6 arg7 harg7 arg8 harg8 arg9 harg9 arg10 harg10 arg11 harg11 arg12 harg12 arg13 harg13 arg14 harg14 f2 f3 f4 s).a8 (initO c i arg2 harg2 arg3 harg3 arg4 harg4 arg5 harg5 arg6 harg6 arg7 harg7 arg8 harg8 arg9 harg9 arg10 harg10 arg11 harg11 arg12 harg12 arg13 harg13 arg14 harg14 f2 f3 f4 s).a9 (initO c i arg2 harg2 arg3 harg3 arg4 harg4 arg5 harg5 arg6 harg6 arg7 harg7 arg8 harg8 arg9 harg9 arg10 harg10 arg11 harg11 arg12 harg12 arg13 harg13 arg14 harg14 f2 f3 f4 s).a10 (initO c i arg2 harg2 arg3 harg3 arg4 harg4 arg5 harg5 arg6 harg6 arg7 harg7 arg8 harg8 arg9 harg9 arg10 harg10 arg11 harg11 arg12 harg12 arg13 harg13 arg14 harg14 f2 f3 f4 s).a11 (initO c i arg2 harg2 arg3 harg3 arg4 harg4 arg5 harg5 arg6 harg6 arg7 harg7 arg8 harg8 arg9 harg9 arg10 harg10 arg11 harg11 arg12 harg12 arg13 harg13 arg14 harg14 f2 f3 f4 s).a12 (initO c i arg2 harg2 arg3 harg3 arg4 harg4 arg5 harg5 arg6 harg6 arg7 harg7 arg8 harg8 arg9 harg9 arg10 harg10 arg11 harg11 arg12 harg12 arg13 harg13 arg14 harg14 f2 f3 f4 s).a13 (initO c i arg2 harg2 arg3 harg3 arg4 harg4 arg5 harg5 arg6 harg6 arg7 harg7 arg8 harg8 arg9 harg9 arg10 harg10 arg11 harg11 arg12 harg12 arg13 harg13 arg14 harg14 f2 f3 f4 s).a14).1.2 E p.1 p.2)
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14
  iintro %_ ⟨H2, H3, H4, H8, H9, H10, H11, H12, H13, H14⟩
  unfold bodyO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof.Kernel
-- ==== Proof.KernelFrame.lean ====
/-
  The launch: the body's triple at a grid point with its windows' staging buffers and the scratch buffers, under any
  invariant of the scratch contents (`point_run`), and the frame claim, which needs none of the contents (`frame`).
-/
module

public import proofs.«01_k».proof.Proof.KernelRuns
public import proofs.«01_k».proof.Proof.Gen.Kernel.Frame
public import proofs.«01_k».proof.Proof.Gen.Kernel.Launch

@[expose] public section

set_option maxRecDepth 8192

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen
open Idealize.ShloMosaic.Rounds
open Idealize.ShloMosaic.Pipeline (Dat RDat Cfg Window BodyObligation BodyObligationLoose cellOf)
variable {F : FTy → Type} [FloatOps F]
local notation "𝕄G" => MT nD τ sig Unit (Elt F) ℕ (UR sig nD τ) ℕ

/-- The contents of the kernel's scratch buffers. -/
abbrev ScrW (c : Dev nD) := Scr (F := F) c (Memref.whole cc0_scratch0) (Memref.whole cc0_scratch1) (Memref.whole cc0_scratch2) (Memref.whole cc0_scratch3) (Memref.whole cc0_scratch4) (Memref.whole cc0_scratch5) (Memref.whole cc0_scratch6)
/-- The contents of the three results' staging buffers at point `t`. -/
abbrev OutsW (c : Dev nD) (t : Fin cfg0.N) := Outs (F := F) c (st0_3 t) (st0_4 t) (st0_5 t)

/-- What the body leaves at point `t`. -/
def bodyT (c : Dev nD) (t : Fin cfg0.N) (f2 : Bf (F := F) c (st0_0 t)) (f3 : Bf (F := F) c (st0_1 t)) (f4 : Bf (F := F) c (st0_2 t))
    (o : OutsW (F := F) c t) (s : ScrW (F := F) c) : OutsW (F := F) c t × ScrW (F := F) c :=
  bodyO c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f2 f3 f4 o s

/-- The scratch buffers at contents `s`. -/
def SPt (c : Dev nD) (s : ScrW (F := F) c) : sProp 𝕄G :=
  iprop(pt c (Memref.whole cc0_scratch0) s.a8 ∗ pt c (Memref.whole cc0_scratch1) s.a9 ∗ pt c (Memref.whole cc0_scratch2) s.a10 ∗ pt c (Memref.whole cc0_scratch3) s.a11 ∗ pt c (Memref.whole cc0_scratch4) s.a12 ∗ pt c (Memref.whole cc0_scratch5) s.a13 ∗ pt c (Memref.whole cc0_scratch6) s.a14)

/-- The invariant between points: the scratch buffers at some contents of which `Inv` holds, and the core's random
    generator in some state. -/
def PhiI (c : Dev nD) (Inv : ScrW (F := F) c → Prop) : sProp 𝕄G :=
  iprop(∃ s : ScrW (F := F) c, ⌜Inv s⌝ ∗ SPt c s ∗ ∃ r, prngReg c r)

/-- The body at point `t`, from inputs `X2 X3 X4` in the staging buffers and scratch contents in `Inv`, to scratch
    contents in `Inv'` and results of which `T5 T6 T7` hold. -/
theorem point_run (c : Dev nD) (t : Fin cfg0.N)
    (X2 : (cfg0.win 0).block.Idx → Elt F (cfg0.win 0).elt) (X3 : (cfg0.win 1).block.Idx → Elt F (cfg0.win 1).elt)
    (X4 : (cfg0.win 2).block.Idx → Elt F (cfg0.win 2).elt)
    (Inv Inv' : ScrW (F := F) c → Prop)
    (T5 : ((cfg0.win 3).block.Idx → Elt F (cfg0.win 3).elt) → Prop) (T6 : ((cfg0.win 4).block.Idx → Elt F (cfg0.win 4).elt) → Prop)
    (T7 : ((cfg0.win 5).block.Idx → Elt F (cfg0.win 5).elt) → Prop)
    (step : ∀ f2 f3 f4 o s, (st0_0 t).view.read (Elt F) f2 = X2 → (st0_1 t).view.read (Elt F) f3 = X3 → (st0_2 t).view.read (Elt F) f4 = X4 →
      Inv s → Inv' (bodyT c t f2 f3 f4 o s).2 ∧ T5 ((st0_3 t).view.read (Elt F) (bodyT c t f2 f3 f4 o s).1.a5)
        ∧ T6 ((st0_4 t).view.read (Elt F) (bodyT c t f2 f3 f4 o s).1.a6) ∧ T7 ((st0_5 t).view.read (Elt F) (bodyT c t f2 f3 f4 o s).1.a7)) :
    iprop(PhiI c Inv ∗ owns (c : Thread nD τ) (st0_0 t) fullShare X2 ∗ owns (c : Thread nD τ) (st0_1 t) fullShare X3
        ∗ owns (c : Thread nD τ) (st0_2 t) fullShare X4 ∗ (∃ X, owns (c : Thread nD τ) (st0_3 t) fullShare X)
        ∗ (∃ X, owns (c : Thread nD τ) (st0_4 t) fullShare X) ∗ (∃ X, owns (c : Thread nD τ) (st0_5 t) fullShare X))
    ⊢ wp frame (wpE (defs₀ (F := F)) Variants.none (c : Thread nD τ) none) Set.univ (bodyAt0 t)
      fun _ => iprop(PhiI c Inv' ∗ owns (c : Thread nD τ) (st0_0 t) fullShare X2 ∗ owns (c : Thread nD τ) (st0_1 t) fullShare X3
        ∗ owns (c : Thread nD τ) (st0_2 t) fullShare X4 ∗ (∃ X, ⌜T5 X⌝ ∗ owns (c : Thread nD τ) (st0_3 t) fullShare X)
        ∗ (∃ X, ⌜T6 X⌝ ∗ owns (c : Thread nD τ) (st0_4 t) fullShare X) ∗ (∃ X, ⌜T7 X⌝ ∗ owns (c : Thread nD τ) (st0_5 t) fullShare X)) := by
  unfold PhiI owns SPt
  iintro ⟨⟨%s, %hs, ⟨S0, S1, S2, S3, S4, S5, S6⟩, Hg⟩, ⟨%f2, %h2, H2⟩, ⟨%f3, %h3, H3⟩, ⟨%f4, %h4, H4⟩, ⟨%X5, %f5, %_, H5⟩, ⟨%X6, %f6, %_, H6⟩, ⟨%X7, %f7, %_, H7⟩⟩
  have hstep := step f2 f3 f4 ⟨f5, f6, f7⟩ s h2 h3 h4 hs
  iapply (wp_wand_r Idealize.ShloMosaic.frame (wpE (defs₀ (F := F)) Variants.none (c : Thread nD τ) none) Set.univ)
  isplitl [S0 S1 S2 S3 S4 S5 S6 H2 H3 H4 H5 H6 H7]
  · iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f2 f3 f4 ⟨f5, f6, f7⟩ s Set.univ)
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iintro %_ ⟨H2, H3, H4, H5, H6, H7, S0, S1, S2, S3, S4, S5, S6⟩
  isplitl [S0 S1 S2 S3 S4 S5 S6 Hg]
  · iexists (bodyT c t f2 f3 f4 ⟨f5, f6, f7⟩ s).2
    isplitr; · ipureintro; exact hstep.1
    isplitr [Hg]
    · isplitl [S0]; · iexact S0
      isplitl [S1]; · iexact S1
      isplitl [S2]; · iexact S2
      isplitl [S3]; · iexact S3
      isplitl [S4]; · iexact S4
      isplitl [S5]; · iexact S5
      iexact S6
    · iexact Hg
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists _; isplitr; · ipureintro; exact hstep.2.1
    iexists (bodyT c t f2 f3 f4 ⟨f5, f6, f7⟩ s).1.a5; isplitr; · ipureintro; rfl
    iexact H5
  isplitl [H6]
  · iexists _; isplitr; · ipureintro; exact hstep.2.2.1
    iexists (bodyT c t f2 f3 f4 ⟨f5, f6, f7⟩ s).1.a6; isplitr; · ipureintro; rfl
    iexact H6
  · iexists _; isplitr; · ipureintro; exact hstep.2.2.2
    iexists (bodyT c t f2 f3 f4 ⟨f5, f6, f7⟩ s).1.a7; isplitr; · ipureintro; rfl
    iexact H7

/-- Whatever the scratch buffers hold, the invariant that says nothing of it. -/
theorem PhiA_in (c : Dev nD) (Inv : ScrW (F := F) c → Prop) (h : ∀ s, Inv s) : (Pipeline.ΦA spec0 c : sProp 𝕄G) ⊢ PhiI (F := F) c Inv := by
  unfold Pipeline.ΦA PhiI SPt
  rw [scopedRest0_eq]
  simp only [pt, Memref.view_whole, View.set_whole]
  iintro ⟨⟨⟨%f0, H0⟩, ⟨%f1, H1⟩, ⟨%f2, H2⟩, ⟨%f3, H3⟩, ⟨%f4, H4⟩, ⟨%f5, H5⟩, ⟨%f6, H6⟩⟩, Hg⟩
  iexists (⟨f0, f1, f2, f3, f4, f5, f6⟩ : ScrW (F := F) c)
  isplitr; · ipureintro; exact h _
  isplitr [Hg]
  · isplitl [H0]; · iexact H0
    isplitl [H1]; · iexact H1
    isplitl [H2]; · iexact H2
    isplitl [H3]; · iexact H3
    isplitl [H4]; · iexact H4
    isplitl [H5]; · iexact H5
    iexact H6
  · iexact Hg

/-- The invariant forgets to the plain one. -/
theorem PhiA_out (c : Dev nD) (Inv : ScrW (F := F) c → Prop) : PhiI (F := F) c Inv ⊢ (Pipeline.ΦA spec0 c : sProp 𝕄G) := by
  unfold Pipeline.ΦA PhiI SPt
  rw [scopedRest0_eq]
  simp only [pt, Memref.view_whole, View.set_whole]
  iintro ⟨%s, %_, ⟨H0, H1, H2, H3, H4, H5, H6⟩, Hg⟩
  isplitr [Hg]
  · isplitl [H0]; · iexists s.a8; iexact H0
    isplitl [H1]; · iexists s.a9; iexact H1
    isplitl [H2]; · iexists s.a10; iexact H2
    isplitl [H3]; · iexists s.a11; iexact H3
    isplitl [H4]; · iexists s.a12; iexact H4
    isplitl [H5]; · iexists s.a13; iexact H5
    iexists s.a14; iexact H6
  · iexact Hg

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- Proof data: the arrays as launched, the inputs' blocks left in place, the results' blocks named by `T3 T4 T5`, the
    scratch invariant `Inv`. -/
def dat (c : Dev nD) (Inv : ℕ → ScrW (F := F) c → Prop)
    (T3 : Fin cfg0.N → (cfg0.win 3).block.Idx → Elt F (cfg0.win 3).elt) (T4 : Fin cfg0.N → (cfg0.win 4).block.Idx → Elt F (cfg0.win 4).elt)
    (T5 : Fin cfg0.N → (cfg0.win 5).block.Idx → Elt F (cfg0.win 5).elt) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => T3 t
    | 4 => T4 t
    | 5 => T5 t
  Φ n := PhiI c (Inv n.val)
  q _ := fullShare
  owed _ := 0

section dats
variable (Inv : ∀ c : Dev nD, ℕ → ScrW (F := F) c → Prop)
    (T3 : ∀ c : Dev nD, Fin cfg0.N → (cfg0.win 3).block.Idx → Elt F (cfg0.win 3).elt) (T4 : ∀ c : Dev nD, Fin cfg0.N → (cfg0.win 4).block.Idx → Elt F (cfg0.win 4).elt)
    (T5 : ∀ c : Dev nD, Fin cfg0.N → (cfg0.win 5).block.Idx → Elt F (cfg0.win 5).elt)

/-- The proof data of every core. -/
def dats (_p : Fin 1) (c : Dev nD) : Dat τ (Elt F) Unit ℕ (UR sig nD τ) ℕ cfg0 c := dat m c (Inv c) (T3 c) (T4 c) (T5 c)

/-- The obligation of the body with its results named, from one step of the scratch contents. -/
theorem body_named (c : Dev nD) (step : ∀ (t : Fin cfg0.N) f2 f3 f4 o s, (st0_0 t).view.read (Elt F) f2 = iblk m c 0 t →
      (st0_1 t).view.read (Elt F) f3 = iblk m c 1 t → (st0_2 t).view.read (Elt F) f4 = iblk m c 2 t →
      Inv c t.val s → Inv c (t.val + 1) (bodyT c t f2 f3 f4 o s).2 ∧ (st0_3 t).view.read (Elt F) (bodyT c t f2 f3 f4 o s).1.a5 = T3 c t
        ∧ (st0_4 t).view.read (Elt F) (bodyT c t f2 f3 f4 o s).1.a6 = T4 c t ∧ (st0_5 t).view.read (Elt F) (bodyT c t f2 f3 f4 o s).1.a7 = T5 c t) :
    BodyObligationLoose (dats m Inv T3 T4 T5 0 c) (defs₀ (F := F)) Variants.none () Set.univ := fun t => by
  rw [bigSep_W0, bigSep_W0, defs₀_row]
  simp only
  rw [show (dats m Inv T3 T4 T5 0 c).owesAt () t.succ = (dats m Inv T3 T4 T5 0 c).owesAt () t.castSucc from rfl,
    show (dats m Inv T3 T4 T5 0 c).Φ t.castSucc = PhiI c (Inv c t.val) from rfl, show (dats m Inv T3 T4 T5 0 c).Φ t.succ = PhiI c (Inv c (t.val + 1)) from rfl]
  iintro ⟨HΦ, Ho, ⟨%d0, H0⟩, ⟨%d1, H1⟩, ⟨%d2, H2⟩, ⟨%d3, H3⟩, ⟨%d4, H4⟩, ⟨%d5, H5⟩⟩
  rw [before0_0_of m (dats m Inv T3 T4 T5 0 c) rfl (fun _ => rfl) t d0, before0_1_of m (dats m Inv T3 T4 T5 0 c) rfl (fun _ => rfl) t d1,
    before0_2_of m (dats m Inv T3 T4 T5 0 c) rfl (fun _ => rfl) t d2]
  iapply (wp_wand_r Idealize.ShloMosaic.frame (wpE (defs₀ (F := F)) Variants.none (c : Thread nD τ) none) Set.univ)
  isplitr [Ho]
  · iapply (point_run c t (iblk m c 0 t) (iblk m c 1 t) (iblk m c 2 t) (Inv c t.val) (Inv c (t.val + 1)) (· = T3 c t) (· = T4 c t) (· = T5 c t)
      (fun f2 f3 f4 o s => step t f2 f3 f4 o s))
    isplitl [HΦ]; · iexact HΦ
    isplitl [H0]; · iexact H0
    isplitl [H1]; · iexact H1
    isplitl [H2]; · iexact H2
    isplitl [H3]; · iexists _; iexact H3
    isplitl [H4]; · iexists _; iexact H4
    iexists _; iexact H5
  iintro %_ ⟨HΦ, H0, H1, H2, ⟨%X3, %h3, H3⟩, ⟨%X4, %h4, H4⟩, ⟨%X5, %h5, H5⟩⟩
  subst h3 h4 h5
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The run with its results named: every result array ends at what the write-backs of the named blocks leave. -/
theorem run_named (h0 : ∀ c s, Inv c 0 s) (step : ∀ (c : Dev nD) (t : Fin cfg0.N) f2 f3 f4 o s, (st0_0 t).view.read (Elt F) f2 = iblk m c 0 t →
      (st0_1 t).view.read (Elt F) f3 = iblk m c 1 t → (st0_2 t).view.read (Elt F) f4 = iblk m c 2 t →
      Inv c t.val s → Inv c (t.val + 1) (bodyT c t f2 f3 f4 o s).2 ∧ (st0_3 t).view.read (Elt F) (bodyT c t f2 f3 f4 o s).1.a5 = T3 c t
        ∧ (st0_4 t).view.read (Elt F) (bodyT c t f2 f3 f4 o s).1.a6 = T4 c t ∧ (st0_5 t).view.read (Elt F) (bodyT c t f2 f3 f4 o s).1.a7 = T5 c t) :
    θ_run defs (onTc (τ := τ) (main (F := F))) (s₀ m ρ) (Pipeline.FramePost cfgs (dats m Inv T3 T4 T5) 0 (V m)) :=
  Pipeline.θ_run_frame_track (p := (0 : Fin 1)) cfgs (dats m Inv T3 T4 T5) launch0 (defs₀ (F := F)) Variants.none m ρ main
    (hbody := fun c => body_named m Inv T3 T4 T5 c (step c)) (hshare := fun c => (dats m Inv T3 T4 T5 0 c).share_full fun _ => rfl)
    (howed := fun _ _ => rfl) (V := V m) (hmain := hmain m Variants.none) (hA := fun _ _ => rfl)
    (hin := fun c => PhiA_in c _ (h0 c)) (hout := fun c => PhiA_out c _)

end dats

/-- The results' windows, whose contents the frame says nothing of. -/
def fgt : Fin 6 → Bool := fun w => decide (3 ≤ w.val)

/-- Proof data of the frame. -/
abbrev datsF : (p : Fin 1) → (c : Dev nD) → Dat τ (Elt F) Unit ℕ (UR sig nD τ) ℕ (cfgs p) c :=
  dats m (fun _ _ _ => True) (fun _ _ _ => Classical.arbitrary _) (fun _ _ _ => Classical.arbitrary _) (fun _ _ _ => Classical.arbitrary _)

/-- The obligation of the body with its results forgotten. -/
theorem body_forget (c : Dev nD) : BodyObligationLoose (datsF m 0 c) (defs₀ (F := F)) Variants.none () Set.univ (fgt := fgt) := fun t => by
  rw [bigSep_W0, bigSep_W0, defs₀_row]
  simp only [show fgt 0 = false from rfl, show fgt 1 = false from rfl, show fgt 2 = false from rfl,
    show fgt 3 = true from rfl, show fgt 4 = true from rfl, show fgt 5 = true from rfl]
  rw [show (datsF m 0 c).owesAt () t.succ = (datsF m 0 c).owesAt () t.castSucc from rfl,
    show (datsF m 0 c).Φ t.castSucc = PhiI c (fun _ => True) from rfl, show (datsF m 0 c).Φ t.succ = PhiI c (fun _ => True) from rfl]
  iintro ⟨HΦ, Ho, ⟨%d0, H0⟩, ⟨%d1, H1⟩, ⟨%d2, H2⟩, H3, H4, H5⟩
  rw [before0_0_of m (datsF m 0 c) rfl (fun _ => rfl) t d0, before0_1_of m (datsF m 0 c) rfl (fun _ => rfl) t d1,
    before0_2_of m (datsF m 0 c) rfl (fun _ => rfl) t d2]
  iapply (wp_wand_r Idealize.ShloMosaic.frame (wpE (defs₀ (F := F)) Variants.none (c : Thread nD τ) none) Set.univ)
  isplitr [Ho]
  · iapply (point_run c t (iblk m c 0 t) (iblk m c 1 t) (iblk m c 2 t) (fun _ => True) (fun _ => True) (fun _ => True) (fun _ => True) (fun _ => True)
      (fun _ _ _ _ _ _ _ _ _ => ⟨trivial, trivial, trivial, trivial⟩))
    isplitl [HΦ]; · iexact HΦ
    isplitl [H0]; · iexact H0
    isplitl [H1]; · iexact H1
    isplitl [H2]; · iexact H2
    isplitl [H3]; · iexact H3
    isplitl [H4]; · iexact H4
    iexact H5
  iintro %_ ⟨HΦ, H0, H1, H2, ⟨%X3, %_, H3⟩, ⟨%X4, %_, H4⟩, ⟨%X5, %_, H5⟩⟩
  isplitl [HΦ]; · iexact HΦ
  isplitl [Ho]; · iexact Ho
  isplitl [H0]; · iexact H0
  isplitl [H1]; · iexact H1
  isplitl [H2]; · iexact H2
  isplitl [H3]; · iexists X3; iexact H3
  isplitl [H4]; · iexists X4; iexact H4
  iexists X5; iexact H5

set_option backward.isDefEq.respectTransparency.types false in
/-- The frame: the kernel runs to the end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track_forget (Q' := _) (p := (0 : Fin 1)) (fgt := fgt) cfgs (datsF m) launch0 (defs₀ (F := F)) Variants.none m ρ main
    (hbody := body_forget m) (hshare := fun c => (datsF m 0 c).share_full fun _ => rfl)
    (howed := fun _ _ => rfl) (V := V m) (hmain := hmain m Variants.none) (hA := fun _ _ => rfl)
    (hin := fun c => PhiA_in c _ (fun _ => trivial)) (hout := fun c => PhiA_out c _)
    (hQ' := fun r h => ⟨fun c => ⟨(Pipeline.RDat.FramePost.arr_in h.1 c 0 rfl).trans rfl, (Pipeline.RDat.FramePost.arr_in h.1 c 1 rfl).trans rfl,
      (Pipeline.RDat.FramePost.arr_in h.1 c 2 rfl).trans rfl⟩, h.2⟩)

end Cert.Proof.Kernel
-- ==== Proof.KernelIdealSplit.lean ====
/-
  The attention kernel's body cut in three.

  `initP` is what the first grid point of all does: it resets the running statistics and the accumulators of all 32
  blocks of queries. `midP` is what every point does with the keys and values of its chunk and the four blocks of
  queries on the diagonal: it brings their statistics up to date, divides, and writes the three results. `tailP` is
  what every point but the last of a row does with the blocks of queries below the diagonal. The printed body is the
  three in sequence (`attn_eq`).
-/
module

public import proofs.«01_k».proof.Proof.Gen.KernelIdeal.Loops
public import proofs.«01_k».proof.Proof.Gen.KernelIdeal.Points

@[expose] public section

set_option maxRecDepth 8192

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen
variable {F : FTy → Type} [FloatOps F] [Named F]

/-- The reset of every statistic and accumulator, at the first grid point of all. -/
def initP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    Prog (TpuEff nD τ sig (Elt F) Λ₀ .tc) PUnit := do
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 k0_h1)
    let v788 : Vec F S32x8x512 .f32 ← Prog.lift (.load arg9 (Rect.unit (s := S32x8x512) ![0, 0, 0] S32x8x512.size inb_S32x8x512_S32x8x512_0_0_0).toLoadRect (View.loadsAt_vmem h_S32x8x512))
    Prog.lift (.store arg9 (Rect.unit (s := S32x8x512) ![0, 0, 0] S32x8x512.size inb_S32x8x512_S32x8x512_0_0_0) (k0_pay166 (F := F)) Finset.univ (View.stores_vmem_bits_univ h_S32x8x512 rfl) (.inl rfl))
    let v792 : Vec F S32x8x512 .f32 ← Prog.lift (.load arg10 (Rect.unit (s := S32x8x512) ![0, 0, 0] S32x8x512.size inb_S32x8x512_S32x8x512_0_0_0).toLoadRect (View.loadsAt_vmem h_S32x8x512))
    Prog.lift (.store arg10 (Rect.unit (s := S32x8x512) ![0, 0, 0] S32x8x512.size inb_S32x8x512_S32x8x512_0_0_0) (k0_pay167 (F := F)) Finset.univ (View.stores_vmem_bits_univ h_S32x8x512 rfl) (.inl rfl))
    let v796 : Vec F S32x8x512 .f32 ← Prog.lift (.load arg11 (Rect.unit (s := S32x8x512) ![0, 0, 0] S32x8x512.size inb_S32x8x512_S32x8x512_0_0_0).toLoadRect (View.loadsAt_vmem h_S32x8x512))
    Prog.lift (.store arg11 (Rect.unit (s := S32x8x512) ![0, 0, 0] S32x8x512.size inb_S32x8x512_S32x8x512_0_0_0) (k0_pay168 (F := F)) Finset.univ (View.stores_vmem_bits_univ h_S32x8x512 rfl) (.inl rfl))
    pure ⟨⟩
  else do
    pure ⟨⟩

/-- The rest of the first part of the straight line: the scores of the first block of queries on the diagonal. -/
def headP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    Prog (TpuEff nD τ sig (Elt F) Λ₀ .tc) (Σ' (v5 : BitVec 32) (v27 : FVec F S8x512 .f32), FVec F S8x512 .f32) := do
  let arg1 : BitVec 32 := BitVec.ofNat 32 (i 1).val
  let v5 : BitVec 32 := Scalar.muli arg1 4#32
  let v8 : Vec F S1x1x2x256x256 .bf16 ← Prog.lift (.load arg2 (Rect.unit (s := S1x1x2x8192x256) (k0_off2 i) S1x1x2x256x256.size (k0_off2_inb i)).toLoadRect (View.loadsAt_vmem h_S1x1x2x256x256))
  let v11 : Vec F S1x1x256x256 .bf16 ← Prog.lift (.load arg3 (Rect.unit (s := S1x1x1024x256) ![0, 0, 0, 0] S1x1x256x256.size inb_S1x1x1024x256_S1x1x256x256_0_0_0_0).toLoadRect (View.loadsAt_vmem h_S1x1x256x256))
  let v23 : Vec F S1x256x512 .f32 ← Prog.lift (.load arg12 (Rect.unit (s := S2x1024x512) ![0, 0, 0] S1x256x512.size inb_S2x1024x512_S1x256x512_0_0_0).toLoadRect (View.loadsAt_vmem h_S1x256x512))
  Prog.lift (.store arg12 (Rect.unit (s := S2x1024x512) ![0, 0, 0] S1x256x512.size inb_S2x1024x512_S1x256x512_0_0_0) (k0_pay172 v8 v11) Finset.univ (View.stores_vmem_bits_univ h_S1x256x512 rfl) (.inl rfl))
  pure ⟨v5, k0_pay173 v8 v11, k0_pay174 v8 v11⟩

/-- The straight line: the four blocks of queries on the diagonal, from their scores to the three results. It hands on
    the first block below the diagonal and the number of pairs of such blocks. -/
def midP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    Prog (TpuEff nD τ sig (Elt F) Λ₀ .tc) (BitVec 32 × BitVec 32) := do
  let ⟨v5, v27, v29⟩ : Σ' (v5 : BitVec 32) (v27 : FVec F S8x512 .f32), FVec F S8x512 .f32 ← headP i arg2 harg2 arg3 harg3 arg4 harg4 arg5 harg5 arg6 harg6 arg7 harg7 arg8 harg8 arg9 harg9 arg10 harg10 arg11 harg11 arg12 harg12 arg13 harg13 arg14 harg14
  let ⟨v50, v52, v55, v56, v59⟩ : Σ' (v50 : FVec F S8x512 .f32) (v52 : FVec F S8x512 .f32) (v55 : FVec F S256x512 .f32) (v56 : IVec S256x512 32), IVec S256x512 32 ← k0_part24 i arg2 harg2 arg3 harg3 arg4 harg4 arg5 harg5 arg6 harg6 arg7 harg7 arg8 harg8 arg9 harg9 arg10 harg10 arg11 harg11 arg12 harg12 arg13 harg13 arg14 harg14 v5 v27 v29
  let ⟨v80, v82, v84, v87, v89⟩ : Σ' (v80 : BitVec 32) (v82 : FVec F S8x512 .f32) (v84 : FVec F S8x512 .f32) (v87 : FVec F S8x512 .f32), FVec F S1x512 .f32 ← k0_part25 i arg2 harg2 arg3 harg3 arg4 harg4 arg5 harg5 arg6 harg6 arg7 harg7 arg8 harg8 arg9 harg9 arg10 harg10 arg11 harg11 arg12 harg12 arg13 harg13 arg14 harg14 v5 v50 v52 v55 v56 v59
  let ⟨v95, v102, v117, v124, v126, cst_92⟩ : Σ' (v95 : FVec F S8x512 .f32) (v102 : FVec F S8x512 .f32) (v117 : FVec F S8x512 .f32) (v124 : FVec F S256x256 .bf16) (v126 : FVec F S256x512 .bf16), FVec F S256x512 .f32 ← k0_part26 i arg2 harg2 arg3 harg3 arg4 harg4 arg5 harg5 arg6 harg6 arg7 harg7 arg8 harg8 arg9 harg9 arg10 harg10 arg11 harg11 arg12 harg12 arg13 harg13 arg14 harg14 v80 v82 v84 v87 v89
  let ⟨v146, v150, v164⟩ : Σ' (v146 : FVec F S1x512 .f32) (v150 : FVec F S1x512 .f32), FVec F S256x256 .f32 ← k0_part27 i arg2 harg2 arg3 harg3 arg4 harg4 arg5 harg5 arg6 harg6 arg7 harg7 arg8 harg8 arg9 harg9 arg10 harg10 arg11 harg11 arg12 harg12 arg13 harg13 arg14 harg14 v80 v95 v102 v117 v124 v126 cst_92
  let v191 : FVec F S8x512 .f32 ← k0_part28 i arg2 harg2 arg3 harg3 arg4 harg4 arg5 harg5 arg6 harg6 arg7 harg7 arg8 harg8 arg9 harg9 arg10 harg10 arg11 harg11 arg12 harg12 arg13 harg13 arg14 harg14 v80 v146 v150 v164
  let ⟨v202, v223, v224⟩ : Σ' (v202 : FVec F S512x256 .bf16) (v223 : FVec F S8x512 .f32), FVec F S8x512 .f32 ← k0_part29 i arg2 harg2 arg3 harg3 arg4 harg4 arg5 harg5 arg6 harg6 arg7 harg7 arg8 harg8 arg9 harg9 arg10 harg10 arg11 harg11 arg12 harg12 arg13 harg13 arg14 harg14 v5 v191
  let ⟨v252, v254⟩ : Σ' (v252 : BitVec 32), FVec F S8x512 .f32 ← k0_part30 i arg2 harg2 arg3 harg3 arg4 harg4 arg5 harg5 arg6 harg6 arg7 harg7 arg8 harg8 arg9 harg9 arg10 harg10 arg11 harg11 arg12 harg12 arg13 harg13 arg14 harg14 v5 v202 v223 v224
  let ⟨v263, v267, v274, v289, v294⟩ : Σ' (v263 : FVec F S8x512 .f32) (v267 : FVec F S8x512 .f32) (v274 : FVec F S8x512 .f32) (v289 : FVec F S8x512 .f32), FVec F S1x256x512 .bf16 ← k0_part31 i arg2 harg2 arg3 harg3 arg4 harg4 arg5 harg5 arg6 harg6 arg7 harg7 arg8 harg8 arg9 harg9 arg10 harg10 arg11 harg11 arg12 harg12 arg13 harg13 arg14 harg14 v252 v254
  let ⟨v331, v332⟩ : Σ' (v331 : FVec F S256x512 .f32), FVec F S256x512 .f32 ← k0_part32 i arg2 harg2 arg3 harg3 arg4 harg4 arg5 harg5 arg6 harg6 arg7 harg7 arg8 harg8 arg9 harg9 arg10 harg10 arg11 harg11 arg12 harg12 arg13 harg13 arg14 harg14 v252 v263 v267 v289 v294
  let v360 : FVec F S1x256 .f32 ← k0_part33 i arg2 harg2 arg3 harg3 arg4 harg4 arg5 harg5 arg6 harg6 arg7 harg7 arg8 harg8 arg9 harg9 arg10 harg10 arg11 harg11 arg12 harg12 arg13 harg13 arg14 harg14 v274 v331 v332
  let ⟨v390, v392⟩ : Σ' (v390 : FVec F S512x256 .bf16), FVec F S256x256 .bf16 ← k0_part34 i arg2 harg2 arg3 harg3 arg4 harg4 arg5 harg5 arg6 harg6 arg7 harg7 arg8 harg8 arg9 harg9 arg10 harg10 arg11 harg11 arg12 harg12 arg13 harg13 arg14 harg14 v5 v252 v360
  let ⟨v412, v422, v423⟩ : Σ' (v412 : FVec F S8x512 .f32) (v422 : FVec F S8x512 .f32), FVec F S8x512 .f32 ← k0_part35 i arg2 harg2 arg3 harg3 arg4 harg4 arg5 harg5 arg6 harg6 arg7 harg7 arg8 harg8 arg9 harg9 arg10 harg10 arg11 harg11 arg12 harg12 arg13 harg13 arg14 harg14 v390 v392
  let ⟨v452, v454⟩ : Σ' (v452 : BitVec 32), FVec F S8x512 .f32 ← k0_part36 i arg2 harg2 arg3 harg3 arg4 harg4 arg5 harg5 arg6 harg6 arg7 harg7 arg8 harg8 arg9 harg9 arg10 harg10 arg11 harg11 arg12 harg12 arg13 harg13 arg14 harg14 v5 v390 v412 v422 v423
  let ⟨v463, v467, v474, v489, v491⟩ : Σ' (v463 : FVec F S8x512 .f32) (v467 : FVec F S8x512 .f32) (v474 : FVec F S8x512 .f32) (v489 : FVec F S8x512 .f32), FVec F S256x512 .bf16 ← k0_part37 i arg2 harg2 arg3 harg3 arg4 harg4 arg5 harg5 arg6 harg6 arg7 harg7 arg8 harg8 arg9 harg9 arg10 harg10 arg11 harg11 arg12 harg12 arg13 harg13 arg14 harg14 v452 v454
  let ⟨v521, v528⟩ : Σ' (v521 : FVec F S8x512 .f32), FVec F S256x768 .bf16 ← k0_part38 i arg2 harg2 arg3 harg3 arg4 harg4 arg5 harg5 arg6 harg6 arg7 harg7 arg8 harg8 arg9 harg9 arg10 harg10 arg11 harg11 arg12 harg12 arg13 harg13 arg14 harg14 v463 v489 v491
  let ⟨v550, v554, v555, v564, v565⟩ : Σ' (v550 : FVec F S1x512 .f32) (v554 : FVec F S1x512 .f32) (v555 : FVec F S512x256 .f32) (v564 : FVec F S1x256 .f32), Vec F S1x1x1x256 .f32 ← k0_part39 i arg2 harg2 arg3 harg3 arg4 harg4 arg5 harg5 arg6 harg6 arg7 harg7 arg8 harg8 arg9 harg9 arg10 harg10 arg11 harg11 arg12 harg12 arg13 harg13 arg14 harg14 v452 v467 v474 v521 v528
  let v595 : FVec F S8x512 .f32 ← k0_part40 i arg2 harg2 arg3 harg3 arg4 harg4 arg5 harg5 arg6 harg6 arg7 harg7 arg8 harg8 arg9 harg9 arg10 harg10 arg11 harg11 arg12 harg12 arg13 harg13 arg14 harg14 v452 v550 v554 v555 v564 v565
  let ⟨v600, v611, v615, v622, v626, v632⟩ : Σ' (v600 : BitVec 32) (v611 : FVec F S8x512 .f32) (v615 : FVec F S8x512 .f32) (v622 : FVec F S8x512 .f32) (v626 : FVec F S8x512 .f32), FVec F S32x8x512 .f32 ← k0_part41 i arg2 harg2 arg3 harg3 arg4 harg4 arg5 harg5 arg6 harg6 arg7 harg7 arg8 harg8 arg9 harg9 arg10 harg10 arg11 harg11 arg12 harg12 arg13 harg13 arg14 harg14 v5 v595
  let ⟨v669, v671⟩ : Σ' (v669 : FVec F S8x512 .f32), FVec F S256x512 .bf16 ← k0_part42 i arg2 harg2 arg3 harg3 arg4 harg4 arg5 harg5 arg6 harg6 arg7 harg7 arg8 harg8 arg9 harg9 arg10 harg10 arg11 harg11 arg12 harg12 arg13 harg13 arg14 harg14 v611 v626 v632
  let ⟨v705, v707, cst_477⟩ : Σ' (v705 : FVec F S256x512 .f32) (v707 : FVec F S1x512 .f32), F .f32 ← k0_part43 i arg2 harg2 arg3 harg3 arg4 harg4 arg5 harg5 arg6 harg6 arg7 harg7 arg8 harg8 arg9 harg9 arg10 harg10 arg11 harg11 arg12 harg12 arg13 harg13 arg14 harg14 v600 v611 v615 v669 v671
  let v718 : FVec F S1x512 .f32 ← k0_part44 i arg2 harg2 arg3 harg3 arg4 harg4 arg5 harg5 arg6 harg6 arg7 harg7 arg8 harg8 arg9 harg9 arg10 harg10 arg11 harg11 arg12 harg12 arg13 harg13 arg14 harg14 v622 v705 v707 cst_477
  let ⟨v764, v765, c2_i32_518, v766, v771, v772⟩ : Σ' (v764 : BitVec 32) (v765 : BitVec 32) (c2_i32_518 : BitVec 32) (v766 : BitVec 32) (v771 : BitVec 32), BitVec 1 ← k0_part45 i arg2 harg2 arg3 harg3 arg4 harg4 arg5 harg5 arg6 harg6 arg7 harg7 arg8 harg8 arg9 harg9 arg10 harg10 arg11 harg11 arg12 harg12 arg13 harg13 arg14 harg14 v5 v600 v718
  let v773 : BitVec 32 := Scalar.extui v772
  let v774 : BitVec 1 := Scalar.cmpi .slt c2_i32_518 0#32
  let v775 : BitVec 32 := Scalar.extui v774
  let v776 : BitVec 32 := Scalar.subi v773 v775
  let v777 : BitVec 1 := Scalar.cmpi .ne v771 v776
  let v778 : BitVec 32 := Scalar.remsi v765 c2_i32_518
  let v779 : BitVec 1 := Scalar.cmpi .ne v778 0#32
  let v780 : BitVec 1 := Scalar.andi v777 v779
  let v781 : BitVec 32 := Scalar.subi v766 1#32
  let v782 : BitVec 32 := Scalar.select v780 v781 v766
  pure ⟨v764, v782⟩

/-- The scores of the first block of queries below the diagonal. -/
def scoreP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) (v764 v782 : BitVec 32) (k0_h2 : k0_cond2 i = 1#1) :
    Prog (TpuEff nD τ sig (Elt F) Λ₀ .tc) (BitVec 32 × BitVec 32 × BitVec 32) := do
  let ⟨v790, v811, v812, v814⟩ : Σ' (v790 : FVec F S512x256 .bf16) (v811 : FVec F S8x512 .f32) (v812 : FVec F S8x512 .f32), FVec F S256x256 .bf16 ← k0_part21 i arg2 harg2 arg3 harg3 arg4 harg4 arg5 harg5 arg6 harg6 arg7 harg7 arg8 harg8 arg9 harg9 arg10 harg10 arg11 harg11 arg12 harg12 arg13 harg13 arg14 harg14 v764 k0_h2
  let ⟨c0_i32_580, c0_i32_581, v843⟩ : Σ' (c0_i32_580 : BitVec 32) (c0_i32_581 : BitVec 32), BitVec 32 ← k0_part22 i arg2 harg2 arg3 harg3 arg4 harg4 arg5 harg5 arg6 harg6 arg7 harg7 arg8 harg8 arg9 harg9 arg10 harg10 arg11 harg11 arg12 harg12 arg13 harg13 arg14 harg14 v782 v790 v811 v812 v814
  pure ⟨c0_i32_580, c0_i32_581, v843⟩

/-- The loop over the blocks of queries below the diagonal, two at a time. -/
def loopP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) (v764 : BitVec 32) (k0_h2 : k0_cond2 i = 1#1) (c0_i32_580 c0_i32_581 v843 : BitVec 32) :
    Prog (TpuEff nD τ sig (Elt F) Λ₀ .tc) PUnit := do
  let v845 : BitVec 32 := Scalar.divsi v843 1#32
  let v846 : BitVec 32 := Scalar.muli v845 1#32
  let v847 : BitVec 32 := Scalar.addi c0_i32_580 v846
  let v848 : BitVec 32 ← Scf.Loop.for (k0_t2_loop i) (k0_t2_ok i k0_h2) c0_i32_581 (k0_t2_body i arg2 harg2 arg3 harg3 arg4 harg4 arg5 harg5 arg6 harg6 arg7 harg7 arg8 harg8 arg9 harg9 arg10 harg10 arg11 harg11 arg12 harg12 arg13 harg13 arg14 harg14 v764 k0_h2 c0_i32_580)
  let v849 : BitVec 32 ← Scf.Loop.for (k0_t3_loop i) (k0_t3_ok i k0_h2) v848 (k0_t3_body i arg2 harg2 arg3 harg3 arg4 harg4 arg5 harg5 arg6 harg6 arg7 harg7 arg8 harg8 arg9 harg9 arg10 harg10 arg11 harg11 arg12 harg12 arg13 harg13 arg14 harg14 v764 k0_h2 v847)
  pure ⟨⟩

/-- The blocks of queries below the diagonal. -/
def tailP (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) (v764 v782 : BitVec 32) :
    Prog (TpuEff nD τ sig (Elt F) Λ₀ .tc) PUnit := do
  if k0_h2 : k0_cond2 i = 1#1 then do
    let p ← scoreP i arg2 harg2 arg3 harg3 arg4 harg4 arg5 harg5 arg6 harg6 arg7 harg7 arg8 harg8 arg9 harg9 arg10 harg10 arg11 harg11 arg12 harg12 arg13 harg13 arg14 harg14 v764 v782 k0_h2
    loopP i arg2 harg2 arg3 harg3 arg4 harg4 arg5 harg5 arg6 harg6 arg7 harg7 arg8 harg8 arg9 harg9 arg10 harg10 arg11 harg11 arg12 harg12 arg13 harg13 arg14 harg14 v764 k0_h2 p.1 p.2.1 p.2.2
  else do
    pure ⟨⟩

theorem part23_eq (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    k0_part23 (F := F) i arg2 harg2 arg3 harg3 arg4 harg4 arg5 harg5 arg6 harg6 arg7 harg7 arg8 harg8 arg9 harg9 arg10 harg10 arg11 harg11 arg12 harg12 arg13 harg13 arg14 harg14 = (initP i arg2 harg2 arg3 harg3 arg4 harg4 arg5 harg5 arg6 harg6 arg7 harg7 arg8 harg8 arg9 harg9 arg10 harg10 arg11 harg11 arg12 harg12 arg13 harg13 arg14 harg14 >>= fun _ => headP i arg2 harg2 arg3 harg3 arg4 harg4 arg5 harg5 arg6 harg6 arg7 harg7 arg8 harg8 arg9 harg9 arg10 harg10 arg11 harg11 arg12 harg12 arg13 harg13 arg14 harg14) := by
  rw [k0_part23_eq_skeleton]
  unfold k0_part23_skel initP headP
  by_cases h : k0_cond1 i = 1#1
  · simp only [dif_pos h, bind_assoc, pure_bind]
  · simp only [dif_neg h, bind_assoc, pure_bind]

/-- The printed body is the three in sequence. -/
theorem attn_eq (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14
      = (initP i arg2 harg2 arg3 harg3 arg4 harg4 arg5 harg5 arg6 harg6 arg7 harg7 arg8 harg8 arg9 harg9 arg10 harg10 arg11 harg11 arg12 harg12 arg13 harg13 arg14 harg14 >>= fun _ => midP i arg2 harg2 arg3 harg3 arg4 harg4 arg5 harg5 arg6 harg6 arg7 harg7 arg8 harg8 arg9 harg9 arg10 harg10 arg11 harg11 arg12 harg12 arg13 harg13 arg14 harg14 >>= fun p => tailP i arg2 harg2 arg3 harg3 arg4 harg4 arg5 harg5 arg6 harg6 arg7 harg7 arg8 harg8 arg9 harg9 arg10 harg10 arg11 harg11 arg12 harg12 arg13 harg13 arg14 harg14 p.1 p.2) := by
  rw [cc0_attn_eq_skeleton]
  unfold cc0_attn_skel midP tailP scoreP loopP
  simp only [part23_eq, bind_assoc, pure_bind]

end Cert.Proof.KernelIdeal
-- ==== Proof.KernelIdealTrip.lean ====
/-
  One trip of the loop over the blocks of queries below the diagonal, run once at a symbolic trip: what it leaves in
  each scratch buffer, as a function of what it found (`trip`), the buffers before each trip (`tripSt`), and the loop
  by that invariant.
-/
module

public import proofs.«01_k».proof.Proof.KernelIdealSplit

@[expose] public section

set_option maxRecDepth 8192

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen
variable {F : FTy → Type} [FloatOps F] [Named F]
local notation "𝕄G" => MT nD τ sig Unit (Elt F) ℕ (UR sig nD τ) ℕ

/-- A buffer's contents. -/
abbrev Bf (c : Dev nD) {sp : Space} {S : Shape} {e : EltTy} (M : Memref sig .tc sp S e) : Type := BufTy.Contents (Elt F) M.view.ty
/-- A buffer, whole, at contents `f`. -/
abbrev pt (c : Dev nD) {sp : Space} {S : Shape} {e : EltTy} (M : Memref sig .tc sp S e) (f : Bf (F := F) c M) : sProp 𝕄G :=
  iprop(M.view.loc (c : Thread nD τ) ↦[M.view.set]{fullShare} f)

/-- The seven scratch buffers' contents: the accumulators, the running maxima, the running denominators, the running
    largest scores in absolute value, the two slots of scores, of weights and of score extrema. -/
structure Scr (c : Dev nD) (arg8 : Memref sig .tc .vmem S32x256x512 .f32) (arg9 : Memref sig .tc .vmem S32x8x512 .f32) (arg10 : Memref sig .tc .vmem S32x8x512 .f32) (arg11 : Memref sig .tc .vmem S32x8x512 .f32) (arg12 : Memref sig .tc .vmem S2x1024x512 .f32) (arg13 : Memref sig .tc .vmem S2x1024x512 .bf16) (arg14 : Memref sig .tc .vmem S2x2x8x512 .f32) where
  a8 : Bf (F := F) c arg8
  a9 : Bf (F := F) c arg9
  a10 : Bf (F := F) c arg10
  a11 : Bf (F := F) c arg11
  a12 : Bf (F := F) c arg12
  a13 : Bf (F := F) c arg13
  a14 : Bf (F := F) c arg14

/-- The three results' contents. -/
structure Outs (c : Dev nD) (arg5 : Memref sig .tc .vmem S1x2x1024x256 .f32) (arg6 : Memref sig .tc .vmem S1x1x2x1024 .f32) (arg7 : Memref sig .tc .vmem S1x1x2x1024 .f32) where
  a5 : Bf (F := F) c arg5
  a6 : Bf (F := F) c arg6
  a7 : Bf (F := F) c arg7

/-- ONE TRIP at a symbolic `k`: the contents it leaves in the scratch buffers are the run's own finds. -/
def trip (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (k : Fin (k0_t2_loop i).trips) (f2 : Bf (F := F) c arg2) (f3 : Bf (F := F) c arg3) (f4 : Bf (F := F) c arg4)
  (s : Scr (F := F) c arg8 arg9 arg10 arg11 arg12 arg13 arg14) :
  { W : Scr (F := F) c arg8 arg9 arg10 arg11 arg12 arg13 arg14 // ∀ (E : Set ℕ) (v764 c0 acc : BitVec 32),
    iprop(pt c arg2 f2 ∗ pt c arg3 f3 ∗ pt c arg4 f4 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 v764 k0_h2 c0 k acc)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E v764 c0 acc => ?run⟩
  case run =>
    unfold k0_t2_body
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

/-- The scratch buffers before trip `k`, from `s` at the loop's entry. -/
def tripSt (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (s : Scr (F := F) c arg8 arg9 arg10 arg11 arg12 arg13 arg14) : ℕ → Scr (F := F) c arg8 arg9 arg10 arg11 arg12 arg13 arg14
  | 0 => s
  | k + 1 => if h : k < (k0_t2_loop i).trips then
      (trip c i arg2 harg2 arg3 harg3 arg4 harg4 arg5 harg5 arg6 harg6 arg7 harg7 arg8 harg8 arg9 harg9 arg10 harg10 arg11 harg11 arg12 harg12 arg13 harg13 arg14 harg14 k0_h2 ⟨k, h⟩ f2 f3 f4 (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s k)).1
    else tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s k

theorem tripSt_succ (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (s : Scr (F := F) c arg8 arg9 arg10 arg11 arg12 arg13 arg14) (k : Fin (k0_t2_loop i).trips) :
    tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s (k.val + 1)
      = (trip c i arg2 harg2 arg3 harg3 arg4 harg4 arg5 harg5 arg6 harg6 arg7 harg7 arg8 harg8 arg9 harg9 arg10 harg10 arg11 harg11 arg12 harg12 arg13 harg13 arg14 harg14 k0_h2 k f2 f3 f4 (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 s k.val)).1 := by
  rw [tripSt]; exact dif_pos k.isLt

/-- The loop's invariant before trip `k`: the inputs as they are, the scratch at `tripSt … k`. -/
abbrev inv_t2 (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) (k : ℕ) (_acc : BitVec 32) : sProp 𝕄G :=
  iprop(pt c arg2 f2 ∗ pt c arg3 f3 ∗ pt c arg4 f4 ∗ (∃ f, pt c arg8 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a8⌝) ∗ (∃ f, pt c arg9 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a9⌝) ∗ (∃ f, pt c arg10 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a10⌝) ∗ (∃ f, pt c arg11 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a11⌝) ∗ (∃ f, pt c arg12 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a12⌝) ∗ (∃ f, pt c arg13 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a13⌝) ∗ (∃ f, pt c arg14 f ∗ ⌜f = (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k).a14⌝))

set_option warn.classDefReducibility false in
/-- The loop by its invariant. -/
@[sl_loop] def loopInv_t2 (c : Dev nD) (E : Set ℕ) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (v764 : BitVec 32) (k0_h2 : k0_cond2 i = 1#1) (c0 init : BitVec 32) (f2 : Bf (F := F) c arg2) (f3 : Bf (F := F) c arg3) (f4 : Bf (F := F) c arg4) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v764 k0_h2 c0 init where
  inv := inv_t2 c i arg2 harg2 arg3 harg3 arg4 harg4 arg5 harg5 arg6 harg6 arg7 harg7 arg8 harg8 arg9 harg9 arg10 harg10 arg11 harg11 arg12 harg12 arg13 harg13 arg14 harg14 k0_h2 f2 f3 f4 g8 g9 g10 g11 g12 g13 g14
  step k acc := by
    iintro ⟨H2, H3, H4, ⟨%f8', H8, %e8⟩, ⟨%f9', H9, %e9⟩, ⟨%f10', H10, %e10⟩, ⟨%f11', H11, %e11⟩, ⟨%f12', H12, %e12⟩, ⟨%f13', H13, %e13⟩, ⟨%f14', H14, %e14⟩⟩
    iapply (wp_wand_r Idealize.ShloMosaic.frame (wpE (defs₀ (F := F)) Variants.none (c : Thread nD τ) none) E)
    isplitl [H2 H3 H4 H8 H9 H10 H11 H12 H13 H14]
    · iapply ((trip c i arg2 harg2 arg3 harg3 arg4 harg4 arg5 harg5 arg6 harg6 arg7 harg7 arg8 harg8 arg9 harg9 arg10 harg10 arg11 harg11 arg12 harg12 arg13 harg13 arg14 harg14 k0_h2 k f2 f3 f4 (tripSt c i arg2 harg2 arg3 harg3 arg4 harg4 arg5 harg5 arg6 harg6 arg7 harg7 arg8 harg8 arg9 harg9 arg10 harg10 arg11 harg11 arg12 harg12 arg13 harg13 arg14 harg14 k0_h2 f2 f3 f4 ⟨g8, g9, g10, g11, g12, g13, g14⟩ k.val)).2 E v764 c0 acc)
      subst e8 e9 e10 e11 e12 e13 e14
      isplitl [H2]; · iexact H2
      isplitl [H3]; · iexact H3
      isplitl [H4]; · iexact H4
      isplitl [H8]; · iexact H8
      isplitl [H9]; · iexact H9
      isplitl [H10]; · iexact H10
      isplitl [H11]; · iexact H11
      isplitl [H12]; · iexact H12
      isplitl [H13]; · iexact H13
      iexact H14
    · iintro %_ ⟨H2, H3, H4, H8, H9, H10, H11, H12, H13, H14⟩
      unfold inv_t2
      rw [tripSt_succ]
      isplitl [H2]; · iexact H2
      isplitl [H3]; · iexact H3
      isplitl [H4]; · iexact H4
      isplitl [H8]
      · iexists _; isplitl [H8]; · iexact H8
        ipureintro; rfl
      isplitl [H9]
      · iexists _; isplitl [H9]; · iexact H9
        ipureintro; rfl
      isplitl [H10]
      · iexists _; isplitl [H10]; · iexact H10
        ipureintro; rfl
      isplitl [H11]
      · iexists _; isplitl [H11]; · iexact H11
        ipureintro; rfl
      isplitl [H12]
      · iexists _; isplitl [H12]; · iexact H12
        ipureintro; rfl
      isplitl [H13]
      · iexists _; isplitl [H13]; · iexact H13
        ipureintro; rfl
      iexists _; isplitl [H14]; · iexact H14
      ipureintro; rfl

set_option warn.classDefReducibility false in
/-- The loop after it, over a pair left over: the blocks come in pairs, and it makes no trip. -/
@[sl_loop] def loopInv_t3 (c : Dev nD) (E : Set ℕ) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (v764 : BitVec 32) (k0_h2 : k0_cond2 i = 1#1) (v847 init : BitVec 32) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v764 k0_h2 v847 init where
  inv _ _ := iprop(emp)
  step k acc := absurd k.isLt (Nat.not_lt.2 ((k0_t3_abs i).2.1.trans (Nat.zero_le _)))

end Cert.Proof.KernelIdeal
-- ==== Proof.KernelIdealRuns.lean ====
/-
  The pieces of the body, run once each at symbolic grid coordinates: what each leaves in every buffer, as a
  function of what it found (`initZ`, `mid`, `score`, `loopT`), and the body from them (`body_run`).
-/
module

public import proofs.«01_k».proof.Proof.KernelIdealTrip

@[expose] public section

set_option maxRecDepth 8192

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen
variable {F : FTy → Type} [FloatOps F] [Named F]
local notation "𝕄G" => MT nD τ sig Unit (Elt F) ℕ (UR sig nD τ) ℕ

set_option maxHeartbeats 4000000 in
/-- The reset, at the first grid point. -/
def initZ (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h1 : k0_cond1 i = 1#1) (f2 : Bf (F := F) c arg2) (f3 : Bf (F := F) c arg3) (f4 : Bf (F := F) c arg4) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Scr (F := F) c arg8 arg9 arg10 arg11 arg12 arg13 arg14 // ∀ (E : Set ℕ),
    iprop(pt c arg2 f2 ∗ pt c arg3 f3 ∗ pt c arg4 f4 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (initP (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E => ?run⟩
  case run =>
    unfold initP
    rw [dif_pos k0_h1]
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The straight line. -/
def mid (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Outs (F := F) c arg5 arg6 arg7 × Scr (F := F) c arg8 arg9 arg10 arg11 arg12 arg13 arg14 // ∀ (E : Set ℕ),
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (midP (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg5 W.1.a5 ∗ pt c arg6 W.1.a6 ∗ pt c arg7 W.1.a7 ∗ pt c arg8 W.2.a8 ∗ pt c arg9 W.2.a9 ∗ pt c arg10 W.2.a10 ∗ pt c arg11 W.2.a11 ∗ pt c arg12 W.2.a12 ∗ pt c arg13 W.2.a13 ∗ pt c arg14 W.2.a14)) } := by
  refine ⟨⟨⟨?_, ?_, ?_⟩, ⟨?_, ?_, ?_, ?_, ?_, ?_, ?_⟩⟩, fun E => ?run⟩
  case run =>
    unfold midP headP
    iintro ⟨H2, H3, H4, H5, H6, H7, H8, H9, H10, H11, H12, H13, H14⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The scores of the first block below the diagonal. -/
def score (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Scr (F := F) c arg8 arg9 arg10 arg11 arg12 arg13 arg14 // ∀ (E : Set ℕ) (v764 v782 : BitVec 32),
    iprop(pt c arg2 f2 ∗ pt c arg3 f3 ∗ pt c arg4 f4 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (scoreP (F := F) i arg2 harg2 arg3 harg3 arg4 harg4 arg5 harg5 arg6 harg6 arg7 harg7 arg8 harg8 arg9 harg9 arg10 harg10 arg11 harg11 arg12 harg12 arg13 harg13 arg14 harg14 v764 v782 k0_h2)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E v764 v782 => ?run⟩
  case run =>
    unfold scoreP
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The loop over the blocks below the diagonal. -/
def loopT (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (k0_h2 : k0_cond2 i = 1#1) (f2 : Bf (F := F) c arg2) (f3 : Bf (F := F) c arg3) (f4 : Bf (F := F) c arg4) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
  { W : Scr (F := F) c arg8 arg9 arg10 arg11 arg12 arg13 arg14 // ∀ (E : Set ℕ) (v764 c0 c1 v843 : BitVec 32),
    iprop(pt c arg2 f2 ∗ pt c arg3 f3 ∗ pt c arg4 f4 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) Variants.none (c : Thread nD τ) none) E (loopP (F := F) i arg2 harg2 arg3 harg3 arg4 harg4 arg5 harg5 arg6 harg6 arg7 harg7 arg8 harg8 arg9 harg9 arg10 harg10 arg11 harg11 arg12 harg12 arg13 harg13 arg14 harg14 v764 k0_h2 c0 c1 v843)
      (fun _ => iprop(pt c arg2 f2 ∗ pt c arg3 f3 ∗ pt c arg4 f4 ∗ pt c arg8 W.a8 ∗ pt c arg9 W.a9 ∗ pt c arg10 W.a10 ∗ pt c arg11 W.a11 ∗ pt c arg12 W.a12 ∗ pt c arg13 W.a13 ∗ pt c arg14 W.a14)) } := by
  refine ⟨⟨?_, ?_, ?_, ?_, ?_, ?_, ?_⟩, fun E v764 c0 c1 v843 => ?run⟩
  case run =>
    unfold loopP
    iintro ⟨H2, H3, H4, H8, H9, H10, H11, H12, H13, H14⟩
    sl_exec_parts
    sl_step
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14

/-- The scratch after the reset, which only the first grid point makes. -/
def initO (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) : Scr (F := F) c arg8 arg9 arg10 arg11 arg12 arg13 arg14 :=
  if h : k0_cond1 i = 1#1 then (initZ c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1 else s

/-- The scratch after the blocks below the diagonal, of which the last grid point of a row has none. -/
def tailO (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) : Scr (F := F) c arg8 arg9 arg10 arg11 arg12 arg13 arg14 :=
  if h : k0_cond2 i = 1#1 then (loopT c i arg2 harg2 arg3 harg3 arg4 harg4 arg5 harg5 arg6 harg6 arg7 harg7 arg8 harg8 arg9 harg9 arg10 harg10 arg11 harg11 arg12 harg12 arg13 harg13 arg14 harg14 h f2 f3 f4 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a8 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a9 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a10 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a11 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a12 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a13 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a14).1 else s

/-- The results and the scratch a grid point leaves. -/
def bodyO (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (o : Outs (F := F) c arg5 arg6 arg7) (s : Scr (F := F) c arg8 arg9 arg10 arg11 arg12 arg13 arg14) : Outs (F := F) c arg5 arg6 arg7 × Scr (F := F) c arg8 arg9 arg10 arg11 arg12 arg13 arg14 :=
  let r := (mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 (initO c i arg2 harg2 arg3 harg3 arg4 harg4 arg5 harg5 arg6 harg6 arg7 harg7 arg8 harg8 arg9 harg9 arg10 harg10 arg11 harg11 arg12 harg12 arg13 harg13 arg14 harg14 f2 f3 f4 s).a8 (initO c i arg2 harg2 arg3 harg3 arg4 harg4 arg5 harg5 arg6 harg6 arg7 harg7 arg8 harg8 arg9 harg9 arg10 harg10 arg11 harg11 arg12 harg12 arg13 harg13 arg14 harg14 f2 f3 f4 s).a9 (initO c i arg2 harg2 arg3 harg3 arg4 harg4 arg5 harg5 arg6 harg6 arg7 harg7 arg8 harg8 arg9 harg9 arg10 harg10 arg11 harg11 arg12 harg12 arg13 harg13 arg14 harg14 f2 f3 f4 s).a10 (initO c i arg2 harg2 arg3 harg3 arg4 harg4 arg5 harg5 arg6 harg6 arg7 harg7 arg8 harg8 arg9 harg9 arg10 harg10 arg11 harg11 arg12 harg12 arg13 harg13 arg14 harg14 f2 f3 f4 s).a11 (initO c i arg2 harg2 arg3 harg3 arg4 harg4 arg5 harg5 arg6 harg6 arg7 harg7 arg8 harg8 arg9 harg9 arg10 harg10 arg11 harg11 arg12 harg12 arg13 harg13 arg14 harg14 f2 f3 f4 s).a12 (initO c i arg2 harg2 arg3 harg3 arg4 harg4 arg5 harg5 arg6 harg6 arg7 harg7 arg8 harg8 arg9 harg9 arg10 harg10 arg11 harg11 arg12 harg12 arg13 harg13 arg14 harg14 f2 f3 f4 s).a13 (initO c i arg2 harg2 arg3 harg3 arg4 harg4 arg5 harg5 arg6 harg6 arg7 harg7 arg8 harg8 arg9 harg9 arg10 harg10 arg11 harg11 arg12 harg12 arg13 harg13 arg14 harg14 f2 f3 f4 s).a14).1
  (r.1, (tailO c i arg2 harg2 arg3 harg3 arg4 harg4 arg5 harg5 arg6 harg6 arg7 harg7 arg8 harg8 arg9 harg9 arg10 harg10 arg11 harg11 arg12 harg12 arg13 harg13 arg14 harg14 f2 f3 f4 r.2))

theorem init_run (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) (E : Set ℕ) :
    iprop(pt c arg2 f2 ∗ pt c arg3 f3 ∗ pt c arg4 f4 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (initP (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg8 (initO c i arg2 harg2 arg3 harg3 arg4 harg4 arg5 harg5 arg6 harg6 arg7 harg7 arg8 harg8 arg9 harg9 arg10 harg10 arg11 harg11 arg12 harg12 arg13 harg13 arg14 harg14 f2 f3 f4 s).a8 ∗ pt c arg9 (initO c i arg2 harg2 arg3 harg3 arg4 harg4 arg5 harg5 arg6 harg6 arg7 harg7 arg8 harg8 arg9 harg9 arg10 harg10 arg11 harg11 arg12 harg12 arg13 harg13 arg14 harg14 f2 f3 f4 s).a9 ∗ pt c arg10 (initO c i arg2 harg2 arg3 harg3 arg4 harg4 arg5 harg5 arg6 harg6 arg7 harg7 arg8 harg8 arg9 harg9 arg10 harg10 arg11 harg11 arg12 harg12 arg13 harg13 arg14 harg14 f2 f3 f4 s).a10 ∗ pt c arg11 (initO c i arg2 harg2 arg3 harg3 arg4 harg4 arg5 harg5 arg6 harg6 arg7 harg7 arg8 harg8 arg9 harg9 arg10 harg10 arg11 harg11 arg12 harg12 arg13 harg13 arg14 harg14 f2 f3 f4 s).a11 ∗ pt c arg12 (initO c i arg2 harg2 arg3 harg3 arg4 harg4 arg5 harg5 arg6 harg6 arg7 harg7 arg8 harg8 arg9 harg9 arg10 harg10 arg11 harg11 arg12 harg12 arg13 harg13 arg14 harg14 f2 f3 f4 s).a12 ∗ pt c arg13 (initO c i arg2 harg2 arg3 harg3 arg4 harg4 arg5 harg5 arg6 harg6 arg7 harg7 arg8 harg8 arg9 harg9 arg10 harg10 arg11 harg11 arg12 harg12 arg13 harg13 arg14 harg14 f2 f3 f4 s).a13 ∗ pt c arg14 (initO c i arg2 harg2 arg3 harg3 arg4 harg4 arg5 harg5 arg6 harg6 arg7 harg7 arg8 harg8 arg9 harg9 arg10 harg10 arg11 harg11 arg12 harg12 arg13 harg13 arg14 harg14 f2 f3 f4 s).a14)) := by
  by_cases h : k0_cond1 i = 1#1
  · unfold initO; rw [dif_pos h]
    exact (initZ c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).2 E
  · unfold initO; rw [dif_neg h]; unfold initP; rw [dif_neg h]
    iintro H
    sl_step
    iexact H

theorem tail_run (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (s : Scr (F := F) c arg8 arg9 arg10 arg11 arg12 arg13 arg14) (E : Set ℕ) (v764 v782 : BitVec 32) :
    iprop(pt c arg2 f2 ∗ pt c arg3 f3 ∗ pt c arg4 f4 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (tailP (F := F) i arg2 harg2 arg3 harg3 arg4 harg4 arg5 harg5 arg6 harg6 arg7 harg7 arg8 harg8 arg9 harg9 arg10 harg10 arg11 harg11 arg12 harg12 arg13 harg13 arg14 harg14 v764 v782)
      (fun _ => iprop(pt c arg2 f2 ∗ pt c arg3 f3 ∗ pt c arg4 f4 ∗ pt c arg8 (tailO c i arg2 harg2 arg3 harg3 arg4 harg4 arg5 harg5 arg6 harg6 arg7 harg7 arg8 harg8 arg9 harg9 arg10 harg10 arg11 harg11 arg12 harg12 arg13 harg13 arg14 harg14 f2 f3 f4 s).a8 ∗ pt c arg9 (tailO c i arg2 harg2 arg3 harg3 arg4 harg4 arg5 harg5 arg6 harg6 arg7 harg7 arg8 harg8 arg9 harg9 arg10 harg10 arg11 harg11 arg12 harg12 arg13 harg13 arg14 harg14 f2 f3 f4 s).a9 ∗ pt c arg10 (tailO c i arg2 harg2 arg3 harg3 arg4 harg4 arg5 harg5 arg6 harg6 arg7 harg7 arg8 harg8 arg9 harg9 arg10 harg10 arg11 harg11 arg12 harg12 arg13 harg13 arg14 harg14 f2 f3 f4 s).a10 ∗ pt c arg11 (tailO c i arg2 harg2 arg3 harg3 arg4 harg4 arg5 harg5 arg6 harg6 arg7 harg7 arg8 harg8 arg9 harg9 arg10 harg10 arg11 harg11 arg12 harg12 arg13 harg13 arg14 harg14 f2 f3 f4 s).a11 ∗ pt c arg12 (tailO c i arg2 harg2 arg3 harg3 arg4 harg4 arg5 harg5 arg6 harg6 arg7 harg7 arg8 harg8 arg9 harg9 arg10 harg10 arg11 harg11 arg12 harg12 arg13 harg13 arg14 harg14 f2 f3 f4 s).a12 ∗ pt c arg13 (tailO c i arg2 harg2 arg3 harg3 arg4 harg4 arg5 harg5 arg6 harg6 arg7 harg7 arg8 harg8 arg9 harg9 arg10 harg10 arg11 harg11 arg12 harg12 arg13 harg13 arg14 harg14 f2 f3 f4 s).a13 ∗ pt c arg14 (tailO c i arg2 harg2 arg3 harg3 arg4 harg4 arg5 harg5 arg6 harg6 arg7 harg7 arg8 harg8 arg9 harg9 arg10 harg10 arg11 harg11 arg12 harg12 arg13 harg13 arg14 harg14 f2 f3 f4 s).a14)) := by
  by_cases h : k0_cond2 i = 1#1
  · unfold tailO; rw [dif_pos h]; unfold tailP; rw [dif_pos h, wp_bind]
    iintro H
    iapply (wp_wand_r Idealize.ShloMosaic.frame (wpE (defs₀ (F := F)) Variants.none (c : Thread nD τ) none) E)
    isplitl [H]
    · iapply ((score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).2 E v764 v782)
      iexact H
    · iintro %p H
      iapply ((loopT c i arg2 harg2 arg3 harg3 arg4 harg4 arg5 harg5 arg6 harg6 arg7 harg7 arg8 harg8 arg9 harg9 arg10 harg10 arg11 harg11 arg12 harg12 arg13 harg13 arg14 harg14 h f2 f3 f4 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a8 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a9 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a10 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a11 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a12 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a13 (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1.a14).2 E v764 p.1 p.2.1 p.2.2)
      iexact H
  · unfold tailO; rw [dif_neg h]; unfold tailP; rw [dif_neg h]
    iintro H
    sl_step
    iexact H

/-- The whole body at a grid point. -/
theorem body_run (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (f2 : Bf (F := F) c arg2) (f3 : Bf (F := F) c arg3) (f4 : Bf (F := F) c arg4) (o : Outs (F := F) c arg5 arg6 arg7) (s : Scr (F := F) c arg8 arg9 arg10 arg11 arg12 arg13 arg14) (E : Set ℕ) :
    iprop(pt c arg2 f2 ∗ pt c arg3 f3 ∗ pt c arg4 f4 ∗ pt c arg5 o.a5 ∗ pt c arg6 o.a6 ∗ pt c arg7 o.a7 ∗ pt c arg8 s.a8 ∗ pt c arg9 s.a9 ∗ pt c arg10 s.a10 ∗ pt c arg11 s.a11 ∗ pt c arg12 s.a12 ∗ pt c arg13 s.a13 ∗ pt c arg14 s.a14)
    ⊢ wp frame (wpE (defs₀ (F := F)) Variants.none (c : Thread nD τ) none) E (cc0_attn (F := F) i arg2 harg2 arg3 harg3 arg4 harg4 arg5 harg5 arg6 harg6 arg7 harg7 arg8 harg8 arg9 harg9 arg10 harg10 arg11 harg11 arg12 harg12 arg13 harg13 arg14 harg14)
      (fun _ => iprop(pt c arg2 f2 ∗ pt c arg3 f3 ∗ pt c arg4 f4 ∗ pt c arg5 (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a5 ∗ pt c arg6 (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a6 ∗ pt c arg7 (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a7 ∗ pt c arg8 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a8 ∗ pt c arg9 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a9 ∗ pt c arg10 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a10 ∗ pt c arg11 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a11 ∗ pt c arg12 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a12 ∗ pt c arg13 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a13 ∗ pt c arg14 (bodyO c i arg2 harg2 arg3 harg3 arg4 harg4 arg5 harg5 arg6 harg6 arg7 harg7 arg8 harg8 arg9 harg9 arg10 harg10 arg11 harg11 arg12 harg12 arg13 harg13 arg14 harg14 f2 f3 f4 o s).2.a14)) := by
  rw [attn_eq, wp_bind]
  simp only [wp_bind]
  iintro ⟨H2, H3, H4, H5, H6, H7, H8, H9, H10, H11, H12, H13, H14⟩
  iapply (wp_wand_r Idealize.ShloMosaic.frame (wpE (defs₀ (F := F)) Variants.none (c : Thread nD τ) none) E)
  isplitl [H2 H3 H4 H8 H9 H10 H11 H12 H13 H14]
  · iapply (init_run c i arg2 harg2 arg3 harg3 arg4 harg4 arg5 harg5 arg6 harg6 arg7 harg7 arg8 harg8 arg9 harg9 arg10 harg10 arg11 harg11 arg12 harg12 arg13 harg13 arg14 harg14 f2 f3 f4 s E)
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14
  iintro %_ ⟨H2, H3, H4, H8, H9, H10, H11, H12, H13, H14⟩
  iapply (wp_wand_r Idealize.ShloMosaic.frame (wpE (defs₀ (F := F)) Variants.none (c : Thread nD τ) none) E)
  isplitl [H2 H3 H4 H5 H6 H7 H8 H9 H10 H11 H12 H13 H14]
  · iapply ((mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 (initO c i arg2 harg2 arg3 harg3 arg4 harg4 arg5 harg5 arg6 harg6 arg7 harg7 arg8 harg8 arg9 harg9 arg10 harg10 arg11 harg11 arg12 harg12 arg13 harg13 arg14 harg14 f2 f3 f4 s).a8 (initO c i arg2 harg2 arg3 harg3 arg4 harg4 arg5 harg5 arg6 harg6 arg7 harg7 arg8 harg8 arg9 harg9 arg10 harg10 arg11 harg11 arg12 harg12 arg13 harg13 arg14 harg14 f2 f3 f4 s).a9 (initO c i arg2 harg2 arg3 harg3 arg4 harg4 arg5 harg5 arg6 harg6 arg7 harg7 arg8 harg8 arg9 harg9 arg10 harg10 arg11 harg11 arg12 harg12 arg13 harg13 arg14 harg14 f2 f3 f4 s).a10 (initO c i arg2 harg2 arg3 harg3 arg4 harg4 arg5 harg5 arg6 harg6 arg7 harg7 arg8 harg8 arg9 harg9 arg10 harg10 arg11 harg11 arg12 harg12 arg13 harg13 arg14 harg14 f2 f3 f4 s).a11 (initO c i arg2 harg2 arg3 harg3 arg4 harg4 arg5 harg5 arg6 harg6 arg7 harg7 arg8 harg8 arg9 harg9 arg10 harg10 arg11 harg11 arg12 harg12 arg13 harg13 arg14 harg14 f2 f3 f4 s).a12 (initO c i arg2 harg2 arg3 harg3 arg4 harg4 arg5 harg5 arg6 harg6 arg7 harg7 arg8 harg8 arg9 harg9 arg10 harg10 arg11 harg11 arg12 harg12 arg13 harg13 arg14 harg14 f2 f3 f4 s).a13 (initO c i arg2 harg2 arg3 harg3 arg4 harg4 arg5 harg5 arg6 harg6 arg7 harg7 arg8 harg8 arg9 harg9 arg10 harg10 arg11 harg11 arg12 harg12 arg13 harg13 arg14 harg14 f2 f3 f4 s).a14).2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %p ⟨H2, H3, H4, H5, H6, H7, H8, H9, H10, H11, H12, H13, H14⟩
  iapply (wp_wand_r Idealize.ShloMosaic.frame (wpE (defs₀ (F := F)) Variants.none (c : Thread nD τ) none) E)
  isplitl [H2 H3 H4 H8 H9 H10 H11 H12 H13 H14]
  · iapply (tail_run c i arg2 harg2 arg3 harg3 arg4 harg4 arg5 harg5 arg6 harg6 arg7 harg7 arg8 harg8 arg9 harg9 arg10 harg10 arg11 harg11 arg12 harg12 arg13 harg13 arg14 harg14 f2 f3 f4 (mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 (initO c i arg2 harg2 arg3 harg3 arg4 harg4 arg5 harg5 arg6 harg6 arg7 harg7 arg8 harg8 arg9 harg9 arg10 harg10 arg11 harg11 arg12 harg12 arg13 harg13 arg14 harg14 f2 f3 f4 s).a8 (initO c i arg2 harg2 arg3 harg3 arg4 harg4 arg5 harg5 arg6 harg6 arg7 harg7 arg8 harg8 arg9 harg9 arg10 harg10 arg11 harg11 arg12 harg12 arg13 harg13 arg14 harg14 f2 f3 f4 s).a9 (initO c i arg2 harg2 arg3 harg3 arg4 harg4 arg5 harg5 arg6 harg6 arg7 harg7 arg8 harg8 arg9 harg9 arg10 harg10 arg11 harg11 arg12 harg12 arg13 harg13 arg14 harg14 f2 f3 f4 s).a10 (initO c i arg2 harg2 arg3 harg3 arg4 harg4 arg5 harg5 arg6 harg6 arg7 harg7 arg8 harg8 arg9 harg9 arg10 harg10 arg11 harg11 arg12 harg12 arg13 harg13 arg14 harg14 f2 f3 f4 s).a11 (initO c i arg2 harg2 arg3 harg3 arg4 harg4 arg5 harg5 arg6 harg6 arg7 harg7 arg8 harg8 arg9 harg9 arg10 harg10 arg11 harg11 arg12 harg12 arg13 harg13 arg14 harg14 f2 f3 f4 s).a12 (initO c i arg2 harg2 arg3 harg3 arg4 harg4 arg5 harg5 arg6 harg6 arg7 harg7 arg8 harg8 arg9 harg9 arg10 harg10 arg11 harg11 arg12 harg12 arg13 harg13 arg14 harg14 f2 f3 f4 s).a13 (initO c i arg2 harg2 arg3 harg3 arg4 harg4 arg5 harg5 arg6 harg6 arg7 harg7 arg8 harg8 arg9 harg9 arg10 harg10 arg11 harg11 arg12 harg12 arg13 harg13 arg14 harg14 f2 f3 f4 s).a14).1.2 E p.1 p.2)
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iexact H14
  iintro %_ ⟨H2, H3, H4, H8, H9, H10, H11, H12, H13, H14⟩
  unfold bodyO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof.KernelIdeal
-- ==== Proof.KernelIdealFrame.lean ====
/-
  The launch: the body's triple at a grid point with its windows' staging buffers and the scratch buffers, under any
  invariant of the scratch contents (`point_run`), and the frame claim, which needs none of the contents (`frame`).
-/
module

public import proofs.«01_k».proof.Proof.KernelIdealRuns
public import proofs.«01_k».proof.Proof.Gen.KernelIdeal.Frame
public import proofs.«01_k».proof.Proof.Gen.KernelIdeal.Launch

@[expose] public section

set_option maxRecDepth 8192

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen
open Idealize.ShloMosaic.Rounds
open Idealize.ShloMosaic.Pipeline (Dat RDat Cfg Window BodyObligation BodyObligationLoose cellOf)
variable {F : FTy → Type} [FloatOps F] [Named F]
local notation "𝕄G" => MT nD τ sig Unit (Elt F) ℕ (UR sig nD τ) ℕ

/-- The contents of the kernel's scratch buffers. -/
abbrev ScrW (c : Dev nD) := Scr (F := F) c (Memref.whole cc0_scratch0) (Memref.whole cc0_scratch1) (Memref.whole cc0_scratch2) (Memref.whole cc0_scratch3) (Memref.whole cc0_scratch4) (Memref.whole cc0_scratch5) (Memref.whole cc0_scratch6)
/-- The contents of the three results' staging buffers at point `t`. -/
abbrev OutsW (c : Dev nD) (t : Fin cfg0.N) := Outs (F := F) c (st0_3 t) (st0_4 t) (st0_5 t)

/-- What the body leaves at point `t`. -/
def bodyT (c : Dev nD) (t : Fin cfg0.N) (f2 : Bf (F := F) c (st0_0 t)) (f3 : Bf (F := F) c (st0_1 t)) (f4 : Bf (F := F) c (st0_2 t))
    (o : OutsW (F := F) c t) (s : ScrW (F := F) c) : OutsW (F := F) c t × ScrW (F := F) c :=
  bodyO c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f2 f3 f4 o s

/-- The scratch buffers at contents `s`. -/
def SPt (c : Dev nD) (s : ScrW (F := F) c) : sProp 𝕄G :=
  iprop(pt c (Memref.whole cc0_scratch0) s.a8 ∗ pt c (Memref.whole cc0_scratch1) s.a9 ∗ pt c (Memref.whole cc0_scratch2) s.a10 ∗ pt c (Memref.whole cc0_scratch3) s.a11 ∗ pt c (Memref.whole cc0_scratch4) s.a12 ∗ pt c (Memref.whole cc0_scratch5) s.a13 ∗ pt c (Memref.whole cc0_scratch6) s.a14)

/-- The invariant between points: the scratch buffers at some contents of which `Inv` holds, and the core's random
    generator in some state. -/
def PhiI (c : Dev nD) (Inv : ScrW (F := F) c → Prop) : sProp 𝕄G :=
  iprop(∃ s : ScrW (F := F) c, ⌜Inv s⌝ ∗ SPt c s ∗ ∃ r, prngReg c r)

/-- The body at point `t`, from inputs `X2 X3 X4` in the staging buffers and scratch contents in `Inv`, to scratch
    contents in `Inv'` and results of which `T5 T6 T7` hold. -/
theorem point_run (c : Dev nD) (t : Fin cfg0.N)
    (X2 : (cfg0.win 0).block.Idx → Elt F (cfg0.win 0).elt) (X3 : (cfg0.win 1).block.Idx → Elt F (cfg0.win 1).elt)
    (X4 : (cfg0.win 2).block.Idx → Elt F (cfg0.win 2).elt)
    (Inv Inv' : ScrW (F := F) c → Prop)
    (T5 : ((cfg0.win 3).block.Idx → Elt F (cfg0.win 3).elt) → Prop) (T6 : ((cfg0.win 4).block.Idx → Elt F (cfg0.win 4).elt) → Prop)
    (T7 : ((cfg0.win 5).block.Idx → Elt F (cfg0.win 5).elt) → Prop)
    (step : ∀ f2 f3 f4 o s, (st0_0 t).view.read (Elt F) f2 = X2 → (st0_1 t).view.read (Elt F) f3 = X3 → (st0_2 t).view.read (Elt F) f4 = X4 →
      Inv s → Inv' (bodyT c t f2 f3 f4 o s).2 ∧ T5 ((st0_3 t).view.read (Elt F) (bodyT c t f2 f3 f4 o s).1.a5)
        ∧ T6 ((st0_4 t).view.read (Elt F) (bodyT c t f2 f3 f4 o s).1.a6) ∧ T7 ((st0_5 t).view.read (Elt F) (bodyT c t f2 f3 f4 o s).1.a7)) :
    iprop(PhiI c Inv ∗ owns (c : Thread nD τ) (st0_0 t) fullShare X2 ∗ owns (c : Thread nD τ) (st0_1 t) fullShare X3
        ∗ owns (c : Thread nD τ) (st0_2 t) fullShare X4 ∗ (∃ X, owns (c : Thread nD τ) (st0_3 t) fullShare X)
        ∗ (∃ X, owns (c : Thread nD τ) (st0_4 t) fullShare X) ∗ (∃ X, owns (c : Thread nD τ) (st0_5 t) fullShare X))
    ⊢ wp frame (wpE (defs₀ (F := F)) Variants.none (c : Thread nD τ) none) Set.univ (bodyAt0 t)
      fun _ => iprop(PhiI c Inv' ∗ owns (c : Thread nD τ) (st0_0 t) fullShare X2 ∗ owns (c : Thread nD τ) (st0_1 t) fullShare X3
        ∗ owns (c : Thread nD τ) (st0_2 t) fullShare X4 ∗ (∃ X, ⌜T5 X⌝ ∗ owns (c : Thread nD τ) (st0_3 t) fullShare X)
        ∗ (∃ X, ⌜T6 X⌝ ∗ owns (c : Thread nD τ) (st0_4 t) fullShare X) ∗ (∃ X, ⌜T7 X⌝ ∗ owns (c : Thread nD τ) (st0_5 t) fullShare X)) := by
  unfold PhiI owns SPt
  iintro ⟨⟨%s, %hs, ⟨S0, S1, S2, S3, S4, S5, S6⟩, Hg⟩, ⟨%f2, %h2, H2⟩, ⟨%f3, %h3, H3⟩, ⟨%f4, %h4, H4⟩, ⟨%X5, %f5, %_, H5⟩, ⟨%X6, %f6, %_, H6⟩, ⟨%X7, %f7, %_, H7⟩⟩
  have hstep := step f2 f3 f4 ⟨f5, f6, f7⟩ s h2 h3 h4 hs
  iapply (wp_wand_r Idealize.ShloMosaic.frame (wpE (defs₀ (F := F)) Variants.none (c : Thread nD τ) none) Set.univ)
  isplitl [S0 S1 S2 S3 S4 S5 S6 H2 H3 H4 H5 H6 H7]
  · iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f2 f3 f4 ⟨f5, f6, f7⟩ s Set.univ)
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iintro %_ ⟨H2, H3, H4, H5, H6, H7, S0, S1, S2, S3, S4, S5, S6⟩
  isplitl [S0 S1 S2 S3 S4 S5 S6 Hg]
  · iexists (bodyT c t f2 f3 f4 ⟨f5, f6, f7⟩ s).2
    isplitr; · ipureintro; exact hstep.1
    isplitr [Hg]
    · isplitl [S0]; · iexact S0
      isplitl [S1]; · iexact S1
      isplitl [S2]; · iexact S2
      isplitl [S3]; · iexact S3
      isplitl [S4]; · iexact S4
      isplitl [S5]; · iexact S5
      iexact S6
    · iexact Hg
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists _; isplitr; · ipureintro; exact hstep.2.1
    iexists (bodyT c t f2 f3 f4 ⟨f5, f6, f7⟩ s).1.a5; isplitr; · ipureintro; rfl
    iexact H5
  isplitl [H6]
  · iexists _; isplitr; · ipureintro; exact hstep.2.2.1
    iexists (bodyT c t f2 f3 f4 ⟨f5, f6, f7⟩ s).1.a6; isplitr; · ipureintro; rfl
    iexact H6
  · iexists _; isplitr; · ipureintro; exact hstep.2.2.2
    iexists (bodyT c t f2 f3 f4 ⟨f5, f6, f7⟩ s).1.a7; isplitr; · ipureintro; rfl
    iexact H7

/-- Whatever the scratch buffers hold, the invariant that says nothing of it. -/
theorem PhiA_in (c : Dev nD) (Inv : ScrW (F := F) c → Prop) (h : ∀ s, Inv s) : (Pipeline.ΦA spec0 c : sProp 𝕄G) ⊢ PhiI (F := F) c Inv := by
  unfold Pipeline.ΦA PhiI SPt
  rw [scopedRest0_eq]
  simp only [pt, Memref.view_whole, View.set_whole]
  iintro ⟨⟨⟨%f0, H0⟩, ⟨%f1, H1⟩, ⟨%f2, H2⟩, ⟨%f3, H3⟩, ⟨%f4, H4⟩, ⟨%f5, H5⟩, ⟨%f6, H6⟩⟩, Hg⟩
  iexists (⟨f0, f1, f2, f3, f4, f5, f6⟩ : ScrW (F := F) c)
  isplitr; · ipureintro; exact h _
  isplitr [Hg]
  · isplitl [H0]; · iexact H0
    isplitl [H1]; · iexact H1
    isplitl [H2]; · iexact H2
    isplitl [H3]; · iexact H3
    isplitl [H4]; · iexact H4
    isplitl [H5]; · iexact H5
    iexact H6
  · iexact Hg

/-- The invariant forgets to the plain one. -/
theorem PhiA_out (c : Dev nD) (Inv : ScrW (F := F) c → Prop) : PhiI (F := F) c Inv ⊢ (Pipeline.ΦA spec0 c : sProp 𝕄G) := by
  unfold Pipeline.ΦA PhiI SPt
  rw [scopedRest0_eq]
  simp only [pt, Memref.view_whole, View.set_whole]
  iintro ⟨%s, %_, ⟨H0, H1, H2, H3, H4, H5, H6⟩, Hg⟩
  isplitr [Hg]
  · isplitl [H0]; · iexists s.a8; iexact H0
    isplitl [H1]; · iexists s.a9; iexact H1
    isplitl [H2]; · iexists s.a10; iexact H2
    isplitl [H3]; · iexists s.a11; iexact H3
    isplitl [H4]; · iexists s.a12; iexact H4
    isplitl [H5]; · iexists s.a13; iexact H5
    iexists s.a14; iexact H6
  · iexact Hg

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- Proof data: the arrays as launched, the inputs' blocks left in place, the results' blocks named by `T3 T4 T5`, the
    scratch invariant `Inv`. -/
def dat (c : Dev nD) (Inv : ℕ → ScrW (F := F) c → Prop)
    (T3 : Fin cfg0.N → (cfg0.win 3).block.Idx → Elt F (cfg0.win 3).elt) (T4 : Fin cfg0.N → (cfg0.win 4).block.Idx → Elt F (cfg0.win 4).elt)
    (T5 : Fin cfg0.N → (cfg0.win 5).block.Idx → Elt F (cfg0.win 5).elt) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => T3 t
    | 4 => T4 t
    | 5 => T5 t
  Φ n := PhiI c (Inv n.val)
  q _ := fullShare
  owed _ := 0

section dats
variable (Inv : ∀ c : Dev nD, ℕ → ScrW (F := F) c → Prop)
    (T3 : ∀ c : Dev nD, Fin cfg0.N → (cfg0.win 3).block.Idx → Elt F (cfg0.win 3).elt) (T4 : ∀ c : Dev nD, Fin cfg0.N → (cfg0.win 4).block.Idx → Elt F (cfg0.win 4).elt)
    (T5 : ∀ c : Dev nD, Fin cfg0.N → (cfg0.win 5).block.Idx → Elt F (cfg0.win 5).elt)

/-- The proof data of every core. -/
def dats (_p : Fin 1) (c : Dev nD) : Dat τ (Elt F) Unit ℕ (UR sig nD τ) ℕ cfg0 c := dat m c (Inv c) (T3 c) (T4 c) (T5 c)

/-- The obligation of the body with its results named, from one step of the scratch contents. -/
theorem body_named (c : Dev nD) (step : ∀ (t : Fin cfg0.N) f2 f3 f4 o s, (st0_0 t).view.read (Elt F) f2 = iblk m c 0 t →
      (st0_1 t).view.read (Elt F) f3 = iblk m c 1 t → (st0_2 t).view.read (Elt F) f4 = iblk m c 2 t →
      Inv c t.val s → Inv c (t.val + 1) (bodyT c t f2 f3 f4 o s).2 ∧ (st0_3 t).view.read (Elt F) (bodyT c t f2 f3 f4 o s).1.a5 = T3 c t
        ∧ (st0_4 t).view.read (Elt F) (bodyT c t f2 f3 f4 o s).1.a6 = T4 c t ∧ (st0_5 t).view.read (Elt F) (bodyT c t f2 f3 f4 o s).1.a7 = T5 c t) :
    BodyObligationLoose (dats m Inv T3 T4 T5 0 c) (defs₀ (F := F)) Variants.none () Set.univ := fun t => by
  rw [bigSep_W0, bigSep_W0, defs₀_row]
  simp only
  rw [show (dats m Inv T3 T4 T5 0 c).owesAt () t.succ = (dats m Inv T3 T4 T5 0 c).owesAt () t.castSucc from rfl,
    show (dats m Inv T3 T4 T5 0 c).Φ t.castSucc = PhiI c (Inv c t.val) from rfl, show (dats m Inv T3 T4 T5 0 c).Φ t.succ = PhiI c (Inv c (t.val + 1)) from rfl]
  iintro ⟨HΦ, Ho, ⟨%d0, H0⟩, ⟨%d1, H1⟩, ⟨%d2, H2⟩, ⟨%d3, H3⟩, ⟨%d4, H4⟩, ⟨%d5, H5⟩⟩
  rw [before0_0_of m (dats m Inv T3 T4 T5 0 c) rfl (fun _ => rfl) t d0, before0_1_of m (dats m Inv T3 T4 T5 0 c) rfl (fun _ => rfl) t d1,
    before0_2_of m (dats m Inv T3 T4 T5 0 c) rfl (fun _ => rfl) t d2]
  iapply (wp_wand_r Idealize.ShloMosaic.frame (wpE (defs₀ (F := F)) Variants.none (c : Thread nD τ) none) Set.univ)
  isplitr [Ho]
  · iapply (point_run c t (iblk m c 0 t) (iblk m c 1 t) (iblk m c 2 t) (Inv c t.val) (Inv c (t.val + 1)) (· = T3 c t) (· = T4 c t) (· = T5 c t)
      (fun f2 f3 f4 o s => step t f2 f3 f4 o s))
    isplitl [HΦ]; · iexact HΦ
    isplitl [H0]; · iexact H0
    isplitl [H1]; · iexact H1
    isplitl [H2]; · iexact H2
    isplitl [H3]; · iexists _; iexact H3
    isplitl [H4]; · iexists _; iexact H4
    iexists _; iexact H5
  iintro %_ ⟨HΦ, H0, H1, H2, ⟨%X3, %h3, H3⟩, ⟨%X4, %h4, H4⟩, ⟨%X5, %h5, H5⟩⟩
  subst h3 h4 h5
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The run with its results named: every result array ends at what the write-backs of the named blocks leave. -/
theorem run_named (h0 : ∀ c s, Inv c 0 s) (step : ∀ (c : Dev nD) (t : Fin cfg0.N) f2 f3 f4 o s, (st0_0 t).view.read (Elt F) f2 = iblk m c 0 t →
      (st0_1 t).view.read (Elt F) f3 = iblk m c 1 t → (st0_2 t).view.read (Elt F) f4 = iblk m c 2 t →
      Inv c t.val s → Inv c (t.val + 1) (bodyT c t f2 f3 f4 o s).2 ∧ (st0_3 t).view.read (Elt F) (bodyT c t f2 f3 f4 o s).1.a5 = T3 c t
        ∧ (st0_4 t).view.read (Elt F) (bodyT c t f2 f3 f4 o s).1.a6 = T4 c t ∧ (st0_5 t).view.read (Elt F) (bodyT c t f2 f3 f4 o s).1.a7 = T5 c t) :
    θ_run defs (onTc (τ := τ) (main (F := F))) (s₀ m ρ) (Pipeline.FramePost cfgs (dats m Inv T3 T4 T5) 0 (V m)) :=
  Pipeline.θ_run_frame_track (p := (0 : Fin 1)) cfgs (dats m Inv T3 T4 T5) launch0 (defs₀ (F := F)) Variants.none m ρ main
    (hbody := fun c => body_named m Inv T3 T4 T5 c (step c)) (hshare := fun c => (dats m Inv T3 T4 T5 0 c).share_full fun _ => rfl)
    (howed := fun _ _ => rfl) (V := V m) (hmain := hmain m Variants.none) (hA := fun _ _ => rfl)
    (hin := fun c => PhiA_in c _ (h0 c)) (hout := fun c => PhiA_out c _)

end dats

/-- The results' windows, whose contents the frame says nothing of. -/
def fgt : Fin 6 → Bool := fun w => decide (3 ≤ w.val)

/-- Proof data of the frame. -/
abbrev datsF : (p : Fin 1) → (c : Dev nD) → Dat τ (Elt F) Unit ℕ (UR sig nD τ) ℕ (cfgs p) c :=
  dats m (fun _ _ _ => True) (fun _ _ _ => Classical.arbitrary _) (fun _ _ _ => Classical.arbitrary _) (fun _ _ _ => Classical.arbitrary _)

/-- The obligation of the body with its results forgotten. -/
theorem body_forget (c : Dev nD) : BodyObligationLoose (datsF m 0 c) (defs₀ (F := F)) Variants.none () Set.univ (fgt := fgt) := fun t => by
  rw [bigSep_W0, bigSep_W0, defs₀_row]
  simp only [show fgt 0 = false from rfl, show fgt 1 = false from rfl, show fgt 2 = false from rfl,
    show fgt 3 = true from rfl, show fgt 4 = true from rfl, show fgt 5 = true from rfl]
  rw [show (datsF m 0 c).owesAt () t.succ = (datsF m 0 c).owesAt () t.castSucc from rfl,
    show (datsF m 0 c).Φ t.castSucc = PhiI c (fun _ => True) from rfl, show (datsF m 0 c).Φ t.succ = PhiI c (fun _ => True) from rfl]
  iintro ⟨HΦ, Ho, ⟨%d0, H0⟩, ⟨%d1, H1⟩, ⟨%d2, H2⟩, H3, H4, H5⟩
  rw [before0_0_of m (datsF m 0 c) rfl (fun _ => rfl) t d0, before0_1_of m (datsF m 0 c) rfl (fun _ => rfl) t d1,
    before0_2_of m (datsF m 0 c) rfl (fun _ => rfl) t d2]
  iapply (wp_wand_r Idealize.ShloMosaic.frame (wpE (defs₀ (F := F)) Variants.none (c : Thread nD τ) none) Set.univ)
  isplitr [Ho]
  · iapply (point_run c t (iblk m c 0 t) (iblk m c 1 t) (iblk m c 2 t) (fun _ => True) (fun _ => True) (fun _ => True) (fun _ => True) (fun _ => True)
      (fun _ _ _ _ _ _ _ _ _ => ⟨trivial, trivial, trivial, trivial⟩))
    isplitl [HΦ]; · iexact HΦ
    isplitl [H0]; · iexact H0
    isplitl [H1]; · iexact H1
    isplitl [H2]; · iexact H2
    isplitl [H3]; · iexact H3
    isplitl [H4]; · iexact H4
    iexact H5
  iintro %_ ⟨HΦ, H0, H1, H2, ⟨%X3, %_, H3⟩, ⟨%X4, %_, H4⟩, ⟨%X5, %_, H5⟩⟩
  isplitl [HΦ]; · iexact HΦ
  isplitl [Ho]; · iexact Ho
  isplitl [H0]; · iexact H0
  isplitl [H1]; · iexact H1
  isplitl [H2]; · iexact H2
  isplitl [H3]; · iexists X3; iexact H3
  isplitl [H4]; · iexists X4; iexact H4
  iexists X5; iexact H5

set_option backward.isDefEq.respectTransparency.types false in
/-- The frame: the kernel runs to the end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track_forget (Q' := _) (p := (0 : Fin 1)) (fgt := fgt) cfgs (datsF m) launch0 (defs₀ (F := F)) Variants.none m ρ main
    (hbody := body_forget m) (hshare := fun c => (datsF m 0 c).share_full fun _ => rfl)
    (howed := fun _ _ => rfl) (V := V m) (hmain := hmain m Variants.none) (hA := fun _ _ => rfl)
    (hin := fun c => PhiA_in c _ (fun _ => trivial)) (hout := fun c => PhiA_out c _)
    (hQ' := fun r h => ⟨fun c => ⟨(Pipeline.RDat.FramePost.arr_in h.1 c 0 rfl).trans rfl, (Pipeline.RDat.FramePost.arr_in h.1 c 1 rfl).trans rfl,
      (Pipeline.RDat.FramePost.arr_in h.1 c 2 rfl).trans rfl⟩, h.2⟩)

end Cert.Proof.KernelIdeal
-- ==== Proof.Cols.lean ====
/-
  Softmax over growing sets of keys, one query row at a time, in extended reals: the largest score, the denominator, the
  weighted sum and the largest score in absolute value over the first `K` keys, and how each grows by `n` more keys.
-/
module

public import Idealize.ShloMosaic.Lib.Pointwise

@[expose] public section

noncomputable section

namespace Cert.Proof.Cols

open Idealize.ShloMosaic

/-- The factor of the base-2 exponent. -/
def kc : ℝ := 1 / 16 * (Real.log 2)⁻¹

theorem kc_pos : 0 < kc := by unfold kc; have := Real.log_pos (by norm_num : (1 : ℝ) < 2); positivity

/-- The weight of score `a` against `m`. -/
def W (m a : EReal) : EReal := Ideal.exp2 ((a - m) * (kc : EReal))

/-- The largest of the first `K` scores. -/
def cM (sc : ℕ → EReal) (K : ℕ) : EReal := (Finset.range K).sup sc
/-- The denominator over the first `K` keys. -/
def cL (sc : ℕ → EReal) (K : ℕ) : EReal := ∑ k ∈ Finset.range K, W (cM sc K) (sc k)
/-- The largest absolute value over the first `K` keys, from 0. -/
def cA (ab : ℕ → EReal) (K : ℕ) : EReal := max 0 ((Finset.range K).sup ab)
/-- The weighted sum over the first `K` keys. -/
def cO (sc v : ℕ → EReal) (K : ℕ) : EReal := ∑ k ∈ Finset.range K, v k * W (cM sc K) (sc k)

/-- A row of scores of which the first is real and none is `⊤`. -/
structure Good (sc : ℕ → EReal) : Prop where
  zero : ∃ x : ℝ, sc 0 = x
  ne_top : ∀ k, sc k ≠ ⊤

theorem cM_real {sc : ℕ → EReal} (h : Good sc) {K : ℕ} (hK : 0 < K) : ∃ x : ℝ, cM sc K = x := by
  obtain ⟨x, hx⟩ := h.zero
  have h1 : sc 0 ≤ cM sc K := Finset.le_sup (f := sc) (Finset.mem_range.mpr hK)
  have h2 : cM sc K < ⊤ := (Finset.sup_lt_iff bot_lt_top).mpr fun k _ => lt_top_iff_ne_top.mpr (h.ne_top k)
  have h3 : cM sc K ≠ ⊥ := fun e => by rw [e, hx] at h1; simp at h1
  exact ⟨(cM sc K).toReal, (EReal.coe_toReal h2.ne h3).symm⟩

theorem W_bot (x : ℝ) : W x ⊥ = 0 := by
  unfold W
  rw [show (⊥ : EReal) - (x : EReal) = ⊥ from EReal.bot_sub _, EReal.bot_mul_coe_of_pos kc_pos]; rfl

theorem W_coe (x y : ℝ) : W x y = ((2 : ℝ) ^ ((y - x) * kc) : ℝ) := by
  unfold W
  rw [← EReal.coe_sub, ← EReal.coe_mul]; rfl

theorem W_real (x : ℝ) {a : EReal} (ha : a ≠ ⊤) : ∃ w : ℝ, 0 ≤ w ∧ W x a = w := by
  induction a with
  | bot => exact ⟨0, le_refl _, by rw [W_bot]; rfl⟩
  | coe y => exact ⟨_, Real.rpow_nonneg (by norm_num) _, W_coe x y⟩
  | top => exact absurd rfl ha

theorem W_mul (x y : ℝ) {a : EReal} (ha : a ≠ ⊤) : W x a * W y x = W y a := by
  induction a with
  | bot => rw [W_bot, W_bot, zero_mul]
  | coe z =>
    rw [W_coe, W_coe, W_coe, ← EReal.coe_mul, ← Real.rpow_add (by norm_num)]
    congr 2; ring
  | top => exact absurd rfl ha

/-- A nonnegative real factor goes into a sum. -/
theorem sum_mul {ι : Type} (s : Finset ι) (f : ι → EReal) {w : ℝ} (hw : 0 ≤ w) : (∑ i ∈ s, f i) * (w : EReal) = ∑ i ∈ s, f i * (w : EReal) := by
  classical
  induction s using Finset.induction_on with
  | empty => simp
  | insert a s ha ih => rw [Finset.sum_insert ha, Finset.sum_insert ha, EReal.right_distrib_of_nonneg_of_ne_top (EReal.coe_nonneg.mpr hw) (EReal.coe_ne_top w), ih]

/-- A maximum over a range of `K + n` in two. -/
theorem sup_range_add (f : ℕ → EReal) (K n : ℕ) : (Finset.range (K + n)).sup f = max ((Finset.range K).sup f) ((Finset.range n).sup fun i => f (K + i)) := by
  induction n with
  | zero => simp
  | succ n ih =>
    rw [← Nat.add_assoc, Finset.range_add_one, Finset.sup_insert, ih, Finset.range_add_one, Finset.sup_insert]
    rw [max_comm, max_assoc]; congr 1; exact max_comm _ _

theorem cM_add (sc : ℕ → EReal) (K n : ℕ) : cM sc (K + n) = max (cM sc K) ((Finset.range n).sup fun i => sc (K + i)) := sup_range_add sc K n

theorem cA_add (ab : ℕ → EReal) (K n : ℕ) : cA ab (K + n) = max (cA ab K) ((Finset.range n).sup fun i => ab (K + i)) := by
  unfold cA; rw [sup_range_add, max_assoc]

/-- The denominator grows: the old one rescaled, and the new keys' weights. -/
theorem cL_add {sc : ℕ → EReal} (h : Good sc) (K : ℕ) {n : ℕ} (hn : 0 < n) :
    cL sc (K + n) = cL sc K * W (cM sc (K + n)) (cM sc K) + ∑ i ∈ Finset.range n, W (cM sc (K + n)) (sc (K + i)) := by
  unfold cL
  rw [Finset.sum_range_add]
  congr 1
  rcases Nat.eq_zero_or_pos K with rfl | hK
  · simp
  obtain ⟨x, hx⟩ := cM_real h hK
  obtain ⟨y, hy⟩ := cM_real h (Nat.add_pos_left hK n)
  rw [hx, hy]
  obtain ⟨w, hw, e⟩ := W_real y (EReal.coe_ne_top x)
  rw [e, sum_mul _ _ hw, ← e]
  exact Finset.sum_congr rfl fun k _ => (W_mul x y (h.ne_top k)).symm

/-- The weighted sum grows likewise. -/
theorem cO_add {sc : ℕ → EReal} (h : Good sc) (v : ℕ → EReal) (K : ℕ) {n : ℕ} (hn : 0 < n) :
    cO sc v (K + n) = cO sc v K * W (cM sc (K + n)) (cM sc K) + ∑ i ∈ Finset.range n, v (K + i) * W (cM sc (K + n)) (sc (K + i)) := by
  unfold cO
  rw [Finset.sum_range_add]
  congr 1
  rcases Nat.eq_zero_or_pos K with rfl | hK
  · simp
  obtain ⟨x, hx⟩ := cM_real h hK
  obtain ⟨y, hy⟩ := cM_real h (Nat.add_pos_left hK n)
  rw [hx, hy]
  obtain ⟨w, hw, e⟩ := W_real y (EReal.coe_ne_top x)
  rw [e, sum_mul _ _ hw, ← e]
  exact Finset.sum_congr rfl fun k _ => by rw [mul_assoc, W_mul x y (h.ne_top k)]

/-! ## A column of the kernel's tiles: eight sublanes, the keys in groups of eight -/

/-- A sum over eight sublanes of sums over the groups is the sum over the tile. -/
theorem sum_tile (f : ℕ → EReal) : ∑ s : Fin 8, ∑ g : Fin 32, f (g.val * 8 + s.val) = ∑ i ∈ Finset.range 256, f i := by
  rw [Finset.sum_comm, Finset.sum_range f, ← Finset.sum_product',
    ← Equiv.sum_comp (finProdFinEquiv (m := 32) (n := 8)) fun i : Fin 256 => f i.val]
  refine Finset.sum_congr rfl fun p _ => ?_
  congr 1; simp [finProdFinEquiv]; ring

/-- The same of maxima. -/
theorem sup_tile (f : ℕ → EReal) : (Finset.univ.sup fun s : Fin 8 => Finset.univ.sup fun g : Fin 32 => f (g.val * 8 + s.val)) = (Finset.range 256).sup f := by
  apply le_antisymm
  · refine Finset.sup_le fun s _ => Finset.sup_le fun g _ => Finset.le_sup (f := f) (Finset.mem_range.mpr ?_)
    have := s.isLt; have := g.isLt; omega
  · refine Finset.sup_le fun i hi => ?_
    have hi' := Finset.mem_range.mp hi
    have e : f i = (fun g : Fin 32 => f (g.val * 8 + i % 8)) ⟨i / 8, by omega⟩ := by
      show f i = f (i / 8 * 8 + i % 8); congr 1; omega
    rw [e]
    refine le_trans (Finset.le_sup (f := fun g : Fin 32 => f (g.val * 8 + i % 8)) (Finset.mem_univ _)) ?_
    exact Finset.le_sup (f := fun s : Fin 8 => Finset.univ.sup fun g : Fin 32 => f (g.val * 8 + s.val)) (Finset.mem_univ (⟨i % 8, Nat.mod_lt _ (by norm_num)⟩ : Fin 8))

/-- A maximum of pointwise maxima. -/
theorem sup_max {ι : Type} [Fintype ι] (f g : ι → EReal) : (Finset.univ.sup fun i => max (f i) (g i)) = max (Finset.univ.sup f) (Finset.univ.sup g) :=
  Finset.sup_sup

/-- Minus a minimum from `⊤` is the maximum of the minuses. -/
theorem neg_fold_min {ι : Type} (s : Finset ι) (f : ι → EReal) : 0 - s.fold min ⊤ f = s.sup fun i => 0 - f i := by
  classical
  induction s using Finset.induction_on with
  | empty => simp
  | insert a s ha ih =>
    rw [Finset.fold_insert ha, Finset.sup_insert, ← ih]
    simp only [zero_sub]
    exact (EReal.neg_strictAnti.antitone.map_min (a := f a) (b := s.fold min ⊤ f))

theorem sub_min (a b : EReal) : 0 - min a b = max (0 - a) (0 - b) := by
  simp only [zero_sub]; exact EReal.neg_strictAnti.antitone.map_min

theorem neg_inf : Ideal.ofBits FTy.f32 0xFF800000#32 = ⊥ := by
  simp [Ideal.ofBits, Ideal.ieee]
theorem pos_inf : Ideal.ofBits FTy.f32 0x7F800000#32 = ⊤ := by
  simp [Ideal.ofBits, Ideal.ieee]

/-! ## One chunk attended, each quantity apart -/

section attend
variable {sc ab v : ℕ → EReal} (h : Good sc) (K : ℕ) {n : ℕ} (hn : 0 < n)

theorem attend_m {mx : Fin 8 → EReal} (hmx : Finset.univ.sup mx = (Finset.range n).sup fun i => sc (K + i)) :
    max (cM sc K) (Finset.univ.fold max ⊥ mx) = cM sc (K + n) := by
  rw [cM_add, ← hmx]; rfl

theorem attend_a {a mx mn : Fin 8 → EReal} (ha : Finset.univ.sup a = cA ab K)
    (hab : (Finset.univ.sup fun s => max (mx s) (0 - mn s)) = (Finset.range n).sup fun i => ab (K + i)) :
    (Finset.univ.sup fun s => max (a s) (max (mx s) (0 - mn s))) = cA ab (K + n) := by
  rw [sup_max, ha, hab, cA_add]

include h hn in
theorem attend_l {l : Fin 8 → EReal} (hl : ∑ s, l s = cL sc K) {R : Fin 8 → EReal}
    (hR : ∑ s, R s = ∑ i ∈ Finset.range n, W (cM sc (K + n)) (sc (K + i))) :
    ∑ s, (l s * W (cM sc (K + n)) (cM sc K) + R s) = cL sc (K + n) := by
  rw [cL_add h K hn, Finset.sum_add_distrib, hR, ← hl]
  congr 1
  obtain ⟨y, hy⟩ := cM_real h (Nat.lt_of_lt_of_le hn (Nat.le_add_left n K))
  rcases Nat.eq_zero_or_pos K with rfl | hK
  · rw [hy, show cM sc 0 = ⊥ from rfl, W_bot]; simp
  obtain ⟨x, hx⟩ := cM_real h hK
  rw [hx, hy]
  obtain ⟨w, hw, e⟩ := W_real y (EReal.coe_ne_top x)
  rw [e, sum_mul _ _ hw]

end attend

/-! ## Quarters of a chunk -/

/-- The largest of quarter `p` on sublane `s`. -/
def qmx (f : ℕ → EReal) (p : ℕ) (s : Fin 8) : EReal := Finset.univ.fold max ⊥ fun x : Fin 32 => f (x.val * 8 + s.val + 256 * p)
/-- The smallest. -/
def qmn (f : ℕ → EReal) (p : ℕ) (s : Fin 8) : EReal := Finset.univ.fold min ⊤ fun x : Fin 32 => f (x.val * 8 + s.val + 256 * p)

theorem sup_qmx (f : ℕ → EReal) (p : ℕ) : Finset.univ.sup (qmx f p) = (Finset.range 256).sup fun i => f (256 * p + i) := by
  rw [← sup_tile]
  refine Finset.sup_congr rfl fun s _ => ?_
  show Finset.univ.sup _ = _
  refine Finset.sup_congr rfl fun g _ => ?_
  rw [Nat.add_comm (256 * p)]

theorem sup_qmn (f : ℕ → EReal) (p : ℕ) : (Finset.univ.sup fun s => 0 - qmn f p s) = (Finset.range 256).sup fun i => 0 - f (256 * p + i) := by
  rw [← sup_tile]
  refine Finset.sup_congr rfl fun s _ => ?_
  unfold qmn
  rw [neg_fold_min]
  refine Finset.sup_congr rfl fun g _ => ?_
  rw [Nat.add_comm (256 * p)]

theorem mx1 (f : ℕ → EReal) : Finset.univ.sup (qmx f 0) = (Finset.range 256).sup f := by
  rw [sup_qmx]; simp
theorem mx2 (f : ℕ → EReal) : (Finset.univ.sup fun s => max (qmx f 0 s) (qmx f 1 s)) = (Finset.range 512).sup f := by
  rw [sup_max, mx1, sup_qmx, sup_range_add f 256 256]
theorem mx3 (f : ℕ → EReal) : (Finset.univ.sup fun s => max (max (qmx f 0 s) (qmx f 1 s)) (qmx f 2 s)) = (Finset.range 768).sup f := by
  rw [sup_max, mx2, sup_qmx, sup_range_add f 512 256]
theorem mx4 (f : ℕ → EReal) : (Finset.univ.sup fun s => max (max (max (qmx f 0 s) (qmx f 1 s)) (qmx f 2 s)) (qmx f 3 s)) = (Finset.range 1024).sup f := by
  rw [sup_max, mx3, sup_qmx, sup_range_add f 768 256]

theorem mn1 (f : ℕ → EReal) : (Finset.univ.sup fun s => 0 - qmn f 0 s) = (Finset.range 256).sup fun i => 0 - f i := by
  rw [sup_qmn]; simp
theorem mn2 (f : ℕ → EReal) : (Finset.univ.sup fun s => 0 - min (qmn f 0 s) (qmn f 1 s)) = (Finset.range 512).sup fun i => 0 - f i := by
  simp only [sub_min]
  rw [sup_max, mn1, sup_qmn, sup_range_add (fun i => 0 - f i) 256 256]
theorem mn3 (f : ℕ → EReal) : (Finset.univ.sup fun s => 0 - min (min (qmn f 0 s) (qmn f 1 s)) (qmn f 2 s)) = (Finset.range 768).sup fun i => 0 - f i := by
  have := mn2 f
  simp only [sub_min] at this ⊢
  rw [sup_max, this, sup_qmn, sup_range_add (fun i => 0 - f i) 512 256]
theorem mn4 (f : ℕ → EReal) : (Finset.univ.sup fun s => 0 - min (min (min (qmn f 0 s) (qmn f 1 s)) (qmn f 2 s)) (qmn f 3 s)) = (Finset.range 1024).sup fun i => 0 - f i := by
  have := mn3 f
  simp only [sub_min] at this ⊢
  rw [sup_max, this, sup_qmn, sup_range_add (fun i => 0 - f i) 768 256]

/-- The largest score in absolute value of a chunk, from its largest and smallest. -/
theorem ab_of {mx mn : Fin 8 → EReal} {n : ℕ} {f g : ℕ → EReal} (hmx : Finset.univ.sup mx = (Finset.range n).sup f)
    (hmn : (Finset.univ.sup fun s => 0 - mn s) = (Finset.range n).sup fun i => 0 - g i) :
    (Finset.univ.sup fun s => max (mx s) (0 - mn s)) = (Finset.range n).sup fun i => max (f i) (0 - g i) := by
  rw [sup_max, hmx, hmn]; exact Finset.sup_sup.symm

/-- A chunk's sum, from the sums of a quarter on each sublane. -/
theorem sum_quarter (f : ℕ → EReal) (p : ℕ) : ∑ s : Fin 8, ∑ x : Fin 32, f (x.val * 8 + s.val + 256 * p) = ∑ i ∈ Finset.range 256, f (256 * p + i) := by
  rw [← sum_tile]
  refine Finset.sum_congr rfl fun s _ => Finset.sum_congr rfl fun g _ => ?_
  rw [Nat.add_comm (256 * p)]

/-! ## One chunk attended -/

/-- What a block's accumulators hold in a column: the largest score so far, the denominator in eight shares, the largest
    absolute value in eight shares, the weighted sums. -/
structure Col (sc ab : ℕ → EReal) (v : ℕ → ℕ → EReal) (K : ℕ) (M L A : Fin 8 → EReal) (O : Fin 256 → EReal) : Prop where
  m : ∀ s, M s = cM sc K
  l : ∑ s, L s = cL sc K
  a : Finset.univ.sup A = cA ab K
  o : ∀ d, O d = cO sc (v d.val) K

/-- What a slot holds in a column: the scores of the chunk from key `K`, their largest and smallest in eight shares. -/
structure Slot (sc ab : ℕ → EReal) (K n : ℕ) (S : ℕ → EReal) (mx mn : Fin 8 → EReal) : Prop where
  hs : ∀ i, i < n → S i = sc (K + i)
  hmx : Finset.univ.sup mx = (Finset.range n).sup fun i => sc (K + i)
  hab : (Finset.univ.sup fun s => max (mx s) (0 - mn s)) = (Finset.range n).sup fun i => ab (K + i)

theorem Col.zero {sc ab : ℕ → EReal} {v : ℕ → ℕ → EReal} : Col sc ab v 0 (fun _ => ⊥) (fun _ => 0) (fun _ => 0) (fun _ => 0) where
  m _ := rfl
  l := by simp [cL]
  a := by
    show Finset.univ.sup (fun _ : Fin 8 => (0 : EReal)) = max 0 ⊥
    rw [Finset.sup_const Finset.univ_nonempty]; simp
  o _ := by simp [cO]

/-- The weights' sums on a sublane over `q` quarters. -/
def qsum (S : ℕ → EReal) (m : EReal) (p : ℕ) (s : Fin 8) : EReal := ∑ x : Fin 32, W m (S (x.val * 8 + s.val + 256 * p))

theorem sum_qsum (S : ℕ → EReal) (m : EReal) (p : ℕ) : ∑ s, qsum S m p s = ∑ i ∈ Finset.range 256, W m (S (256 * p + i)) := sum_quarter (fun i => W m (S i)) p
theorem ls1 (S : ℕ → EReal) (m : EReal) : ∑ s, qsum S m 0 s = ∑ i ∈ Finset.range 256, W m (S i) := by rw [sum_qsum]; simp
theorem ls2 (S : ℕ → EReal) (m : EReal) : ∑ s, (qsum S m 0 s + qsum S m 1 s) = ∑ i ∈ Finset.range 512, W m (S i) := by
  rw [Finset.sum_add_distrib, ls1, sum_qsum, Finset.sum_range_add _ 256 256]
theorem ls3 (S : ℕ → EReal) (m : EReal) : ∑ s, (qsum S m 0 s + qsum S m 1 s + qsum S m 2 s) = ∑ i ∈ Finset.range 768, W m (S i) := by
  rw [Finset.sum_add_distrib, ls2, sum_qsum, Finset.sum_range_add _ 512 256]
theorem ls4 (S : ℕ → EReal) (m : EReal) : ∑ s, (qsum S m 0 s + qsum S m 1 s + qsum S m 2 s + qsum S m 3 s) = ∑ i ∈ Finset.range 1024, W m (S i) := by
  rw [Finset.sum_add_distrib, ls3, sum_qsum, Finset.sum_range_add _ 768 256]

/-- A chunk attended. -/
theorem Col.attend {sc ab : ℕ → EReal} {v : ℕ → ℕ → EReal} (h : Good sc) {K n : ℕ} (hn : 0 < n) {M L A : Fin 8 → EReal} {O : Fin 256 → EReal}
    (C : Col sc ab v K M L A O) {S : ℕ → EReal} {mx mn : Fin 8 → EReal} (T : Slot sc ab K n S mx mn)
    {V : ℕ → ℕ → EReal} (hV : ∀ d i, i < n → V d i = v d (K + i))
    {M' L' A' : Fin 8 → EReal} {O' : Fin 256 → EReal} {R : EReal → Fin 8 → EReal} {g : Fin 256 → Fin 8} {gp : ℕ → Fin 8}
    (hR : ∀ m, ∑ s, R m s = ∑ i ∈ Finset.range n, W m (S i))
    (hM : ∀ s, M' s = max (M s) (Finset.univ.fold max ⊥ mx))
    (hL : ∀ s, L' s = L s * W (M' s) (M s) + R (M' s) s)
    (hA : ∀ s, A' s = max (A s) (max (mx s) (0 - mn s)))
    (hO : ∀ d, O' d = O d * W (M' (g d)) (M (g d)) + ∑ i ∈ Finset.range n, V d.val i * W (M' (gp i)) (S i)) :
    Col sc ab v (K + n) M' L' A' O' := by
  have e : ∀ s, M' s = cM sc (K + n) := fun s => by rw [hM, C.m]; exact attend_m K T.hmx
  refine ⟨e, ?_, ?_, fun d => ?_⟩
  · simp only [hL, e, C.m]
    refine attend_l h K hn C.l ?_
    rw [hR]
    exact Finset.sum_congr rfl fun i hi => by rw [T.hs i (Finset.mem_range.mp hi)]
  · rw [show A' = fun s => _ from funext hA]; exact attend_a K C.a T.hab
  · rw [hO, cO_add h _ K hn, e, C.m, C.o]
    congr 1
    exact Finset.sum_congr rfl fun i hi => by rw [T.hs i (Finset.mem_range.mp hi), e, hV _ _ (Finset.mem_range.mp hi)]

end Cert.Proof.Cols
-- ==== Proof.KernelIdealRead.lean ====
/-
  Reading the kernel's vectors and buffers one element at a time, in extended reals: loads, raw scores, and what a
  block's accumulators and a slot of scores hold.
-/
module

public import proofs.«01_k».proof.Proof.KernelIdealTrip
public import proofs.«01_k».proof.Proof.Cols
public import Idealize.ShloMosaic.Lib.Pointwise
public import Idealize.ShloMosaic.Lib.VecWindow

@[expose] public section

set_option maxRecDepth 8192

noncomputable section

namespace Cert.Proof.KernelIdeal

open Idealize.ShloMosaic
open Cert.KernelIdeal Cert.KernelIdeal.Gen
open Cert.Proof.Cols

/-- A load at a unit-stride rectangle, at an index: the view's element at the offset. -/
theorem readAt_at {κ : Kind} {sp : Space} {s : Shape} {e : EltTy} {Val : EltTy → Type} (v : View sig κ sp s e) (f : v.ty.Contents Val) {off size : Fin s.rank → ℕ}
    (inb : ∀ a, off a + size a ≤ s.size a) {off' : Fin s.rank → ℕ} (ho : off = off') (x : (Rect.unit off size inb).toLoadRect.shape.Idx) (y : s.Idx) (hy : ∀ a, (y a).val = off' a + (x a).val) :
    v.readAt Val (Rect.unit off size inb).toLoadRect f x = v.read Val f y := by
  subst ho
  refine congrArg (v.read Val f) (funext fun a => Fin.ext ?_)
  show off a + 1 * (x a).val = (y a).val
  have := hy a; omega

/-- A load of what the stores cover, at an index: the stored contents' element at the offset. -/
theorem readCov_at {κ : Kind} {sp : Space} {s : Shape} {e : EltTy} {Val : EltTy → Type} [∀ e, Nonempty (Val e)] (v : View sig κ sp s e) (L : List (View.Piece Val s e)) {off size : Fin s.rank → ℕ}
    (inb : ∀ a, off a + size a ≤ s.size a) {off' : Fin s.rank → ℕ} (ho : off = off') (x : (Rect.unit off size inb).toLoadRect.shape.Idx) (y : s.Idx) (hy : ∀ a, (y a).val = off' a + (x a).val) :
    v.readCov L (Rect.unit off size inb).toLoadRect x = v.read Val (v.writes Val v.junk L) y :=
  readAt_at v _ inb ho x y hy

/-- Query position `256 b + r % 256`. -/
def qpos (b : ℕ) (r : Fin 512) : Fin 8192 := ⟨(256 * b + r.val % 256) % 8192, Nat.mod_lt _ (by norm_num)⟩
/-- The query head of the pair. -/
def hd (r : Fin 512) : Fin 2 := ⟨r.val / 256, by have := r.isLt; omega⟩
/-- Key `i` of a chunk. -/
def ky (i : ℕ) : Fin 1024 := ⟨i % 1024, Nat.mod_lt _ (by norm_num)⟩
/-- The raw score of key `i` of the chunk against column `r` of block `b`. -/
def raw (A2 : S1x1x2x8192x256.Idx → EReal) (A3 : S1x1x1024x256.Idx → EReal) (b : ℕ) (r : Fin 512) (i : ℕ) : EReal :=
  ∑ x : Fin 256, A3 (ix4 0 0 (ky i) x) * A2 (ix5 0 0 (hd r) (qpos b r) x)

/-- Block `b`'s accumulators hold the first `K` keys' softmax, in every column. -/
def BlkAt (SC AB : ℕ → Fin 512 → ℕ → EReal) (v : ℕ → ℕ → EReal) (K : ℕ) (X8 : S32x256x512.Idx → EReal) (X9 X10 X11 : S32x8x512.Idx → EReal) (b : Fin 32) : Prop :=
  ∀ r : Fin 512, Col (SC b.val r) (AB b.val r) v K (fun s => X9 (ix3 b s r)) (fun s => X10 (ix3 b s r)) (fun s => X11 (ix3 b s r)) (fun d => X8 (ix3 b d r))

/-- Slot `t` holds block `b`'s scores of the `n` keys from `K`, and their extrema. -/
def SlotAt (SC AB : ℕ → Fin 512 → ℕ → EReal) (K n : ℕ) (X12 : S2x1024x512.Idx → EReal) (X14 : S2x2x8x512.Idx → EReal) (t : Fin 2) (b : ℕ) : Prop :=
  ∀ r : Fin 512, Slot (SC b r) (AB b r) K n (fun i => X12 (ix3 t (ky i) r)) (fun s => X14 (ix4 t 0 s r)) (fun s => X14 (ix4 t 1 s r))

/-- A slot of all a chunk's raw scores. -/
theorem SlotAt.of_raw {SC AB : ℕ → Fin 512 → ℕ → EReal} {K : ℕ} {X12 : S2x1024x512.Idx → EReal} {X14 : S2x2x8x512.Idx → EReal} {t : Fin 2} {b : ℕ}
    {A2 : S1x1x2x8192x256.Idx → EReal} {A3 : S1x1x1024x256.Idx → EReal}
    (hS : ∀ r i, i < 1024 → SC b r (K + i) = raw A2 A3 b r i ∧ AB b r (K + i) = max (raw A2 A3 b r i) (0 - raw A2 A3 b r i))
    (h0 : ∀ (i : Fin 256) r, X12 (ix3 t ⟨i.val, by omega⟩ r) = raw A2 A3 b r i.val)
    (h1 : ∀ (i : Fin 256) r, X12 (ix3 t ⟨i.val + 256, by omega⟩ r) = raw A2 A3 b r (i.val + 256))
    (h2 : ∀ (i : Fin 256) r, X12 (ix3 t ⟨i.val + 512, by omega⟩ r) = raw A2 A3 b r (i.val + 512))
    (h3 : ∀ (i : Fin 256) r, X12 (ix3 t ⟨i.val + 768, by omega⟩ r) = raw A2 A3 b r (i.val + 768))
    (hmx : ∀ s r, X14 (ix4 t 0 s r) = max (max (max (qmx (raw A2 A3 b r) 0 s) (qmx (raw A2 A3 b r) 1 s)) (qmx (raw A2 A3 b r) 2 s)) (qmx (raw A2 A3 b r) 3 s))
    (hmn : ∀ s r, X14 (ix4 t 1 s r) = min (min (min (qmn (raw A2 A3 b r) 0 s) (qmn (raw A2 A3 b r) 1 s)) (qmn (raw A2 A3 b r) 2 s)) (qmn (raw A2 A3 b r) 3 s)) :
    SlotAt SC AB K 1024 X12 X14 t b := by
  intro r
  have e1 : (Finset.range 1024).sup (fun i => SC b r (K + i)) = (Finset.range 1024).sup (raw A2 A3 b r) :=
    Finset.sup_congr rfl fun i hi => (hS r i (Finset.mem_range.mp hi)).1
  have e2 : (Finset.range 1024).sup (fun i => AB b r (K + i)) = (Finset.range 1024).sup fun i => max (raw A2 A3 b r i) (0 - raw A2 A3 b r i) :=
    Finset.sup_congr rfl fun i hi => (hS r i (Finset.mem_range.mp hi)).2
  have m1 : (Finset.univ.sup fun s => X14 (ix4 t 0 s r)) = (Finset.range 1024).sup (raw A2 A3 b r) := by simp only [hmx]; exact mx4 _
  have m2 : (Finset.univ.sup fun s => 0 - X14 (ix4 t 1 s r)) = (Finset.range 1024).sup fun i => 0 - raw A2 A3 b r i := by simp only [hmn]; exact mn4 _
  refine ⟨fun i hi => ?_, m1.trans e1.symm, (ab_of m1 m2).trans e2.symm⟩
  rw [(hS r i hi).1]
  rcases (by omega : i < 256 ∨ (256 ≤ i ∧ i < 512) ∨ (512 ≤ i ∧ i < 768) ∨ (768 ≤ i)) with hh | hh | hh | hh
  · rw [show ky i = ⟨(⟨i, hh⟩ : Fin 256).val, by omega⟩ from Fin.ext (Nat.mod_eq_of_lt hi), h0]
  · rw [show ky i = ⟨(⟨i - 256, by omega⟩ : Fin 256).val + 256, by dsimp only; omega⟩ from Fin.ext (by simp only [ky]; omega), h1]
    congr 1; dsimp only; omega
  · rw [show ky i = ⟨(⟨i - 512, by omega⟩ : Fin 256).val + 512, by dsimp only; omega⟩ from Fin.ext (by simp only [ky]; omega), h2]
    congr 1; dsimp only; omega
  · rw [show ky i = ⟨(⟨i - 768, by omega⟩ : Fin 256).val + 768, by dsimp only; omega⟩ from Fin.ext (by simp only [ky]; omega), h3]
    congr 1; dsimp only; omega

theorem trips_eq (i : grid0.Coords) : (k0_t2_loop i).trips = 14 - 2 * (i 1).val := by
  unfold k0_t2_loop Scf.Loop.trips
  generalize i 1 = j
  revert j
  decide

end Cert.Proof.KernelIdeal
-- ==== Proof.KernelIdealTripSlots.lean ====
/-
  The raw scores one trip of the loop leaves in the two slots, element by element.
-/
module

public import proofs.«01_k».proof.Proof.KernelIdealRead

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16) (arg12 : Memref sig .tc .vmem S2x1024x512 .f32) (arg14 : Memref sig .tc .vmem S2x2x8x512 .f32)
  (h : k0_cond2 i = 1#1) (k : Fin (k0_t2_loop i).trips) (f2 : Bf (F := Ideal) c arg2) (f3 : Bf (F := Ideal) c arg3) (f12 : Bf (F := Ideal) c arg12) (f14 : Bf (F := Ideal) c arg14)

/-- Quarter 0 of slot 1's raw scores. -/
theorem v860_at (i' : Fin 256) (r : Fin 512) : trip.sl.v860 c i arg2 arg3 h k f2 f3 (ix2 i' r) = raw (arg2.view.read _ f2) (arg3.view.read _ f3) (4 * (i 1).val + 2 * k.val + 5) r (i'.val + 0) := by
  have hj : (i 1).val < 8 := (i 1).isLt
  have hk : k.val < 14 - 2 * (i 1).val := lt_of_lt_of_eq k.isLt (trips_eq i)
  pointwise [trip.sl.v860, trip.sl.v859, trip.sl.v857, trip.sl.v856, trip.sl.cst_596]
  refine Finset.sum_congr rfl fun x _ => ?_
  congr 1
  · refine readAt_at _ _ _ rfl _ _ fun a => ?_
    fin_cases a <;> simp [ky] <;> omega
  · refine readAt_at _ _ _ (k0_off7_eq i k) _ _ fun a => ?_
    fin_cases a <;> simp [qpos, hd] <;> omega

/-- Quarter 1 of slot 1's raw scores. -/
theorem v870_at (i' : Fin 256) (r : Fin 512) : trip.sl.v870 c i arg2 arg3 h k f2 f3 (ix2 i' r) = raw (arg2.view.read _ f2) (arg3.view.read _ f3) (4 * (i 1).val + 2 * k.val + 5) r (i'.val + 256) := by
  have hj : (i 1).val < 8 := (i 1).isLt
  have hk : k.val < 14 - 2 * (i 1).val := lt_of_lt_of_eq k.isLt (trips_eq i)
  pointwise [trip.sl.v870, trip.sl.v869, trip.sl.v857, trip.sl.v856, trip.sl.cst_596]
  refine Finset.sum_congr rfl fun x _ => ?_
  congr 1
  · refine readAt_at _ _ _ rfl _ _ fun a => ?_
    fin_cases a <;> simp [ky] <;> omega
  · refine readAt_at _ _ _ (k0_off7_eq i k) _ _ fun a => ?_
    fin_cases a <;> simp [qpos, hd] <;> omega

/-- Quarter 2 of slot 1's raw scores. -/
theorem v882_at (i' : Fin 256) (r : Fin 512) : trip.sl.v882 c i arg2 arg3 h k f2 f3 (ix2 i' r) = raw (arg2.view.read _ f2) (arg3.view.read _ f3) (4 * (i 1).val + 2 * k.val + 5) r (i'.val + 512) := by
  have hj : (i 1).val < 8 := (i 1).isLt
  have hk : k.val < 14 - 2 * (i 1).val := lt_of_lt_of_eq k.isLt (trips_eq i)
  pointwise [trip.sl.v882, trip.sl.v881, trip.sl.v857, trip.sl.v856, trip.sl.cst_596]
  refine Finset.sum_congr rfl fun x _ => ?_
  congr 1
  · refine readAt_at _ _ _ rfl _ _ fun a => ?_
    fin_cases a <;> simp [ky] <;> omega
  · refine readAt_at _ _ _ (k0_off7_eq i k) _ _ fun a => ?_
    fin_cases a <;> simp [qpos, hd] <;> omega

/-- Quarter 3 of slot 1's raw scores. -/
theorem v894_at (i' : Fin 256) (r : Fin 512) : trip.sl.v894 c i arg2 arg3 h k f2 f3 (ix2 i' r) = raw (arg2.view.read _ f2) (arg3.view.read _ f3) (4 * (i 1).val + 2 * k.val + 5) r (i'.val + 768) := by
  have hj : (i 1).val < 8 := (i 1).isLt
  have hk : k.val < 14 - 2 * (i 1).val := lt_of_lt_of_eq k.isLt (trips_eq i)
  pointwise [trip.sl.v894, trip.sl.v893, trip.sl.v857, trip.sl.v856, trip.sl.cst_596]
  refine Finset.sum_congr rfl fun x _ => ?_
  congr 1
  · refine readAt_at _ _ _ rfl _ _ fun a => ?_
    fin_cases a <;> simp [ky] <;> omega
  · refine readAt_at _ _ _ (k0_off7_eq i k) _ _ fun a => ?_
    fin_cases a <;> simp [qpos, hd] <;> omega

/-- Quarter 0 of slot 0's raw scores. -/
theorem v1040_at (i' : Fin 256) (r : Fin 512) : trip.sl.v1040 c i arg2 arg3 h k f2 f3 (ix2 i' r) = raw (arg2.view.read _ f2) (arg3.view.read _ f3) (min (4 * (i 1).val + 2 * k.val + 6) 31) r (i'.val + 0) := by
  have hj : (i 1).val < 8 := (i 1).isLt
  have hk : k.val < 14 - 2 * (i 1).val := lt_of_lt_of_eq k.isLt (trips_eq i)
  pointwise [trip.sl.v1040, trip.sl.v859, trip.sl.v1037, trip.sl.v1036, trip.sl.cst_596]
  refine Finset.sum_congr rfl fun x _ => ?_
  congr 1
  · refine readAt_at _ _ _ rfl _ _ fun a => ?_
    fin_cases a <;> simp [ky] <;> omega
  · refine readAt_at _ _ _ (k0_off10_eq i k) _ _ fun a => ?_
    fin_cases a <;> simp [qpos, hd] <;> omega

/-- Quarter 1 of slot 0's raw scores. -/
theorem v1050_at (i' : Fin 256) (r : Fin 512) : trip.sl.v1050 c i arg2 arg3 h k f2 f3 (ix2 i' r) = raw (arg2.view.read _ f2) (arg3.view.read _ f3) (min (4 * (i 1).val + 2 * k.val + 6) 31) r (i'.val + 256) := by
  have hj : (i 1).val < 8 := (i 1).isLt
  have hk : k.val < 14 - 2 * (i 1).val := lt_of_lt_of_eq k.isLt (trips_eq i)
  pointwise [trip.sl.v1050, trip.sl.v869, trip.sl.v1037, trip.sl.v1036, trip.sl.cst_596]
  refine Finset.sum_congr rfl fun x _ => ?_
  congr 1
  · refine readAt_at _ _ _ rfl _ _ fun a => ?_
    fin_cases a <;> simp [ky] <;> omega
  · refine readAt_at _ _ _ (k0_off10_eq i k) _ _ fun a => ?_
    fin_cases a <;> simp [qpos, hd] <;> omega

/-- Quarter 2 of slot 0's raw scores. -/
theorem v1062_at (i' : Fin 256) (r : Fin 512) : trip.sl.v1062 c i arg2 arg3 h k f2 f3 (ix2 i' r) = raw (arg2.view.read _ f2) (arg3.view.read _ f3) (min (4 * (i 1).val + 2 * k.val + 6) 31) r (i'.val + 512) := by
  have hj : (i 1).val < 8 := (i 1).isLt
  have hk : k.val < 14 - 2 * (i 1).val := lt_of_lt_of_eq k.isLt (trips_eq i)
  pointwise [trip.sl.v1062, trip.sl.v881, trip.sl.v1037, trip.sl.v1036, trip.sl.cst_596]
  refine Finset.sum_congr rfl fun x _ => ?_
  congr 1
  · refine readAt_at _ _ _ rfl _ _ fun a => ?_
    fin_cases a <;> simp [ky] <;> omega
  · refine readAt_at _ _ _ (k0_off10_eq i k) _ _ fun a => ?_
    fin_cases a <;> simp [qpos, hd] <;> omega

/-- Quarter 3 of slot 0's raw scores. -/
theorem v1074_at (i' : Fin 256) (r : Fin 512) : trip.sl.v1074 c i arg2 arg3 h k f2 f3 (ix2 i' r) = raw (arg2.view.read _ f2) (arg3.view.read _ f3) (min (4 * (i 1).val + 2 * k.val + 6) 31) r (i'.val + 768) := by
  have hj : (i 1).val < 8 := (i 1).isLt
  have hk : k.val < 14 - 2 * (i 1).val := lt_of_lt_of_eq k.isLt (trips_eq i)
  pointwise [trip.sl.v1074, trip.sl.v893, trip.sl.v1037, trip.sl.v1036, trip.sl.cst_596]
  refine Finset.sum_congr rfl fun x _ => ?_
  congr 1
  · refine readAt_at _ _ _ rfl _ _ fun a => ?_
    fin_cases a <;> simp [ky] <;> omega
  · refine readAt_at _ _ _ (k0_off10_eq i k) _ _ fun a => ?_
    fin_cases a <;> simp [qpos, hd] <;> omega

theorem X12_0_0 (i' : Fin 256) (r : Fin 512) : arg12.view.read _ (arg12.view.writes _ f12 (trip.sl.H12_8 c i arg2 arg3 h k f2 f3)) (ix3 0 ⟨i'.val, by omega⟩ r) = raw (arg2.view.read _ f2) (arg3.view.read _ f3) (min (4 * (i 1).val + 2 * k.val + 6) 31) r (i'.val + 0) := by
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [trip.sl.v1043, v1040_at]

theorem X12_0_1 (i' : Fin 256) (r : Fin 512) : arg12.view.read _ (arg12.view.writes _ f12 (trip.sl.H12_8 c i arg2 arg3 h k f2 f3)) (ix3 0 ⟨i'.val + 256, by omega⟩ r) = raw (arg2.view.read _ f2) (arg3.view.read _ f3) (min (4 * (i 1).val + 2 * k.val + 6) 31) r (i'.val + 256) := by
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [trip.sl.v1053, v1050_at]

theorem X12_0_2 (i' : Fin 256) (r : Fin 512) : arg12.view.read _ (arg12.view.writes _ f12 (trip.sl.H12_8 c i arg2 arg3 h k f2 f3)) (ix3 0 ⟨i'.val + 512, by omega⟩ r) = raw (arg2.view.read _ f2) (arg3.view.read _ f3) (min (4 * (i 1).val + 2 * k.val + 6) 31) r (i'.val + 512) := by
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [trip.sl.v1065, v1062_at]

theorem X12_0_3 (i' : Fin 256) (r : Fin 512) : arg12.view.read _ (arg12.view.writes _ f12 (trip.sl.H12_8 c i arg2 arg3 h k f2 f3)) (ix3 0 ⟨i'.val + 768, by omega⟩ r) = raw (arg2.view.read _ f2) (arg3.view.read _ f3) (min (4 * (i 1).val + 2 * k.val + 6) 31) r (i'.val + 768) := by
  refine (View.read_writes_cons_unit_of_mem _ _ _ _ _ _ (ix3 0 i' r) rfl (by intro a; fin_cases a <;> simp <;> omega)).trans ?_
  pointwise [trip.sl.v1077, v1074_at]

theorem X12_1_0 (i' : Fin 256) (r : Fin 512) : arg12.view.read _ (arg12.view.writes _ f12 (trip.sl.H12_8 c i arg2 arg3 h k f2 f3)) (ix3 1 ⟨i'.val, by omega⟩ r) = raw (arg2.view.read _ f2) (arg3.view.read _ f3) (4 * (i 1).val + 2 * k.val + 5) r (i'.val + 0) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [trip.sl.v863, v860_at]

theorem X12_1_1 (i' : Fin 256) (r : Fin 512) : arg12.view.read _ (arg12.view.writes _ f12 (trip.sl.H12_8 c i arg2 arg3 h k f2 f3)) (ix3 1 ⟨i'.val + 256, by omega⟩ r) = raw (arg2.view.read _ f2) (arg3.view.read _ f3) (4 * (i 1).val + 2 * k.val + 5) r (i'.val + 256) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [trip.sl.v873, v870_at]

theorem X12_1_2 (i' : Fin 256) (r : Fin 512) : arg12.view.read _ (arg12.view.writes _ f12 (trip.sl.H12_8 c i arg2 arg3 h k f2 f3)) (ix3 1 ⟨i'.val + 512, by omega⟩ r) = raw (arg2.view.read _ f2) (arg3.view.read _ f3) (4 * (i 1).val + 2 * k.val + 5) r (i'.val + 512) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [trip.sl.v885, v882_at]

theorem X12_1_3 (i' : Fin 256) (r : Fin 512) : arg12.view.read _ (arg12.view.writes _ f12 (trip.sl.H12_8 c i arg2 arg3 h k f2 f3)) (ix3 1 ⟨i'.val + 768, by omega⟩ r) = raw (arg2.view.read _ f2) (arg3.view.read _ f3) (4 * (i 1).val + 2 * k.val + 5) r (i'.val + 768) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix3 0 i' r) rfl (by intro a; fin_cases a <;> simp <;> omega)).trans ?_
  pointwise [trip.sl.v897, v894_at]

theorem X14_0_0 (s : Fin 8) (r : Fin 512) : arg14.view.read _ (arg14.view.writes _ f14 (trip.sl.H14_4 c i arg2 arg3 h k f2 f3)) (ix4 0 0 s r)
    = max (max (max (qmx (raw (arg2.view.read _ f2) (arg3.view.read _ f3) (min (4 * (i 1).val + 2 * k.val + 6) 31) r) 0 s) (qmx (raw (arg2.view.read _ f2) (arg3.view.read _ f3) (min (4 * (i 1).val + 2 * k.val + 6) 31) r) 1 s)) (qmx (raw (arg2.view.read _ f2) (arg3.view.read _ f3) (min (4 * (i 1).val + 2 * k.val + 6) 31) r) 2 s)) (qmx (raw (arg2.view.read _ f2) (arg3.view.read _ f3) (min (4 * (i 1).val + 2 * k.val + 6) 31) r) 3 s) := by
  refine (View.read_writes_cons_unit_of_not_mem _ _ _ _ _ _ rfl 1 (by simp)).trans ?_
  refine (View.read_writes_cons_unit_of_mem _ _ _ _ _ _ (ix4 0 0 s r) rfl (by intro a; fin_cases a <;> simp)).trans ?_
  pointwise [k0_pay60, trip.sl.v1070, trip.sl.v1079, trip.sl.v1058, trip.sl.v1067, trip.sl.v1045, trip.sl.v1055, trip.sl.v1044, trip.sl.v1054, trip.sl.v1066, trip.sl.v1078]
  simp only [v1040_at, v1050_at, v1062_at, v1074_at, neg_inf, pos_inf]
  rfl

theorem X14_0_1 (s : Fin 8) (r : Fin 512) : arg14.view.read _ (arg14.view.writes _ f14 (trip.sl.H14_4 c i arg2 arg3 h k f2 f3)) (ix4 0 1 s r)
    = min (min (min (qmn (raw (arg2.view.read _ f2) (arg3.view.read _ f3) (min (4 * (i 1).val + 2 * k.val + 6) 31) r) 0 s) (qmn (raw (arg2.view.read _ f2) (arg3.view.read _ f3) (min (4 * (i 1).val + 2 * k.val + 6) 31) r) 1 s)) (qmn (raw (arg2.view.read _ f2) (arg3.view.read _ f3) (min (4 * (i 1).val + 2 * k.val + 6) 31) r) 2 s)) (qmn (raw (arg2.view.read _ f2) (arg3.view.read _ f3) (min (4 * (i 1).val + 2 * k.val + 6) 31) r) 3 s) := by
  refine (View.read_writes_cons_unit_of_mem _ _ _ _ _ _ (ix4 0 0 s r) rfl (by intro a; fin_cases a <;> simp)).trans ?_
  pointwise [k0_pay61, trip.sl.v1071, trip.sl.v1081, trip.sl.v1059, trip.sl.v1069, trip.sl.v1047, trip.sl.v1057, trip.sl.v1044, trip.sl.v1054, trip.sl.v1066, trip.sl.v1078]
  simp only [v1040_at, v1050_at, v1062_at, v1074_at, neg_inf, pos_inf]
  rfl

theorem X14_1_0 (s : Fin 8) (r : Fin 512) : arg14.view.read _ (arg14.view.writes _ f14 (trip.sl.H14_4 c i arg2 arg3 h k f2 f3)) (ix4 1 0 s r)
    = max (max (max (qmx (raw (arg2.view.read _ f2) (arg3.view.read _ f3) (4 * (i 1).val + 2 * k.val + 5) r) 0 s) (qmx (raw (arg2.view.read _ f2) (arg3.view.read _ f3) (4 * (i 1).val + 2 * k.val + 5) r) 1 s)) (qmx (raw (arg2.view.read _ f2) (arg3.view.read _ f3) (4 * (i 1).val + 2 * k.val + 5) r) 2 s)) (qmx (raw (arg2.view.read _ f2) (arg3.view.read _ f3) (4 * (i 1).val + 2 * k.val + 5) r) 3 s) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp)).trans ?_
  refine (View.read_writes_cons_unit_of_mem _ _ _ _ _ _ (ix4 0 0 s r) rfl (by intro a; fin_cases a <;> simp)).trans ?_
  pointwise [trip.sl.v906, trip.sl.v902, trip.sl.v890, trip.sl.v899, trip.sl.v878, trip.sl.v887, trip.sl.v865, trip.sl.v875, trip.sl.v864, trip.sl.v874, trip.sl.v886, trip.sl.v898]
  simp only [v860_at, v870_at, v882_at, v894_at, neg_inf, pos_inf]
  rfl

theorem X14_1_1 (s : Fin 8) (r : Fin 512) : arg14.view.read _ (arg14.view.writes _ f14 (trip.sl.H14_4 c i arg2 arg3 h k f2 f3)) (ix4 1 1 s r)
    = min (min (min (qmn (raw (arg2.view.read _ f2) (arg3.view.read _ f3) (4 * (i 1).val + 2 * k.val + 5) r) 0 s) (qmn (raw (arg2.view.read _ f2) (arg3.view.read _ f3) (4 * (i 1).val + 2 * k.val + 5) r) 1 s)) (qmn (raw (arg2.view.read _ f2) (arg3.view.read _ f3) (4 * (i 1).val + 2 * k.val + 5) r) 2 s)) (qmn (raw (arg2.view.read _ f2) (arg3.view.read _ f3) (4 * (i 1).val + 2 * k.val + 5) r) 3 s) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix4 0 0 s r) rfl (by intro a; fin_cases a <;> simp)).trans ?_
  pointwise [k0_pay22, trip.sl.v903, trip.sl.v891, trip.sl.v901, trip.sl.v879, trip.sl.v889, trip.sl.v867, trip.sl.v877, trip.sl.v864, trip.sl.v874, trip.sl.v886, trip.sl.v898]
  simp only [v860_at, v870_at, v882_at, v894_at, neg_inf, pos_inf]
  rfl

/-- Slot 0 after a trip. -/
theorem trip_slot0 {SC AB : ℕ → Fin 512 → ℕ → EReal} {K : ℕ}
    (hS : ∀ r j, j < 1024 → SC (min (4 * (i 1).val + 2 * k.val + 6) 31) r (K + j) = raw (arg2.view.read _ f2) (arg3.view.read _ f3) (min (4 * (i 1).val + 2 * k.val + 6) 31) r j ∧ AB (min (4 * (i 1).val + 2 * k.val + 6) 31) r (K + j) = max (raw (arg2.view.read _ f2) (arg3.view.read _ f3) (min (4 * (i 1).val + 2 * k.val + 6) 31) r j) (0 - raw (arg2.view.read _ f2) (arg3.view.read _ f3) (min (4 * (i 1).val + 2 * k.val + 6) 31) r j)) :
    SlotAt SC AB K 1024 (arg12.view.read _ (arg12.view.writes _ f12 (trip.sl.H12_8 c i arg2 arg3 h k f2 f3))) (arg14.view.read _ (arg14.view.writes _ f14 (trip.sl.H14_4 c i arg2 arg3 h k f2 f3))) 0 (min (4 * (i 1).val + 2 * k.val + 6) 31) :=
  SlotAt.of_raw hS (X12_0_0 c i arg2 arg3 arg12 h k f2 f3 f12) (X12_0_1 c i arg2 arg3 arg12 h k f2 f3 f12) (X12_0_2 c i arg2 arg3 arg12 h k f2 f3 f12) (X12_0_3 c i arg2 arg3 arg12 h k f2 f3 f12)
    (X14_0_0 c i arg2 arg3 arg14 h k f2 f3 f14) (X14_0_1 c i arg2 arg3 arg14 h k f2 f3 f14)

/-- Slot 1 after a trip. -/
theorem trip_slot1 {SC AB : ℕ → Fin 512 → ℕ → EReal} {K : ℕ}
    (hS : ∀ r j, j < 1024 → SC (4 * (i 1).val + 2 * k.val + 5) r (K + j) = raw (arg2.view.read _ f2) (arg3.view.read _ f3) (4 * (i 1).val + 2 * k.val + 5) r j ∧ AB (4 * (i 1).val + 2 * k.val + 5) r (K + j) = max (raw (arg2.view.read _ f2) (arg3.view.read _ f3) (4 * (i 1).val + 2 * k.val + 5) r j) (0 - raw (arg2.view.read _ f2) (arg3.view.read _ f3) (4 * (i 1).val + 2 * k.val + 5) r j)) :
    SlotAt SC AB K 1024 (arg12.view.read _ (arg12.view.writes _ f12 (trip.sl.H12_8 c i arg2 arg3 h k f2 f3))) (arg14.view.read _ (arg14.view.writes _ f14 (trip.sl.H14_4 c i arg2 arg3 h k f2 f3))) 1 (4 * (i 1).val + 2 * k.val + 5) :=
  SlotAt.of_raw hS (X12_1_0 c i arg2 arg3 arg12 h k f2 f3 f12) (X12_1_1 c i arg2 arg3 arg12 h k f2 f3 f12) (X12_1_2 c i arg2 arg3 arg12 h k f2 f3 f12) (X12_1_3 c i arg2 arg3 arg12 h k f2 f3 f12)
    (X14_1_0 c i arg2 arg3 arg14 h k f2 f3 f14) (X14_1_1 c i arg2 arg3 arg14 h k f2 f3 f14)

end

end Cert.Proof.KernelIdeal
-- ==== Proof.KernelIdealTripPay.lean ====
/-
  One trip of the loop attends the two blocks whose scores lie in the slots.
-/
module

public import proofs.«01_k».proof.Proof.KernelIdealTripSlots

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16)
  (arg4 : Memref sig .tc .vmem S1x1x256x1024 .bf16)
  (arg8 : Memref sig .tc .vmem S32x256x512 .f32) (arg9 arg10 arg11 : Memref sig .tc .vmem S32x8x512 .f32)
  (arg12 : Memref sig .tc .vmem S2x1024x512 .f32) (arg13 : Memref sig .tc .vmem S2x1024x512 .bf16) (arg14 : Memref sig .tc .vmem S2x2x8x512 .f32)
  (h : k0_cond2 i = 1#1) (k : Fin (k0_t2_loop i).trips) (f2 : Bf (F := Ideal) c arg2) (f3 : Bf (F := Ideal) c arg3) (f4 : Bf (F := Ideal) c arg4)
  (s : Scr (F := Ideal) c arg8 arg9 arg10 arg11 arg12 arg13 arg14)

theorem v910_at (a : Fin 8) (r : Fin 512) : trip.sl.v910 c arg8 arg9 arg10 arg11 arg12 arg13 arg14 s (ix4 0 0 a r) = arg14.view.read _ s.a14 (ix4 0 0 a r) :=
  readAt_at _ _ _ rfl _ _ fun a => by fin_cases a <;> simp

theorem v912_at (a : Fin 8) (r : Fin 512) : trip.sl.v912 c arg8 arg9 arg10 arg11 arg12 arg13 arg14 s (ix4 0 0 a r) = arg14.view.read _ s.a14 (ix4 0 1 a r) :=
  readAt_at _ _ _ rfl _ _ fun a => by fin_cases a <;> simp

theorem v936_at (x : Fin 256) (r : Fin 512) : trip.sl.v936 c arg8 arg9 arg10 arg11 arg12 arg13 arg14 s (ix3 0 x r) = arg12.view.read _ s.a12 (ix3 0 (ky (x.val + 0)) r) :=
  readAt_at _ _ _ rfl _ _ fun a => by fin_cases a <;> simp [ky] <;> omega

theorem v952_at (x : Fin 256) (r : Fin 512) : trip.sl.v952 c arg8 arg9 arg10 arg11 arg12 arg13 arg14 s (ix3 0 x r) = arg12.view.read _ s.a12 (ix3 0 (ky (x.val + 256)) r) :=
  readAt_at _ _ _ rfl _ _ fun a => by fin_cases a <;> simp [ky] <;> omega

theorem v968_at (x : Fin 256) (r : Fin 512) : trip.sl.v968 c arg8 arg9 arg10 arg11 arg12 arg13 arg14 s (ix3 0 x r) = arg12.view.read _ s.a12 (ix3 0 (ky (x.val + 512)) r) :=
  readAt_at _ _ _ rfl _ _ fun a => by fin_cases a <;> simp [ky] <;> omega

theorem v984_at (x : Fin 256) (r : Fin 512) : trip.sl.v984 c arg8 arg9 arg10 arg11 arg12 arg13 arg14 s (ix3 0 x r) = arg12.view.read _ s.a12 (ix3 0 (ky (x.val + 768)) r) :=
  readAt_at _ _ _ rfl _ _ fun a => by fin_cases a <;> simp [ky] <;> omega

theorem v1091_at (a : Fin 8) (r : Fin 512) : trip.sl.v1091 c i arg2 arg3 arg14 h k f2 f3 (ix4 0 0 a r) = arg14.view.read _ (arg14.view.writes _ arg14.view.junk (trip.sl.H14_4 c i arg2 arg3 h k f2 f3)) (ix4 1 0 a r) :=
  readCov_at _ _ _ rfl _ _ fun a => by fin_cases a <;> simp

theorem v1093_at (a : Fin 8) (r : Fin 512) : trip.sl.v1093 c i arg2 arg3 arg14 h k f2 f3 (ix4 0 0 a r) = arg14.view.read _ (arg14.view.writes _ arg14.view.junk (trip.sl.H14_4 c i arg2 arg3 h k f2 f3)) (ix4 1 1 a r) :=
  readCov_at _ _ _ rfl _ _ fun a => by fin_cases a <;> simp

theorem v1117_at (x : Fin 256) (r : Fin 512) : trip.sl.v1117 c i arg2 arg3 arg12 h k f2 f3 (ix3 0 x r) = arg12.view.read _ (arg12.view.writes _ arg12.view.junk (trip.sl.H12_8 c i arg2 arg3 h k f2 f3)) (ix3 1 (ky (x.val + 0)) r) :=
  readCov_at _ _ _ rfl _ _ fun a => by fin_cases a <;> simp [ky] <;> omega

theorem v1133_at (x : Fin 256) (r : Fin 512) : trip.sl.v1133 c i arg2 arg3 arg12 h k f2 f3 (ix3 0 x r) = arg12.view.read _ (arg12.view.writes _ arg12.view.junk (trip.sl.H12_8 c i arg2 arg3 h k f2 f3)) (ix3 1 (ky (x.val + 256)) r) :=
  readCov_at _ _ _ rfl _ _ fun a => by fin_cases a <;> simp [ky] <;> omega

theorem v1149_at (x : Fin 256) (r : Fin 512) : trip.sl.v1149 c i arg2 arg3 arg12 h k f2 f3 (ix3 0 x r) = arg12.view.read _ (arg12.view.writes _ arg12.view.junk (trip.sl.H12_8 c i arg2 arg3 h k f2 f3)) (ix3 1 (ky (x.val + 512)) r) :=
  readCov_at _ _ _ rfl _ _ fun a => by fin_cases a <;> simp [ky] <;> omega

theorem v1165_at (x : Fin 256) (r : Fin 512) : trip.sl.v1165 c i arg2 arg3 arg12 h k f2 f3 (ix3 0 x r) = arg12.view.read _ (arg12.view.writes _ arg12.view.junk (trip.sl.H12_8 c i arg2 arg3 h k f2 f3)) (ix3 1 (ky (x.val + 768)) r) :=
  readCov_at _ _ _ rfl _ _ fun a => by fin_cases a <;> simp [ky] <;> omega

theorem ld_off8_at {sp : Space} (M : Memref sig .tc sp S32x8x512 .f32) (f : Bf (F := Ideal) c M) (inb : ∀ a, k0_off8 i k a + ![1, 8, 512] a ≤ S32x8x512.size a) (b : Fin 32) (hb : b.val = (4 * (i 1).val + 2 * k.val + 4)) (a : Fin 8) (r : Fin 512) :
    View.readAt (Elt Ideal) M.view (Rect.unit (s := S32x8x512) (k0_off8 i k) ![1, 8, 512] inb).toLoadRect f (ix3 (0 : Fin 1) a r) = M.view.read _ f (ix3 b a r) :=
  readAt_at _ _ _ (k0_off8_eq i k) _ _ fun a => by fin_cases a <;> simp [hb]

theorem ld_off9_at {sp : Space} (M : Memref sig .tc sp S32x256x512 .f32) (f : Bf (F := Ideal) c M) (inb : ∀ a, k0_off9 i k a + ![1, 256, 512] a ≤ S32x256x512.size a) (b : Fin 32) (hb : b.val = (4 * (i 1).val + 2 * k.val + 4)) (a : Fin 256) (r : Fin 512) :
    View.readAt (Elt Ideal) M.view (Rect.unit (s := S32x256x512) (k0_off9 i k) ![1, 256, 512] inb).toLoadRect f (ix3 (0 : Fin 1) a r) = M.view.read _ f (ix3 b a r) :=
  readAt_at _ _ _ (k0_off9_eq i k) _ _ fun a => by fin_cases a <;> simp [hb]

theorem ld_off11_at {sp : Space} (M : Memref sig .tc sp S32x8x512 .f32) (f : Bf (F := Ideal) c M) (inb : ∀ a, k0_off11 i k a + ![1, 8, 512] a ≤ S32x8x512.size a) (b : Fin 32) (hb : b.val = (4 * (i 1).val + 2 * k.val + 5)) (a : Fin 8) (r : Fin 512) :
    View.readAt (Elt Ideal) M.view (Rect.unit (s := S32x8x512) (k0_off11 i k) ![1, 8, 512] inb).toLoadRect f (ix3 (0 : Fin 1) a r) = M.view.read _ f (ix3 b a r) :=
  readAt_at _ _ _ (k0_off11_eq i k) _ _ fun a => by fin_cases a <;> simp [hb]

theorem ld_off12_at {sp : Space} (M : Memref sig .tc sp S32x256x512 .f32) (f : Bf (F := Ideal) c M) (inb : ∀ a, k0_off12 i k a + ![1, 256, 512] a ≤ S32x256x512.size a) (b : Fin 32) (hb : b.val = (4 * (i 1).val + 2 * k.val + 5)) (a : Fin 256) (r : Fin 512) :
    View.readAt (Elt Ideal) M.view (Rect.unit (s := S32x256x512) (k0_off12 i k) ![1, 256, 512] inb).toLoadRect f (ix3 (0 : Fin 1) a r) = M.view.read _ f (ix3 b a r) :=
  readAt_at _ _ _ (k0_off12_eq i k) _ _ fun a => by fin_cases a <;> simp [hb]

theorem ld_v_at (f : Bf (F := Ideal) c arg4) (inb : ∀ a, ![0, 0, 0, 0] a + ![1, 1, 256, 1024] a ≤ S1x1x256x1024.size a) (d : Fin 256) (x : Fin 1024) :
    View.readAt (Elt Ideal) arg4.view (Rect.unit (s := S1x1x256x1024) ![0, 0, 0, 0] ![1, 1, 256, 1024] inb).toLoadRect f (ix4 (0 : Fin 1) (0 : Fin 1) d x) = arg4.view.read _ f (ix4 0 0 d x) :=
  readAt_at _ _ _ rfl _ _ fun a => by fin_cases a <;> simp

theorem v1096_at (b : Fin 32) (hb : b.val = (4 * (i 1).val + 2 * k.val + 5)) (a : Fin 8) (r : Fin 512) : trip.sl.v1096 c i arg8 arg9 arg10 arg11 arg12 arg13 arg14 h k s (ix3 0 a r) = arg9.view.read _ s.a9 (ix3 b a r) :=
  readAt_at _ _ _ (k0_off11_eq i k) _ _ fun a => by fin_cases a <;> simp [hb]

theorem v1107_at (b : Fin 32) (hb : b.val = (4 * (i 1).val + 2 * k.val + 5)) (a : Fin 8) (r : Fin 512) : trip.sl.v1107 c i arg8 arg9 arg10 arg11 arg12 arg13 arg14 h k s (ix3 0 a r) = arg11.view.read _ s.a11 (ix3 b a r) :=
  readAt_at _ _ _ (k0_off11_eq i k) _ _ fun a => by fin_cases a <;> simp [hb]

theorem v1114_at (b : Fin 32) (hb : b.val = (4 * (i 1).val + 2 * k.val + 5)) (a : Fin 8) (r : Fin 512) : trip.sl.v1114 c i arg8 arg9 arg10 arg11 arg12 arg13 arg14 h k s (ix3 0 a r) = arg10.view.read _ s.a10 (ix3 b a r) :=
  readAt_at _ _ _ (k0_off11_eq i k) _ _ fun a => by fin_cases a <;> simp [hb]

theorem v1187_at (b : Fin 32) (hb : b.val = (4 * (i 1).val + 2 * k.val + 5)) (a : Fin 256) (r : Fin 512) : trip.sl.v1187 c i arg8 arg9 arg10 arg11 arg12 arg13 arg14 h k s (ix3 0 a r) = arg8.view.read _ s.a8 (ix3 b a r) :=
  readAt_at _ _ _ (k0_off12_eq i k) _ _ fun a => by fin_cases a <;> simp [hb]

/-- The new largest score of slot 0's block. -/
theorem nm0_at (b : Fin 32) (hb : b.val = (4 * (i 1).val + 2 * k.val + 4)) (a : Fin 8) (r : Fin 512) : trip.sl.r c i arg8 arg9 arg10 arg11 arg12 arg13 arg14 h k s (ix2 a r) = (max (arg9.view.read _ s.a9 (ix3 b a r)) (Finset.univ.fold max ⊥ fun x : Fin 8 => arg14.view.read _ s.a14 (ix4 0 0 x r))) := by
  pointwise [trip.sl.r, k0_pay25, k0_pay23, k0_pay24]
  simp only [v910_at, v912_at, v936_at, v952_at, v968_at, v984_at, ld_off8_at c i k _ _ _ b hb, ld_off9_at c i k _ _ _ b hb, ld_v_at, neg_inf]

theorem w0_0_at (b : Fin 32) (hb : b.val = (4 * (i 1).val + 2 * k.val + 4)) (x : Fin 256) (r : Fin 512) : arg13.view.read (Elt Ideal) (arg13.view.writes _ arg13.view.junk (trip.sl.H13_4 c i arg8 arg9 arg10 arg11 arg12 arg13 arg14 h k s)) (ix3 0 (ky (x.val + 0)) r)
    = W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 (ky (x.val + 0)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay31, k0_pay29, trip.sl.r_4, k0_pay25, k0_pay23, k0_pay24]
  simp only [nm0_at (hb := hb), v910_at, v912_at, v936_at, v952_at, v968_at, v984_at, ld_off8_at c i k _ _ _ b hb, ld_off9_at c i k _ _ _ b hb, ld_v_at, neg_inf]
  rfl

theorem w0_1_at (b : Fin 32) (hb : b.val = (4 * (i 1).val + 2 * k.val + 4)) (x : Fin 256) (r : Fin 512) : arg13.view.read (Elt Ideal) (arg13.view.writes _ arg13.view.junk (trip.sl.H13_4 c i arg8 arg9 arg10 arg11 arg12 arg13 arg14 h k s)) (ix3 0 (ky (x.val + 256)) r)
    = W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 (ky (x.val + 256)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay33, k0_pay32]
  simp only [nm0_at (hb := hb), v910_at, v912_at, v936_at, v952_at, v968_at, v984_at, ld_off8_at c i k _ _ _ b hb, ld_off9_at c i k _ _ _ b hb, ld_v_at, neg_inf]
  rfl

theorem w0_2_at (b : Fin 32) (hb : b.val = (4 * (i 1).val + 2 * k.val + 4)) (x : Fin 256) (r : Fin 512) : arg13.view.read (Elt Ideal) (arg13.view.writes _ arg13.view.junk (trip.sl.H13_4 c i arg8 arg9 arg10 arg11 arg12 arg13 arg14 h k s)) (ix3 0 (ky (x.val + 512)) r)
    = W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 (ky (x.val + 512)) r)) := by
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay36, k0_pay34]
  simp only [nm0_at (hb := hb), v910_at, v912_at, v936_at, v952_at, v968_at, v984_at, ld_off8_at c i k _ _ _ b hb, ld_off9_at c i k _ _ _ b hb, ld_v_at, neg_inf]
  rfl

theorem w0_3_at (b : Fin 32) (hb : b.val = (4 * (i 1).val + 2 * k.val + 4)) (x : Fin 256) (r : Fin 512) : arg13.view.read (Elt Ideal) (arg13.view.writes _ arg13.view.junk (trip.sl.H13_4 c i arg8 arg9 arg10 arg11 arg12 arg13 arg14 h k s)) (ix3 0 (ky (x.val + 768)) r)
    = W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 (ky (x.val + 768)) r)) := by
  refine (View.read_writes_cons_unit_of_mem _ _ _ _ _ _ (ix3 0 x r) rfl (by intro a; fin_cases a <;> simp [ky] <;> omega)).trans ?_
  pointwise [k0_pay39, k0_pay37]
  simp only [nm0_at (hb := hb), v910_at, v912_at, v936_at, v952_at, v968_at, v984_at, ld_off8_at c i k _ _ _ b hb, ld_off9_at c i k _ _ _ b hb, ld_v_at, neg_inf]
  rfl

theorem w0_at (b : Fin 32) (hb : b.val = (4 * (i 1).val + 2 * k.val + 4)) (x : Fin 1024) (r : Fin 512) : arg13.view.read (Elt Ideal) (arg13.view.writes _ arg13.view.junk (trip.sl.H13_4 c i arg8 arg9 arg10 arg11 arg12 arg13 arg14 h k s)) (ix3 0 x r)
    = W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 x r)) := by
  have hx := x.isLt
  by_cases h0 : x.val < 256
  · have e : x = ky ((⟨x.val - 0, by omega⟩ : Fin 256).val + 0) := Fin.ext (by simp only [ky]; omega)
    have e' : (⟨x.val % 8, Nat.mod_lt _ (by norm_num)⟩ : Fin 8) = ⟨(⟨x.val - 0, by omega⟩ : Fin 256).val % 8, Nat.mod_lt _ (by norm_num)⟩ := Fin.ext (by dsimp only; omega)
    rw [e']
    have := w0_0_at c i arg8 arg9 arg10 arg11 arg12 arg13 arg14 h k s b hb (⟨x.val - 0, by omega⟩ : Fin 256) r
    rwa [← e] at this
  by_cases h1 : x.val < 512
  · have e : x = ky ((⟨x.val - 256, by omega⟩ : Fin 256).val + 256) := Fin.ext (by simp only [ky]; omega)
    have e' : (⟨x.val % 8, Nat.mod_lt _ (by norm_num)⟩ : Fin 8) = ⟨(⟨x.val - 256, by omega⟩ : Fin 256).val % 8, Nat.mod_lt _ (by norm_num)⟩ := Fin.ext (by dsimp only; omega)
    rw [e']
    have := w0_1_at c i arg8 arg9 arg10 arg11 arg12 arg13 arg14 h k s b hb (⟨x.val - 256, by omega⟩ : Fin 256) r
    rwa [← e] at this
  by_cases h2 : x.val < 768
  · have e : x = ky ((⟨x.val - 512, by omega⟩ : Fin 256).val + 512) := Fin.ext (by simp only [ky]; omega)
    have e' : (⟨x.val % 8, Nat.mod_lt _ (by norm_num)⟩ : Fin 8) = ⟨(⟨x.val - 512, by omega⟩ : Fin 256).val % 8, Nat.mod_lt _ (by norm_num)⟩ := Fin.ext (by dsimp only; omega)
    rw [e']
    have := w0_2_at c i arg8 arg9 arg10 arg11 arg12 arg13 arg14 h k s b hb (⟨x.val - 512, by omega⟩ : Fin 256) r
    rwa [← e] at this
  have e : x = ky ((⟨x.val - 768, by omega⟩ : Fin 256).val + 768) := Fin.ext (by simp only [ky]; omega)
  have e' : (⟨x.val % 8, Nat.mod_lt _ (by norm_num)⟩ : Fin 8) = ⟨(⟨x.val - 768, by omega⟩ : Fin 256).val % 8, Nat.mod_lt _ (by norm_num)⟩ := Fin.ext (by dsimp only; omega)
  rw [e']
  have := w0_3_at c i arg8 arg9 arg10 arg11 arg12 arg13 arg14 h k s b hb (⟨x.val - 768, by omega⟩ : Fin 256) r
  rwa [← e] at this

theorem wl0_at (b : Fin 32) (hb : b.val = (4 * (i 1).val + 2 * k.val + 4)) (x : Fin 1024) (r : Fin 512) : trip.sl.v1002 c i arg8 arg9 arg10 arg11 arg12 arg13 arg14 h k s (ix3 0 x r) = W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 x r)) := by
  rw [← w0_at c i arg8 arg9 arg10 arg11 arg12 arg13 arg14 h k s b hb x r]
  exact readCov_at _ _ _ rfl _ _ fun a => by fin_cases a <;> simp

theorem pm0_at (b : Fin 32) (hb : b.val = (4 * (i 1).val + 2 * k.val + 4)) (a : Fin 8) (r : Fin 512) : trip.sl.v1022 c i arg8 arg9 arg10 arg11 arg12 arg13 arg14 h k s (ix3 0 a r) = (max (arg9.view.read _ s.a9 (ix3 b a r)) (Finset.univ.fold max ⊥ fun x : Fin 8 => arg14.view.read _ s.a14 (ix4 0 0 x r))) := by
  pointwise [trip.sl.v1022]
  simp only [nm0_at (hb := hb)]

theorem pl0_at (b : Fin 32) (hb : b.val = (4 * (i 1).val + 2 * k.val + 4)) (a : Fin 8) (r : Fin 512) : trip.sl.v1026 c i arg8 arg9 arg10 arg11 arg12 arg13 arg14 h k s (ix3 0 a r) = arg10.view.read _ s.a10 (ix3 b a r) * W (max (arg9.view.read _ s.a9 (ix3 b a r)) (Finset.univ.fold max ⊥ fun x : Fin 8 => arg14.view.read _ s.a14 (ix4 0 0 x r))) (arg9.view.read _ s.a9 (ix3 b a r))
    + (qsum (fun j => arg12.view.read _ s.a12 (ix3 0 (ky j) r)) (max (arg9.view.read _ s.a9 (ix3 b a r)) (Finset.univ.fold max ⊥ fun x : Fin 8 => arg14.view.read _ s.a14 (ix4 0 0 x r))) 0 a + qsum (fun j => arg12.view.read _ s.a12 (ix3 0 (ky j) r)) (max (arg9.view.read _ s.a9 (ix3 b a r)) (Finset.univ.fold max ⊥ fun x : Fin 8 => arg14.view.read _ s.a14 (ix4 0 0 x r))) 1 a + qsum (fun j => arg12.view.read _ s.a12 (ix3 0 (ky j) r)) (max (arg9.view.read _ s.a9 (ix3 b a r)) (Finset.univ.fold max ⊥ fun x : Fin 8 => arg14.view.read _ s.a14 (ix4 0 0 x r))) 2 a + qsum (fun j => arg12.view.read _ s.a12 (ix3 0 (ky j) r)) (max (arg9.view.read _ s.a9 (ix3 b a r)) (Finset.univ.fold max ⊥ fun x : Fin 8 => arg14.view.read _ s.a14 (ix4 0 0 x r))) 3 a) := by
  pointwise [trip.sl.v1026,trip.sl.r_7,k0_pay38,trip.sl.r_6,k0_pay35,k0_pay34,k0_pay32,k0_pay37,trip.sl.r_3,trip.sl.r_5,k0_pay28,k0_pay30,k0_pay29,k0_pay26,k0_pay25,k0_pay24,k0_pay23,trip.sl.r,k0_pay31]
  simp only [v910_at, v912_at, v936_at, v952_at, v968_at, v984_at, ld_off8_at c i k _ _ _ b hb, ld_off9_at c i k _ _ _ b hb, ld_v_at, neg_inf, add_assoc]
  rfl

theorem pa0_at (b : Fin 32) (hb : b.val = (4 * (i 1).val + 2 * k.val + 4)) (a : Fin 8) (r : Fin 512) : trip.sl.v1030 c i arg8 arg9 arg10 arg11 arg12 arg13 arg14 h k s (ix3 0 a r) = max (arg11.view.read _ s.a11 (ix3 b a r)) (max (arg14.view.read _ s.a14 (ix4 0 0 a r)) (0 - arg14.view.read _ s.a14 (ix4 0 1 a r))) := by
  pointwise [trip.sl.v1030,trip.sl.r_2,k0_pay27,k0_pay25,k0_pay23,k0_pay24]
  simp only [v910_at, v912_at, v936_at, v952_at, v968_at, v984_at, ld_off8_at c i k _ _ _ b hb, ld_off9_at c i k _ _ _ b hb, ld_v_at, neg_inf]

theorem po0_at (b : Fin 32) (hb : b.val = (4 * (i 1).val + 2 * k.val + 4)) (d : Fin 256) (r : Fin 512) (inb : ∀ a, k0_off9 i k a + S1x256x512.size a ≤ S32x256x512.size a) (inb' : ∀ a, (![0, 0, 0, 0] : Fin 4 → ℕ) a + S1x1x256x1024.size a ≤ S1x1x256x1024.size a) :
    k0_pay40 (trip.sl.r_1 c i arg8 arg9 arg10 arg11 arg12 arg13 arg14 h k s) (View.readAt (Elt Ideal) arg4.view (Rect.unit (s := S1x1x256x1024) ![0, 0, 0, 0] S1x1x256x1024.size inb').toLoadRect f4) (trip.sl.v1002 c i arg8 arg9 arg10 arg11 arg12 arg13 arg14 h k s) (View.readAt (Elt Ideal) arg8.view (Rect.unit (s := S32x256x512) (k0_off9 i k) S1x256x512.size inb).toLoadRect s.a8) (ix3 0 d r) = arg8.view.read _ s.a8 (ix3 b d r) * W (max (arg9.view.read _ s.a9 (ix3 b ⟨d.val % 8, Nat.mod_lt _ (by norm_num)⟩ r)) (Finset.univ.fold max ⊥ fun x : Fin 8 => arg14.view.read _ s.a14 (ix4 0 0 x r))) (arg9.view.read _ s.a9 (ix3 b ⟨d.val % 8, Nat.mod_lt _ (by norm_num)⟩ r))
    + ∑ x : Fin 1024, arg4.view.read _ f4 (ix4 0 0 d x) * W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 x r)) := by
  pointwise [k0_pay40, trip.sl.r_1, k0_pay26, k0_pay25, k0_pay23, k0_pay24]
  simp only [wl0_at (hb := hb), v910_at, v912_at, v936_at, v952_at, v968_at, v984_at, ld_off8_at c i k _ _ _ b hb, ld_off9_at c i k _ _ _ b hb, ld_v_at, neg_inf]
  rfl

/-- The new largest score of slot 1's block. -/
theorem nm1_at (b : Fin 32) (hb : b.val = (4 * (i 1).val + 2 * k.val + 5)) (a : Fin 8) (r : Fin 512) : trip.sl.r_8 c i arg2 arg3 arg8 arg9 arg10 arg11 arg12 arg13 arg14 h k f2 f3 s (ix2 a r) = (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) := by
  pointwise [trip.sl.r_8, k0_pay64, k0_pay62, k0_pay63]
  simp only [v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]

theorem w1_0_at (b : Fin 32) (hb : b.val = (4 * (i 1).val + 2 * k.val + 5)) (x : Fin 256) (r : Fin 512) : arg13.view.read (Elt Ideal) (arg13.view.writes _ arg13.view.junk (trip.sl.H13_8 c i arg2 arg3 arg8 arg9 arg10 arg11 arg12 arg13 arg14 h k f2 f3 s)) (ix3 1 (ky (x.val + 0)) r)
    = W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 (ky (x.val + 0)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay68, k0_pay67]
  simp only [nm1_at (hb := hb), v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]
  rfl

theorem w1_1_at (b : Fin 32) (hb : b.val = (4 * (i 1).val + 2 * k.val + 5)) (x : Fin 256) (r : Fin 512) : arg13.view.read (Elt Ideal) (arg13.view.writes _ arg13.view.junk (trip.sl.H13_8 c i arg2 arg3 arg8 arg9 arg10 arg11 arg12 arg13 arg14 h k f2 f3 s)) (ix3 1 (ky (x.val + 256)) r)
    = W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 (ky (x.val + 256)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay71, k0_pay69]
  simp only [nm1_at (hb := hb), v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]
  rfl

theorem w1_2_at (b : Fin 32) (hb : b.val = (4 * (i 1).val + 2 * k.val + 5)) (x : Fin 256) (r : Fin 512) : arg13.view.read (Elt Ideal) (arg13.view.writes _ arg13.view.junk (trip.sl.H13_8 c i arg2 arg3 arg8 arg9 arg10 arg11 arg12 arg13 arg14 h k f2 f3 s)) (ix3 1 (ky (x.val + 512)) r)
    = W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 (ky (x.val + 512)) r)) := by
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay75, k0_pay74, trip.sl.r_12, trip.sl.r_13, k0_pay72, k0_pay73]
  simp only [nm1_at (hb := hb), v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]
  rfl

theorem w1_3_at (b : Fin 32) (hb : b.val = (4 * (i 1).val + 2 * k.val + 5)) (x : Fin 256) (r : Fin 512) : arg13.view.read (Elt Ideal) (arg13.view.writes _ arg13.view.junk (trip.sl.H13_8 c i arg2 arg3 arg8 arg9 arg10 arg11 arg12 arg13 arg14 h k f2 f3 s)) (ix3 1 (ky (x.val + 768)) r)
    = W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 (ky (x.val + 768)) r)) := by
  refine (View.read_writes_cons_unit_of_mem _ _ _ _ _ _ (ix3 0 x r) rfl (by intro a; fin_cases a <;> simp [ky] <;> omega)).trans ?_
  pointwise [k0_pay78, k0_pay76]
  simp only [nm1_at (hb := hb), v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]
  rfl

theorem w1_at (b : Fin 32) (hb : b.val = (4 * (i 1).val + 2 * k.val + 5)) (x : Fin 1024) (r : Fin 512) : arg13.view.read (Elt Ideal) (arg13.view.writes _ arg13.view.junk (trip.sl.H13_8 c i arg2 arg3 arg8 arg9 arg10 arg11 arg12 arg13 arg14 h k f2 f3 s)) (ix3 1 x r)
    = W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 x r)) := by
  have hx := x.isLt
  by_cases h0 : x.val < 256
  · have e : x = ky ((⟨x.val - 0, by omega⟩ : Fin 256).val + 0) := Fin.ext (by simp only [ky]; omega)
    have e' : (⟨x.val % 8, Nat.mod_lt _ (by norm_num)⟩ : Fin 8) = ⟨(⟨x.val - 0, by omega⟩ : Fin 256).val % 8, Nat.mod_lt _ (by norm_num)⟩ := Fin.ext (by dsimp only; omega)
    rw [e']
    have := w1_0_at c i arg2 arg3 arg8 arg9 arg10 arg11 arg12 arg13 arg14 h k f2 f3 s b hb (⟨x.val - 0, by omega⟩ : Fin 256) r
    rwa [← e] at this
  by_cases h1 : x.val < 512
  · have e : x = ky ((⟨x.val - 256, by omega⟩ : Fin 256).val + 256) := Fin.ext (by simp only [ky]; omega)
    have e' : (⟨x.val % 8, Nat.mod_lt _ (by norm_num)⟩ : Fin 8) = ⟨(⟨x.val - 256, by omega⟩ : Fin 256).val % 8, Nat.mod_lt _ (by norm_num)⟩ := Fin.ext (by dsimp only; omega)
    rw [e']
    have := w1_1_at c i arg2 arg3 arg8 arg9 arg10 arg11 arg12 arg13 arg14 h k f2 f3 s b hb (⟨x.val - 256, by omega⟩ : Fin 256) r
    rwa [← e] at this
  by_cases h2 : x.val < 768
  · have e : x = ky ((⟨x.val - 512, by omega⟩ : Fin 256).val + 512) := Fin.ext (by simp only [ky]; omega)
    have e' : (⟨x.val % 8, Nat.mod_lt _ (by norm_num)⟩ : Fin 8) = ⟨(⟨x.val - 512, by omega⟩ : Fin 256).val % 8, Nat.mod_lt _ (by norm_num)⟩ := Fin.ext (by dsimp only; omega)
    rw [e']
    have := w1_2_at c i arg2 arg3 arg8 arg9 arg10 arg11 arg12 arg13 arg14 h k f2 f3 s b hb (⟨x.val - 512, by omega⟩ : Fin 256) r
    rwa [← e] at this
  have e : x = ky ((⟨x.val - 768, by omega⟩ : Fin 256).val + 768) := Fin.ext (by simp only [ky]; omega)
  have e' : (⟨x.val % 8, Nat.mod_lt _ (by norm_num)⟩ : Fin 8) = ⟨(⟨x.val - 768, by omega⟩ : Fin 256).val % 8, Nat.mod_lt _ (by norm_num)⟩ := Fin.ext (by dsimp only; omega)
  rw [e']
  have := w1_3_at c i arg2 arg3 arg8 arg9 arg10 arg11 arg12 arg13 arg14 h k f2 f3 s b hb (⟨x.val - 768, by omega⟩ : Fin 256) r
  rwa [← e] at this

theorem wl1_at (b : Fin 32) (hb : b.val = (4 * (i 1).val + 2 * k.val + 5)) (x : Fin 1024) (r : Fin 512) : trip.sl.v1183 c i arg2 arg3 arg8 arg9 arg10 arg11 arg12 arg13 arg14 h k f2 f3 s (ix3 0 x r) = W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 x r)) := by
  rw [← w1_at c i arg2 arg3 arg8 arg9 arg10 arg11 arg12 arg13 arg14 h k f2 f3 s b hb x r]
  exact readCov_at _ _ _ rfl _ _ fun a => by fin_cases a <;> simp

theorem pm1_at (b : Fin 32) (hb : b.val = (4 * (i 1).val + 2 * k.val + 5)) (a : Fin 8) (r : Fin 512) : k0_pay2 (trip.sl.r_8 c i arg2 arg3 arg8 arg9 arg10 arg11 arg12 arg13 arg14 h k f2 f3 s) (ix3 0 a r) = (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) := by
  pointwise [k0_pay2]
  simp only [nm1_at (hb := hb)]

theorem pl1_at (b : Fin 32) (hb : b.val = (4 * (i 1).val + 2 * k.val + 5)) (a : Fin 8) (r : Fin 512) : k0_pay3 (trip.sl.r_14 c i arg2 arg3 arg8 arg9 arg10 arg11 arg12 arg13 arg14 h k f2 f3 s) (ix3 0 a r) = arg10.view.read _ s.a10 (ix3 b a r) * W (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) (arg9.view.read _ s.a9 (ix3 b a r))
    + (qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 0 a + qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 1 a + qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 2 a + qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 3 a) := by
  pointwise [trip.sl.r_14,k0_pay77,k0_pay3,k0_pay76,trip.sl.r_11,trip.sl.r_12,trip.sl.r_13,k0_pay70,k0_pay72,k0_pay73,k0_pay69,k0_pay67,k0_pay74,trip.sl.r_8,k0_pay64,trip.sl.r_9,k0_pay65,k0_pay62,k0_pay63]
  simp only [v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf, add_assoc]
  rfl

theorem pa1_at (b : Fin 32) (hb : b.val = (4 * (i 1).val + 2 * k.val + 5)) (a : Fin 8) (r : Fin 512) : k0_pay4 (trip.sl.r_10 c i arg2 arg3 arg8 arg9 arg10 arg11 arg12 arg13 arg14 h k f2 f3 s) (ix3 0 a r) = max (arg11.view.read _ s.a11 (ix3 b a r)) (max (arg14.view.read _ (arg14.view.writes _ arg14.view.junk (trip.sl.H14_4 c i arg2 arg3 h k f2 f3)) (ix4 1 0 a r)) (0 - arg14.view.read _ (arg14.view.writes _ arg14.view.junk (trip.sl.H14_4 c i arg2 arg3 h k f2 f3)) (ix4 1 1 a r))) := by
  pointwise [trip.sl.r_10,k0_pay4,k0_pay66,k0_pay64,k0_pay62,k0_pay63]
  simp only [v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]

theorem po1_at (b : Fin 32) (hb : b.val = (4 * (i 1).val + 2 * k.val + 5)) (d : Fin 256) (r : Fin 512) :
    k0_pay1 (trip.sl.r_9 c i arg2 arg3 arg8 arg9 arg10 arg11 arg12 arg13 arg14 h k f2 f3 s) (trip.sl.r_15 c i arg2 arg3 arg4 arg8 arg9 arg10 arg11 arg12 arg13 arg14 h k f2 f3 f4 s) (trip.sl.v1187 c i arg8 arg9 arg10 arg11 arg12 arg13 arg14 h k s) (ix3 0 d r) = arg8.view.read _ s.a8 (ix3 b d r) * W (max (arg9.view.read _ s.a9 (ix3 b ⟨d.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg9.view.read _ s.a9 (ix3 b ⟨d.val % 8, Nat.mod_lt _ (by norm_num)⟩ r))
    + ∑ x : Fin 1024, arg4.view.read _ f4 (ix4 0 0 d x) * W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 x r)) := by
  pointwise [k0_pay1, trip.sl.r_15, k0_pay79, trip.sl.r_9, k0_pay65, k0_pay64, k0_pay62, k0_pay63]
  simp only [wl1_at (hb := hb), v1091_at, v1093_at, v1117_at, v1133_at, v1149_at, v1165_at, v1096_at c i arg8 arg9 arg10 arg11 arg12 arg13 arg14 h k s b hb, v1107_at c i arg8 arg9 arg10 arg11 arg12 arg13 arg14 h k s b hb, v1114_at c i arg8 arg9 arg10 arg11 arg12 arg13 arg14 h k s b hb, v1187_at c i arg8 arg9 arg10 arg11 arg12 arg13 arg14 h k s b hb, ld_v_at, neg_inf]
  rfl

end

end Cert.Proof.KernelIdeal
-- ==== Proof.KernelIdealTripVal.lean ====
/-
  What one trip of the loop does to the accumulators and the slots, and the loop: the blocks below the diagonal one by
  one take the chunk's keys in.
-/
module

public import proofs.«01_k».proof.Proof.KernelIdealTripPay

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (h : k0_cond2 i = 1#1)

/-- A block's accumulators in the scratch buffers. -/
def BlkS {c : Dev nD} {arg8 : Memref sig .tc .vmem S32x256x512 .f32} {arg9 arg10 arg11 : Memref sig .tc .vmem S32x8x512 .f32} {arg12 : Memref sig .tc .vmem S2x1024x512 .f32} {arg13 : Memref sig .tc .vmem S2x1024x512 .bf16} {arg14 : Memref sig .tc .vmem S2x2x8x512 .f32}
    (SC AB : ℕ → Fin 512 → ℕ → EReal) (v : ℕ → ℕ → EReal) (K : ℕ) (s : Scr (F := Ideal) c arg8 arg9 arg10 arg11 arg12 arg13 arg14) (b : Fin 32) : Prop :=
  BlkAt SC AB v K (arg8.view.read _ s.a8) (arg9.view.read _ s.a9) (arg10.view.read _ s.a10) (arg11.view.read _ s.a11) b

/-- A slot in the scratch buffers. -/
def SlotS {c : Dev nD} {arg8 : Memref sig .tc .vmem S32x256x512 .f32} {arg9 arg10 arg11 : Memref sig .tc .vmem S32x8x512 .f32} {arg12 : Memref sig .tc .vmem S2x1024x512 .f32} {arg13 : Memref sig .tc .vmem S2x1024x512 .bf16} {arg14 : Memref sig .tc .vmem S2x2x8x512 .f32}
    (SC AB : ℕ → Fin 512 → ℕ → EReal) (K n : ℕ) (s : Scr (F := Ideal) c arg8 arg9 arg10 arg11 arg12 arg13 arg14) (t : Fin 2) (b : ℕ) : Prop :=
  SlotAt SC AB K n (arg12.view.read _ s.a12) (arg14.view.read _ s.a14) t b

/-- The loop runs while some block lies below the diagonal. -/
theorem h27 (i : grid0.Coords) (h : k0_cond2 i = 1#1) : (i 1).val < 7 := by
  unfold k0_cond2 at h
  revert h
  generalize i 1 = j
  revert j
  decide

variable (k : Fin (k0_t2_loop i).trips) (f2 : Bf (F := Ideal) c arg2) (f3 : Bf (F := Ideal) c arg3) (f4 : Bf (F := Ideal) c arg4)
  (s : Scr (F := Ideal) c arg8 arg9 arg10 arg11 arg12 arg13 arg14)
  {SC AB : ℕ → Fin 512 → ℕ → EReal} {v : ℕ → ℕ → EReal} {K : ℕ}

theorem trip_a8 (inb : ∀ a, k0_off12 i k a + S1x256x512.size a ≤ S32x256x512.size a) : (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a8 = arg8.view.writes (Elt Ideal) s.a8 (⟨Rect.unit (s := S32x256x512) (k0_off12 i k) S1x256x512.size inb, k0_pay1 (trip.sl.r_9 c i arg2 arg3 arg8 arg9 arg10 arg11 arg12 arg13 arg14 h k f2 f3 s) (trip.sl.r_15 c i arg2 arg3 arg4 arg8 arg9 arg10 arg11 arg12 arg13 arg14 h k f2 f3 f4 s) (trip.sl.v1187 c i arg8 arg9 arg10 arg11 arg12 arg13 arg14 h k s)⟩ :: trip.sl.H8_1 c i arg4 arg8 arg9 arg10 arg11 arg12 arg13 arg14 h k f4 s) := by
  dsimp only [trip]

theorem trip_a9 (inb : ∀ a, k0_off11 i k a + S1x8x512.size a ≤ S32x8x512.size a) : (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a9 = arg9.view.writes (Elt Ideal) s.a9 (⟨Rect.unit (s := S32x8x512) (k0_off11 i k) S1x8x512.size inb, k0_pay2 (trip.sl.r_8 c i arg2 arg3 arg8 arg9 arg10 arg11 arg12 arg13 arg14 h k f2 f3 s)⟩ :: trip.sl.H9_1 c i arg8 arg9 arg10 arg11 arg12 arg13 arg14 h k s) := by
  dsimp only [trip]

theorem trip_a10 (inb : ∀ a, k0_off11 i k a + S1x8x512.size a ≤ S32x8x512.size a) : (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a10 = arg10.view.writes (Elt Ideal) s.a10 (⟨Rect.unit (s := S32x8x512) (k0_off11 i k) S1x8x512.size inb, k0_pay3 (trip.sl.r_14 c i arg2 arg3 arg8 arg9 arg10 arg11 arg12 arg13 arg14 h k f2 f3 s)⟩ :: trip.sl.H10_1 c i arg8 arg9 arg10 arg11 arg12 arg13 arg14 h k s) := by
  dsimp only [trip]

theorem trip_a11 (inb : ∀ a, k0_off11 i k a + S1x8x512.size a ≤ S32x8x512.size a) : (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a11 = arg11.view.writes (Elt Ideal) s.a11 (⟨Rect.unit (s := S32x8x512) (k0_off11 i k) S1x8x512.size inb, k0_pay4 (trip.sl.r_10 c i arg2 arg3 arg8 arg9 arg10 arg11 arg12 arg13 arg14 h k f2 f3 s)⟩ :: trip.sl.H11_1 c i arg8 arg9 arg10 arg11 arg12 arg13 arg14 h k s) := by
  dsimp only [trip]

theorem rd8_other (b : Fin 32) (h0 : b.val ≠ 4 * (i 1).val + 2 * k.val + 4) (h1 : b.val ≠ 4 * (i 1).val + 2 * k.val + 5) (a : Fin 256) (r : Fin 512) :
    arg8.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a8 (ix3 b a r) = arg8.view.read _ s.a8 (ix3 b a r) := by
  rw [trip_a8 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off12_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off12_eq i k) 0 (by simp; omega)).trans ?_
  exact (View.read_writes_cons_unit_of_not_mem _ _ _ _ [] _ (k0_off9_eq i k) 0 (by simp; omega))

theorem rd8_0 (b : Fin 32) (hb : b.val = 4 * (i 1).val + 2 * k.val + 4) (a : Fin 256) (r : Fin 512) :
    arg8.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a8 (ix3 b a r) = arg8.view.read _ s.a8 (ix3 b a r) * W (max (arg9.view.read _ s.a9 (ix3 b ⟨a.val % 8, Nat.mod_lt _ (by norm_num)⟩ r)) (Finset.univ.fold max ⊥ fun x : Fin 8 => arg14.view.read _ s.a14 (ix4 0 0 x r))) (arg9.view.read _ s.a9 (ix3 b ⟨a.val % 8, Nat.mod_lt _ (by norm_num)⟩ r)) + ∑ x : Fin 1024, arg4.view.read _ f4 (ix4 0 0 a x) * W (max (arg9.view.read _ s.a9 (ix3 b ⟨x.val % 8, Nat.mod_lt _ (by norm_num)⟩ r)) (Finset.univ.fold max ⊥ fun x : Fin 8 => arg14.view.read _ s.a14 (ix4 0 0 x r))) (arg12.view.read _ s.a12 (ix3 0 x r)) := by
  rw [trip_a8 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off12_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off12_eq i k) 0 (by simp [hb])).trans ?_
  refine (View.read_writes_cons_unit_of_mem _ _ _ _ _ _ (ix3 0 a r) (k0_off9_eq i k) (by intro a; fin_cases a <;> simp [hb])).trans ?_
  exact po0_at c i arg4 arg8 arg9 arg10 arg11 arg12 arg13 arg14 h k f4 s b hb a r _ _

theorem rd8_1 (b : Fin 32) (hb : b.val = 4 * (i 1).val + 2 * k.val + 5) (a : Fin 256) (r : Fin 512) :
    arg8.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a8 (ix3 b a r) = arg8.view.read _ s.a8 (ix3 b a r) * W (max (arg9.view.read _ s.a9 (ix3 b ⟨a.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg9.view.read _ s.a9 (ix3 b ⟨a.val % 8, Nat.mod_lt _ (by norm_num)⟩ r)) + ∑ x : Fin 1024, arg4.view.read _ f4 (ix4 0 0 a x) * W (max (arg9.view.read _ s.a9 (ix3 b ⟨x.val % 8, Nat.mod_lt _ (by norm_num)⟩ r)) (Finset.univ.fold max ⊥ fun x : Fin 8 => arg14.view.read _ (arg14.view.writes _ arg14.view.junk (trip.sl.H14_4 c i arg2 arg3 h k f2 f3)) (ix4 1 0 x r))) (arg12.view.read _ (arg12.view.writes _ arg12.view.junk (trip.sl.H12_8 c i arg2 arg3 h k f2 f3)) (ix3 1 x r)) := by
  rw [trip_a8 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off12_eq]; have hj : (i 1).val < 8 := (i 1).isLt; have hk : k.val < 14 - 2 * (i 1).val := lt_of_lt_of_eq k.isLt (trips_eq i); intro a; fin_cases a <;> simp <;> omega)]
  refine (View.read_writes_cons_unit_of_mem _ _ _ _ _ _ (ix3 0 a r) (k0_off12_eq i k) (by intro a; fin_cases a <;> simp [hb])).trans ?_
  exact po1_at c i arg2 arg3 arg4 arg8 arg9 arg10 arg11 arg12 arg13 arg14 h k f2 f3 f4 s b hb a r

theorem rd9_other (b : Fin 32) (h0 : b.val ≠ 4 * (i 1).val + 2 * k.val + 4) (h1 : b.val ≠ 4 * (i 1).val + 2 * k.val + 5) (a : Fin 8) (r : Fin 512) :
    arg9.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a9 (ix3 b a r) = arg9.view.read _ s.a9 (ix3 b a r) := by
  rw [trip_a9 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off11_eq i k) 0 (by simp; omega)).trans ?_
  exact (View.read_writes_cons_unit_of_not_mem _ _ _ _ [] _ (k0_off8_eq i k) 0 (by simp; omega))

theorem rd9_0 (b : Fin 32) (hb : b.val = 4 * (i 1).val + 2 * k.val + 4) (a : Fin 8) (r : Fin 512) :
    arg9.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a9 (ix3 b a r) = (max (arg9.view.read _ s.a9 (ix3 b a r)) (Finset.univ.fold max ⊥ fun x : Fin 8 => arg14.view.read _ s.a14 (ix4 0 0 x r))) := by
  rw [trip_a9 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off11_eq i k) 0 (by simp [hb])).trans ?_
  refine (View.read_writes_cons_unit_of_mem _ _ _ _ _ _ (ix3 0 a r) (k0_off8_eq i k) (by intro a; fin_cases a <;> simp [hb])).trans ?_
  exact pm0_at c i arg8 arg9 arg10 arg11 arg12 arg13 arg14 h k s b hb a r

theorem rd9_1 (b : Fin 32) (hb : b.val = 4 * (i 1).val + 2 * k.val + 5) (a : Fin 8) (r : Fin 512) :
    arg9.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a9 (ix3 b a r) = (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) := by
  rw [trip_a9 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_mem _ _ _ _ _ _ (ix3 0 a r) (k0_off11_eq i k) (by intro a; fin_cases a <;> simp [hb])).trans ?_
  exact pm1_at c i arg2 arg3 arg8 arg9 arg10 arg11 arg12 arg13 arg14 h k f2 f3 s b hb a r

theorem rd10_other (b : Fin 32) (h0 : b.val ≠ 4 * (i 1).val + 2 * k.val + 4) (h1 : b.val ≠ 4 * (i 1).val + 2 * k.val + 5) (a : Fin 8) (r : Fin 512) :
    arg10.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a10 (ix3 b a r) = arg10.view.read _ s.a10 (ix3 b a r) := by
  rw [trip_a10 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off11_eq i k) 0 (by simp; omega)).trans ?_
  exact (View.read_writes_cons_unit_of_not_mem _ _ _ _ [] _ (k0_off8_eq i k) 0 (by simp; omega))

theorem rd10_0 (b : Fin 32) (hb : b.val = 4 * (i 1).val + 2 * k.val + 4) (a : Fin 8) (r : Fin 512) :
    arg10.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a10 (ix3 b a r) = arg10.view.read _ s.a10 (ix3 b a r) * W (max (arg9.view.read _ s.a9 (ix3 b a r)) (Finset.univ.fold max ⊥ fun x : Fin 8 => arg14.view.read _ s.a14 (ix4 0 0 x r))) (arg9.view.read _ s.a9 (ix3 b a r)) + (qsum (fun j => arg12.view.read _ s.a12 (ix3 0 (ky j) r)) (max (arg9.view.read _ s.a9 (ix3 b a r)) (Finset.univ.fold max ⊥ fun x : Fin 8 => arg14.view.read _ s.a14 (ix4 0 0 x r))) 0 a + qsum (fun j => arg12.view.read _ s.a12 (ix3 0 (ky j) r)) (max (arg9.view.read _ s.a9 (ix3 b a r)) (Finset.univ.fold max ⊥ fun x : Fin 8 => arg14.view.read _ s.a14 (ix4 0 0 x r))) 1 a + qsum (fun j => arg12.view.read _ s.a12 (ix3 0 (ky j) r)) (max (arg9.view.read _ s.a9 (ix3 b a r)) (Finset.univ.fold max ⊥ fun x : Fin 8 => arg14.view.read _ s.a14 (ix4 0 0 x r))) 2 a + qsum (fun j => arg12.view.read _ s.a12 (ix3 0 (ky j) r)) (max (arg9.view.read _ s.a9 (ix3 b a r)) (Finset.univ.fold max ⊥ fun x : Fin 8 => arg14.view.read _ s.a14 (ix4 0 0 x r))) 3 a) := by
  rw [trip_a10 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off11_eq i k) 0 (by simp [hb])).trans ?_
  refine (View.read_writes_cons_unit_of_mem _ _ _ _ _ _ (ix3 0 a r) (k0_off8_eq i k) (by intro a; fin_cases a <;> simp [hb])).trans ?_
  exact pl0_at c i arg8 arg9 arg10 arg11 arg12 arg13 arg14 h k s b hb a r

theorem rd10_1 (b : Fin 32) (hb : b.val = 4 * (i 1).val + 2 * k.val + 5) (a : Fin 8) (r : Fin 512) :
    arg10.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a10 (ix3 b a r) = arg10.view.read _ s.a10 (ix3 b a r) * W (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) (arg9.view.read _ s.a9 (ix3 b a r)) + (qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 0 a + qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 1 a + qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 2 a + qsum (fun j => arg12.view.read _ (arg12.view.writes _ arg12.view.junk (trip.sl.H12_8 c i arg2 arg3 h k f2 f3)) (ix3 1 (ky j) r)) (max (arg9.view.read _ s.a9 (ix3 b a r)) (Finset.univ.fold max ⊥ fun x : Fin 8 => arg14.view.read _ (arg14.view.writes _ arg14.view.junk (trip.sl.H14_4 c i arg2 arg3 h k f2 f3)) (ix4 1 0 x r))) 3 a) := by
  rw [trip_a10 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_mem _ _ _ _ _ _ (ix3 0 a r) (k0_off11_eq i k) (by intro a; fin_cases a <;> simp [hb])).trans ?_
  exact pl1_at c i arg2 arg3 arg8 arg9 arg10 arg11 arg12 arg13 arg14 h k f2 f3 s b hb a r

theorem rd11_other (b : Fin 32) (h0 : b.val ≠ 4 * (i 1).val + 2 * k.val + 4) (h1 : b.val ≠ 4 * (i 1).val + 2 * k.val + 5) (a : Fin 8) (r : Fin 512) :
    arg11.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a11 (ix3 b a r) = arg11.view.read _ s.a11 (ix3 b a r) := by
  rw [trip_a11 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off11_eq i k) 0 (by simp; omega)).trans ?_
  exact (View.read_writes_cons_unit_of_not_mem _ _ _ _ [] _ (k0_off8_eq i k) 0 (by simp; omega))

theorem rd11_0 (b : Fin 32) (hb : b.val = 4 * (i 1).val + 2 * k.val + 4) (a : Fin 8) (r : Fin 512) :
    arg11.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a11 (ix3 b a r) = max (arg11.view.read _ s.a11 (ix3 b a r)) (max (arg14.view.read _ s.a14 (ix4 0 0 a r)) (0 - arg14.view.read _ s.a14 (ix4 0 1 a r))) := by
  rw [trip_a11 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_not_mem _ _ _ _ _ _ (k0_off11_eq i k) 0 (by simp [hb])).trans ?_
  refine (View.read_writes_cons_unit_of_mem _ _ _ _ _ _ (ix3 0 a r) (k0_off8_eq i k) (by intro a; fin_cases a <;> simp [hb])).trans ?_
  exact pa0_at c i arg8 arg9 arg10 arg11 arg12 arg13 arg14 h k s b hb a r

theorem rd11_1 (b : Fin 32) (hb : b.val = 4 * (i 1).val + 2 * k.val + 5) (a : Fin 8) (r : Fin 512) :
    arg11.view.read _ (trip c i arg2 harg2 arg3 harg3 arg4 harg4 arg5 harg5 arg6 harg6 arg7 harg7 arg8 harg8 arg9 harg9 arg10 harg10 arg11 harg11 arg12 harg12 arg13 harg13 arg14 harg14 h k f2 f3 f4 s).1.a11 (ix3 b a r) = max (arg11.view.read _ s.a11 (ix3 b a r)) (max (arg14.view.read _ (arg14.view.writes _ arg14.view.junk (trip.sl.H14_4 c i arg2 arg3 h k f2 f3)) (ix4 1 0 a r)) (0 - arg14.view.read _ (arg14.view.writes _ arg14.view.junk (trip.sl.H14_4 c i arg2 arg3 h k f2 f3)) (ix4 1 1 a r))) := by
  rw [trip_a11 c i arg2 harg2 arg3 harg3 arg4 harg4 arg5 harg5 arg6 harg6 arg7 harg7 arg8 harg8 arg9 harg9 arg10 harg10 arg11 harg11 arg12 harg12 arg13 harg13 arg14 harg14 h k f2 f3 f4 s (by rw [k0_off11_eq]; have hj : (i 1).val < 8 := (i 1).isLt; have hk : k.val < 14 - 2 * (i 1).val := lt_of_lt_of_eq k.isLt (trips_eq i); intro a; fin_cases a <;> simp <;> omega)]
  refine (View.read_writes_cons_unit_of_mem _ _ _ _ _ _ (ix3 0 a r) (k0_off11_eq i k) (by intro a; fin_cases a <;> simp [hb])).trans ?_
  exact pa1_at c i arg2 arg3 arg8 arg9 arg10 arg11 arg12 arg13 arg14 h k f2 f3 s b hb a r

/-- A trip attends slot 0's block. -/
theorem trip_blk0 (b : Fin 32) (hb : b.val = 4 * (i 1).val + 2 * k.val + 4) (good : ∀ b r, Good (SC b r))
    (hV : ∀ (d : Fin 256) (x : Fin 1024), arg4.view.read _ f4 (ix4 0 0 d x) = v d.val (K + x.val))
    (B : BlkS SC AB v K s b) (T : SlotS SC AB K 1024 s 0 b.val) : BlkS SC AB v (K + 1024) (trip c i arg2 harg2 arg3 harg3 arg4 harg4 arg5 harg5 arg6 harg6 arg7 harg7 arg8 harg8 arg9 harg9 arg10 harg10 arg11 harg11 arg12 harg12 arg13 harg13 arg14 harg14 h k f2 f3 f4 s).1 b := by
  intro r
  refine Col.attend (good _ r) (by norm_num) (B r) (T r) (V := fun d x => v d (K + x)) (fun _ _ _ => rfl)
    (R := fun m a => qsum (fun j => arg12.view.read _ s.a12 (ix3 0 (ky j) r)) m 0 a + qsum (fun j => arg12.view.read _ s.a12 (ix3 0 (ky j) r)) m 1 a + qsum (fun j => arg12.view.read _ s.a12 (ix3 0 (ky j) r)) m 2 a + qsum (fun j => arg12.view.read _ s.a12 (ix3 0 (ky j) r)) m 3 a)
    (g := fun d => ⟨d.val % 8, Nat.mod_lt _ (by norm_num)⟩) (gp := fun x => ⟨x % 8, Nat.mod_lt _ (by norm_num)⟩) (fun m => ls4 _ m) ?m ?l ?a ?o
  case m => exact fun a => rd9_0 c i arg2 harg2 arg3 harg3 arg4 harg4 arg5 harg5 arg6 harg6 arg7 harg7 arg8 harg8 arg9 harg9 arg10 harg10 arg11 harg11 arg12 harg12 arg13 harg13 arg14 harg14 h k f2 f3 f4 s b hb a r
  case l =>
    intro a
    refine (rd10_0 c i arg2 harg2 arg3 harg3 arg4 harg4 arg5 harg5 arg6 harg6 arg7 harg7 arg8 harg8 arg9 harg9 arg10 harg10 arg11 harg11 arg12 harg12 arg13 harg13 arg14 harg14 h k f2 f3 f4 s b hb a r).trans ?_
    rw [← rd9_0 c i arg2 harg2 arg3 harg3 arg4 harg4 arg5 harg5 arg6 harg6 arg7 harg7 arg8 harg8 arg9 harg9 arg10 harg10 arg11 harg11 arg12 harg12 arg13 harg13 arg14 harg14 h k f2 f3 f4 s b hb a r]
  case a => exact fun a => rd11_0 c i arg2 harg2 arg3 harg3 arg4 harg4 arg5 harg5 arg6 harg6 arg7 harg7 arg8 harg8 arg9 harg9 arg10 harg10 arg11 harg11 arg12 harg12 arg13 harg13 arg14 harg14 h k f2 f3 f4 s b hb a r
  case o =>
    intro a
    refine (rd8_0 c i arg2 harg2 arg3 harg3 arg4 harg4 arg5 harg5 arg6 harg6 arg7 harg7 arg8 harg8 arg9 harg9 arg10 harg10 arg11 harg11 arg12 harg12 arg13 harg13 arg14 harg14 h k f2 f3 f4 s b hb a r).trans ?_
    rw [Finset.sum_range]
    refine congrArg₂ (· + ·) ?_ (Finset.sum_congr rfl fun x _ => ?_)
    · rw [← rd9_0 c i arg2 harg2 arg3 harg3 arg4 harg4 arg5 harg5 arg6 harg6 arg7 harg7 arg8 harg8 arg9 harg9 arg10 harg10 arg11 harg11 arg12 harg12 arg13 harg13 arg14 harg14 h k f2 f3 f4 s b hb _ r]
    · rw [← rd9_0 c i arg2 harg2 arg3 harg3 arg4 harg4 arg5 harg5 arg6 harg6 arg7 harg7 arg8 harg8 arg9 harg9 arg10 harg10 arg11 harg11 arg12 harg12 arg13 harg13 arg14 harg14 h k f2 f3 f4 s b hb _ r, hV, show ky x.val = x from Fin.ext (Nat.mod_eq_of_lt x.isLt)]

/-- A trip attends slot 1's block. -/
theorem trip_blk1 (b : Fin 32) (hb : b.val = 4 * (i 1).val + 2 * k.val + 5) (good : ∀ b r, Good (SC b r))
    (hV : ∀ (d : Fin 256) (x : Fin 1024), arg4.view.read _ f4 (ix4 0 0 d x) = v d.val (K + x.val))
    (B : BlkS SC AB v K s b) (hS : ∀ b, 4 * (i 1).val + 4 ≤ b → b < 32 → ∀ r x, x < 1024 → SC b r (K + x) = raw (arg2.view.read _ f2) (arg3.view.read _ f3) b r x ∧ AB b r (K + x) = max (raw (arg2.view.read _ f2) (arg3.view.read _ f3) b r x) (0 - raw (arg2.view.read _ f2) (arg3.view.read _ f3) b r x)) : BlkS SC AB v (K + 1024) (trip c i arg2 harg2 arg3 harg3 arg4 harg4 arg5 harg5 arg6 harg6 arg7 harg7 arg8 harg8 arg9 harg9 arg10 harg10 arg11 harg11 arg12 harg12 arg13 harg13 arg14 harg14 h k f2 f3 f4 s).1 b := by
  intro r
  have T : SlotAt SC AB K 1024 (arg12.view.read _ (arg12.view.writes _ arg12.view.junk (trip.sl.H12_8 c i arg2 arg3 h k f2 f3))) (arg14.view.read _ (arg14.view.writes _ arg14.view.junk (trip.sl.H14_4 c i arg2 arg3 h k f2 f3))) 1 b.val := by
    rw [hb]
    exact trip_slot1 c i arg2 arg3 arg12 arg14 h k f2 f3 _ _ (hS _ (by omega) (by omega))
  refine Col.attend (good _ r) (by norm_num) (B r) (T r) (V := fun d x => v d (K + x)) (fun _ _ _ => rfl)
    (R := fun m a => qsum (fun j => arg12.view.read _ (arg12.view.writes _ arg12.view.junk (trip.sl.H12_8 c i arg2 arg3 h k f2 f3)) (ix3 1 (ky j) r)) m 0 a + qsum (fun j => arg12.view.read _ (arg12.view.writes _ arg12.view.junk (trip.sl.H12_8 c i arg2 arg3 h k f2 f3)) (ix3 1 (ky j) r)) m 1 a + qsum (fun j => arg12.view.read _ (arg12.view.writes _ arg12.view.junk (trip.sl.H12_8 c i arg2 arg3 h k f2 f3)) (ix3 1 (ky j) r)) m 2 a + qsum (fun j => arg12.view.read _ (arg12.view.writes _ arg12.view.junk (trip.sl.H12_8 c i arg2 arg3 h k f2 f3)) (ix3 1 (ky j) r)) m 3 a)
    (g := fun d => ⟨d.val % 8, Nat.mod_lt _ (by norm_num)⟩) (gp := fun x => ⟨x % 8, Nat.mod_lt _ (by norm_num)⟩) (fun m => ls4 _ m) ?m ?l ?a ?o
  case m => exact fun a => rd9_1 c i arg2 harg2 arg3 harg3 arg4 harg4 arg5 harg5 arg6 harg6 arg7 harg7 arg8 harg8 arg9 harg9 arg10 harg10 arg11 harg11 arg12 harg12 arg13 harg13 arg14 harg14 h k f2 f3 f4 s b hb a r
  case l =>
    intro a
    refine (rd10_1 c i arg2 harg2 arg3 harg3 arg4 harg4 arg5 harg5 arg6 harg6 arg7 harg7 arg8 harg8 arg9 harg9 arg10 harg10 arg11 harg11 arg12 harg12 arg13 harg13 arg14 harg14 h k f2 f3 f4 s b hb a r).trans ?_
    rw [← rd9_1 c i arg2 harg2 arg3 harg3 arg4 harg4 arg5 harg5 arg6 harg6 arg7 harg7 arg8 harg8 arg9 harg9 arg10 harg10 arg11 harg11 arg12 harg12 arg13 harg13 arg14 harg14 h k f2 f3 f4 s b hb a r]
  case a => exact fun a => rd11_1 c i arg2 harg2 arg3 harg3 arg4 harg4 arg5 harg5 arg6 harg6 arg7 harg7 arg8 harg8 arg9 harg9 arg10 harg10 arg11 harg11 arg12 harg12 arg13 harg13 arg14 harg14 h k f2 f3 f4 s b hb a r
  case o =>
    intro a
    refine (rd8_1 c i arg2 harg2 arg3 harg3 arg4 harg4 arg5 harg5 arg6 harg6 arg7 harg7 arg8 harg8 arg9 harg9 arg10 harg10 arg11 harg11 arg12 harg12 arg13 harg13 arg14 harg14 h k f2 f3 f4 s b hb a r).trans ?_
    rw [Finset.sum_range]
    refine congrArg₂ (· + ·) ?_ (Finset.sum_congr rfl fun x _ => ?_)
    · rw [← rd9_1 c i arg2 harg2 arg3 harg3 arg4 harg4 arg5 harg5 arg6 harg6 arg7 harg7 arg8 harg8 arg9 harg9 arg10 harg10 arg11 harg11 arg12 harg12 arg13 harg13 arg14 harg14 h k f2 f3 f4 s b hb _ r]
    · rw [← rd9_1 c i arg2 harg2 arg3 harg3 arg4 harg4 arg5 harg5 arg6 harg6 arg7 harg7 arg8 harg8 arg9 harg9 arg10 harg10 arg11 harg11 arg12 harg12 arg13 harg13 arg14 harg14 h k f2 f3 f4 s b hb _ r, hV, show ky x.val = x from Fin.ext (Nat.mod_eq_of_lt x.isLt)]

/-- A trip leaves the other blocks as they are. -/
theorem trip_other (b : Fin 32) (h0 : b.val ≠ 4 * (i 1).val + 2 * k.val + 4) (h1 : b.val ≠ 4 * (i 1).val + 2 * k.val + 5)
    (B : BlkS SC AB v K s b) : BlkS SC AB v K (trip c i arg2 harg2 arg3 harg3 arg4 harg4 arg5 harg5 arg6 harg6 arg7 harg7 arg8 harg8 arg9 harg9 arg10 harg10 arg11 harg11 arg12 harg12 arg13 harg13 arg14 harg14 h k f2 f3 f4 s).1 b := by
  have e9 := rd9_other c i arg2 harg2 arg3 harg3 arg4 harg4 arg5 harg5 arg6 harg6 arg7 harg7 arg8 harg8 arg9 harg9 arg10 harg10 arg11 harg11 arg12 harg12 arg13 harg13 arg14 harg14 h k f2 f3 f4 s b h0 h1
  have e10 := rd10_other c i arg2 harg2 arg3 harg3 arg4 harg4 arg5 harg5 arg6 harg6 arg7 harg7 arg8 harg8 arg9 harg9 arg10 harg10 arg11 harg11 arg12 harg12 arg13 harg13 arg14 harg14 h k f2 f3 f4 s b h0 h1
  have e11 := rd11_other c i arg2 harg2 arg3 harg3 arg4 harg4 arg5 harg5 arg6 harg6 arg7 harg7 arg8 harg8 arg9 harg9 arg10 harg10 arg11 harg11 arg12 harg12 arg13 harg13 arg14 harg14 h k f2 f3 f4 s b h0 h1
  have e8 := rd8_other c i arg2 harg2 arg3 harg3 arg4 harg4 arg5 harg5 arg6 harg6 arg7 harg7 arg8 harg8 arg9 harg9 arg10 harg10 arg11 harg11 arg12 harg12 arg13 harg13 arg14 harg14 h k f2 f3 f4 s b h0 h1
  intro r
  have := B r
  unfold BlkS BlkAt at B
  simp only [← e8, ← e9, ← e10, ← e11] at this
  exact this

/-- A trip, from the accumulators at key `K` for the two blocks it attends. -/
theorem trip_val (good : ∀ b r, Good (SC b r))
    (hV : ∀ (d : Fin 256) (x : Fin 1024), arg4.view.read _ f4 (ix4 0 0 d x) = v d.val (K + x.val))
    (hS : ∀ b, 4 * (i 1).val + 4 ≤ b → b < 32 → ∀ r x, x < 1024 → SC b r (K + x) = raw (arg2.view.read _ f2) (arg3.view.read _ f3) b r x ∧ AB b r (K + x) = max (raw (arg2.view.read _ f2) (arg3.view.read _ f3) b r x) (0 - raw (arg2.view.read _ f2) (arg3.view.read _ f3) b r x))
    (B : ∀ b : Fin 32, b.val = 4 * (i 1).val + 2 * k.val + 4 ∨ b.val = 4 * (i 1).val + 2 * k.val + 5 → BlkS SC AB v K s b)
    (T : SlotS SC AB K 1024 s 0 (4 * (i 1).val + 2 * k.val + 4)) :
    (∀ b : Fin 32, b.val = 4 * (i 1).val + 2 * k.val + 4 ∨ b.val = 4 * (i 1).val + 2 * k.val + 5 → BlkS SC AB v (K + 1024) (trip c i arg2 harg2 arg3 harg3 arg4 harg4 arg5 harg5 arg6 harg6 arg7 harg7 arg8 harg8 arg9 harg9 arg10 harg10 arg11 harg11 arg12 harg12 arg13 harg13 arg14 harg14 h k f2 f3 f4 s).1 b)
      ∧ SlotS SC AB K 1024 (trip c i arg2 harg2 arg3 harg3 arg4 harg4 arg5 harg5 arg6 harg6 arg7 harg7 arg8 harg8 arg9 harg9 arg10 harg10 arg11 harg11 arg12 harg12 arg13 harg13 arg14 harg14 h k f2 f3 f4 s).1 0 (min (4 * (i 1).val + 2 * k.val + 6) 31) := by
  have hj : (i 1).val < 8 := (i 1).isLt
  have hk : k.val < 14 - 2 * (i 1).val := lt_of_lt_of_eq k.isLt (trips_eq i)
  refine ⟨fun b hb => hb.elim (fun hb => ?_) (fun hb => ?_), ?_⟩
  · exact trip_blk0 c i arg2 harg2 arg3 harg3 arg4 harg4 arg5 harg5 arg6 harg6 arg7 harg7 arg8 harg8 arg9 harg9 arg10 harg10 arg11 harg11 arg12 harg12 arg13 harg13 arg14 harg14 h k f2 f3 f4 s b hb good hV (B b (Or.inl hb)) (by rw [hb]; exact T)
  · exact trip_blk1 c i arg2 harg2 arg3 harg3 arg4 harg4 arg5 harg5 arg6 harg6 arg7 harg7 arg8 harg8 arg9 harg9 arg10 harg10 arg11 harg11 arg12 harg12 arg13 harg13 arg14 harg14 h k f2 f3 f4 s b hb good hV (B b (Or.inr hb)) hS
  · unfold SlotS
    dsimp only [trip]
    exact trip_slot0 c i arg2 arg3 arg12 arg14 h k f2 f3 s.a12 s.a14 (hS _ (by omega) (by omega))

/-- The loop before trip `n`: the blocks it has attended have the chunk's keys in, the others not. -/
theorem loop_val (good : ∀ b r, Good (SC b r))
    (hV : ∀ (d : Fin 256) (x : Fin 1024), arg4.view.read _ f4 (ix4 0 0 d x) = v d.val (K + x.val))
    (hS : ∀ b, 4 * (i 1).val + 4 ≤ b → b < 32 → ∀ r x, x < 1024 → SC b r (K + x) = raw (arg2.view.read _ f2) (arg3.view.read _ f3) b r x ∧ AB b r (K + x) = max (raw (arg2.view.read _ f2) (arg3.view.read _ f3) b r x) (0 - raw (arg2.view.read _ f2) (arg3.view.read _ f3) b r x))
    (B : ∀ b : Fin 32, 4 * (i 1).val + 4 ≤ b.val → BlkS SC AB v K s b)
    (T : SlotS SC AB K 1024 s 0 (4 * (i 1).val + 4)) (n : ℕ) (hn : n ≤ (k0_t2_loop i).trips) :
    (∀ b : Fin 32, 4 * (i 1).val + 4 ≤ b.val → b.val < 4 * (i 1).val + 4 + 2 * n → BlkS SC AB v (K + 1024) (tripSt c i arg2 harg2 arg3 harg3 arg4 harg4 arg5 harg5 arg6 harg6 arg7 harg7 arg8 harg8 arg9 harg9 arg10 harg10 arg11 harg11 arg12 harg12 arg13 harg13 arg14 harg14 h f2 f3 f4 s n) b)
      ∧ (∀ b : Fin 32, 4 * (i 1).val + 4 + 2 * n ≤ b.val → BlkS SC AB v K (tripSt c i arg2 harg2 arg3 harg3 arg4 harg4 arg5 harg5 arg6 harg6 arg7 harg7 arg8 harg8 arg9 harg9 arg10 harg10 arg11 harg11 arg12 harg12 arg13 harg13 arg14 harg14 h f2 f3 f4 s n) b)
      ∧ SlotS SC AB K 1024 (tripSt c i arg2 harg2 arg3 harg3 arg4 harg4 arg5 harg5 arg6 harg6 arg7 harg7 arg8 harg8 arg9 harg9 arg10 harg10 arg11 harg11 arg12 harg12 arg13 harg13 arg14 harg14 h f2 f3 f4 s n) 0 (min (4 * (i 1).val + 2 * n + 4) 31) := by
  have hj : (i 1).val < 8 := (i 1).isLt
  induction n with
  | zero =>
    refine ⟨fun b h1 h2 => absurd h2 (by omega), fun b h1 => B b (by omega), ?_⟩
    rw [show min (4 * (i 1).val + 2 * 0 + 4) 31 = 4 * (i 1).val + 4 by rw [trips_eq] at hn; have := h27 i h; omega]
    exact T
  | succ n ih =>
    obtain ⟨I1, I2, I3⟩ := ih (by omega)
    have hlt : n < (k0_t2_loop i).trips := by omega
    have hk : n < 14 - 2 * (i 1).val := lt_of_lt_of_eq hlt (trips_eq i)
    have hts := tripSt_succ c i arg2 harg2 arg3 harg3 arg4 harg4 arg5 harg5 arg6 harg6 arg7 harg7 arg8 harg8 arg9 harg9 arg10 harg10 arg11 harg11 arg12 harg12 arg13 harg13 arg14 harg14 h f2 f3 f4 s ⟨n, hlt⟩
    dsimp only at hts
    rw [hts]
    rw [show min (4 * (i 1).val + 2 * n + 4) 31 = 4 * (i 1).val + 2 * n + 4 by omega] at I3
    obtain ⟨V1, V2⟩ := trip_val c i arg2 harg2 arg3 harg3 arg4 harg4 arg5 harg5 arg6 harg6 arg7 harg7 arg8 harg8 arg9 harg9 arg10 harg10 arg11 harg11 arg12 harg12 arg13 harg13 arg14 harg14 h ⟨n, hlt⟩ f2 f3 f4 (tripSt c i arg2 harg2 arg3 harg3 arg4 harg4 arg5 harg5 arg6 harg6 arg7 harg7 arg8 harg8 arg9 harg9 arg10 harg10 arg11 harg11 arg12 harg12 arg13 harg13 arg14 harg14 h f2 f3 f4 s n) good hV hS (fun b hb => I2 b (by dsimp only at hb; omega)) I3
    refine ⟨fun b h1 h2 => ?_, fun b h1 => ?_, ?_⟩
    · by_cases hb : b.val < 4 * (i 1).val + 4 + 2 * n
      · exact trip_other c i arg2 harg2 arg3 harg3 arg4 harg4 arg5 harg5 arg6 harg6 arg7 harg7 arg8 harg8 arg9 harg9 arg10 harg10 arg11 harg11 arg12 harg12 arg13 harg13 arg14 harg14 h ⟨n, hlt⟩ f2 f3 f4 _ b (by dsimp only; omega) (by dsimp only; omega) (I1 b h1 hb)
      · exact V1 b (by dsimp only; omega)
    · exact trip_other c i arg2 harg2 arg3 harg3 arg4 harg4 arg5 harg5 arg6 harg6 arg7 harg7 arg8 harg8 arg9 harg9 arg10 harg10 arg11 harg11 arg12 harg12 arg13 harg13 arg14 harg14 h ⟨n, hlt⟩ f2 f3 f4 _ b (by dsimp only; omega) (by dsimp only; omega) (I2 b (by omega))
    · rw [show 4 * (i 1).val + 2 * (n + 1) + 4 = 4 * (i 1).val + 2 * n + 6 by omega]
      exact V2

/-- The loop leaves the blocks up to the diagonal as they are. -/
theorem loop_low (b : Fin 32) (hb : b.val < 4 * (i 1).val + 4) (B : BlkS SC AB v K s b) (n : ℕ) : BlkS SC AB v K (tripSt c i arg2 harg2 arg3 harg3 arg4 harg4 arg5 harg5 arg6 harg6 arg7 harg7 arg8 harg8 arg9 harg9 arg10 harg10 arg11 harg11 arg12 harg12 arg13 harg13 arg14 harg14 h f2 f3 f4 s n) b := by
  induction n with
  | zero => exact B
  | succ n ih =>
    rw [tripSt]
    split
    · exact trip_other c i arg2 harg2 arg3 harg3 arg4 harg4 arg5 harg5 arg6 harg6 arg7 harg7 arg8 harg8 arg9 harg9 arg10 harg10 arg11 harg11 arg12 harg12 arg13 harg13 arg14 harg14 h _ f2 f3 f4 _ b (by dsimp only; omega) (by dsimp only; omega) ih
    · exact ih

end

end Cert.Proof.KernelIdeal
-- ==== Proof.KernelIdealTail.lean ====
/-
  The blocks below the diagonal: the first one's scores go to a slot, the loop attends them all.
-/
module

public import proofs.«01_k».proof.Proof.KernelIdealTripVal
public import proofs.«01_k».proof.Proof.KernelIdealRuns

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)
  (h : k0_cond2 i = 1#1)

variable (f2 : Bf (F := Ideal) c arg2) (f3 : Bf (F := Ideal) c arg3) (f4 : Bf (F := Ideal) c arg4) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14)
  (s : Scr (F := Ideal) c arg8 arg9 arg10 arg11 arg12 arg13 arg14)
  {SC AB : ℕ → Fin 512 → ℕ → EReal} {v : ℕ → ℕ → EReal} {K : ℕ}

/-- Quarter 0 of the scores. -/
theorem v793_at (i' : Fin 256) (r : Fin 512) : score.sl.v793 c i arg2 arg3 h f2 f3 (ix2 i' r) = raw (arg2.view.read _ f2) (arg3.view.read _ f3) (4 * (i 1).val + 4) r (i'.val + 0) := by
  have hj := h27 i h
  pointwise [score.sl.v793, score.sl.v792, score.sl.v790, score.sl.v789, score.sl.cst_536]
  refine Finset.sum_congr rfl fun x _ => ?_
  congr 1
  · refine readAt_at _ _ _ rfl _ _ fun a => ?_
    fin_cases a <;> simp [ky] <;> omega
  · refine readAt_at _ _ _ (k0_off6_eq i) _ _ fun a => ?_
    fin_cases a <;> simp [qpos, hd] <;> omega

/-- Quarter 1 of the scores. -/
theorem v803_at (i' : Fin 256) (r : Fin 512) : score.sl.v803 c i arg2 arg3 h f2 f3 (ix2 i' r) = raw (arg2.view.read _ f2) (arg3.view.read _ f3) (4 * (i 1).val + 4) r (i'.val + 256) := by
  have hj := h27 i h
  pointwise [score.sl.v803, score.sl.v802, score.sl.v790, score.sl.v789, score.sl.cst_536]
  refine Finset.sum_congr rfl fun x _ => ?_
  congr 1
  · refine readAt_at _ _ _ rfl _ _ fun a => ?_
    fin_cases a <;> simp [ky] <;> omega
  · refine readAt_at _ _ _ (k0_off6_eq i) _ _ fun a => ?_
    fin_cases a <;> simp [qpos, hd] <;> omega

/-- Quarter 2 of the scores. -/
theorem v815_at (i' : Fin 256) (r : Fin 512) : score.sl.v815 c i arg2 arg3 h f2 f3 (ix2 i' r) = raw (arg2.view.read _ f2) (arg3.view.read _ f3) (4 * (i 1).val + 4) r (i'.val + 512) := by
  have hj := h27 i h
  pointwise [score.sl.v815, score.sl.v814, score.sl.v790, score.sl.v789, score.sl.cst_536]
  refine Finset.sum_congr rfl fun x _ => ?_
  congr 1
  · refine readAt_at _ _ _ rfl _ _ fun a => ?_
    fin_cases a <;> simp [ky] <;> omega
  · refine readAt_at _ _ _ (k0_off6_eq i) _ _ fun a => ?_
    fin_cases a <;> simp [qpos, hd] <;> omega

/-- Quarter 3 of the scores. -/
theorem v827_at (i' : Fin 256) (r : Fin 512) : score.sl.v827 c i arg2 arg3 h f2 f3 (ix2 i' r) = raw (arg2.view.read _ f2) (arg3.view.read _ f3) (4 * (i 1).val + 4) r (i'.val + 768) := by
  have hj := h27 i h
  pointwise [score.sl.v827, score.sl.v826, score.sl.v790, score.sl.v789, score.sl.cst_536]
  refine Finset.sum_congr rfl fun x _ => ?_
  congr 1
  · refine readAt_at _ _ _ rfl _ _ fun a => ?_
    fin_cases a <;> simp [ky] <;> omega
  · refine readAt_at _ _ _ (k0_off6_eq i) _ _ fun a => ?_
    fin_cases a <;> simp [qpos, hd] <;> omega

theorem score_a12 (inb : ∀ a, (![0, 768, 0] : Fin 3 → ℕ) a + S1x256x512.size a ≤ S2x1024x512.size a) (inb' : ∀ a, (![0, 512, 0] : Fin 3 → ℕ) a + S1x256x512.size a ≤ S2x1024x512.size a) : (score c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a12 = arg12.view.writes (Elt Ideal) f12 (⟨Rect.unit (s := S2x1024x512) ![0, 768, 0] S1x256x512.size inb, score.sl.v830 c i arg2 arg3 h f2 f3⟩ :: ⟨Rect.unit (s := S2x1024x512) ![0, 512, 0] S1x256x512.size inb', score.sl.v818 c i arg2 arg3 h f2 f3⟩ :: score.sl.H12_2 c i arg2 arg3 h f2 f3) := by
  dsimp only [score]

theorem score_a14 (inb : ∀ a, (![0, 1, 0, 0] : Fin 4 → ℕ) a + S1x1x8x512.size a ≤ S2x2x8x512.size a) (inb' : ∀ a, (![0, 0, 0, 0] : Fin 4 → ℕ) a + S1x1x8x512.size a ≤ S2x2x8x512.size a) : (score c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a14 = arg14.view.writes (Elt Ideal) f14 [⟨Rect.unit (s := S2x2x8x512) ![0, 1, 0, 0] S1x1x8x512.size inb, score.sl.v842 c i arg2 arg3 h f2 f3⟩, ⟨Rect.unit (s := S2x2x8x512) ![0, 0, 0, 0] S1x1x8x512.size inb', score.sl.v839 c i arg2 arg3 h f2 f3⟩] := by
  dsimp only [score]

theorem S12_0 (inb : ∀ a, (![0, 768, 0] : Fin 3 → ℕ) a + S1x256x512.size a ≤ S2x1024x512.size a) (inb' : ∀ a, (![0, 512, 0] : Fin 3 → ℕ) a + S1x256x512.size a ≤ S2x1024x512.size a) (i' : Fin 256) (r : Fin 512) : arg12.view.read _ (arg12.view.writes (Elt Ideal) f12 (⟨Rect.unit (s := S2x1024x512) ![0, 768, 0] S1x256x512.size inb, score.sl.v830 c i arg2 arg3 h f2 f3⟩ :: ⟨Rect.unit (s := S2x1024x512) ![0, 512, 0] S1x256x512.size inb', score.sl.v818 c i arg2 arg3 h f2 f3⟩ :: score.sl.H12_2 c i arg2 arg3 h f2 f3)) (ix3 0 ⟨i'.val, by omega⟩ r) = raw (arg2.view.read _ f2) (arg3.view.read _ f3) (4 * (i 1).val + 4) r (i'.val + 0) := by
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [score.sl.v796, v793_at]

theorem S12_1 (inb : ∀ a, (![0, 768, 0] : Fin 3 → ℕ) a + S1x256x512.size a ≤ S2x1024x512.size a) (inb' : ∀ a, (![0, 512, 0] : Fin 3 → ℕ) a + S1x256x512.size a ≤ S2x1024x512.size a) (i' : Fin 256) (r : Fin 512) : arg12.view.read _ (arg12.view.writes (Elt Ideal) f12 (⟨Rect.unit (s := S2x1024x512) ![0, 768, 0] S1x256x512.size inb, score.sl.v830 c i arg2 arg3 h f2 f3⟩ :: ⟨Rect.unit (s := S2x1024x512) ![0, 512, 0] S1x256x512.size inb', score.sl.v818 c i arg2 arg3 h f2 f3⟩ :: score.sl.H12_2 c i arg2 arg3 h f2 f3)) (ix3 0 ⟨i'.val + 256, by omega⟩ r) = raw (arg2.view.read _ f2) (arg3.view.read _ f3) (4 * (i 1).val + 4) r (i'.val + 256) := by
  refine (View.read_writes_cons_unit_of_not_mem _ _ _ _ _ _ rfl 1 (by simp <;> omega)).trans ?_
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [score.sl.v806, v803_at]

theorem S12_2 (inb : ∀ a, (![0, 768, 0] : Fin 3 → ℕ) a + S1x256x512.size a ≤ S2x1024x512.size a) (inb' : ∀ a, (![0, 512, 0] : Fin 3 → ℕ) a + S1x256x512.size a ≤ S2x1024x512.size a) (i' : Fin 256) (r : Fin 512) : arg12.view.read _ (arg12.view.writes (Elt Ideal) f12 (⟨Rect.unit (s := S2x1024x512) ![0, 768, 0] S1x256x512.size inb, score.sl.v830 c i arg2 arg3 h f2 f3⟩ :: ⟨Rect.unit (s := S2x1024x512) ![0, 512, 0] S1x256x512.size inb', score.sl.v818 c i arg2 arg3 h f2 f3⟩ :: score.sl.H12_2 c i arg2 arg3 h f2 f3)) (ix3 0 ⟨i'.val + 512, by omega⟩ r) = raw (arg2.view.read _ f2) (arg3.view.read _ f3) (4 * (i 1).val + 4) r (i'.val + 512) := by
  refine (View.read_writes_cons_unit_of_not_mem _ _ _ _ _ _ rfl 1 (by simp <;> omega)).trans ?_
  refine (View.read_writes_cons_unit_of_mem _ _ _ _ _ _ (ix3 0 i' r) rfl (by intro a; fin_cases a <;> simp <;> omega)).trans ?_
  pointwise [score.sl.v818, v815_at]

theorem S12_3 (inb : ∀ a, (![0, 768, 0] : Fin 3 → ℕ) a + S1x256x512.size a ≤ S2x1024x512.size a) (inb' : ∀ a, (![0, 512, 0] : Fin 3 → ℕ) a + S1x256x512.size a ≤ S2x1024x512.size a) (i' : Fin 256) (r : Fin 512) : arg12.view.read _ (arg12.view.writes (Elt Ideal) f12 (⟨Rect.unit (s := S2x1024x512) ![0, 768, 0] S1x256x512.size inb, score.sl.v830 c i arg2 arg3 h f2 f3⟩ :: ⟨Rect.unit (s := S2x1024x512) ![0, 512, 0] S1x256x512.size inb', score.sl.v818 c i arg2 arg3 h f2 f3⟩ :: score.sl.H12_2 c i arg2 arg3 h f2 f3)) (ix3 0 ⟨i'.val + 768, by omega⟩ r) = raw (arg2.view.read _ f2) (arg3.view.read _ f3) (4 * (i 1).val + 4) r (i'.val + 768) := by
  refine (View.read_writes_cons_unit_of_mem _ _ _ _ _ _ (ix3 0 i' r) rfl (by intro a; fin_cases a <;> simp <;> omega)).trans ?_
  pointwise [score.sl.v830, v827_at]

theorem S14_0 (inb : ∀ a, (![0, 1, 0, 0] : Fin 4 → ℕ) a + S1x1x8x512.size a ≤ S2x2x8x512.size a) (inb' : ∀ a, (![0, 0, 0, 0] : Fin 4 → ℕ) a + S1x1x8x512.size a ≤ S2x2x8x512.size a) (a : Fin 8) (r : Fin 512) : arg14.view.read _ (arg14.view.writes (Elt Ideal) f14 [⟨Rect.unit (s := S2x2x8x512) ![0, 1, 0, 0] S1x1x8x512.size inb, score.sl.v842 c i arg2 arg3 h f2 f3⟩, ⟨Rect.unit (s := S2x2x8x512) ![0, 0, 0, 0] S1x1x8x512.size inb', score.sl.v839 c i arg2 arg3 h f2 f3⟩]) (ix4 0 0 a r)
    = max (max (max (qmx (raw (arg2.view.read _ f2) (arg3.view.read _ f3) (4 * (i 1).val + 4) r) 0 a) (qmx (raw (arg2.view.read _ f2) (arg3.view.read _ f3) (4 * (i 1).val + 4) r) 1 a)) (qmx (raw (arg2.view.read _ f2) (arg3.view.read _ f3) (4 * (i 1).val + 4) r) 2 a)) (qmx (raw (arg2.view.read _ f2) (arg3.view.read _ f3) (4 * (i 1).val + 4) r) 3 a) := by
  refine (View.read_writes_cons_unit_of_not_mem _ _ _ _ _ _ rfl 1 (by simp)).trans ?_
  refine (View.read_writes_cons_unit_of_mem _ _ _ _ _ _ (ix4 0 0 a r) rfl (by intro a; fin_cases a <;> simp)).trans ?_
  pointwise [score.sl.v839, score.sl.v835, score.sl.v823, score.sl.v832, score.sl.v811, score.sl.v820, score.sl.v798, score.sl.v808, score.sl.v797, score.sl.v807, score.sl.v819, score.sl.v831]
  simp only [v793_at, v803_at, v815_at, v827_at, neg_inf, pos_inf]
  rfl

theorem S14_1 (inb : ∀ a, (![0, 1, 0, 0] : Fin 4 → ℕ) a + S1x1x8x512.size a ≤ S2x2x8x512.size a) (inb' : ∀ a, (![0, 0, 0, 0] : Fin 4 → ℕ) a + S1x1x8x512.size a ≤ S2x2x8x512.size a) (a : Fin 8) (r : Fin 512) : arg14.view.read _ (arg14.view.writes (Elt Ideal) f14 [⟨Rect.unit (s := S2x2x8x512) ![0, 1, 0, 0] S1x1x8x512.size inb, score.sl.v842 c i arg2 arg3 h f2 f3⟩, ⟨Rect.unit (s := S2x2x8x512) ![0, 0, 0, 0] S1x1x8x512.size inb', score.sl.v839 c i arg2 arg3 h f2 f3⟩]) (ix4 0 1 a r)
    = min (min (min (qmn (raw (arg2.view.read _ f2) (arg3.view.read _ f3) (4 * (i 1).val + 4) r) 0 a) (qmn (raw (arg2.view.read _ f2) (arg3.view.read _ f3) (4 * (i 1).val + 4) r) 1 a)) (qmn (raw (arg2.view.read _ f2) (arg3.view.read _ f3) (4 * (i 1).val + 4) r) 2 a)) (qmn (raw (arg2.view.read _ f2) (arg3.view.read _ f3) (4 * (i 1).val + 4) r) 3 a) := by
  refine (View.read_writes_cons_unit_of_mem _ _ _ _ _ _ (ix4 0 0 a r) rfl (by intro a; fin_cases a <;> simp)).trans ?_
  pointwise [score.sl.v842, score.sl.v836, score.sl.v824, score.sl.v834, score.sl.v812, score.sl.v822, score.sl.v800, score.sl.v810, score.sl.v797, score.sl.v807, score.sl.v819, score.sl.v831]
  simp only [v793_at, v803_at, v815_at, v827_at, neg_inf, pos_inf]
  rfl

/-- The first block's slot. -/
theorem score_slot (hS : ∀ r x, x < 1024 → SC (4 * (i 1).val + 4) r (K + x) = raw (arg2.view.read _ f2) (arg3.view.read _ f3) (4 * (i 1).val + 4) r x ∧ AB (4 * (i 1).val + 4) r (K + x) = max (raw (arg2.view.read _ f2) (arg3.view.read _ f3) (4 * (i 1).val + 4) r x) (0 - raw (arg2.view.read _ f2) (arg3.view.read _ f3) (4 * (i 1).val + 4) r x)) :
    SlotS SC AB K 1024 (score c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1 0 (4 * (i 1).val + 4) := by
  unfold SlotS
  rw [score_a12 (inb := (by intro a; fin_cases a <;> simp)) (inb' := (by intro a; fin_cases a <;> simp)), score_a14 (inb := (by intro a; fin_cases a <;> simp)) (inb' := (by intro a; fin_cases a <;> simp))]
  exact SlotAt.of_raw hS (S12_0 c i arg2 arg3 arg12 h f2 f3 f12 _ _) (S12_1 c i arg2 arg3 arg12 h f2 f3 f12 _ _) (S12_2 c i arg2 arg3 arg12 h f2 f3 f12 _ _) (S12_3 c i arg2 arg3 arg12 h f2 f3 f12 _ _)
    (S14_0 c i arg2 arg3 arg14 h f2 f3 f14 _ _) (S14_1 c i arg2 arg3 arg14 h f2 f3 f14 _ _)

/-- It leaves the blocks as they are. -/
theorem score_blk (b : Fin 32) (B : BlkS SC AB v K s b) : BlkS SC AB v K (score c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1 b := by
  unfold BlkS at *
  dsimp only [score]
  exact B

/-- The loop's scratch is that after all trips. -/
theorem loopT_eq : (loopT c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14).1 = tripSt c i arg2 harg2 arg3 harg3 arg4 harg4 arg5 harg5 arg6 harg6 arg7 harg7 arg8 harg8 arg9 harg9 arg10 harg10 arg11 harg11 arg12 harg12 arg13 harg13 arg14 harg14 h f2 f3 f4 s (k0_t2_loop i).trips := by
  dsimp only [loopT]

/-- Below the diagonal every block takes the chunk's keys in. -/
theorem tail_val (good : ∀ b r, Good (SC b r))
    (hV : ∀ (d : Fin 256) (x : Fin 1024), arg4.view.read _ f4 (ix4 0 0 d x) = v d.val (K + x.val))
    (hS : ∀ b, 4 * (i 1).val + 4 ≤ b → b < 32 → ∀ r x, x < 1024 → SC b r (K + x) = raw (arg2.view.read _ f2) (arg3.view.read _ f3) b r x ∧ AB b r (K + x) = max (raw (arg2.view.read _ f2) (arg3.view.read _ f3) b r x) (0 - raw (arg2.view.read _ f2) (arg3.view.read _ f3) b r x))
    (B : ∀ b : Fin 32, 4 * (i 1).val + 4 ≤ b.val → BlkS SC AB v K s b) (b : Fin 32) (hb : 4 * (i 1).val + 4 ≤ b.val) : BlkS SC AB v (K + 1024) (tailO c i arg2 harg2 arg3 harg3 arg4 harg4 arg5 harg5 arg6 harg6 arg7 harg7 arg8 harg8 arg9 harg9 arg10 harg10 arg11 harg11 arg12 harg12 arg13 harg13 arg14 harg14 f2 f3 f4 s) b := by
  by_cases h : k0_cond2 i = 1#1
  · have hj := h27 i h
    unfold tailO
    rw [dif_pos h, loopT_eq]
    refine (loop_val c i arg2 harg2 arg3 harg3 arg4 harg4 arg5 harg5 arg6 harg6 arg7 harg7 arg8 harg8 arg9 harg9 arg10 harg10 arg11 harg11 arg12 harg12 arg13 harg13 arg14 harg14 h f2 f3 f4 _ good hV hS (fun b hb => score_blk c i arg2 harg2 arg3 harg3 arg4 harg4 arg5 harg5 arg6 harg6 arg7 harg7 arg8 harg8 arg9 harg9 arg10 harg10 arg11 harg11 arg12 harg12 arg13 harg13 arg14 harg14 h f2 f3 f4 s b (B b hb)) (score_slot c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14 (hS _ (by omega) (by omega))) _ (le_refl _)).1 b hb ?_
    rw [trips_eq]; have := b.isLt; omega
  · exfalso
    have hj : (i 1).val = 7 := by
      unfold k0_cond2 at h
      revert h
      generalize i 1 = j
      revert j
      decide
    have := b.isLt; omega

/-- The blocks up to the diagonal stay as they are. -/
theorem tail_low (b : Fin 32) (hb : b.val < 4 * (i 1).val + 4) (B : BlkS SC AB v K s b) : BlkS SC AB v K (tailO c i arg2 harg2 arg3 harg3 arg4 harg4 arg5 harg5 arg6 harg6 arg7 harg7 arg8 harg8 arg9 harg9 arg10 harg10 arg11 harg11 arg12 harg12 arg13 harg13 arg14 harg14 f2 f3 f4 s) b := by
  unfold tailO
  by_cases h : k0_cond2 i = 1#1
  · rw [dif_pos h, loopT_eq]
    exact loop_low c i arg2 harg2 arg3 harg3 arg4 harg4 arg5 harg5 arg6 harg6 arg7 harg7 arg8 harg8 arg9 harg9 arg10 harg10 arg11 harg11 arg12 harg12 arg13 harg13 arg14 harg14 h f2 f3 f4 _ b hb (score_blk c i arg2 harg2 arg3 harg3 arg4 harg4 arg5 harg5 arg6 harg6 arg7 harg7 arg8 harg8 arg9 harg9 arg10 harg10 arg11 harg11 arg12 harg12 arg13 harg13 arg14 harg14 h f2 f3 f4 s b B) _
  · rw [dif_neg h]; exact B

end

end Cert.Proof.KernelIdeal
-- ==== Proof.KernelIdealMidSlots.lean ====
/-
  The masked scores of the four blocks on the diagonal, element by element, as the slots hold them.
-/
module

public import proofs.«01_k».proof.Proof.KernelIdealTripVal
public import proofs.«01_k».proof.Proof.KernelIdealRuns

@[expose] public section

set_option maxRecDepth 8192

noncomputable section

namespace Cert.Proof.KernelIdeal

open Idealize.ShloMosaic
open Cert.KernelIdeal Cert.KernelIdeal.Gen
open Cert.Proof.Cols

/-- The lower triangle's mask, of words: key `x` is not after query `r % 256`. -/
theorem mask32 (x r : ℕ) (hx : x < 256) (hr : r < 512) : (BitVec.sle (BitVec.ofNat 32 x) (BitVec.ofNat 32 r &&& 255#32)) = decide (x ≤ r % 256) := by
  have e : BitVec.ofNat 32 r &&& 255#32 = BitVec.ofNat 32 (r % 256) := by
    apply BitVec.eq_of_toNat_eq
    rw [BitVec.toNat_and]
    simp only [BitVec.toNat_ofNat]
    rw [Nat.mod_eq_of_lt (by omega), show 255 % 2 ^ 32 = 2 ^ 8 - 1 by norm_num, Nat.and_two_pow_sub_one_eq_mod]
    omega
  rw [e, BitVec.sle]
  congr 1
  rw [BitVec.toInt_eq_toNat_of_lt (by simp; omega), BitVec.toInt_eq_toNat_of_lt (by simp; omega)]
  simp
  omega

/-- A choice by that mask. -/
theorem sel (x : Fin 256) (r : Fin 512) (a b : EReal) :
    Scalar.select (IntOp.cmpi CmpIPredicate.sle (BitVec.ofNat 32 x.val) (IntOp.andi (BitVec.ofNat 32 r.val) 255#32)) a b = if x.val ≤ r.val % 256 then a else b := by
  have e : IntOp.cmpi CmpIPredicate.sle (BitVec.ofNat 32 x.val) (IntOp.andi (BitVec.ofNat 32 r.val) 255#32) = BitVec.ofBool (decide (x.val ≤ r.val % 256)) :=
    congrArg BitVec.ofBool (mask32 x.val r.val x.isLt r.isLt)
  rw [e]
  by_cases h : x.val ≤ r.val % 256 <;> simp [h, Scalar.select]

/-- The score of the chunk's key `i` in column `r` of diagonal block `q`, `w` beyond the diagonal. -/
def rawm (A2 : S1x1x2x8192x256.Idx → EReal) (A3 : S1x1x1024x256.Idx → EReal) (b : ℕ) (r : Fin 512) (w : EReal) (q : ℕ) (i : ℕ) : EReal :=
  if i ≤ 256 * q + r.val % 256 then raw A2 A3 b r i else w

theorem rawm_of_le {A2 : S1x1x2x8192x256.Idx → EReal} {A3 : S1x1x1024x256.Idx → EReal} {b : ℕ} {r : Fin 512} {w : EReal} {q i : ℕ} (h : i ≤ 256 * q + r.val % 256) : rawm A2 A3 b r w q i = raw A2 A3 b r i := if_pos h

theorem rawm_last {A2 : S1x1x2x8192x256.Idx → EReal} {A3 : S1x1x1024x256.Idx → EReal} {b : ℕ} {r : Fin 512} {w : EReal} {q i j : ℕ} (hj : j = i + 256 * q) : rawm A2 A3 b r w q j = if i ≤ r.val % 256 then raw A2 A3 b r j else w := by
  unfold rawm; subst hj
  by_cases h : i ≤ r.val % 256
  · rw [if_pos h, if_pos (by omega)]
  · rw [if_neg h, if_neg (by omega)]

/-- A slot of a diagonal block's masked scores: `q + 1` quarters. -/
theorem SlotAt.of_diag {SC AB : ℕ → Fin 512 → ℕ → EReal} {K : ℕ} {X12 : S2x1024x512.Idx → EReal} {X14 : S2x2x8x512.Idx → EReal} {t : Fin 2} {b : ℕ}
    {A2 : S1x1x2x8192x256.Idx → EReal} {A3 : S1x1x1024x256.Idx → EReal} (q : ℕ)
    (hS : ∀ r i, i < 1024 → SC b r (K + i) = rawm A2 A3 b r ⊥ q i ∧ AB b r (K + i) = max (rawm A2 A3 b r ⊥ q i) (0 - rawm A2 A3 b r 0 q i)) (hq : q < 4)
    (h : ∀ p, p ≤ q → ∀ (i : Fin 256) r, X12 (ix3 t (ky (i.val + 256 * p)) r) = rawm A2 A3 b r ⊥ q (i.val + 256 * p))
    (hmx : ∀ r, (Finset.univ.sup fun s => X14 (ix4 t 0 s r)) = (Finset.range (256 * (q + 1))).sup (rawm A2 A3 b r ⊥ q))
    (hmn : ∀ r, (Finset.univ.sup fun s => 0 - X14 (ix4 t 1 s r)) = (Finset.range (256 * (q + 1))).sup fun i => 0 - rawm A2 A3 b r 0 q i) :
    SlotAt SC AB K (256 * (q + 1)) X12 X14 t b := by
  intro r
  refine ⟨fun i hi => ?_, (hmx r).trans ?_, (ab_of (hmx r) (hmn r)).trans ?_⟩
  · rw [(hS r i (by omega)).1]
    have e : i = (⟨i % 256, Nat.mod_lt _ (by norm_num)⟩ : Fin 256).val + 256 * (i / 256) := by dsimp only; omega
    have := h (i / 256) (by omega) ⟨i % 256, Nat.mod_lt _ (by norm_num)⟩ r
    rwa [← e] at this
  · exact Finset.sup_congr rfl fun i hi => (hS r i (by have := Finset.mem_range.mp hi; omega)).1.symm
  · exact Finset.sup_congr rfl fun i hi => (hS r i (by have := Finset.mem_range.mp hi; omega)).2.symm

section
variable (c : Dev nD) (i : grid0.Coords) (arg2 : Memref sig .tc .vmem S1x1x2x8192x256 .bf16) (arg3 : Memref sig .tc .vmem S1x1x1024x256 .bf16) (arg12 : Memref sig .tc .vmem S2x1024x512 .f32) (arg14 : Memref sig .tc .vmem S2x2x8x512 .f32)
  (f2 : Bf (F := Ideal) c arg2) (f3 : Bf (F := Ideal) c arg3) (f12 : Bf (F := Ideal) c arg12) (f14 : Bf (F := Ideal) c arg14)

/-- The scores of the first diagonal block. -/
theorem d0_0_b (inb : ∀ a, k0_off2 i a + S1x1x2x256x256.size a ≤ S1x1x2x8192x256.size a) (inb' : ∀ a, (![0, 0, 0, 0] : Fin 4 → ℕ) a + S1x1x256x256.size a ≤ S1x1x1024x256.size a) (i' : Fin 256) (r : Fin 512) : k0_pay171 (View.readAt (Elt Ideal) arg2.view (Rect.unit (s := S1x1x2x8192x256) (k0_off2 i) S1x1x2x256x256.size inb).toLoadRect f2) (View.readAt (Elt Ideal) arg3.view (Rect.unit (s := S1x1x1024x256) ![0, 0, 0, 0] S1x1x256x256.size inb').toLoadRect f3) (ix2 i' r) = rawm (arg2.view.read _ f2) (arg3.view.read _ f3) (4 * (i 1).val + 0) r ⊥ 0 (i'.val + 0) := by
  have hj : (i 1).val < 8 := (i 1).isLt
  pointwise [k0_pay171, k0_pay170, k0_pay169]
  rw [sel, neg_inf, rawm_last (i := i'.val) (by omega)]
  congr 1
  unfold raw
  refine Finset.sum_congr rfl fun x _ => ?_
  congr 1
  · refine readAt_at _ _ _ rfl _ _ fun a => ?_
    fin_cases a <;> simp [ky] <;> omega
  · refine readAt_at _ _ _ (k0_off2_eq i) _ _ fun a => ?_
    fin_cases a <;> simp [qpos, hd] <;> omega

/-- Its raw scores. -/
theorem d0_raw (inb : ∀ a, k0_off2 i a + S1x1x2x256x256.size a ≤ S1x1x2x8192x256.size a) (inb' : ∀ a, (![0, 0, 0, 0] : Fin 4 → ℕ) a + S1x1x256x256.size a ≤ S1x1x1024x256.size a) (i' : Fin 256) (r : Fin 512) : k0_pay169 (View.readAt (Elt Ideal) arg2.view (Rect.unit (s := S1x1x2x8192x256) (k0_off2 i) S1x1x2x256x256.size inb).toLoadRect f2) (View.readAt (Elt Ideal) arg3.view (Rect.unit (s := S1x1x1024x256) ![0, 0, 0, 0] S1x1x256x256.size inb').toLoadRect f3) (ix2 i' r) = raw (arg2.view.read _ f2) (arg3.view.read _ f3) (4 * (i 1).val + 0) r (i'.val + 0) := by
  have hj : (i 1).val < 8 := (i 1).isLt
  pointwise [k0_pay169]
  unfold raw
  refine Finset.sum_congr rfl fun x _ => ?_
  congr 1
  · refine readAt_at _ _ _ rfl _ _ fun a => ?_
    fin_cases a <;> simp [ky] <;> omega
  · refine readAt_at _ _ _ (k0_off2_eq i) _ _ fun a => ?_
    fin_cases a <;> simp [qpos, hd] <;> omega

theorem v45_at (i' : Fin 256) (r : Fin 512) : mid.sl.v45 c i arg2 arg3 f2 f3 (ix2 i' r) = raw (arg2.view.read _ f2) (arg3.view.read _ f3) (4 * (i 1).val + 1) r (i'.val + 0) := by
  have hj : (i 1).val < 8 := (i 1).isLt
  pointwise [mid.sl.v45, mid.sl.v44, mid.sl.v42, mid.sl.v41, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 0) _ _ fun a => ?_
    fin_cases a <;> simp [qpos, hd] <;> omega

theorem d1_0_b (i' : Fin 256) (r : Fin 512) : mid.sl.v45 c i arg2 arg3 f2 f3 (ix2 i' r) = rawm (arg2.view.read _ f2) (arg3.view.read _ f3) (4 * (i 1).val + 1) r ⊥ 1 (i'.val + 0) :=
  (v45_at c i arg2 arg3 f2 f3 i' r).trans (rawm_of_le (by omega)).symm

theorem d1_0_z (i' : Fin 256) (r : Fin 512) : mid.sl.v45 c i arg2 arg3 f2 f3 (ix2 i' r) = rawm (arg2.view.read _ f2) (arg3.view.read _ f3) (4 * (i 1).val + 1) r 0 1 (i'.val + 0) :=
  (v45_at c i arg2 arg3 f2 f3 i' r).trans (rawm_of_le (by omega)).symm

theorem v55_at (i' : Fin 256) (r : Fin 512) : mid.sl.v55 c i arg2 arg3 f2 f3 (ix2 i' r) = raw (arg2.view.read _ f2) (arg3.view.read _ f3) (4 * (i 1).val + 1) r (i'.val + 256) := by
  have hj : (i 1).val < 8 := (i 1).isLt
  pointwise [mid.sl.v55, mid.sl.v54, mid.sl.v42, mid.sl.v41, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 0) _ _ fun a => ?_
    fin_cases a <;> simp [qpos, hd] <;> omega

theorem d1_1_b (i' : Fin 256) (r : Fin 512) : mid.sl.v64 c i arg2 arg3 f2 f3 (ix2 i' r) = rawm (arg2.view.read _ f2) (arg3.view.read _ f3) (4 * (i 1).val + 1) r ⊥ 1 (i'.val + 256) := by
  pointwise [mid.sl.v64, mid.sl.v60, mid.sl.v56, mid.sl.v57, mid.sl.v58, mid.sl.v63, mid.sl.v61, mid.sl.cst_45, mid.sl.cst_44]
  rw [sel, v55_at, neg_inf, rawm_last (i := i'.val) (by omega)]

theorem d1_1_z (i' : Fin 256) (r : Fin 512) : mid.sl.v62 c i arg2 arg3 f2 f3 (ix2 i' r) = rawm (arg2.view.read _ f2) (arg3.view.read _ f3) (4 * (i 1).val + 1) r 0 1 (i'.val + 256) := by
  pointwise [mid.sl.v62, mid.sl.v60, mid.sl.v56, mid.sl.v57, mid.sl.v58, mid.sl.v63, mid.sl.v61, mid.sl.cst_45, mid.sl.cst_44]
  rw [sel, v55_at, rawm_last (i := i'.val) (by omega)]

theorem v205_at (i' : Fin 256) (r : Fin 512) : mid.sl.v205 c i arg2 arg3 f2 f3 (ix2 i' r) = raw (arg2.view.read _ f2) (arg3.view.read _ f3) (4 * (i 1).val + 2) r (i'.val + 0) := by
  have hj : (i 1).val < 8 := (i 1).isLt
  pointwise [mid.sl.v205, mid.sl.v44, mid.sl.v202, mid.sl.v201, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 1) _ _ fun a => ?_
    fin_cases a <;> simp [qpos, hd] <;> omega

theorem d2_0_b (i' : Fin 256) (r : Fin 512) : mid.sl.v205 c i arg2 arg3 f2 f3 (ix2 i' r) = rawm (arg2.view.read _ f2) (arg3.view.read _ f3) (4 * (i 1).val + 2) r ⊥ 2 (i'.val + 0) :=
  (v205_at c i arg2 arg3 f2 f3 i' r).trans (rawm_of_le (by omega)).symm

theorem d2_0_z (i' : Fin 256) (r : Fin 512) : mid.sl.v205 c i arg2 arg3 f2 f3 (ix2 i' r) = rawm (arg2.view.read _ f2) (arg3.view.read _ f3) (4 * (i 1).val + 2) r 0 2 (i'.val + 0) :=
  (v205_at c i arg2 arg3 f2 f3 i' r).trans (rawm_of_le (by omega)).symm

theorem v215_at (i' : Fin 256) (r : Fin 512) : mid.sl.v215 c i arg2 arg3 f2 f3 (ix2 i' r) = raw (arg2.view.read _ f2) (arg3.view.read _ f3) (4 * (i 1).val + 2) r (i'.val + 256) := by
  have hj : (i 1).val < 8 := (i 1).isLt
  pointwise [mid.sl.v215, mid.sl.v54, mid.sl.v202, mid.sl.v201, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 1) _ _ fun a => ?_
    fin_cases a <;> simp [qpos, hd] <;> omega

theorem d2_1_b (i' : Fin 256) (r : Fin 512) : mid.sl.v215 c i arg2 arg3 f2 f3 (ix2 i' r) = rawm (arg2.view.read _ f2) (arg3.view.read _ f3) (4 * (i 1).val + 2) r ⊥ 2 (i'.val + 256) :=
  (v215_at c i arg2 arg3 f2 f3 i' r).trans (rawm_of_le (by omega)).symm

theorem d2_1_z (i' : Fin 256) (r : Fin 512) : mid.sl.v215 c i arg2 arg3 f2 f3 (ix2 i' r) = rawm (arg2.view.read _ f2) (arg3.view.read _ f3) (4 * (i 1).val + 2) r 0 2 (i'.val + 256) :=
  (v215_at c i arg2 arg3 f2 f3 i' r).trans (rawm_of_le (by omega)).symm

theorem v227_at (i' : Fin 256) (r : Fin 512) : mid.sl.v227 c i arg2 arg3 f2 f3 (ix2 i' r) = raw (arg2.view.read _ f2) (arg3.view.read _ f3) (4 * (i 1).val + 2) r (i'.val + 512) := by
  have hj : (i 1).val < 8 := (i 1).isLt
  pointwise [mid.sl.v227, mid.sl.v226, mid.sl.v202, mid.sl.v201, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 1) _ _ fun a => ?_
    fin_cases a <;> simp [qpos, hd] <;> omega

theorem d2_2_b (i' : Fin 256) (r : Fin 512) : mid.sl.v236 c i arg2 arg3 f2 f3 (ix2 i' r) = rawm (arg2.view.read _ f2) (arg3.view.read _ f3) (4 * (i 1).val + 2) r ⊥ 2 (i'.val + 512) := by
  pointwise [mid.sl.v236, mid.sl.v60, mid.sl.v56, mid.sl.v57, mid.sl.v58, mid.sl.v63, mid.sl.v61, mid.sl.cst_45, mid.sl.cst_44]
  rw [sel, v227_at, neg_inf, rawm_last (i := i'.val) (by omega)]

theorem d2_2_z (i' : Fin 256) (r : Fin 512) : mid.sl.v234 c i arg2 arg3 f2 f3 (ix2 i' r) = rawm (arg2.view.read _ f2) (arg3.view.read _ f3) (4 * (i 1).val + 2) r 0 2 (i'.val + 512) := by
  pointwise [mid.sl.v234, mid.sl.v60, mid.sl.v56, mid.sl.v57, mid.sl.v58, mid.sl.v63, mid.sl.v61, mid.sl.cst_45, mid.sl.cst_44]
  rw [sel, v227_at, rawm_last (i := i'.val) (by omega)]

theorem v393_at (i' : Fin 256) (r : Fin 512) : mid.sl.v393 c i arg2 arg3 f2 f3 (ix2 i' r) = raw (arg2.view.read _ f2) (arg3.view.read _ f3) (4 * (i 1).val + 3) r (i'.val + 0) := by
  have hj : (i 1).val < 8 := (i 1).isLt
  pointwise [mid.sl.v393, mid.sl.v44, mid.sl.v390, mid.sl.v389, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 2) _ _ fun a => ?_
    fin_cases a <;> simp [qpos, hd] <;> omega

theorem d3_0_b (i' : Fin 256) (r : Fin 512) : mid.sl.v393 c i arg2 arg3 f2 f3 (ix2 i' r) = rawm (arg2.view.read _ f2) (arg3.view.read _ f3) (4 * (i 1).val + 3) r ⊥ 3 (i'.val + 0) :=
  (v393_at c i arg2 arg3 f2 f3 i' r).trans (rawm_of_le (by omega)).symm

theorem d3_0_z (i' : Fin 256) (r : Fin 512) : mid.sl.v393 c i arg2 arg3 f2 f3 (ix2 i' r) = rawm (arg2.view.read _ f2) (arg3.view.read _ f3) (4 * (i 1).val + 3) r 0 3 (i'.val + 0) :=
  (v393_at c i arg2 arg3 f2 f3 i' r).trans (rawm_of_le (by omega)).symm

theorem v403_at (i' : Fin 256) (r : Fin 512) : mid.sl.v403 c i arg2 arg3 f2 f3 (ix2 i' r) = raw (arg2.view.read _ f2) (arg3.view.read _ f3) (4 * (i 1).val + 3) r (i'.val + 256) := by
  have hj : (i 1).val < 8 := (i 1).isLt
  pointwise [mid.sl.v403, mid.sl.v54, mid.sl.v390, mid.sl.v389, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 2) _ _ fun a => ?_
    fin_cases a <;> simp [qpos, hd] <;> omega

theorem d3_1_b (i' : Fin 256) (r : Fin 512) : mid.sl.v403 c i arg2 arg3 f2 f3 (ix2 i' r) = rawm (arg2.view.read _ f2) (arg3.view.read _ f3) (4 * (i 1).val + 3) r ⊥ 3 (i'.val + 256) :=
  (v403_at c i arg2 arg3 f2 f3 i' r).trans (rawm_of_le (by omega)).symm

theorem d3_1_z (i' : Fin 256) (r : Fin 512) : mid.sl.v403 c i arg2 arg3 f2 f3 (ix2 i' r) = rawm (arg2.view.read _ f2) (arg3.view.read _ f3) (4 * (i 1).val + 3) r 0 3 (i'.val + 256) :=
  (v403_at c i arg2 arg3 f2 f3 i' r).trans (rawm_of_le (by omega)).symm

theorem v415_at (i' : Fin 256) (r : Fin 512) : mid.sl.v415 c i arg2 arg3 f2 f3 (ix2 i' r) = raw (arg2.view.read _ f2) (arg3.view.read _ f3) (4 * (i 1).val + 3) r (i'.val + 512) := by
  have hj : (i 1).val < 8 := (i 1).isLt
  pointwise [mid.sl.v415, mid.sl.v226, mid.sl.v390, mid.sl.v389, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 2) _ _ fun a => ?_
    fin_cases a <;> simp [qpos, hd] <;> omega

theorem d3_2_b (i' : Fin 256) (r : Fin 512) : mid.sl.v415 c i arg2 arg3 f2 f3 (ix2 i' r) = rawm (arg2.view.read _ f2) (arg3.view.read _ f3) (4 * (i 1).val + 3) r ⊥ 3 (i'.val + 512) :=
  (v415_at c i arg2 arg3 f2 f3 i' r).trans (rawm_of_le (by omega)).symm

theorem d3_2_z (i' : Fin 256) (r : Fin 512) : mid.sl.v415 c i arg2 arg3 f2 f3 (ix2 i' r) = rawm (arg2.view.read _ f2) (arg3.view.read _ f3) (4 * (i 1).val + 3) r 0 3 (i'.val + 512) :=
  (v415_at c i arg2 arg3 f2 f3 i' r).trans (rawm_of_le (by omega)).symm

theorem v427_at (i' : Fin 256) (r : Fin 512) : mid.sl.v427 c i arg2 arg3 f2 f3 (ix2 i' r) = raw (arg2.view.read _ f2) (arg3.view.read _ f3) (4 * (i 1).val + 3) r (i'.val + 768) := by
  have hj : (i 1).val < 8 := (i 1).isLt
  pointwise [mid.sl.v427, mid.sl.v426, mid.sl.v390, mid.sl.v389, mid.sl.cst_33]
  unfold raw
  refine Finset.sum_congr rfl fun x _ => ?_
  congr 1
  · refine readAt_at _ _ _ rfl _ _ fun a => ?_
    fin_cases a <;> simp [ky] <;> omega
  · refine readAt_at _ _ _ (k0_off3_eq i 2) _ _ fun a => ?_
    fin_cases a <;> simp [qpos, hd] <;> omega

theorem d3_3_b (i' : Fin 256) (r : Fin 512) : mid.sl.v436 c i arg2 arg3 f2 f3 (ix2 i' r) = rawm (arg2.view.read _ f2) (arg3.view.read _ f3) (4 * (i 1).val + 3) r ⊥ 3 (i'.val + 768) := by
  pointwise [mid.sl.v436, mid.sl.v60, mid.sl.v56, mid.sl.v57, mid.sl.v58, mid.sl.v63, mid.sl.v61, mid.sl.cst_45, mid.sl.cst_44]
  rw [sel, v427_at, neg_inf, rawm_last (i := i'.val) (by omega)]

theorem d3_3_z (i' : Fin 256) (r : Fin 512) : mid.sl.v434 c i arg2 arg3 f2 f3 (ix2 i' r) = rawm (arg2.view.read _ f2) (arg3.view.read _ f3) (4 * (i 1).val + 3) r 0 3 (i'.val + 768) := by
  pointwise [mid.sl.v434, mid.sl.v60, mid.sl.v56, mid.sl.v57, mid.sl.v58, mid.sl.v63, mid.sl.v61, mid.sl.cst_45, mid.sl.cst_44]
  rw [sel, v427_at, rawm_last (i := i'.val) (by omega)]

theorem M12_0_0 (i' : Fin 256) (r : Fin 512) : arg12.view.read _ (arg12.view.writes _ f12 (mid.sl.H12_3 c i arg2 arg3 f2 f3)) (ix3 0 (ky (i'.val + 0)) r) = rawm (arg2.view.read _ f2) (arg3.view.read _ f3) (4 * (i 1).val + 0) r ⊥ 0 (i'.val + 0) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix3 0 i' r) rfl (by intro a; fin_cases a <;> simp [ky] <;> omega)).trans ?_
  pointwise [k0_pay172]
  exact d0_0_b c i arg2 arg3 f2 f3 _ _ i' r

theorem M12_1_0 (i' : Fin 256) (r : Fin 512) : arg12.view.read _ (arg12.view.writes _ f12 (mid.sl.H12_6 c i arg2 arg3 f2 f3)) (ix3 1 (ky (i'.val + 0)) r) = rawm (arg2.view.read _ f2) (arg3.view.read _ f3) (4 * (i 1).val + 1) r ⊥ 1 (i'.val + 0) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp [ky] <;> omega)).trans ?_
  refine (View.read_writes_cons_unit_of_mem _ _ _ _ _ _ (ix3 0 i' r) rfl (by intro a; fin_cases a <;> simp [ky] <;> omega)).trans ?_
  pointwise [mid.sl.v48]
  exact d1_0_b c i arg2 arg3 f2 f3 i' r

theorem M12_1_1 (i' : Fin 256) (r : Fin 512) : arg12.view.read _ (arg12.view.writes _ f12 (mid.sl.H12_6 c i arg2 arg3 f2 f3)) (ix3 1 (ky (i'.val + 256)) r) = rawm (arg2.view.read _ f2) (arg3.view.read _ f3) (4 * (i 1).val + 1) r ⊥ 1 (i'.val + 256) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix3 0 i' r) rfl (by intro a; fin_cases a <;> simp [ky] <;> omega)).trans ?_
  pointwise [mid.sl.v67]
  exact d1_1_b c i arg2 arg3 f2 f3 i' r

theorem M12_2_0 (i' : Fin 256) (r : Fin 512) : arg12.view.read _ (arg12.view.writes _ f12 (mid.sl.H12_10 c i arg2 arg3 f2 f3)) (ix3 0 (ky (i'.val + 0)) r) = rawm (arg2.view.read _ f2) (arg3.view.read _ f3) (4 * (i 1).val + 2) r ⊥ 2 (i'.val + 0) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 i' r) rfl (by intro a; fin_cases a <;> simp [ky] <;> omega)).trans ?_
  pointwise [mid.sl.v208]
  exact d2_0_b c i arg2 arg3 f2 f3 i' r

theorem M12_2_1 (i' : Fin 256) (r : Fin 512) : arg12.view.read _ (arg12.view.writes _ f12 (mid.sl.H12_10 c i arg2 arg3 f2 f3)) (ix3 0 (ky (i'.val + 256)) r) = rawm (arg2.view.read _ f2) (arg3.view.read _ f3) (4 * (i 1).val + 2) r ⊥ 2 (i'.val + 256) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp [ky] <;> omega)).trans ?_
  refine (View.read_writes_cons_unit_of_mem _ _ _ _ _ _ (ix3 0 i' r) rfl (by intro a; fin_cases a <;> simp [ky] <;> omega)).trans ?_
  pointwise [mid.sl.v218]
  exact d2_1_b c i arg2 arg3 f2 f3 i' r

theorem M12_2_2 (i' : Fin 256) (r : Fin 512) : arg12.view.read _ (arg12.view.writes _ f12 (mid.sl.H12_10 c i arg2 arg3 f2 f3)) (ix3 0 (ky (i'.val + 512)) r) = rawm (arg2.view.read _ f2) (arg3.view.read _ f3) (4 * (i 1).val + 2) r ⊥ 2 (i'.val + 512) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix3 0 i' r) rfl (by intro a; fin_cases a <;> simp [ky] <;> omega)).trans ?_
  pointwise [mid.sl.v239]
  exact d2_2_b c i arg2 arg3 f2 f3 i' r

theorem M12_3_0 (i' : Fin 256) (r : Fin 512) : arg12.view.read _ (arg12.view.writes _ f12 (mid.sl.H12_10 c i arg2 arg3 f2 f3)) (ix3 1 (ky (i'.val + 0)) r) = rawm (arg2.view.read _ f2) (arg3.view.read _ f3) (4 * (i 1).val + 3) r ⊥ 3 (i'.val + 0) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 i' r) rfl (by intro a; fin_cases a <;> simp [ky] <;> omega)).trans ?_
  pointwise [mid.sl.v396]
  exact d3_0_b c i arg2 arg3 f2 f3 i' r

theorem M12_3_1 (i' : Fin 256) (r : Fin 512) : arg12.view.read _ (arg12.view.writes _ f12 (mid.sl.H12_10 c i arg2 arg3 f2 f3)) (ix3 1 (ky (i'.val + 256)) r) = rawm (arg2.view.read _ f2) (arg3.view.read _ f3) (4 * (i 1).val + 3) r ⊥ 3 (i'.val + 256) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 i' r) rfl (by intro a; fin_cases a <;> simp [ky] <;> omega)).trans ?_
  pointwise [mid.sl.v406]
  exact d3_1_b c i arg2 arg3 f2 f3 i' r

theorem M12_3_2 (i' : Fin 256) (r : Fin 512) : arg12.view.read _ (arg12.view.writes _ f12 (mid.sl.H12_10 c i arg2 arg3 f2 f3)) (ix3 1 (ky (i'.val + 512)) r) = rawm (arg2.view.read _ f2) (arg3.view.read _ f3) (4 * (i 1).val + 3) r ⊥ 3 (i'.val + 512) := by
  refine (View.read_writes_cons_unit_of_not_mem _ _ _ _ _ _ rfl 1 (by simp [ky] <;> omega)).trans ?_
  refine (View.read_writes_cons_unit_of_mem _ _ _ _ _ _ (ix3 0 i' r) rfl (by intro a; fin_cases a <;> simp [ky] <;> omega)).trans ?_
  pointwise [mid.sl.v418]
  exact d3_2_b c i arg2 arg3 f2 f3 i' r

theorem M12_3_3 (i' : Fin 256) (r : Fin 512) : arg12.view.read _ (arg12.view.writes _ f12 (mid.sl.H12_10 c i arg2 arg3 f2 f3)) (ix3 1 (ky (i'.val + 768)) r) = rawm (arg2.view.read _ f2) (arg3.view.read _ f3) (4 * (i 1).val + 3) r ⊥ 3 (i'.val + 768) := by
  refine (View.read_writes_cons_unit_of_mem _ _ _ _ _ _ (ix3 0 i' r) rfl (by intro a; fin_cases a <;> simp [ky] <;> omega)).trans ?_
  pointwise [mid.sl.v439]
  exact d3_3_b c i arg2 arg3 f2 f3 i' r

theorem M14_0_0 (a : Fin 8) (r : Fin 512) : arg14.view.read _ (arg14.view.writes _ f14 (mid.sl.H14_4 c i arg2 arg3 f2 f3)) (ix4 0 0 a r)
    = qmx (rawm (arg2.view.read _ f2) (arg3.view.read _ f3) (4 * (i 1).val + 0) r ⊥ 0) 0 a := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp)).trans ?_
  refine (View.read_writes_cons_unit_of_mem _ _ _ _ _ _ (ix4 0 0 a r) rfl (by intro a; fin_cases a <;> simp)).trans ?_
  pointwise [mid.sl.v32, mid.sl.r, k0_pay173]
  simp only [neg_inf]
  unfold qmx
  refine congrArg (Finset.fold max ⊥ · Finset.univ) (funext fun x => ?_)
  exact d0_0_b c i arg2 arg3 f2 f3 _ _ ⟨x.val * 8 + a.val, by omega⟩ r

theorem M14_0_1 (a : Fin 8) (r : Fin 512) : arg14.view.read _ (arg14.view.writes _ f14 (mid.sl.H14_4 c i arg2 arg3 f2 f3)) (ix4 0 1 a r)
    = qmn (rawm (arg2.view.read _ f2) (arg3.view.read _ f3) (4 * (i 1).val + 0) r 0 0) 0 a := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix4 0 0 a r) rfl (by intro a; fin_cases a <;> simp)).trans ?_
  pointwise [mid.sl.v35, mid.sl.r_1, k0_pay174, k0_pay170]
  simp only [pos_inf]
  unfold qmn
  refine congrArg (Finset.fold min ⊤ · Finset.univ) (funext fun x => ?_)
  rw [rawm_last (i := x.val * 8 + a.val) (by omega)]
  refine (sel ⟨x.val * 8 + a.val, by omega⟩ r _ 0).trans ?_
  exact if_congr Iff.rfl (d0_raw c i arg2 arg3 f2 f3 _ _ ⟨x.val * 8 + a.val, by omega⟩ r) rfl

theorem M14_1_0 (a : Fin 8) (r : Fin 512) : arg14.view.read _ (arg14.view.writes _ f14 (mid.sl.H14_6 c i arg2 arg3 f2 f3)) (ix4 1 0 a r)
    = max (qmx (rawm (arg2.view.read _ f2) (arg3.view.read _ f3) (4 * (i 1).val + 1) r ⊥ 1) 0 a) (qmx (rawm (arg2.view.read _ f2) (arg3.view.read _ f3) (4 * (i 1).val + 1) r ⊥ 1) 1 a) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp)).trans ?_
  refine (View.read_writes_cons_unit_of_mem _ _ _ _ _ _ (ix4 0 0 a r) rfl (by intro a; fin_cases a <;> simp)).trans ?_
  pointwise [mid.sl.v76, mid.sl.v72, mid.sl.v50, mid.sl.v69, mid.sl.v49, mid.sl.v68]
  simp only [d1_0_b, d1_1_b, neg_inf]
  rfl

theorem M14_1_1 (a : Fin 8) (r : Fin 512) : arg14.view.read _ (arg14.view.writes _ f14 (mid.sl.H14_6 c i arg2 arg3 f2 f3)) (ix4 1 1 a r)
    = min (qmn (rawm (arg2.view.read _ f2) (arg3.view.read _ f3) (4 * (i 1).val + 1) r 0 1) 0 a) (qmn (rawm (arg2.view.read _ f2) (arg3.view.read _ f3) (4 * (i 1).val + 1) r 0 1) 1 a) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix4 0 0 a r) rfl (by intro a; fin_cases a <;> simp)).trans ?_
  pointwise [mid.sl.v79, mid.sl.v73, mid.sl.v52, mid.sl.v71, mid.sl.v49, mid.sl.v70]
  simp only [d1_0_z, d1_1_z, pos_inf]
  rfl

theorem M14_2_0 (a : Fin 8) (r : Fin 512) : arg14.view.read _ (arg14.view.writes _ f14 (mid.sl.H14_8 c i arg2 arg3 f2 f3)) (ix4 0 0 a r)
    = max (max (qmx (rawm (arg2.view.read _ f2) (arg3.view.read _ f3) (4 * (i 1).val + 2) r ⊥ 2) 0 a) (qmx (rawm (arg2.view.read _ f2) (arg3.view.read _ f3) (4 * (i 1).val + 2) r ⊥ 2) 1 a)) (qmx (rawm (arg2.view.read _ f2) (arg3.view.read _ f3) (4 * (i 1).val + 2) r ⊥ 2) 2 a) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_not_mem _ _ _ _ _ _ rfl 1 (by simp)).trans ?_
  refine (View.read_writes_cons_unit_of_mem _ _ _ _ _ _ (ix4 0 0 a r) rfl (by intro a; fin_cases a <;> simp)).trans ?_
  pointwise [mid.sl.v248, mid.sl.v244, mid.sl.v223, mid.sl.v241, mid.sl.v210, mid.sl.v220, mid.sl.v209, mid.sl.v219, mid.sl.v240]
  simp only [d2_0_b, d2_1_b, d2_2_b, neg_inf]
  rfl

theorem M14_2_1 (a : Fin 8) (r : Fin 512) : arg14.view.read _ (arg14.view.writes _ f14 (mid.sl.H14_8 c i arg2 arg3 f2 f3)) (ix4 0 1 a r)
    = min (min (qmn (rawm (arg2.view.read _ f2) (arg3.view.read _ f3) (4 * (i 1).val + 2) r 0 2) 0 a) (qmn (rawm (arg2.view.read _ f2) (arg3.view.read _ f3) (4 * (i 1).val + 2) r 0 2) 1 a)) (qmn (rawm (arg2.view.read _ f2) (arg3.view.read _ f3) (4 * (i 1).val + 2) r 0 2) 2 a) := by
  refine (View.read_writes_cons_unit_of_not_mem _ _ _ _ _ _ rfl 0 (by simp)).trans ?_
  refine (View.read_writes_cons_unit_of_not_mem _ _ _ _ _ _ rfl 0 (by simp)).trans ?_
  refine (View.read_writes_cons_unit_of_mem _ _ _ _ _ _ (ix4 0 0 a r) rfl (by intro a; fin_cases a <;> simp)).trans ?_
  pointwise [mid.sl.v251, mid.sl.v245, mid.sl.v224, mid.sl.v243, mid.sl.v212, mid.sl.v222, mid.sl.v209, mid.sl.v219, mid.sl.v242]
  simp only [d2_0_z, d2_1_z, d2_2_z, pos_inf]
  rfl

theorem M14_3_0 (a : Fin 8) (r : Fin 512) : arg14.view.read _ (arg14.view.writes _ f14 (mid.sl.H14_8 c i arg2 arg3 f2 f3)) (ix4 1 0 a r)
    = max (max (max (qmx (rawm (arg2.view.read _ f2) (arg3.view.read _ f3) (4 * (i 1).val + 3) r ⊥ 3) 0 a) (qmx (rawm (arg2.view.read _ f2) (arg3.view.read _ f3) (4 * (i 1).val + 3) r ⊥ 3) 1 a)) (qmx (rawm (arg2.view.read _ f2) (arg3.view.read _ f3) (4 * (i 1).val + 3) r ⊥ 3) 2 a)) (qmx (rawm (arg2.view.read _ f2) (arg3.view.read _ f3) (4 * (i 1).val + 3) r ⊥ 3) 3 a) := by
  refine (View.read_writes_cons_unit_of_not_mem _ _ _ _ _ _ rfl 1 (by simp)).trans ?_
  refine (View.read_writes_cons_unit_of_mem _ _ _ _ _ _ (ix4 0 0 a r) rfl (by intro a; fin_cases a <;> simp)).trans ?_
  pointwise [mid.sl.v448, mid.sl.v444, mid.sl.v423, mid.sl.v441, mid.sl.v411, mid.sl.v420, mid.sl.v398, mid.sl.v408, mid.sl.v397, mid.sl.v407, mid.sl.v419, mid.sl.v440]
  simp only [d3_0_b, d3_1_b, d3_2_b, d3_3_b, neg_inf]
  rfl

theorem M14_3_1 (a : Fin 8) (r : Fin 512) : arg14.view.read _ (arg14.view.writes _ f14 (mid.sl.H14_8 c i arg2 arg3 f2 f3)) (ix4 1 1 a r)
    = min (min (min (qmn (rawm (arg2.view.read _ f2) (arg3.view.read _ f3) (4 * (i 1).val + 3) r 0 3) 0 a) (qmn (rawm (arg2.view.read _ f2) (arg3.view.read _ f3) (4 * (i 1).val + 3) r 0 3) 1 a)) (qmn (rawm (arg2.view.read _ f2) (arg3.view.read _ f3) (4 * (i 1).val + 3) r 0 3) 2 a)) (qmn (rawm (arg2.view.read _ f2) (arg3.view.read _ f3) (4 * (i 1).val + 3) r 0 3) 3 a) := by
  refine (View.read_writes_cons_unit_of_mem _ _ _ _ _ _ (ix4 0 0 a r) rfl (by intro a; fin_cases a <;> simp)).trans ?_
  pointwise [mid.sl.v451, mid.sl.v445, mid.sl.v424, mid.sl.v443, mid.sl.v412, mid.sl.v422, mid.sl.v400, mid.sl.v410, mid.sl.v397, mid.sl.v407, mid.sl.v419, mid.sl.v442]
  simp only [d3_0_z, d3_1_z, d3_2_z, d3_3_z, pos_inf]
  rfl

/-- Diagonal block 0's slot. -/
theorem mid_slot0 {SC AB : ℕ → Fin 512 → ℕ → EReal} {K : ℕ}
    (hS : ∀ r x, x < 1024 → SC (4 * (i 1).val + 0) r (K + x) = rawm (arg2.view.read _ f2) (arg3.view.read _ f3) (4 * (i 1).val + 0) r ⊥ 0 x ∧ AB (4 * (i 1).val + 0) r (K + x) = max (rawm (arg2.view.read _ f2) (arg3.view.read _ f3) (4 * (i 1).val + 0) r ⊥ 0 x) (0 - rawm (arg2.view.read _ f2) (arg3.view.read _ f3) (4 * (i 1).val + 0) r 0 0 x)) :
    SlotAt SC AB K 256 (arg12.view.read _ (arg12.view.writes _ f12 (mid.sl.H12_3 c i arg2 arg3 f2 f3))) (arg14.view.read _ (arg14.view.writes _ f14 (mid.sl.H14_4 c i arg2 arg3 f2 f3))) 0 (4 * (i 1).val + 0) := by
  refine SlotAt.of_diag 0 hS (by norm_num) (fun p hp => ?_) (fun r => ?_) (fun r => ?_)
  · obtain rfl : p = 0 := by omega
    exact M12_0_0 c i arg2 arg3 arg12 f2 f3 f12
  · simp only [M14_0_0]; exact mx1 _
  · simp only [M14_0_1]; exact mn1 _

/-- Diagonal block 1's slot. -/
theorem mid_slot1 {SC AB : ℕ → Fin 512 → ℕ → EReal} {K : ℕ}
    (hS : ∀ r x, x < 1024 → SC (4 * (i 1).val + 1) r (K + x) = rawm (arg2.view.read _ f2) (arg3.view.read _ f3) (4 * (i 1).val + 1) r ⊥ 1 x ∧ AB (4 * (i 1).val + 1) r (K + x) = max (rawm (arg2.view.read _ f2) (arg3.view.read _ f3) (4 * (i 1).val + 1) r ⊥ 1 x) (0 - rawm (arg2.view.read _ f2) (arg3.view.read _ f3) (4 * (i 1).val + 1) r 0 1 x)) :
    SlotAt SC AB K 512 (arg12.view.read _ (arg12.view.writes _ f12 (mid.sl.H12_6 c i arg2 arg3 f2 f3))) (arg14.view.read _ (arg14.view.writes _ f14 (mid.sl.H14_6 c i arg2 arg3 f2 f3))) 1 (4 * (i 1).val + 1) := by
  refine SlotAt.of_diag 1 hS (by norm_num) (fun p hp => ?_) (fun r => ?_) (fun r => ?_)
  · obtain rfl | rfl : p = 0 ∨ p = 1 := by omega
    · exact M12_1_0 c i arg2 arg3 arg12 f2 f3 f12
    · exact M12_1_1 c i arg2 arg3 arg12 f2 f3 f12
  · simp only [M14_1_0]; exact mx2 _
  · simp only [M14_1_1]; exact mn2 _

/-- Diagonal block 2's slot. -/
theorem mid_slot2 {SC AB : ℕ → Fin 512 → ℕ → EReal} {K : ℕ}
    (hS : ∀ r x, x < 1024 → SC (4 * (i 1).val + 2) r (K + x) = rawm (arg2.view.read _ f2) (arg3.view.read _ f3) (4 * (i 1).val + 2) r ⊥ 2 x ∧ AB (4 * (i 1).val + 2) r (K + x) = max (rawm (arg2.view.read _ f2) (arg3.view.read _ f3) (4 * (i 1).val + 2) r ⊥ 2 x) (0 - rawm (arg2.view.read _ f2) (arg3.view.read _ f3) (4 * (i 1).val + 2) r 0 2 x)) :
    SlotAt SC AB K 768 (arg12.view.read _ (arg12.view.writes _ f12 (mid.sl.H12_10 c i arg2 arg3 f2 f3))) (arg14.view.read _ (arg14.view.writes _ f14 (mid.sl.H14_8 c i arg2 arg3 f2 f3))) 0 (4 * (i 1).val + 2) := by
  refine SlotAt.of_diag 2 hS (by norm_num) (fun p hp => ?_) (fun r => ?_) (fun r => ?_)
  · obtain rfl | rfl | rfl : p = 0 ∨ p = 1 ∨ p = 2 := by omega
    · exact M12_2_0 c i arg2 arg3 arg12 f2 f3 f12
    · exact M12_2_1 c i arg2 arg3 arg12 f2 f3 f12
    · exact M12_2_2 c i arg2 arg3 arg12 f2 f3 f12
  · simp only [M14_2_0]; exact mx3 _
  · simp only [M14_2_1]; exact mn3 _

/-- Diagonal block 3's slot. -/
theorem mid_slot3 {SC AB : ℕ → Fin 512 → ℕ → EReal} {K : ℕ}
    (hS : ∀ r x, x < 1024 → SC (4 * (i 1).val + 3) r (K + x) = rawm (arg2.view.read _ f2) (arg3.view.read _ f3) (4 * (i 1).val + 3) r ⊥ 3 x ∧ AB (4 * (i 1).val + 3) r (K + x) = max (rawm (arg2.view.read _ f2) (arg3.view.read _ f3) (4 * (i 1).val + 3) r ⊥ 3 x) (0 - rawm (arg2.view.read _ f2) (arg3.view.read _ f3) (4 * (i 1).val + 3) r 0 3 x)) :
    SlotAt SC AB K 1024 (arg12.view.read _ (arg12.view.writes _ f12 (mid.sl.H12_10 c i arg2 arg3 f2 f3))) (arg14.view.read _ (arg14.view.writes _ f14 (mid.sl.H14_8 c i arg2 arg3 f2 f3))) 1 (4 * (i 1).val + 3) := by
  refine SlotAt.of_diag 3 hS (by norm_num) (fun p hp => ?_) (fun r => ?_) (fun r => ?_)
  · obtain rfl | rfl | rfl | rfl : p = 0 ∨ p = 1 ∨ p = 2 ∨ p = 3 := by omega
    · exact M12_3_0 c i arg2 arg3 arg12 f2 f3 f12
    · exact M12_3_1 c i arg2 arg3 arg12 f2 f3 f12
    · exact M12_3_2 c i arg2 arg3 arg12 f2 f3 f12
    · exact M12_3_3 c i arg2 arg3 arg12 f2 f3 f12
  · simp only [M14_3_0]; exact mx4 _
  · simp only [M14_3_1]; exact mn4 _

end

end Cert.Proof.KernelIdeal
-- ==== Proof.KernelIdealMidLoad.lean ====
/-
  The loads of the diagonal blocks' accumulators and of the values, element by element.
-/
module

public import proofs.«01_k».proof.Proof.KernelIdealTail
public import proofs.«01_k».proof.Proof.KernelIdealMidSlots

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16)
  (arg4 : Memref sig .tc .vmem S1x1x256x1024 .bf16)
  (arg8 : Memref sig .tc .vmem S32x256x512 .f32) (arg9 arg10 arg11 : Memref sig .tc .vmem S32x8x512 .f32)
  (arg12 : Memref sig .tc .vmem S2x1024x512 .f32) (arg13 : Memref sig .tc .vmem S2x1024x512 .bf16) (arg14 : Memref sig .tc .vmem S2x2x8x512 .f32)
  (f2 : Bf (F := Ideal) c arg2) (f3 : Bf (F := Ideal) c arg3) (f4 : Bf (F := Ideal) c arg4)
  (f8 : Bf (F := Ideal) c arg8) (f9 : Bf (F := Ideal) c arg9) (f10 : Bf (F := Ideal) c arg10) (f11 : Bf (F := Ideal) c arg11)

theorem ld4_0 {sp : Space} (M : Memref sig .tc sp S32x8x512 .f32) (f : Bf (F := Ideal) c M) (inb : ∀ a, k0_off4 i 0#32 a + ![1, 8, 512] a ≤ S32x8x512.size a) (b : Fin 32) (hb : b.val = 4 * (i 1).val + 0) (a : Fin 8) (r : Fin 512) :
    View.readAt (Elt Ideal) M.view (Rect.unit (s := S32x8x512) (k0_off4 i 0#32) ![1, 8, 512] inb).toLoadRect f (ix3 (0 : Fin 1) a r) = M.view.read _ f (ix3 b a r) :=
  readAt_at _ _ _ (k0_off4_eq i 0) _ _ fun a => by fin_cases a <;> simp [hb]

theorem ld5_0 {sp : Space} (M : Memref sig .tc sp S32x256x512 .f32) (f : Bf (F := Ideal) c M) (inb : ∀ a, k0_off5 i 0#32 a + ![1, 256, 512] a ≤ S32x256x512.size a) (b : Fin 32) (hb : b.val = 4 * (i 1).val + 0) (a : Fin 256) (r : Fin 512) :
    View.readAt (Elt Ideal) M.view (Rect.unit (s := S32x256x512) (k0_off5 i 0#32) ![1, 256, 512] inb).toLoadRect f (ix3 (0 : Fin 1) a r) = M.view.read _ f (ix3 b a r) :=
  readAt_at _ _ _ (k0_off5_eq i 0) _ _ fun a => by fin_cases a <;> simp [hb]

theorem ldv_0 (f : Bf (F := Ideal) c arg4) (inb : ∀ a, ![0, 0, 0, 0] a + ![1, 1, 256, 256] a ≤ S1x1x256x1024.size a) (d : Fin 256) (x : Fin 256) :
    View.readAt (Elt Ideal) arg4.view (Rect.unit (s := S1x1x256x1024) ![0, 0, 0, 0] ![1, 1, 256, 256] inb).toLoadRect f (ix4 (0 : Fin 1) (0 : Fin 1) d x) = arg4.view.read _ f (ix4 0 0 d (ky x.val)) :=
  readAt_at _ _ _ rfl _ _ fun a => by fin_cases a <;> simp [ky] <;> omega

theorem ld4_1 {sp : Space} (M : Memref sig .tc sp S32x8x512 .f32) (f : Bf (F := Ideal) c M) (inb : ∀ a, k0_off4 i 1#32 a + ![1, 8, 512] a ≤ S32x8x512.size a) (b : Fin 32) (hb : b.val = 4 * (i 1).val + 1) (a : Fin 8) (r : Fin 512) :
    View.readAt (Elt Ideal) M.view (Rect.unit (s := S32x8x512) (k0_off4 i 1#32) ![1, 8, 512] inb).toLoadRect f (ix3 (0 : Fin 1) a r) = M.view.read _ f (ix3 b a r) :=
  readAt_at _ _ _ (k0_off4_eq i 1) _ _ fun a => by fin_cases a <;> simp [hb]

theorem ld5_1 {sp : Space} (M : Memref sig .tc sp S32x256x512 .f32) (f : Bf (F := Ideal) c M) (inb : ∀ a, k0_off5 i 1#32 a + ![1, 256, 512] a ≤ S32x256x512.size a) (b : Fin 32) (hb : b.val = 4 * (i 1).val + 1) (a : Fin 256) (r : Fin 512) :
    View.readAt (Elt Ideal) M.view (Rect.unit (s := S32x256x512) (k0_off5 i 1#32) ![1, 256, 512] inb).toLoadRect f (ix3 (0 : Fin 1) a r) = M.view.read _ f (ix3 b a r) :=
  readAt_at _ _ _ (k0_off5_eq i 1) _ _ fun a => by fin_cases a <;> simp [hb]

theorem ldv_1 (f : Bf (F := Ideal) c arg4) (inb : ∀ a, ![0, 0, 0, 0] a + ![1, 1, 256, 512] a ≤ S1x1x256x1024.size a) (d : Fin 256) (x : Fin 512) :
    View.readAt (Elt Ideal) arg4.view (Rect.unit (s := S1x1x256x1024) ![0, 0, 0, 0] ![1, 1, 256, 512] inb).toLoadRect f (ix4 (0 : Fin 1) (0 : Fin 1) d x) = arg4.view.read _ f (ix4 0 0 d (ky x.val)) :=
  readAt_at _ _ _ rfl _ _ fun a => by fin_cases a <;> simp [ky] <;> omega

theorem ld4_2 {sp : Space} (M : Memref sig .tc sp S32x8x512 .f32) (f : Bf (F := Ideal) c M) (inb : ∀ a, k0_off4 i 2#32 a + ![1, 8, 512] a ≤ S32x8x512.size a) (b : Fin 32) (hb : b.val = 4 * (i 1).val + 2) (a : Fin 8) (r : Fin 512) :
    View.readAt (Elt Ideal) M.view (Rect.unit (s := S32x8x512) (k0_off4 i 2#32) ![1, 8, 512] inb).toLoadRect f (ix3 (0 : Fin 1) a r) = M.view.read _ f (ix3 b a r) :=
  readAt_at _ _ _ (k0_off4_eq i 2) _ _ fun a => by fin_cases a <;> simp [hb]

theorem ld5_2 {sp : Space} (M : Memref sig .tc sp S32x256x512 .f32) (f : Bf (F := Ideal) c M) (inb : ∀ a, k0_off5 i 2#32 a + ![1, 256, 512] a ≤ S32x256x512.size a) (b : Fin 32) (hb : b.val = 4 * (i 1).val + 2) (a : Fin 256) (r : Fin 512) :
    View.readAt (Elt Ideal) M.view (Rect.unit (s := S32x256x512) (k0_off5 i 2#32) ![1, 256, 512] inb).toLoadRect f (ix3 (0 : Fin 1) a r) = M.view.read _ f (ix3 b a r) :=
  readAt_at _ _ _ (k0_off5_eq i 2) _ _ fun a => by fin_cases a <;> simp [hb]

theorem ldv_2 (f : Bf (F := Ideal) c arg4) (inb : ∀ a, ![0, 0, 0, 0] a + ![1, 1, 256, 768] a ≤ S1x1x256x1024.size a) (d : Fin 256) (x : Fin 768) :
    View.readAt (Elt Ideal) arg4.view (Rect.unit (s := S1x1x256x1024) ![0, 0, 0, 0] ![1, 1, 256, 768] inb).toLoadRect f (ix4 (0 : Fin 1) (0 : Fin 1) d x) = arg4.view.read _ f (ix4 0 0 d (ky x.val)) :=
  readAt_at _ _ _ rfl _ _ fun a => by fin_cases a <;> simp [ky] <;> omega

theorem ld4_3 {sp : Space} (M : Memref sig .tc sp S32x8x512 .f32) (f : Bf (F := Ideal) c M) (inb : ∀ a, k0_off4 i 3#32 a + ![1, 8, 512] a ≤ S32x8x512.size a) (b : Fin 32) (hb : b.val = 4 * (i 1).val + 3) (a : Fin 8) (r : Fin 512) :
    View.readAt (Elt Ideal) M.view (Rect.unit (s := S32x8x512) (k0_off4 i 3#32) ![1, 8, 512] inb).toLoadRect f (ix3 (0 : Fin 1) a r) = M.view.read _ f (ix3 b a r) :=
  readAt_at _ _ _ (k0_off4_eq i 3) _ _ fun a => by fin_cases a <;> simp [hb]

theorem ld5_3 {sp : Space} (M : Memref sig .tc sp S32x256x512 .f32) (f : Bf (F := Ideal) c M) (inb : ∀ a, k0_off5 i 3#32 a + ![1, 256, 512] a ≤ S32x256x512.size a) (b : Fin 32) (hb : b.val = 4 * (i 1).val + 3) (a : Fin 256) (r : Fin 512) :
    View.readAt (Elt Ideal) M.view (Rect.unit (s := S32x256x512) (k0_off5 i 3#32) ![1, 256, 512] inb).toLoadRect f (ix3 (0 : Fin 1) a r) = M.view.read _ f (ix3 b a r) :=
  readAt_at _ _ _ (k0_off5_eq i 3) _ _ fun a => by fin_cases a <;> simp [hb]

theorem ldv_3 (f : Bf (F := Ideal) c arg4) (inb : ∀ a, ![0, 0, 0, 0] a + ![1, 1, 256, 1024] a ≤ S1x1x256x1024.size a) (d : Fin 256) (x : Fin 1024) :
    View.readAt (Elt Ideal) arg4.view (Rect.unit (s := S1x1x256x1024) ![0, 0, 0, 0] ![1, 1, 256, 1024] inb).toLoadRect f (ix4 (0 : Fin 1) (0 : Fin 1) d x) = arg4.view.read _ f (ix4 0 0 d (ky x.val)) :=
  readAt_at _ _ _ rfl _ _ fun a => by fin_cases a <;> simp [ky] <;> omega

theorem one_f32 : Ideal.ofBits FTy.f32 0x3F800000#32 = 1 := by
  simp [Ideal.ofBits, Ideal.ieee]
  rw [← EReal.coe_mul, ← EReal.coe_one]
  exact congrArg _ (by norm_num)
theorem inv16_f32 : Ideal.ofBits FTy.f32 0x3D800000#32 = ((1 / 16 : ℝ) : EReal) := by
  simp [Ideal.ofBits, Ideal.ieee]
  rw [← EReal.coe_mul]
  exact congrArg _ (by norm_num)

end

end Cert.Proof.KernelIdeal
-- ==== Proof.KernelIdealMidPay0.lean ====
/-
  Diagonal block 0 of the chunk: attended, its results.
-/
module

public import proofs.«01_k».proof.Proof.KernelIdealTail
public import proofs.«01_k».proof.Proof.KernelIdealMidLoad

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16)
  (arg4 : Memref sig .tc .vmem S1x1x256x1024 .bf16)
  (arg8 : Memref sig .tc .vmem S32x256x512 .f32) (arg9 arg10 arg11 : Memref sig .tc .vmem S32x8x512 .f32)
  (arg12 : Memref sig .tc .vmem S2x1024x512 .f32) (arg13 : Memref sig .tc .vmem S2x1024x512 .bf16) (arg14 : Memref sig .tc .vmem S2x2x8x512 .f32)
  (f2 : Bf (F := Ideal) c arg2) (f3 : Bf (F := Ideal) c arg3) (f4 : Bf (F := Ideal) c arg4)
  (f8 : Bf (F := Ideal) c arg8) (f9 : Bf (F := Ideal) c arg9) (f10 : Bf (F := Ideal) c arg10) (f11 : Bf (F := Ideal) c arg11)

theorem v81_at (a : Fin 8) (r : Fin 512) : mid.sl.v81 c i arg2 arg3 arg14 f2 f3 (ix4 0 0 a r) = arg14.view.read _ (arg14.view.writes _ arg14.view.junk (mid.sl.H14_4 c i arg2 arg3 f2 f3)) (ix4 0 0 a r) :=
  readCov_at _ _ _ rfl _ _ fun a => by fin_cases a <;> simp

theorem v83_at (a : Fin 8) (r : Fin 512) : mid.sl.v83 c i arg2 arg3 arg14 f2 f3 (ix4 0 0 a r) = arg14.view.read _ (arg14.view.writes _ arg14.view.junk (mid.sl.H14_4 c i arg2 arg3 f2 f3)) (ix4 0 1 a r) :=
  readCov_at _ _ _ rfl _ _ fun a => by fin_cases a <;> simp

theorem v107_at (x : Fin 256) (r : Fin 512) : mid.sl.v107 c i arg2 arg3 arg12 f2 f3 (ix3 0 x r) = arg12.view.read _ (arg12.view.writes _ arg12.view.junk (mid.sl.H12_3 c i arg2 arg3 f2 f3)) (ix3 0 (ky (x.val + 0)) r) :=
  readCov_at _ _ _ rfl _ _ fun a => by fin_cases a <;> simp [ky] <;> omega

/-- The new largest score. -/
theorem mnm0_at (b : Fin 32) (hb : b.val = 4 * (i 1).val + 0) (a : Fin 8) (r : Fin 512) : k0_pay193 (mid.sl.v87 c i arg9 f9) (mid.sl.v89 c i arg2 arg3 arg14 f2 f3) (ix2 a r) = (max (arg9.view.read _ f9 (ix3 b a r)) (Finset.univ.fold max ⊥ fun x : Fin 8 => arg14.view.read _ (arg14.view.writes _ arg14.view.junk (mid.sl.H14_4 c i arg2 arg3 f2 f3)) (ix4 0 0 x r))) := by
  pointwise [k0_pay193, mid.sl.v87, mid.sl.v89, mid.sl.v88, mid.sl.v82]
  simp only [v81_at, v83_at, v107_at, ld4_0 c i _ _ _ b hb, ld5_0 c i _ _ _ b hb, ldv_0, neg_inf]

theorem mw0_0_at (b : Fin 32) (hb : b.val = 4 * (i 1).val + 0) (x : Fin 256) (r : Fin 512) : arg13.view.read (Elt Ideal) (arg13.view.writes _ arg13.view.junk (mid.sl.H13_1 c i arg2 arg3 arg9 arg12 arg14 f2 f3 f9)) (ix3 0 (ky (x.val + 0)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg12.view.read _ (arg12.view.writes _ arg12.view.junk (mid.sl.H12_3 c i arg2 arg3 f2 f3)) (ix3 0 (ky (x.val + 0)) r)) := by
  refine (View.read_writes_cons_unit_of_mem _ _ _ _ _ _ (ix3 0 x r) rfl (by intro a; fin_cases a <;> simp [ky] <;> omega)).trans ?_
  pointwise [k0_pay198, k0_pay196]
  simp only [mnm0_at (hb := hb), v81_at, v83_at, v107_at, ld4_0 c i _ _ _ b hb, ld5_0 c i _ _ _ b hb, ldv_0, neg_inf]
  rfl

theorem mw0_at (b : Fin 32) (hb : b.val = 4 * (i 1).val + 0) (x : Fin 256) (r : Fin 512) : arg13.view.read (Elt Ideal) (arg13.view.writes _ arg13.view.junk (mid.sl.H13_1 c i arg2 arg3 arg9 arg12 arg14 f2 f3 f9)) (ix3 0 (ky x.val) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg12.view.read _ (arg12.view.writes _ arg12.view.junk (mid.sl.H12_3 c i arg2 arg3 f2 f3)) (ix3 0 (ky x.val) r)) := by
  have hx := x.isLt
  have e : x.val = (⟨x.val - 0, by omega⟩ : Fin 256).val + 0 := by dsimp only; omega
  have e' : (⟨x.val % 8, Nat.mod_lt _ (by norm_num)⟩ : Fin 8) = ⟨(⟨x.val - 0, by omega⟩ : Fin 256).val % 8, Nat.mod_lt _ (by norm_num)⟩ := Fin.ext (by dsimp only; omega)
  rw [e']
  have := mw0_0_at c i arg2 arg3 arg9 arg12 arg13 arg14 f2 f3 f9 b hb (⟨x.val - 0, by omega⟩ : Fin 256) r
  rwa [← e] at this

theorem mwl0_at (b : Fin 32) (hb : b.val = 4 * (i 1).val + 0) (x : Fin 256) (r : Fin 512) : mid.sl.v125 c i arg2 arg3 arg9 arg12 arg13 arg14 f2 f3 f9 (ix3 0 x r) = W (max (arg9.view.read _ f9 (ix3 b ⟨x.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg12.view.read _ (arg12.view.writes _ arg12.view.junk (mid.sl.H12_3 c i arg2 arg3 f2 f3)) (ix3 0 (ky x.val) r)) := by
  rw [← mw0_at c i arg2 arg3 arg9 arg12 arg13 arg14 f2 f3 f9 b hb x r]
  exact readCov_at _ _ _ rfl _ _ fun a => by fin_cases a <;> simp [ky] <;> omega

theorem v87_at (b : Fin 32) (hb : b.val = 4 * (i 1).val + 0) (a : Fin 8) (r : Fin 512) : mid.sl.v87 c i arg9 f9 (ix2 a r) = arg9.view.read _ f9 (ix3 b a r) := by
  pointwise [mid.sl.v87]
  exact ld4_0 c i _ _ _ b hb a r

/-- The block's output, of its accumulators. -/
theorem mo0_at (b : Fin 32) (hb : b.val = 4 * (i 1).val + 0) (d : Fin 256) (r : Fin 512) : mid.sl.v143 c i arg2 arg3 arg4 arg8 arg9 arg10 arg12 arg13 arg14 f2 f3 f4 f8 f9 f10 (ix2 d r) = (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg9.view.read _ f9 (ix3 b ⟨d.val % 8, Nat.mod_lt _ (by norm_num)⟩ r))
    + ∑ x : Fin 256, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg12.view.read _ (arg12.view.writes _ arg12.view.junk (mid.sl.H12_3 c i arg2 arg3 f2 f3)) (ix3 0 (ky x.val) r))) * Ideal.div 1 (∑ s : Fin 8, (arg10.view.read _ f10 (ix3 b s r) * W (max (arg9.view.read _ f9 (ix3 b s r)) (Finset.univ.fold max ⊥ fun x : Fin 8 => arg14.view.read _ (arg14.view.writes _ arg14.view.junk (mid.sl.H14_4 c i arg2 arg3 f2 f3)) (ix4 0 0 x r))) (arg9.view.read _ f9 (ix3 b s r)) + (qsum (fun j => arg12.view.read _ (arg12.view.writes _ arg12.view.junk (mid.sl.H12_3 c i arg2 arg3 f2 f3)) (ix3 0 (ky j) r)) (max (arg9.view.read _ f9 (ix3 b s r)) (Finset.univ.fold max ⊥ fun x : Fin 8 => arg14.view.read _ (arg14.view.writes _ arg14.view.junk (mid.sl.H14_4 c i arg2 arg3 f2 f3)) (ix4 0 0 x r))) 0 s))) := by
  pointwise [mid.sl.v143, mid.sl.v137, mid.sl.v136, mid.sl.v134, mid.sl.v131, mid.sl.v130, mid.sl.v133, mid.sl.v132, mid.sl.r_2, k0_pay194, mid.sl.v135, mid.sl.v127, mid.sl.r_5, k0_pay199, mid.sl.r_6, k0_pay200, mid.sl.cst_33, mid.sl.v142, mid.sl.v141, mid.sl.v140, mid.sl.cst_96, mid.sl.v139, mid.sl.v138, mid.sl.r_4, k0_pay197, k0_pay196]
  simp only [mwl0_at (hb := hb), mnm0_at (hb := hb), v81_at, v83_at, v107_at, ld4_0 c i _ _ _ b hb, ld5_0 c i _ _ _ b hb, ldv_0, neg_inf, v87_at (hb := hb), one_f32, add_assoc]
  rfl

/-- The block's largest score in absolute value. -/
theorem ma0_at (b : Fin 32) (hb : b.val = 4 * (i 1).val + 0) (r : Fin 512) : mid.sl.v150 c i arg2 arg3 arg11 arg14 f2 f3 f11 (ix2 0 r) = (Finset.univ.sup fun s : Fin 8 => (max (arg11.view.read _ f11 (ix3 b s r)) (max (arg14.view.read _ (arg14.view.writes _ arg14.view.junk (mid.sl.H14_4 c i arg2 arg3 f2 f3)) (ix4 0 0 s r)) (0 - arg14.view.read _ (arg14.view.writes _ arg14.view.junk (mid.sl.H14_4 c i arg2 arg3 f2 f3)) (ix4 0 1 s r))))) * ((1 / 16 : ℝ) : EReal) := by
  pointwise [mid.sl.v150, mid.sl.v149, mid.sl.cst_99, mid.sl.v148, mid.sl.v147, mid.sl.r_3, k0_pay195, mid.sl.v82, mid.sl.v84]
  simp only [v81_at, v83_at, v107_at, ld4_0 c i _ _ _ b hb, ld5_0 c i _ _ _ b hb, ldv_0, neg_inf, v87_at (hb := hb), inv16_f32]
  rfl

/-- The largest absolute value of the block's output. -/
theorem mr0_at (r : Fin 512) : mid.sl.v146 c i arg2 arg3 arg4 arg8 arg9 arg10 arg12 arg13 arg14 f2 f3 f4 f8 f9 f10 (ix2 0 r) = Finset.univ.sup fun d : Fin 256 => max (mid.sl.v143 c i arg2 arg3 arg4 arg8 arg9 arg10 arg12 arg13 arg14 f2 f3 f4 f8 f9 f10 (ix2 d r)) (-(mid.sl.v143 c i arg2 arg3 arg4 arg8 arg9 arg10 arg12 arg13 arg14 f2 f3 f4 f8 f9 f10 (ix2 d r))) := by
  pointwise [mid.sl.v146, mid.sl.v145, mid.sl.v144]
  simp only [neg_inf]
  rfl

/-- The block's column after the chunk. -/
theorem mcol0 (b : Fin 32) (hb : b.val = 4 * (i 1).val + 0) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 0 x ∧ AB b.val r (K + x) = max (rawm (arg2.view.read _ f2) (arg3.view.read _ f3) b.val r ⊥ 0 x) (0 - rawm (arg2.view.read _ f2) (arg3.view.read _ f3) b.val r 0 0 x))
    (B : BlkAt SC AB v K (arg8.view.read _ f8) (arg9.view.read _ f9) (arg10.view.read _ f10) (arg11.view.read _ f11) b) (r : Fin 512) :
    Col (SC b.val r) (AB b.val r) v (K + 256) (fun a => (max (arg9.view.read _ f9 (ix3 b a r)) (Finset.univ.fold max ⊥ fun x : Fin 8 => arg14.view.read _ (arg14.view.writes _ arg14.view.junk (mid.sl.H14_4 c i arg2 arg3 f2 f3)) (ix4 0 0 x r)))) (fun a => (arg10.view.read _ f10 (ix3 b a r) * W (max (arg9.view.read _ f9 (ix3 b a r)) (Finset.univ.fold max ⊥ fun x : Fin 8 => arg14.view.read _ (arg14.view.writes _ arg14.view.junk (mid.sl.H14_4 c i arg2 arg3 f2 f3)) (ix4 0 0 x r))) (arg9.view.read _ f9 (ix3 b a r)) + (qsum (fun j => arg12.view.read _ (arg12.view.writes _ arg12.view.junk (mid.sl.H12_3 c i arg2 arg3 f2 f3)) (ix3 0 (ky j) r)) (max (arg9.view.read _ f9 (ix3 b a r)) (Finset.univ.fold max ⊥ fun x : Fin 8 => arg14.view.read _ (arg14.view.writes _ arg14.view.junk (mid.sl.H14_4 c i arg2 arg3 f2 f3)) (ix4 0 0 x r))) 0 a))) (fun a => (max (arg11.view.read _ f11 (ix3 b a r)) (max (arg14.view.read _ (arg14.view.writes _ arg14.view.junk (mid.sl.H14_4 c i arg2 arg3 f2 f3)) (ix4 0 0 a r)) (0 - arg14.view.read _ (arg14.view.writes _ arg14.view.junk (mid.sl.H14_4 c i arg2 arg3 f2 f3)) (ix4 0 1 a r)))))
      (fun d => (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg9.view.read _ f9 (ix3 b ⟨d.val % 8, Nat.mod_lt _ (by norm_num)⟩ r))
    + ∑ x : Fin 256, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_4 c i arg2 arg3 f2 f3)) (ix4 0 0 x r))) (arg12.view.read _ (arg12.view.writes _ arg12.view.junk (mid.sl.H12_3 c i arg2 arg3 f2 f3)) (ix3 0 (ky x.val) r)))) := by
  have T : SlotAt SC AB K 256 (arg12.view.read _ (arg12.view.writes _ arg12.view.junk (mid.sl.H12_3 c i arg2 arg3 f2 f3))) (arg14.view.read _ (arg14.view.writes _ arg14.view.junk (mid.sl.H14_4 c i arg2 arg3 f2 f3))) 0 b.val := by
    rw [hb] at hS ⊢
    exact mid_slot0 c i arg2 arg3 arg12 arg14 f2 f3 _ _ hS
  refine Col.attend (good _ r) (by norm_num) (B r) (T r) (V := fun d x => v d (K + x)) (fun _ _ _ => rfl)
    (R := fun m a => qsum (fun j => arg12.view.read _ (arg12.view.writes _ arg12.view.junk (mid.sl.H12_3 c i arg2 arg3 f2 f3)) (ix3 0 (ky j) r)) m 0 a)
    (g := fun d => ⟨d.val % 8, Nat.mod_lt _ (by norm_num)⟩) (gp := fun x => ⟨x % 8, Nat.mod_lt _ (by norm_num)⟩) (fun m => ls1 _ m) (fun _ => rfl) (fun _ => rfl) (fun _ => rfl) (fun d => ?_)
  rw [Finset.sum_range]
  refine congrArg₂ (· + ·) rfl (Finset.sum_congr rfl fun x _ => ?_)
  rw [hV, show (ky x.val).val = x.val from Nat.mod_eq_of_lt (by omega)]

/-- The block's output: the weighted sum over its denominator. -/
theorem mout0 (b : Fin 32) (hb : b.val = 4 * (i 1).val + 0) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 0 x ∧ AB b.val r (K + x) = max (rawm (arg2.view.read _ f2) (arg3.view.read _ f3) b.val r ⊥ 0 x) (0 - rawm (arg2.view.read _ f2) (arg3.view.read _ f3) b.val r 0 0 x))
    (B : BlkAt SC AB v K (arg8.view.read _ f8) (arg9.view.read _ f9) (arg10.view.read _ f10) (arg11.view.read _ f11) b) (d : Fin 256) (r : Fin 512) :
    mid.sl.v143 c i arg2 arg3 arg4 arg8 arg9 arg10 arg12 arg13 arg14 f2 f3 f4 f8 f9 f10 (ix2 d r) = cO (SC b.val r) (v d.val) (K + 256) * Ideal.div 1 (cL (SC b.val r) (K + 256)) :=
  (mo0_at c i arg2 arg3 arg4 arg8 arg9 arg10 arg12 arg13 arg14 f2 f3 f4 f8 f9 f10 b hb d r).trans (congrArg₂ (fun x y => x * Ideal.div 1 y) ((mcol0 c i arg2 arg3 arg4 arg8 arg9 arg10 arg11 arg12 arg14 f2 f3 f4 f8 f9 f10 f11 b hb good hV hS B r).o d) (mcol0 c i arg2 arg3 arg4 arg8 arg9 arg10 arg11 arg12 arg14 f2 f3 f4 f8 f9 f10 f11 b hb good hV hS B r).l)

include arg12 in
/-- The block's largest score in absolute value. -/
theorem mabs0 (b : Fin 32) (hb : b.val = 4 * (i 1).val + 0) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 0 x ∧ AB b.val r (K + x) = max (rawm (arg2.view.read _ f2) (arg3.view.read _ f3) b.val r ⊥ 0 x) (0 - rawm (arg2.view.read _ f2) (arg3.view.read _ f3) b.val r 0 0 x))
    (B : BlkAt SC AB v K (arg8.view.read _ f8) (arg9.view.read _ f9) (arg10.view.read _ f10) (arg11.view.read _ f11) b) (r : Fin 512) : mid.sl.v150 c i arg2 arg3 arg11 arg14 f2 f3 f11 (ix2 0 r) = cA (AB b.val r) (K + 256) * ((1 / 16 : ℝ) : EReal) :=
  (ma0_at c i arg2 arg3 arg11 arg14 f2 f3 f11 b hb r).trans (congrArg (fun x => x * ((1 / 16 : ℝ) : EReal)) (mcol0 c i arg2 arg3 arg4 arg8 arg9 arg10 arg11 arg12 arg14 f2 f3 f4 f8 f9 f10 f11 b hb good hV hS B r).a)

end

end Cert.Proof.KernelIdeal
-- ==== Proof.KernelIdealMidPay1.lean ====
/-
  Diagonal block 1 of the chunk: attended, its results.
-/
module

public import proofs.«01_k».proof.Proof.KernelIdealTail
public import proofs.«01_k».proof.Proof.KernelIdealMidLoad

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16)
  (arg4 : Memref sig .tc .vmem S1x1x256x1024 .bf16)
  (arg8 : Memref sig .tc .vmem S32x256x512 .f32) (arg9 arg10 arg11 : Memref sig .tc .vmem S32x8x512 .f32)
  (arg12 : Memref sig .tc .vmem S2x1024x512 .f32) (arg13 : Memref sig .tc .vmem S2x1024x512 .bf16) (arg14 : Memref sig .tc .vmem S2x2x8x512 .f32)
  (f2 : Bf (F := Ideal) c arg2) (f3 : Bf (F := Ideal) c arg3) (f4 : Bf (F := Ideal) c arg4)
  (f8 : Bf (F := Ideal) c arg8) (f9 : Bf (F := Ideal) c arg9) (f10 : Bf (F := Ideal) c arg10) (f11 : Bf (F := Ideal) c arg11)

theorem v253_at (a : Fin 8) (r : Fin 512) : mid.sl.v253 c i arg2 arg3 arg14 f2 f3 (ix4 0 0 a r) = arg14.view.read _ (arg14.view.writes _ arg14.view.junk (mid.sl.H14_6 c i arg2 arg3 f2 f3)) (ix4 1 0 a r) :=
  readCov_at _ _ _ rfl _ _ fun a => by fin_cases a <;> simp

theorem v255_at (a : Fin 8) (r : Fin 512) : mid.sl.v255 c i arg2 arg3 arg14 f2 f3 (ix4 0 0 a r) = arg14.view.read _ (arg14.view.writes _ arg14.view.junk (mid.sl.H14_6 c i arg2 arg3 f2 f3)) (ix4 1 1 a r) :=
  readCov_at _ _ _ rfl _ _ fun a => by fin_cases a <;> simp

theorem v279_at (x : Fin 256) (r : Fin 512) : mid.sl.v279 c i arg2 arg3 arg12 f2 f3 (ix3 0 x r) = arg12.view.read _ (arg12.view.writes _ arg12.view.junk (mid.sl.H12_6 c i arg2 arg3 f2 f3)) (ix3 1 (ky (x.val + 0)) r) :=
  readCov_at _ _ _ rfl _ _ fun a => by fin_cases a <;> simp [ky] <;> omega

theorem v295_at (x : Fin 256) (r : Fin 512) : mid.sl.v295 c i arg2 arg3 arg12 f2 f3 (ix3 0 x r) = arg12.view.read _ (arg12.view.writes _ arg12.view.junk (mid.sl.H12_6 c i arg2 arg3 f2 f3)) (ix3 1 (ky (x.val + 256)) r) :=
  readCov_at _ _ _ rfl _ _ fun a => by fin_cases a <;> simp [ky] <;> omega

/-- The new largest score. -/
theorem mnm1_at (b : Fin 32) (hb : b.val = 4 * (i 1).val + 1) (a : Fin 8) (r : Fin 512) : mid.sl.r_7 c i arg2 arg3 arg9 arg14 f2 f3 f9 (ix2 a r) = (max (arg9.view.read _ f9 (ix3 b a r)) (Finset.univ.fold max ⊥ fun x : Fin 8 => arg14.view.read _ (arg14.view.writes _ arg14.view.junk (mid.sl.H14_6 c i arg2 arg3 f2 f3)) (ix4 1 0 x r))) := by
  pointwise [mid.sl.r_7, k0_pay232, k0_pay231, mid.sl.v254, mid.sl.v258]
  simp only [v253_at, v255_at, v279_at, v295_at, ld4_1 c i _ _ _ b hb, ld5_1 c i _ _ _ b hb, ldv_1, neg_inf]

theorem mw1_0_at (b : Fin 32) (hb : b.val = 4 * (i 1).val + 1) (x : Fin 256) (r : Fin 512) : arg13.view.read (Elt Ideal) (arg13.view.writes _ arg13.view.junk (mid.sl.H13_3 c i arg2 arg3 arg9 arg12 arg14 f2 f3 f9)) (ix3 1 (ky (x.val + 0)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg12.view.read _ (arg12.view.writes _ arg12.view.junk (mid.sl.H12_6 c i arg2 arg3 f2 f3)) (ix3 1 (ky (x.val + 0)) r)) := by
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [mid.sl.r_11, k0_pay237, k0_pay235, k0_pay232, k0_pay231, mid.sl.v254, mid.sl.v258]
  simp only [mnm1_at (hb := hb), v253_at, v255_at, v279_at, v295_at, ld4_1 c i _ _ _ b hb, ld5_1 c i _ _ _ b hb, ldv_1, neg_inf]
  rfl

theorem mw1_1_at (b : Fin 32) (hb : b.val = 4 * (i 1).val + 1) (x : Fin 256) (r : Fin 512) : arg13.view.read (Elt Ideal) (arg13.view.writes _ arg13.view.junk (mid.sl.H13_3 c i arg2 arg3 arg9 arg12 arg14 f2 f3 f9)) (ix3 1 (ky (x.val + 256)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg12.view.read _ (arg12.view.writes _ arg12.view.junk (mid.sl.H12_6 c i arg2 arg3 f2 f3)) (ix3 1 (ky (x.val + 256)) r)) := by
  refine (View.read_writes_cons_unit_of_mem _ _ _ _ _ _ (ix3 0 x r) rfl (by intro a; fin_cases a <;> simp [ky] <;> omega)).trans ?_
  pointwise [k0_pay239, k0_pay238]
  simp only [mnm1_at (hb := hb), v253_at, v255_at, v279_at, v295_at, ld4_1 c i _ _ _ b hb, ld5_1 c i _ _ _ b hb, ldv_1, neg_inf]
  rfl

theorem mw1_at (b : Fin 32) (hb : b.val = 4 * (i 1).val + 1) (x : Fin 512) (r : Fin 512) : arg13.view.read (Elt Ideal) (arg13.view.writes _ arg13.view.junk (mid.sl.H13_3 c i arg2 arg3 arg9 arg12 arg14 f2 f3 f9)) (ix3 1 (ky x.val) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg12.view.read _ (arg12.view.writes _ arg12.view.junk (mid.sl.H12_6 c i arg2 arg3 f2 f3)) (ix3 1 (ky x.val) r)) := by
  have hx := x.isLt
  by_cases h0 : x.val < 256
  · have e : x.val = (⟨x.val - 0, by omega⟩ : Fin 256).val + 0 := by dsimp only; omega
    have e' : (⟨x.val % 8, Nat.mod_lt _ (by norm_num)⟩ : Fin 8) = ⟨(⟨x.val - 0, by omega⟩ : Fin 256).val % 8, Nat.mod_lt _ (by norm_num)⟩ := Fin.ext (by dsimp only; omega)
    rw [e']
    have := mw1_0_at c i arg2 arg3 arg9 arg12 arg13 arg14 f2 f3 f9 b hb (⟨x.val - 0, by omega⟩ : Fin 256) r
    rwa [← e] at this
  have e : x.val = (⟨x.val - 256, by omega⟩ : Fin 256).val + 256 := by dsimp only; omega
  have e' : (⟨x.val % 8, Nat.mod_lt _ (by norm_num)⟩ : Fin 8) = ⟨(⟨x.val - 256, by omega⟩ : Fin 256).val % 8, Nat.mod_lt _ (by norm_num)⟩ := Fin.ext (by dsimp only; omega)
  rw [e']
  have := mw1_1_at c i arg2 arg3 arg9 arg12 arg13 arg14 f2 f3 f9 b hb (⟨x.val - 256, by omega⟩ : Fin 256) r
  rwa [← e] at this

theorem mwl1_at (b : Fin 32) (hb : b.val = 4 * (i 1).val + 1) (x : Fin 512) (r : Fin 512) : mid.sl.v313 c i arg2 arg3 arg9 arg12 arg13 arg14 f2 f3 f9 (ix3 0 x r) = W (max (arg9.view.read _ f9 (ix3 b ⟨x.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg12.view.read _ (arg12.view.writes _ arg12.view.junk (mid.sl.H12_6 c i arg2 arg3 f2 f3)) (ix3 1 (ky x.val) r)) := by
  rw [← mw1_at c i arg2 arg3 arg9 arg12 arg13 arg14 f2 f3 f9 b hb x r]
  exact readCov_at _ _ _ rfl _ _ fun a => by fin_cases a <;> simp [ky] <;> omega

/-- The block's output, of its accumulators. -/
theorem mo1_at (b : Fin 32) (hb : b.val = 4 * (i 1).val + 1) (d : Fin 256) (r : Fin 512) : mid.sl.r_12 c i arg2 arg3 arg4 arg8 arg9 arg10 arg12 arg13 arg14 f2 f3 f4 f8 f9 f10 (ix2 d r) = (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg9.view.read _ f9 (ix3 b ⟨d.val % 8, Nat.mod_lt _ (by norm_num)⟩ r))
    + ∑ x : Fin 512, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg12.view.read _ (arg12.view.writes _ arg12.view.junk (mid.sl.H12_6 c i arg2 arg3 f2 f3)) (ix3 1 (ky x.val) r))) * Ideal.div 1 (∑ s : Fin 8, (arg10.view.read _ f10 (ix3 b s r) * W (max (arg9.view.read _ f9 (ix3 b s r)) (Finset.univ.fold max ⊥ fun x : Fin 8 => arg14.view.read _ (arg14.view.writes _ arg14.view.junk (mid.sl.H14_6 c i arg2 arg3 f2 f3)) (ix4 1 0 x r))) (arg9.view.read _ f9 (ix3 b s r)) + (qsum (fun j => arg12.view.read _ (arg12.view.writes _ arg12.view.junk (mid.sl.H12_6 c i arg2 arg3 f2 f3)) (ix3 1 (ky j) r)) (max (arg9.view.read _ f9 (ix3 b s r)) (Finset.univ.fold max ⊥ fun x : Fin 8 => arg14.view.read _ (arg14.view.writes _ arg14.view.junk (mid.sl.H14_6 c i arg2 arg3 f2 f3)) (ix4 1 0 x r))) 0 s + qsum (fun j => arg12.view.read _ (arg12.view.writes _ arg12.view.junk (mid.sl.H12_6 c i arg2 arg3 f2 f3)) (ix3 1 (ky j) r)) (max (arg9.view.read _ f9 (ix3 b s r)) (Finset.univ.fold max ⊥ fun x : Fin 8 => arg14.view.read _ (arg14.view.writes _ arg14.view.junk (mid.sl.H14_6 c i arg2 arg3 f2 f3)) (ix4 1 0 x r))) 1 s))) := by
  pointwise [mid.sl.r_12, k0_pay240, k0_pay238, mid.sl.r_8, k0_pay233, mid.sl.r_10, k0_pay236, k0_pay235, k0_pay232, k0_pay231, mid.sl.v254, mid.sl.v258, mid.sl.v276, mid.sl.v317]
  simp only [mwl1_at (hb := hb), mnm1_at (hb := hb), v253_at, v255_at, v279_at, v295_at, ld4_1 c i _ _ _ b hb, ld5_1 c i _ _ _ b hb, ldv_1, neg_inf, one_f32, add_assoc]
  rfl

/-- The block's largest score in absolute value. -/
theorem ma1_at (b : Fin 32) (hb : b.val = 4 * (i 1).val + 1) (r : Fin 512) : mid.sl.v338 c i arg2 arg3 arg11 arg14 f2 f3 f11 (ix2 0 r) = (Finset.univ.sup fun s : Fin 8 => (max (arg11.view.read _ f11 (ix3 b s r)) (max (arg14.view.read _ (arg14.view.writes _ arg14.view.junk (mid.sl.H14_6 c i arg2 arg3 f2 f3)) (ix4 1 0 s r)) (0 - arg14.view.read _ (arg14.view.writes _ arg14.view.junk (mid.sl.H14_6 c i arg2 arg3 f2 f3)) (ix4 1 1 s r))))) * ((1 / 16 : ℝ) : EReal) := by
  pointwise [mid.sl.v338, mid.sl.v149, mid.sl.cst_99, mid.sl.v336, mid.sl.v335, mid.sl.r_9, k0_pay234, mid.sl.v254, mid.sl.v269]
  simp only [v253_at, v255_at, v279_at, v295_at, ld4_1 c i _ _ _ b hb, ld5_1 c i _ _ _ b hb, ldv_1, neg_inf, inv16_f32]
  rfl

/-- The largest absolute value of the block's output. -/
theorem mr1_at (r : Fin 512) : mid.sl.v334 c i arg2 arg3 arg4 arg8 arg9 arg10 arg12 arg13 arg14 f2 f3 f4 f8 f9 f10 (ix2 0 r) = Finset.univ.sup fun d : Fin 256 => max (mid.sl.r_12 c i arg2 arg3 arg4 arg8 arg9 arg10 arg12 arg13 arg14 f2 f3 f4 f8 f9 f10 (ix2 d r)) (-(mid.sl.r_12 c i arg2 arg3 arg4 arg8 arg9 arg10 arg12 arg13 arg14 f2 f3 f4 f8 f9 f10 (ix2 d r))) := by
  pointwise [mid.sl.v334, mid.sl.v333, mid.sl.r_13, k0_pay241]
  simp only [neg_inf]
  rfl

/-- The block's column after the chunk. -/
theorem mcol1 (b : Fin 32) (hb : b.val = 4 * (i 1).val + 1) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 1 x ∧ AB b.val r (K + x) = max (rawm (arg2.view.read _ f2) (arg3.view.read _ f3) b.val r ⊥ 1 x) (0 - rawm (arg2.view.read _ f2) (arg3.view.read _ f3) b.val r 0 1 x))
    (B : BlkAt SC AB v K (arg8.view.read _ f8) (arg9.view.read _ f9) (arg10.view.read _ f10) (arg11.view.read _ f11) b) (r : Fin 512) :
    Col (SC b.val r) (AB b.val r) v (K + 512) (fun a => (max (arg9.view.read _ f9 (ix3 b a r)) (Finset.univ.fold max ⊥ fun x : Fin 8 => arg14.view.read _ (arg14.view.writes _ arg14.view.junk (mid.sl.H14_6 c i arg2 arg3 f2 f3)) (ix4 1 0 x r)))) (fun a => (arg10.view.read _ f10 (ix3 b a r) * W (max (arg9.view.read _ f9 (ix3 b a r)) (Finset.univ.fold max ⊥ fun x : Fin 8 => arg14.view.read _ (arg14.view.writes _ arg14.view.junk (mid.sl.H14_6 c i arg2 arg3 f2 f3)) (ix4 1 0 x r))) (arg9.view.read _ f9 (ix3 b a r)) + (qsum (fun j => arg12.view.read _ (arg12.view.writes _ arg12.view.junk (mid.sl.H12_6 c i arg2 arg3 f2 f3)) (ix3 1 (ky j) r)) (max (arg9.view.read _ f9 (ix3 b a r)) (Finset.univ.fold max ⊥ fun x : Fin 8 => arg14.view.read _ (arg14.view.writes _ arg14.view.junk (mid.sl.H14_6 c i arg2 arg3 f2 f3)) (ix4 1 0 x r))) 0 a + qsum (fun j => arg12.view.read _ (arg12.view.writes _ arg12.view.junk (mid.sl.H12_6 c i arg2 arg3 f2 f3)) (ix3 1 (ky j) r)) (max (arg9.view.read _ f9 (ix3 b a r)) (Finset.univ.fold max ⊥ fun x : Fin 8 => arg14.view.read _ (arg14.view.writes _ arg14.view.junk (mid.sl.H14_6 c i arg2 arg3 f2 f3)) (ix4 1 0 x r))) 1 a))) (fun a => (max (arg11.view.read _ f11 (ix3 b a r)) (max (arg14.view.read _ (arg14.view.writes _ arg14.view.junk (mid.sl.H14_6 c i arg2 arg3 f2 f3)) (ix4 1 0 a r)) (0 - arg14.view.read _ (arg14.view.writes _ arg14.view.junk (mid.sl.H14_6 c i arg2 arg3 f2 f3)) (ix4 1 1 a r)))))
      (fun d => (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg9.view.read _ f9 (ix3 b ⟨d.val % 8, Nat.mod_lt _ (by norm_num)⟩ r))
    + ∑ x : Fin 512, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_6 c i arg2 arg3 f2 f3)) (ix4 1 0 x r))) (arg12.view.read _ (arg12.view.writes _ arg12.view.junk (mid.sl.H12_6 c i arg2 arg3 f2 f3)) (ix3 1 (ky x.val) r)))) := by
  have T : SlotAt SC AB K 512 (arg12.view.read _ (arg12.view.writes _ arg12.view.junk (mid.sl.H12_6 c i arg2 arg3 f2 f3))) (arg14.view.read _ (arg14.view.writes _ arg14.view.junk (mid.sl.H14_6 c i arg2 arg3 f2 f3))) 1 b.val := by
    rw [hb] at hS ⊢
    exact mid_slot1 c i arg2 arg3 arg12 arg14 f2 f3 _ _ hS
  refine Col.attend (good _ r) (by norm_num) (B r) (T r) (V := fun d x => v d (K + x)) (fun _ _ _ => rfl)
    (R := fun m a => qsum (fun j => arg12.view.read _ (arg12.view.writes _ arg12.view.junk (mid.sl.H12_6 c i arg2 arg3 f2 f3)) (ix3 1 (ky j) r)) m 0 a + qsum (fun j => arg12.view.read _ (arg12.view.writes _ arg12.view.junk (mid.sl.H12_6 c i arg2 arg3 f2 f3)) (ix3 1 (ky j) r)) m 1 a)
    (g := fun d => ⟨d.val % 8, Nat.mod_lt _ (by norm_num)⟩) (gp := fun x => ⟨x % 8, Nat.mod_lt _ (by norm_num)⟩) (fun m => ls2 _ m) (fun _ => rfl) (fun _ => rfl) (fun _ => rfl) (fun d => ?_)
  rw [Finset.sum_range]
  refine congrArg₂ (· + ·) rfl (Finset.sum_congr rfl fun x _ => ?_)
  rw [hV, show (ky x.val).val = x.val from Nat.mod_eq_of_lt (by omega)]

/-- The block's output: the weighted sum over its denominator. -/
theorem mout1 (b : Fin 32) (hb : b.val = 4 * (i 1).val + 1) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 1 x ∧ AB b.val r (K + x) = max (rawm (arg2.view.read _ f2) (arg3.view.read _ f3) b.val r ⊥ 1 x) (0 - rawm (arg2.view.read _ f2) (arg3.view.read _ f3) b.val r 0 1 x))
    (B : BlkAt SC AB v K (arg8.view.read _ f8) (arg9.view.read _ f9) (arg10.view.read _ f10) (arg11.view.read _ f11) b) (d : Fin 256) (r : Fin 512) :
    mid.sl.r_12 c i arg2 arg3 arg4 arg8 arg9 arg10 arg12 arg13 arg14 f2 f3 f4 f8 f9 f10 (ix2 d r) = cO (SC b.val r) (v d.val) (K + 512) * Ideal.div 1 (cL (SC b.val r) (K + 512)) :=
  (mo1_at c i arg2 arg3 arg4 arg8 arg9 arg10 arg12 arg13 arg14 f2 f3 f4 f8 f9 f10 b hb d r).trans (congrArg₂ (fun x y => x * Ideal.div 1 y) ((mcol1 c i arg2 arg3 arg4 arg8 arg9 arg10 arg11 arg12 arg14 f2 f3 f4 f8 f9 f10 f11 b hb good hV hS B r).o d) (mcol1 c i arg2 arg3 arg4 arg8 arg9 arg10 arg11 arg12 arg14 f2 f3 f4 f8 f9 f10 f11 b hb good hV hS B r).l)

include arg12 in
/-- The block's largest score in absolute value. -/
theorem mabs1 (b : Fin 32) (hb : b.val = 4 * (i 1).val + 1) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 1 x ∧ AB b.val r (K + x) = max (rawm (arg2.view.read _ f2) (arg3.view.read _ f3) b.val r ⊥ 1 x) (0 - rawm (arg2.view.read _ f2) (arg3.view.read _ f3) b.val r 0 1 x))
    (B : BlkAt SC AB v K (arg8.view.read _ f8) (arg9.view.read _ f9) (arg10.view.read _ f10) (arg11.view.read _ f11) b) (r : Fin 512) : mid.sl.v338 c i arg2 arg3 arg11 arg14 f2 f3 f11 (ix2 0 r) = cA (AB b.val r) (K + 512) * ((1 / 16 : ℝ) : EReal) :=
  (ma1_at c i arg2 arg3 arg11 arg14 f2 f3 f11 b hb r).trans (congrArg (fun x => x * ((1 / 16 : ℝ) : EReal)) (mcol1 c i arg2 arg3 arg4 arg8 arg9 arg10 arg11 arg12 arg14 f2 f3 f4 f8 f9 f10 f11 b hb good hV hS B r).a)

end

end Cert.Proof.KernelIdeal
-- ==== Proof.KernelIdealMidPay2.lean ====
/-
  Diagonal block 2 of the chunk: attended, its results.
-/
module

public import proofs.«01_k».proof.Proof.KernelIdealTail
public import proofs.«01_k».proof.Proof.KernelIdealMidLoad

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16)
  (arg4 : Memref sig .tc .vmem S1x1x256x1024 .bf16)
  (arg8 : Memref sig .tc .vmem S32x256x512 .f32) (arg9 arg10 arg11 : Memref sig .tc .vmem S32x8x512 .f32)
  (arg12 : Memref sig .tc .vmem S2x1024x512 .f32) (arg13 : Memref sig .tc .vmem S2x1024x512 .bf16) (arg14 : Memref sig .tc .vmem S2x2x8x512 .f32)
  (f2 : Bf (F := Ideal) c arg2) (f3 : Bf (F := Ideal) c arg3) (f4 : Bf (F := Ideal) c arg4)
  (f8 : Bf (F := Ideal) c arg8) (f9 : Bf (F := Ideal) c arg9) (f10 : Bf (F := Ideal) c arg10) (f11 : Bf (F := Ideal) c arg11)

theorem v453_at (a : Fin 8) (r : Fin 512) : mid.sl.v453 c i arg2 arg3 arg14 f2 f3 (ix4 0 0 a r) = arg14.view.read _ (arg14.view.writes _ arg14.view.junk (mid.sl.H14_8 c i arg2 arg3 f2 f3)) (ix4 0 0 a r) :=
  readCov_at _ _ _ rfl _ _ fun a => by fin_cases a <;> simp

theorem v455_at (a : Fin 8) (r : Fin 512) : mid.sl.v455 c i arg2 arg3 arg14 f2 f3 (ix4 0 0 a r) = arg14.view.read _ (arg14.view.writes _ arg14.view.junk (mid.sl.H14_8 c i arg2 arg3 f2 f3)) (ix4 0 1 a r) :=
  readCov_at _ _ _ rfl _ _ fun a => by fin_cases a <;> simp

theorem v479_at (x : Fin 256) (r : Fin 512) : mid.sl.v479 c i arg2 arg3 arg12 f2 f3 (ix3 0 x r) = arg12.view.read _ (arg12.view.writes _ arg12.view.junk (mid.sl.H12_10 c i arg2 arg3 f2 f3)) (ix3 0 (ky (x.val + 0)) r) :=
  readCov_at _ _ _ rfl _ _ fun a => by fin_cases a <;> simp [ky] <;> omega

theorem v495_at (x : Fin 256) (r : Fin 512) : mid.sl.v495 c i arg2 arg3 arg12 f2 f3 (ix3 0 x r) = arg12.view.read _ (arg12.view.writes _ arg12.view.junk (mid.sl.H12_10 c i arg2 arg3 f2 f3)) (ix3 0 (ky (x.val + 256)) r) :=
  readCov_at _ _ _ rfl _ _ fun a => by fin_cases a <;> simp [ky] <;> omega

theorem v511_at (x : Fin 256) (r : Fin 512) : mid.sl.v511 c i arg2 arg3 arg12 f2 f3 (ix3 0 x r) = arg12.view.read _ (arg12.view.writes _ arg12.view.junk (mid.sl.H12_10 c i arg2 arg3 f2 f3)) (ix3 0 (ky (x.val + 512)) r) :=
  readCov_at _ _ _ rfl _ _ fun a => by fin_cases a <;> simp [ky] <;> omega

/-- The new largest score. -/
theorem mnm2_at (b : Fin 32) (hb : b.val = 4 * (i 1).val + 2) (a : Fin 8) (r : Fin 512) : mid.sl.r_14 c i arg2 arg3 arg9 arg14 f2 f3 f9 (ix2 a r) = (max (arg9.view.read _ f9 (ix3 b a r)) (Finset.univ.fold max ⊥ fun x : Fin 8 => arg14.view.read _ (arg14.view.writes _ arg14.view.junk (mid.sl.H14_8 c i arg2 arg3 f2 f3)) (ix4 0 0 x r))) := by
  pointwise [mid.sl.r_14, k0_pay275, k0_pay274, mid.sl.v454, mid.sl.v458]
  simp only [v453_at, v455_at, v479_at, v495_at, v511_at, ld4_2 c i _ _ _ b hb, ld5_2 c i _ _ _ b hb, ldv_2, neg_inf]

theorem mw2_0_at (b : Fin 32) (hb : b.val = 4 * (i 1).val + 2) (x : Fin 256) (r : Fin 512) : arg13.view.read (Elt Ideal) (arg13.view.writes _ arg13.view.junk (mid.sl.H13_6 c i arg2 arg3 arg9 arg12 arg14 f2 f3 f9)) (ix3 0 (ky (x.val + 0)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky (x.val + 0)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay281, mid.sl.r_18, k0_pay280, k0_pay278, k0_pay275, k0_pay274, mid.sl.v454, mid.sl.v458]
  simp only [mnm2_at (hb := hb), v453_at, v455_at, v479_at, v495_at, v511_at, ld4_2 c i _ _ _ b hb, ld5_2 c i _ _ _ b hb, ldv_2, neg_inf]
  rfl

theorem mw2_1_at (b : Fin 32) (hb : b.val = 4 * (i 1).val + 2) (x : Fin 256) (r : Fin 512) : arg13.view.read (Elt Ideal) (arg13.view.writes _ arg13.view.junk (mid.sl.H13_6 c i arg2 arg3 arg9 arg12 arg14 f2 f3 f9)) (ix3 0 (ky (x.val + 256)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky (x.val + 256)) r)) := by
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay283, k0_pay282]
  simp only [mnm2_at (hb := hb), v453_at, v455_at, v479_at, v495_at, v511_at, ld4_2 c i _ _ _ b hb, ld5_2 c i _ _ _ b hb, ldv_2, neg_inf]
  rfl

theorem mw2_2_at (b : Fin 32) (hb : b.val = 4 * (i 1).val + 2) (x : Fin 256) (r : Fin 512) : arg13.view.read (Elt Ideal) (arg13.view.writes _ arg13.view.junk (mid.sl.H13_6 c i arg2 arg3 arg9 arg12 arg14 f2 f3 f9)) (ix3 0 (ky (x.val + 512)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky (x.val + 512)) r)) := by
  refine (View.read_writes_cons_unit_of_mem _ _ _ _ _ _ (ix3 0 x r) rfl (by intro a; fin_cases a <;> simp [ky] <;> omega)).trans ?_
  pointwise [k0_pay286, k0_pay284]
  simp only [mnm2_at (hb := hb), v453_at, v455_at, v479_at, v495_at, v511_at, ld4_2 c i _ _ _ b hb, ld5_2 c i _ _ _ b hb, ldv_2, neg_inf]
  rfl

theorem mw2_at (b : Fin 32) (hb : b.val = 4 * (i 1).val + 2) (x : Fin 768) (r : Fin 512) : arg13.view.read (Elt Ideal) (arg13.view.writes _ arg13.view.junk (mid.sl.H13_6 c i arg2 arg3 arg9 arg12 arg14 f2 f3 f9)) (ix3 0 (ky x.val) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky x.val) r)) := by
  have hx := x.isLt
  by_cases h0 : x.val < 256
  · have e : x.val = (⟨x.val - 0, by omega⟩ : Fin 256).val + 0 := by dsimp only; omega
    have e' : (⟨x.val % 8, Nat.mod_lt _ (by norm_num)⟩ : Fin 8) = ⟨(⟨x.val - 0, by omega⟩ : Fin 256).val % 8, Nat.mod_lt _ (by norm_num)⟩ := Fin.ext (by dsimp only; omega)
    rw [e']
    have := mw2_0_at c i arg2 arg3 arg9 arg12 arg13 arg14 f2 f3 f9 b hb (⟨x.val - 0, by omega⟩ : Fin 256) r
    rwa [← e] at this
  by_cases h1 : x.val < 512
  · have e : x.val = (⟨x.val - 256, by omega⟩ : Fin 256).val + 256 := by dsimp only; omega
    have e' : (⟨x.val % 8, Nat.mod_lt _ (by norm_num)⟩ : Fin 8) = ⟨(⟨x.val - 256, by omega⟩ : Fin 256).val % 8, Nat.mod_lt _ (by norm_num)⟩ := Fin.ext (by dsimp only; omega)
    rw [e']
    have := mw2_1_at c i arg2 arg3 arg9 arg12 arg13 arg14 f2 f3 f9 b hb (⟨x.val - 256, by omega⟩ : Fin 256) r
    rwa [← e] at this
  have e : x.val = (⟨x.val - 512, by omega⟩ : Fin 256).val + 512 := by dsimp only; omega
  have e' : (⟨x.val % 8, Nat.mod_lt _ (by norm_num)⟩ : Fin 8) = ⟨(⟨x.val - 512, by omega⟩ : Fin 256).val % 8, Nat.mod_lt _ (by norm_num)⟩ := Fin.ext (by dsimp only; omega)
  rw [e']
  have := mw2_2_at c i arg2 arg3 arg9 arg12 arg13 arg14 f2 f3 f9 b hb (⟨x.val - 512, by omega⟩ : Fin 256) r
  rwa [← e] at this

theorem mwl2_at (b : Fin 32) (hb : b.val = 4 * (i 1).val + 2) (x : Fin 768) (r : Fin 512) : mid.sl.v529 c i arg2 arg3 arg9 arg12 arg13 arg14 f2 f3 f9 (ix3 0 x r) = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky x.val) r)) := by
  rw [← mw2_at c i arg2 arg3 arg9 arg12 arg13 arg14 f2 f3 f9 b hb x r]
  exact readCov_at _ _ _ rfl _ _ fun a => by fin_cases a <;> simp [ky] <;> omega

/-- The block's output, of its accumulators. -/
theorem mo2_at (b : Fin 32) (hb : b.val = 4 * (i 1).val + 2) (d : Fin 256) (r : Fin 512) : mid.sl.v547 c i arg2 arg3 arg4 arg8 arg9 arg10 arg12 arg13 arg14 f2 f3 f4 f8 f9 f10 (ix2 d r) = (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg9.view.read _ f9 (ix3 b ⟨d.val % 8, Nat.mod_lt _ (by norm_num)⟩ r))
    + ∑ x : Fin 768, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky x.val) r))) * Ideal.div 1 (∑ s : Fin 8, (arg10.view.read _ f10 (ix3 b s r) * W (max (arg9.view.read _ f9 (ix3 b s r)) (Finset.univ.fold max ⊥ fun x : Fin 8 => arg14.view.read _ (arg14.view.writes _ arg14.view.junk (mid.sl.H14_8 c i arg2 arg3 f2 f3)) (ix4 0 0 x r))) (arg9.view.read _ f9 (ix3 b s r)) + (qsum (fun j => arg12.view.read _ (arg12.view.writes _ arg12.view.junk (mid.sl.H12_10 c i arg2 arg3 f2 f3)) (ix3 0 (ky j) r)) (max (arg9.view.read _ f9 (ix3 b s r)) (Finset.univ.fold max ⊥ fun x : Fin 8 => arg14.view.read _ (arg14.view.writes _ arg14.view.junk (mid.sl.H14_8 c i arg2 arg3 f2 f3)) (ix4 0 0 x r))) 0 s + qsum (fun j => arg12.view.read _ (arg12.view.writes _ arg12.view.junk (mid.sl.H12_10 c i arg2 arg3 f2 f3)) (ix3 0 (ky j) r)) (max (arg9.view.read _ f9 (ix3 b s r)) (Finset.univ.fold max ⊥ fun x : Fin 8 => arg14.view.read _ (arg14.view.writes _ arg14.view.junk (mid.sl.H14_8 c i arg2 arg3 f2 f3)) (ix4 0 0 x r))) 1 s + qsum (fun j => arg12.view.read _ (arg12.view.writes _ arg12.view.junk (mid.sl.H12_10 c i arg2 arg3 f2 f3)) (ix3 0 (ky j) r)) (max (arg9.view.read _ f9 (ix3 b s r)) (Finset.univ.fold max ⊥ fun x : Fin 8 => arg14.view.read _ (arg14.view.writes _ arg14.view.junk (mid.sl.H14_8 c i arg2 arg3 f2 f3)) (ix4 0 0 x r))) 2 s))) := by
  pointwise [mid.sl.v547, mid.sl.v541, mid.sl.v540, mid.sl.v538, mid.sl.v535, mid.sl.v534, mid.sl.v533, mid.sl.v537, mid.sl.v536, mid.sl.r_15, k0_pay276, k0_pay275, k0_pay274, mid.sl.v454, mid.sl.v458, mid.sl.v539, mid.sl.v531, mid.sl.r_20, k0_pay287, mid.sl.v530, mid.sl.cst_33, mid.sl.v546, mid.sl.v545, mid.sl.v140, mid.sl.cst_96, mid.sl.v543, mid.sl.v542, mid.sl.r_19, k0_pay285, k0_pay282, k0_pay284, mid.sl.r_17, k0_pay279, k0_pay278, mid.sl.v476]
  simp only [mwl2_at (hb := hb), mnm2_at (hb := hb), v453_at, v455_at, v479_at, v495_at, v511_at, ld4_2 c i _ _ _ b hb, ld5_2 c i _ _ _ b hb, ldv_2, neg_inf, one_f32, add_assoc]
  rfl

/-- The block's largest score in absolute value. -/
theorem ma2_at (b : Fin 32) (hb : b.val = 4 * (i 1).val + 2) (r : Fin 512) : mid.sl.v554 c i arg2 arg3 arg11 arg14 f2 f3 f11 (ix2 0 r) = (Finset.univ.sup fun s : Fin 8 => (max (arg11.view.read _ f11 (ix3 b s r)) (max (arg14.view.read _ (arg14.view.writes _ arg14.view.junk (mid.sl.H14_8 c i arg2 arg3 f2 f3)) (ix4 0 0 s r)) (0 - arg14.view.read _ (arg14.view.writes _ arg14.view.junk (mid.sl.H14_8 c i arg2 arg3 f2 f3)) (ix4 0 1 s r))))) * ((1 / 16 : ℝ) : EReal) := by
  pointwise [mid.sl.v554, mid.sl.v149, mid.sl.cst_99, mid.sl.v552, mid.sl.v551, mid.sl.r_16, k0_pay277, mid.sl.v454, mid.sl.v469]
  simp only [v453_at, v455_at, v479_at, v495_at, v511_at, ld4_2 c i _ _ _ b hb, ld5_2 c i _ _ _ b hb, ldv_2, neg_inf, inv16_f32]
  rfl

/-- The largest absolute value of the block's output. -/
theorem mr2_at (r : Fin 512) : mid.sl.v550 c i arg2 arg3 arg4 arg8 arg9 arg10 arg12 arg13 arg14 f2 f3 f4 f8 f9 f10 (ix2 0 r) = Finset.univ.sup fun d : Fin 256 => max (mid.sl.v547 c i arg2 arg3 arg4 arg8 arg9 arg10 arg12 arg13 arg14 f2 f3 f4 f8 f9 f10 (ix2 d r)) (-(mid.sl.v547 c i arg2 arg3 arg4 arg8 arg9 arg10 arg12 arg13 arg14 f2 f3 f4 f8 f9 f10 (ix2 d r))) := by
  pointwise [mid.sl.v550, mid.sl.v549, mid.sl.v548]
  simp only [neg_inf]
  rfl

/-- The block's column after the chunk. -/
theorem mcol2 (b : Fin 32) (hb : b.val = 4 * (i 1).val + 2) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 2 x ∧ AB b.val r (K + x) = max (rawm (arg2.view.read _ f2) (arg3.view.read _ f3) b.val r ⊥ 2 x) (0 - rawm (arg2.view.read _ f2) (arg3.view.read _ f3) b.val r 0 2 x))
    (B : BlkAt SC AB v K (arg8.view.read _ f8) (arg9.view.read _ f9) (arg10.view.read _ f10) (arg11.view.read _ f11) b) (r : Fin 512) :
    Col (SC b.val r) (AB b.val r) v (K + 768) (fun a => (max (arg9.view.read _ f9 (ix3 b a r)) (Finset.univ.fold max ⊥ fun x : Fin 8 => arg14.view.read _ (arg14.view.writes _ arg14.view.junk (mid.sl.H14_8 c i arg2 arg3 f2 f3)) (ix4 0 0 x r)))) (fun a => (arg10.view.read _ f10 (ix3 b a r) * W (max (arg9.view.read _ f9 (ix3 b a r)) (Finset.univ.fold max ⊥ fun x : Fin 8 => arg14.view.read _ (arg14.view.writes _ arg14.view.junk (mid.sl.H14_8 c i arg2 arg3 f2 f3)) (ix4 0 0 x r))) (arg9.view.read _ f9 (ix3 b a r)) + (qsum (fun j => arg12.view.read _ (arg12.view.writes _ arg12.view.junk (mid.sl.H12_10 c i arg2 arg3 f2 f3)) (ix3 0 (ky j) r)) (max (arg9.view.read _ f9 (ix3 b a r)) (Finset.univ.fold max ⊥ fun x : Fin 8 => arg14.view.read _ (arg14.view.writes _ arg14.view.junk (mid.sl.H14_8 c i arg2 arg3 f2 f3)) (ix4 0 0 x r))) 0 a + qsum (fun j => arg12.view.read _ (arg12.view.writes _ arg12.view.junk (mid.sl.H12_10 c i arg2 arg3 f2 f3)) (ix3 0 (ky j) r)) (max (arg9.view.read _ f9 (ix3 b a r)) (Finset.univ.fold max ⊥ fun x : Fin 8 => arg14.view.read _ (arg14.view.writes _ arg14.view.junk (mid.sl.H14_8 c i arg2 arg3 f2 f3)) (ix4 0 0 x r))) 1 a + qsum (fun j => arg12.view.read _ (arg12.view.writes _ arg12.view.junk (mid.sl.H12_10 c i arg2 arg3 f2 f3)) (ix3 0 (ky j) r)) (max (arg9.view.read _ f9 (ix3 b a r)) (Finset.univ.fold max ⊥ fun x : Fin 8 => arg14.view.read _ (arg14.view.writes _ arg14.view.junk (mid.sl.H14_8 c i arg2 arg3 f2 f3)) (ix4 0 0 x r))) 2 a))) (fun a => (max (arg11.view.read _ f11 (ix3 b a r)) (max (arg14.view.read _ (arg14.view.writes _ arg14.view.junk (mid.sl.H14_8 c i arg2 arg3 f2 f3)) (ix4 0 0 a r)) (0 - arg14.view.read _ (arg14.view.writes _ arg14.view.junk (mid.sl.H14_8 c i arg2 arg3 f2 f3)) (ix4 0 1 a r)))))
      (fun d => (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg9.view.read _ f9 (ix3 b ⟨d.val % 8, Nat.mod_lt _ (by norm_num)⟩ r))
    + ∑ x : Fin 768, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 0 0 x r))) (arg12.view.read _ (arg12.view.writes _ arg12.view.junk (mid.sl.H12_10 c i arg2 arg3 f2 f3)) (ix3 0 (ky x.val) r)))) := by
  have T : SlotAt SC AB K 768 (arg12.view.read _ (arg12.view.writes _ arg12.view.junk (mid.sl.H12_10 c i arg2 arg3 f2 f3))) (arg14.view.read _ (arg14.view.writes _ arg14.view.junk (mid.sl.H14_8 c i arg2 arg3 f2 f3))) 0 b.val := by
    rw [hb] at hS ⊢
    exact mid_slot2 c i arg2 arg3 arg12 arg14 f2 f3 _ _ hS
  refine Col.attend (good _ r) (by norm_num) (B r) (T r) (V := fun d x => v d (K + x)) (fun _ _ _ => rfl)
    (R := fun m a => qsum (fun j => arg12.view.read _ (arg12.view.writes _ arg12.view.junk (mid.sl.H12_10 c i arg2 arg3 f2 f3)) (ix3 0 (ky j) r)) m 0 a + qsum (fun j => arg12.view.read _ (arg12.view.writes _ arg12.view.junk (mid.sl.H12_10 c i arg2 arg3 f2 f3)) (ix3 0 (ky j) r)) m 1 a + qsum (fun j => arg12.view.read _ (arg12.view.writes _ arg12.view.junk (mid.sl.H12_10 c i arg2 arg3 f2 f3)) (ix3 0 (ky j) r)) m 2 a)
    (g := fun d => ⟨d.val % 8, Nat.mod_lt _ (by norm_num)⟩) (gp := fun x => ⟨x % 8, Nat.mod_lt _ (by norm_num)⟩) (fun m => ls3 _ m) (fun _ => rfl) (fun _ => rfl) (fun _ => rfl) (fun d => ?_)
  rw [Finset.sum_range]
  refine congrArg₂ (· + ·) rfl (Finset.sum_congr rfl fun x _ => ?_)
  rw [hV, show (ky x.val).val = x.val from Nat.mod_eq_of_lt (by omega)]

/-- The block's output: the weighted sum over its denominator. -/
theorem mout2 (b : Fin 32) (hb : b.val = 4 * (i 1).val + 2) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 2 x ∧ AB b.val r (K + x) = max (rawm (arg2.view.read _ f2) (arg3.view.read _ f3) b.val r ⊥ 2 x) (0 - rawm (arg2.view.read _ f2) (arg3.view.read _ f3) b.val r 0 2 x))
    (B : BlkAt SC AB v K (arg8.view.read _ f8) (arg9.view.read _ f9) (arg10.view.read _ f10) (arg11.view.read _ f11) b) (d : Fin 256) (r : Fin 512) :
    mid.sl.v547 c i arg2 arg3 arg4 arg8 arg9 arg10 arg12 arg13 arg14 f2 f3 f4 f8 f9 f10 (ix2 d r) = cO (SC b.val r) (v d.val) (K + 768) * Ideal.div 1 (cL (SC b.val r) (K + 768)) :=
  (mo2_at c i arg2 arg3 arg4 arg8 arg9 arg10 arg12 arg13 arg14 f2 f3 f4 f8 f9 f10 b hb d r).trans (congrArg₂ (fun x y => x * Ideal.div 1 y) ((mcol2 c i arg2 arg3 arg4 arg8 arg9 arg10 arg11 arg12 arg14 f2 f3 f4 f8 f9 f10 f11 b hb good hV hS B r).o d) (mcol2 c i arg2 arg3 arg4 arg8 arg9 arg10 arg11 arg12 arg14 f2 f3 f4 f8 f9 f10 f11 b hb good hV hS B r).l)

include arg12 in
/-- The block's largest score in absolute value. -/
theorem mabs2 (b : Fin 32) (hb : b.val = 4 * (i 1).val + 2) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 2 x ∧ AB b.val r (K + x) = max (rawm (arg2.view.read _ f2) (arg3.view.read _ f3) b.val r ⊥ 2 x) (0 - rawm (arg2.view.read _ f2) (arg3.view.read _ f3) b.val r 0 2 x))
    (B : BlkAt SC AB v K (arg8.view.read _ f8) (arg9.view.read _ f9) (arg10.view.read _ f10) (arg11.view.read _ f11) b) (r : Fin 512) : mid.sl.v554 c i arg2 arg3 arg11 arg14 f2 f3 f11 (ix2 0 r) = cA (AB b.val r) (K + 768) * ((1 / 16 : ℝ) : EReal) :=
  (ma2_at c i arg2 arg3 arg11 arg14 f2 f3 f11 b hb r).trans (congrArg (fun x => x * ((1 / 16 : ℝ) : EReal)) (mcol2 c i arg2 arg3 arg4 arg8 arg9 arg10 arg11 arg12 arg14 f2 f3 f4 f8 f9 f10 f11 b hb good hV hS B r).a)

end

end Cert.Proof.KernelIdeal
-- ==== Proof.KernelIdealMidPay3.lean ====
/-
  Diagonal block 3 of the chunk: attended, its results.
-/
module

public import proofs.«01_k».proof.Proof.KernelIdealTail
public import proofs.«01_k».proof.Proof.KernelIdealMidLoad

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (arg3 : Memref sig .tc .vmem S1x1x1024x256 .bf16)
  (arg4 : Memref sig .tc .vmem S1x1x256x1024 .bf16)
  (arg8 : Memref sig .tc .vmem S32x256x512 .f32) (arg9 arg10 arg11 : Memref sig .tc .vmem S32x8x512 .f32)
  (arg12 : Memref sig .tc .vmem S2x1024x512 .f32) (arg13 : Memref sig .tc .vmem S2x1024x512 .bf16) (arg14 : Memref sig .tc .vmem S2x2x8x512 .f32)
  (f2 : Bf (F := Ideal) c arg2) (f3 : Bf (F := Ideal) c arg3) (f4 : Bf (F := Ideal) c arg4)
  (f8 : Bf (F := Ideal) c arg8) (f9 : Bf (F := Ideal) c arg9) (f10 : Bf (F := Ideal) c arg10) (f11 : Bf (F := Ideal) c arg11)

theorem v601_at (a : Fin 8) (r : Fin 512) : mid.sl.v601 c i arg2 arg3 arg14 f2 f3 (ix4 0 0 a r) = arg14.view.read _ (arg14.view.writes _ arg14.view.junk (mid.sl.H14_8 c i arg2 arg3 f2 f3)) (ix4 1 0 a r) :=
  readCov_at _ _ _ rfl _ _ fun a => by fin_cases a <;> simp

theorem v603_at (a : Fin 8) (r : Fin 512) : mid.sl.v603 c i arg2 arg3 arg14 f2 f3 (ix4 0 0 a r) = arg14.view.read _ (arg14.view.writes _ arg14.view.junk (mid.sl.H14_8 c i arg2 arg3 f2 f3)) (ix4 1 1 a r) :=
  readCov_at _ _ _ rfl _ _ fun a => by fin_cases a <;> simp

theorem v627_at (x : Fin 256) (r : Fin 512) : mid.sl.v627 c i arg2 arg3 arg12 f2 f3 (ix3 0 x r) = arg12.view.read _ (arg12.view.writes _ arg12.view.junk (mid.sl.H12_10 c i arg2 arg3 f2 f3)) (ix3 1 (ky (x.val + 0)) r) :=
  readCov_at _ _ _ rfl _ _ fun a => by fin_cases a <;> simp [ky] <;> omega

theorem v643_at (x : Fin 256) (r : Fin 512) : mid.sl.v643 c i arg2 arg3 arg12 f2 f3 (ix3 0 x r) = arg12.view.read _ (arg12.view.writes _ arg12.view.junk (mid.sl.H12_10 c i arg2 arg3 f2 f3)) (ix3 1 (ky (x.val + 256)) r) :=
  readCov_at _ _ _ rfl _ _ fun a => by fin_cases a <;> simp [ky] <;> omega

theorem v659_at (x : Fin 256) (r : Fin 512) : mid.sl.v659 c i arg2 arg3 arg12 f2 f3 (ix3 0 x r) = arg12.view.read _ (arg12.view.writes _ arg12.view.junk (mid.sl.H12_10 c i arg2 arg3 f2 f3)) (ix3 1 (ky (x.val + 512)) r) :=
  readCov_at _ _ _ rfl _ _ fun a => by fin_cases a <;> simp [ky] <;> omega

theorem v675_at (x : Fin 256) (r : Fin 512) : mid.sl.v675 c i arg2 arg3 arg12 f2 f3 (ix3 0 x r) = arg12.view.read _ (arg12.view.writes _ arg12.view.junk (mid.sl.H12_10 c i arg2 arg3 f2 f3)) (ix3 1 (ky (x.val + 768)) r) :=
  readCov_at _ _ _ rfl _ _ fun a => by fin_cases a <;> simp [ky] <;> omega

/-- The new largest score. -/
theorem mnm3_at (b : Fin 32) (hb : b.val = 4 * (i 1).val + 3) (a : Fin 8) (r : Fin 512) : mid.sl.r_21 c i arg2 arg3 arg9 arg14 f2 f3 f9 (ix2 a r) = (max (arg9.view.read _ f9 (ix3 b a r)) (Finset.univ.fold max ⊥ fun x : Fin 8 => arg14.view.read _ (arg14.view.writes _ arg14.view.junk (mid.sl.H14_8 c i arg2 arg3 f2 f3)) (ix4 1 0 x r))) := by
  pointwise [mid.sl.r_21, k0_pay306, k0_pay305, k0_pay304, mid.sl.v606]
  simp only [v601_at, v603_at, v627_at, v643_at, v659_at, v675_at, ld4_3 c i _ _ _ b hb, ld5_3 c i _ _ _ b hb, ldv_3, neg_inf]

theorem mw3_0_at (b : Fin 32) (hb : b.val = 4 * (i 1).val + 3) (x : Fin 256) (r : Fin 512) : arg13.view.read (Elt Ideal) (arg13.view.writes _ arg13.view.junk (mid.sl.H13_10 c i arg2 arg3 arg9 arg12 arg14 f2 f3 f9)) (ix3 1 (ky (x.val + 0)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky (x.val + 0)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay312, k0_pay311, mid.sl.r_25, k0_pay310, k0_pay306, k0_pay305, k0_pay304, mid.sl.v606]
  simp only [mnm3_at (hb := hb), v601_at, v603_at, v627_at, v643_at, v659_at, v675_at, ld4_3 c i _ _ _ b hb, ld5_3 c i _ _ _ b hb, ldv_3, neg_inf]
  rfl

theorem mw3_1_at (b : Fin 32) (hb : b.val = 4 * (i 1).val + 3) (x : Fin 256) (r : Fin 512) : arg13.view.read (Elt Ideal) (arg13.view.writes _ arg13.view.junk (mid.sl.H13_10 c i arg2 arg3 arg9 arg12 arg14 f2 f3 f9)) (ix3 1 (ky (x.val + 256)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky (x.val + 256)) r)) := by
  refine (View.read_writes_cons_unit_of_not_mem _ _ _ _ _ _ rfl 1 (by simp [ky] <;> omega)).trans ?_
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay314, k0_pay313]
  simp only [mnm3_at (hb := hb), v601_at, v603_at, v627_at, v643_at, v659_at, v675_at, ld4_3 c i _ _ _ b hb, ld5_3 c i _ _ _ b hb, ldv_3, neg_inf]
  rfl

theorem mw3_2_at (b : Fin 32) (hb : b.val = 4 * (i 1).val + 3) (x : Fin 256) (r : Fin 512) : arg13.view.read (Elt Ideal) (arg13.view.writes _ arg13.view.junk (mid.sl.H13_10 c i arg2 arg3 arg9 arg12 arg14 f2 f3 f9)) (ix3 1 (ky (x.val + 512)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky (x.val + 512)) r)) := by
  refine (View.read_writes_cons_unit_of_not_mem _ _ _ _ _ _ rfl 1 (by simp [ky] <;> omega)).trans ?_
  refine (View.read_writes_cons_unit_of_mem _ _ _ _ _ _ (ix3 0 x r) rfl (by intro a; fin_cases a <;> simp [ky] <;> omega)).trans ?_
  pointwise [k0_pay318, mid.sl.r_27, k0_pay317, k0_pay315]
  simp only [mnm3_at (hb := hb), v601_at, v603_at, v627_at, v643_at, v659_at, v675_at, ld4_3 c i _ _ _ b hb, ld5_3 c i _ _ _ b hb, ldv_3, neg_inf]
  rfl

theorem mw3_3_at (b : Fin 32) (hb : b.val = 4 * (i 1).val + 3) (x : Fin 256) (r : Fin 512) : arg13.view.read (Elt Ideal) (arg13.view.writes _ arg13.view.junk (mid.sl.H13_10 c i arg2 arg3 arg9 arg12 arg14 f2 f3 f9)) (ix3 1 (ky (x.val + 768)) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky (x.val + 768)) r)) := by
  refine (View.read_writes_cons_unit_of_mem _ _ _ _ _ _ (ix3 0 x r) rfl (by intro a; fin_cases a <;> simp [ky] <;> omega)).trans ?_
  pointwise [k0_pay320, k0_pay319]
  simp only [mnm3_at (hb := hb), v601_at, v603_at, v627_at, v643_at, v659_at, v675_at, ld4_3 c i _ _ _ b hb, ld5_3 c i _ _ _ b hb, ldv_3, neg_inf]
  rfl

theorem mw3_at (b : Fin 32) (hb : b.val = 4 * (i 1).val + 3) (x : Fin 1024) (r : Fin 512) : arg13.view.read (Elt Ideal) (arg13.view.writes _ arg13.view.junk (mid.sl.H13_10 c i arg2 arg3 arg9 arg12 arg14 f2 f3 f9)) (ix3 1 (ky x.val) r)
    = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky x.val) r)) := by
  have hx := x.isLt
  by_cases h0 : x.val < 256
  · have e : x.val = (⟨x.val - 0, by omega⟩ : Fin 256).val + 0 := by dsimp only; omega
    have e' : (⟨x.val % 8, Nat.mod_lt _ (by norm_num)⟩ : Fin 8) = ⟨(⟨x.val - 0, by omega⟩ : Fin 256).val % 8, Nat.mod_lt _ (by norm_num)⟩ := Fin.ext (by dsimp only; omega)
    rw [e']
    have := mw3_0_at c i arg2 arg3 arg9 arg12 arg13 arg14 f2 f3 f9 b hb (⟨x.val - 0, by omega⟩ : Fin 256) r
    rwa [← e] at this
  by_cases h1 : x.val < 512
  · have e : x.val = (⟨x.val - 256, by omega⟩ : Fin 256).val + 256 := by dsimp only; omega
    have e' : (⟨x.val % 8, Nat.mod_lt _ (by norm_num)⟩ : Fin 8) = ⟨(⟨x.val - 256, by omega⟩ : Fin 256).val % 8, Nat.mod_lt _ (by norm_num)⟩ := Fin.ext (by dsimp only; omega)
    rw [e']
    have := mw3_1_at c i arg2 arg3 arg9 arg12 arg13 arg14 f2 f3 f9 b hb (⟨x.val - 256, by omega⟩ : Fin 256) r
    rwa [← e] at this
  by_cases h2 : x.val < 768
  · have e : x.val = (⟨x.val - 512, by omega⟩ : Fin 256).val + 512 := by dsimp only; omega
    have e' : (⟨x.val % 8, Nat.mod_lt _ (by norm_num)⟩ : Fin 8) = ⟨(⟨x.val - 512, by omega⟩ : Fin 256).val % 8, Nat.mod_lt _ (by norm_num)⟩ := Fin.ext (by dsimp only; omega)
    rw [e']
    have := mw3_2_at c i arg2 arg3 arg9 arg12 arg13 arg14 f2 f3 f9 b hb (⟨x.val - 512, by omega⟩ : Fin 256) r
    rwa [← e] at this
  have e : x.val = (⟨x.val - 768, by omega⟩ : Fin 256).val + 768 := by dsimp only; omega
  have e' : (⟨x.val % 8, Nat.mod_lt _ (by norm_num)⟩ : Fin 8) = ⟨(⟨x.val - 768, by omega⟩ : Fin 256).val % 8, Nat.mod_lt _ (by norm_num)⟩ := Fin.ext (by dsimp only; omega)
  rw [e']
  have := mw3_3_at c i arg2 arg3 arg9 arg12 arg13 arg14 f2 f3 f9 b hb (⟨x.val - 768, by omega⟩ : Fin 256) r
  rwa [← e] at this

theorem mwl3_at (b : Fin 32) (hb : b.val = 4 * (i 1).val + 3) (x : Fin 1024) (r : Fin 512) : mid.sl.v693 c i arg2 arg3 arg9 arg12 arg13 arg14 f2 f3 f9 (ix3 0 x r) = W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky x.val) r)) := by
  rw [← mw3_at c i arg2 arg3 arg9 arg12 arg13 arg14 f2 f3 f9 b hb x r]
  exact readCov_at _ _ _ rfl _ _ fun a => by fin_cases a <;> simp [ky] <;> omega

/-- The block's output, of its accumulators. -/
theorem mo3_at (b : Fin 32) (hb : b.val = 4 * (i 1).val + 3) (d : Fin 256) (r : Fin 512) : mid.sl.v711 c i arg2 arg3 arg4 arg8 arg9 arg10 arg12 arg13 arg14 f2 f3 f4 f8 f9 f10 (ix2 d r) = (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg9.view.read _ f9 (ix3 b ⟨d.val % 8, Nat.mod_lt _ (by norm_num)⟩ r))
    + ∑ x : Fin 1024, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky x.val) r))) * Ideal.div 1 (∑ s : Fin 8, (arg10.view.read _ f10 (ix3 b s r) * W (max (arg9.view.read _ f9 (ix3 b s r)) (Finset.univ.fold max ⊥ fun x : Fin 8 => arg14.view.read _ (arg14.view.writes _ arg14.view.junk (mid.sl.H14_8 c i arg2 arg3 f2 f3)) (ix4 1 0 x r))) (arg9.view.read _ f9 (ix3 b s r)) + (qsum (fun j => arg12.view.read _ (arg12.view.writes _ arg12.view.junk (mid.sl.H12_10 c i arg2 arg3 f2 f3)) (ix3 1 (ky j) r)) (max (arg9.view.read _ f9 (ix3 b s r)) (Finset.univ.fold max ⊥ fun x : Fin 8 => arg14.view.read _ (arg14.view.writes _ arg14.view.junk (mid.sl.H14_8 c i arg2 arg3 f2 f3)) (ix4 1 0 x r))) 0 s + qsum (fun j => arg12.view.read _ (arg12.view.writes _ arg12.view.junk (mid.sl.H12_10 c i arg2 arg3 f2 f3)) (ix3 1 (ky j) r)) (max (arg9.view.read _ f9 (ix3 b s r)) (Finset.univ.fold max ⊥ fun x : Fin 8 => arg14.view.read _ (arg14.view.writes _ arg14.view.junk (mid.sl.H14_8 c i arg2 arg3 f2 f3)) (ix4 1 0 x r))) 1 s + qsum (fun j => arg12.view.read _ (arg12.view.writes _ arg12.view.junk (mid.sl.H12_10 c i arg2 arg3 f2 f3)) (ix3 1 (ky j) r)) (max (arg9.view.read _ f9 (ix3 b s r)) (Finset.univ.fold max ⊥ fun x : Fin 8 => arg14.view.read _ (arg14.view.writes _ arg14.view.junk (mid.sl.H14_8 c i arg2 arg3 f2 f3)) (ix4 1 0 x r))) 2 s + qsum (fun j => arg12.view.read _ (arg12.view.writes _ arg12.view.junk (mid.sl.H12_10 c i arg2 arg3 f2 f3)) (ix3 1 (ky j) r)) (max (arg9.view.read _ f9 (ix3 b s r)) (Finset.univ.fold max ⊥ fun x : Fin 8 => arg14.view.read _ (arg14.view.writes _ arg14.view.junk (mid.sl.H14_8 c i arg2 arg3 f2 f3)) (ix4 1 0 x r))) 3 s))) := by
  pointwise [mid.sl.v711, mid.sl.r_28, k0_pay321, mid.sl.r_22, k0_pay307, k0_pay306, k0_pay305, k0_pay304, mid.sl.v606, mid.sl.v697, mid.sl.v710, mid.sl.v709, mid.sl.v140, mid.sl.cst_96, mid.sl.r_29, k0_pay322, k0_pay319, mid.sl.r_26, k0_pay316, k0_pay311, k0_pay313, k0_pay315, mid.sl.r_24, k0_pay309, mid.sl.r_25, k0_pay310, mid.sl.v624]
  simp only [mwl3_at (hb := hb), mnm3_at (hb := hb), v601_at, v603_at, v627_at, v643_at, v659_at, v675_at, ld4_3 c i _ _ _ b hb, ld5_3 c i _ _ _ b hb, ldv_3, neg_inf, one_f32, add_assoc]
  rfl

/-- The block's largest score in absolute value. -/
theorem ma3_at (b : Fin 32) (hb : b.val = 4 * (i 1).val + 3) (r : Fin 512) : mid.sl.v718 c i arg2 arg3 arg11 arg14 f2 f3 f11 (ix2 0 r) = (Finset.univ.sup fun s : Fin 8 => (max (arg11.view.read _ f11 (ix3 b s r)) (max (arg14.view.read _ (arg14.view.writes _ arg14.view.junk (mid.sl.H14_8 c i arg2 arg3 f2 f3)) (ix4 1 0 s r)) (0 - arg14.view.read _ (arg14.view.writes _ arg14.view.junk (mid.sl.H14_8 c i arg2 arg3 f2 f3)) (ix4 1 1 s r))))) * ((1 / 16 : ℝ) : EReal) := by
  pointwise [mid.sl.v718, mid.sl.v149, mid.sl.cst_99, mid.sl.v716, mid.sl.v715, mid.sl.r_23, k0_pay308, k0_pay304, mid.sl.v617]
  simp only [v601_at, v603_at, v627_at, v643_at, v659_at, v675_at, ld4_3 c i _ _ _ b hb, ld5_3 c i _ _ _ b hb, ldv_3, neg_inf, inv16_f32]
  rfl

/-- The largest absolute value of the block's output. -/
theorem mr3_at (r : Fin 512) : mid.sl.v714 c i arg2 arg3 arg4 arg8 arg9 arg10 arg12 arg13 arg14 f2 f3 f4 f8 f9 f10 (ix2 0 r) = Finset.univ.sup fun d : Fin 256 => max (mid.sl.v711 c i arg2 arg3 arg4 arg8 arg9 arg10 arg12 arg13 arg14 f2 f3 f4 f8 f9 f10 (ix2 d r)) (-(mid.sl.v711 c i arg2 arg3 arg4 arg8 arg9 arg10 arg12 arg13 arg14 f2 f3 f4 f8 f9 f10 (ix2 d r))) := by
  pointwise [mid.sl.v714, mid.sl.v713, mid.sl.v712]
  simp only [neg_inf]
  rfl

/-- The block's column after the chunk. -/
theorem mcol3 (b : Fin 32) (hb : b.val = 4 * (i 1).val + 3) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 3 x ∧ AB b.val r (K + x) = max (rawm (arg2.view.read _ f2) (arg3.view.read _ f3) b.val r ⊥ 3 x) (0 - rawm (arg2.view.read _ f2) (arg3.view.read _ f3) b.val r 0 3 x))
    (B : BlkAt SC AB v K (arg8.view.read _ f8) (arg9.view.read _ f9) (arg10.view.read _ f10) (arg11.view.read _ f11) b) (r : Fin 512) :
    Col (SC b.val r) (AB b.val r) v (K + 1024) (fun a => (max (arg9.view.read _ f9 (ix3 b a r)) (Finset.univ.fold max ⊥ fun x : Fin 8 => arg14.view.read _ (arg14.view.writes _ arg14.view.junk (mid.sl.H14_8 c i arg2 arg3 f2 f3)) (ix4 1 0 x r)))) (fun a => (arg10.view.read _ f10 (ix3 b a r) * W (max (arg9.view.read _ f9 (ix3 b a r)) (Finset.univ.fold max ⊥ fun x : Fin 8 => arg14.view.read _ (arg14.view.writes _ arg14.view.junk (mid.sl.H14_8 c i arg2 arg3 f2 f3)) (ix4 1 0 x r))) (arg9.view.read _ f9 (ix3 b a r)) + (qsum (fun j => arg12.view.read _ (arg12.view.writes _ arg12.view.junk (mid.sl.H12_10 c i arg2 arg3 f2 f3)) (ix3 1 (ky j) r)) (max (arg9.view.read _ f9 (ix3 b a r)) (Finset.univ.fold max ⊥ fun x : Fin 8 => arg14.view.read _ (arg14.view.writes _ arg14.view.junk (mid.sl.H14_8 c i arg2 arg3 f2 f3)) (ix4 1 0 x r))) 0 a + qsum (fun j => arg12.view.read _ (arg12.view.writes _ arg12.view.junk (mid.sl.H12_10 c i arg2 arg3 f2 f3)) (ix3 1 (ky j) r)) (max (arg9.view.read _ f9 (ix3 b a r)) (Finset.univ.fold max ⊥ fun x : Fin 8 => arg14.view.read _ (arg14.view.writes _ arg14.view.junk (mid.sl.H14_8 c i arg2 arg3 f2 f3)) (ix4 1 0 x r))) 1 a + qsum (fun j => arg12.view.read _ (arg12.view.writes _ arg12.view.junk (mid.sl.H12_10 c i arg2 arg3 f2 f3)) (ix3 1 (ky j) r)) (max (arg9.view.read _ f9 (ix3 b a r)) (Finset.univ.fold max ⊥ fun x : Fin 8 => arg14.view.read _ (arg14.view.writes _ arg14.view.junk (mid.sl.H14_8 c i arg2 arg3 f2 f3)) (ix4 1 0 x r))) 2 a + qsum (fun j => arg12.view.read _ (arg12.view.writes _ arg12.view.junk (mid.sl.H12_10 c i arg2 arg3 f2 f3)) (ix3 1 (ky j) r)) (max (arg9.view.read _ f9 (ix3 b a r)) (Finset.univ.fold max ⊥ fun x : Fin 8 => arg14.view.read _ (arg14.view.writes _ arg14.view.junk (mid.sl.H14_8 c i arg2 arg3 f2 f3)) (ix4 1 0 x r))) 3 a))) (fun a => (max (arg11.view.read _ f11 (ix3 b a r)) (max (arg14.view.read _ (arg14.view.writes _ arg14.view.junk (mid.sl.H14_8 c i arg2 arg3 f2 f3)) (ix4 1 0 a r)) (0 - arg14.view.read _ (arg14.view.writes _ arg14.view.junk (mid.sl.H14_8 c i arg2 arg3 f2 f3)) (ix4 1 1 a r)))))
      (fun d => (arg8.view.read _ f8 (ix3 b d r) * W (max (arg9.view.read _ f9 (ix3 b ⟨d.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg9.view.read _ f9 (ix3 b ⟨d.val % 8, Nat.mod_lt _ (by norm_num)⟩ r))
    + ∑ x : Fin 1024, arg4.view.read _ f4 (ix4 0 0 d (ky x.val)) * W (max (arg9.view.read _ f9 (ix3 b ⟨x.val % 8, Nat.mod_lt _ (by norm_num)⟩ r)) (Finset.univ.fold max ⊥ fun x : Fin 8 => arg14.view.read _ (arg14.view.writes _ arg14.view.junk (mid.sl.H14_8 c i arg2 arg3 f2 f3)) (ix4 1 0 x r))) (arg12.view.read _ (arg12.view.writes _ arg12.view.junk (mid.sl.H12_10 c i arg2 arg3 f2 f3)) (ix3 1 (ky x.val) r)))) := by
  have T : SlotAt SC AB K 1024 (arg12.view.read _ (arg12.view.writes _ arg12.view.junk (mid.sl.H12_10 c i arg2 arg3 f2 f3))) (arg14.view.read _ (arg14.view.writes _ arg14.view.junk (mid.sl.H14_8 c i arg2 arg3 f2 f3))) 1 b.val := by
    rw [hb] at hS ⊢
    exact mid_slot3 c i arg2 arg3 arg12 arg14 f2 f3 _ _ hS
  refine Col.attend (good _ r) (by norm_num) (B r) (T r) (V := fun d x => v d (K + x)) (fun _ _ _ => rfl)
    (R := fun m a => qsum (fun j => arg12.view.read _ (arg12.view.writes _ arg12.view.junk (mid.sl.H12_10 c i arg2 arg3 f2 f3)) (ix3 1 (ky j) r)) m 0 a + qsum (fun j => arg12.view.read _ (arg12.view.writes _ arg12.view.junk (mid.sl.H12_10 c i arg2 arg3 f2 f3)) (ix3 1 (ky j) r)) m 1 a + qsum (fun j => arg12.view.read _ (arg12.view.writes _ arg12.view.junk (mid.sl.H12_10 c i arg2 arg3 f2 f3)) (ix3 1 (ky j) r)) m 2 a + qsum (fun j => arg12.view.read _ (arg12.view.writes _ arg12.view.junk (mid.sl.H12_10 c i arg2 arg3 f2 f3)) (ix3 1 (ky j) r)) m 3 a)
    (g := fun d => ⟨d.val % 8, Nat.mod_lt _ (by norm_num)⟩) (gp := fun x => ⟨x % 8, Nat.mod_lt _ (by norm_num)⟩) (fun m => ls4 _ m) (fun _ => rfl) (fun _ => rfl) (fun _ => rfl) (fun d => ?_)
  rw [Finset.sum_range]
  refine congrArg₂ (· + ·) rfl (Finset.sum_congr rfl fun x _ => ?_)
  rw [hV, show (ky x.val).val = x.val from Nat.mod_eq_of_lt (by omega)]

/-- The block's output: the weighted sum over its denominator. -/
theorem mout3 (b : Fin 32) (hb : b.val = 4 * (i 1).val + 3) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 3 x ∧ AB b.val r (K + x) = max (rawm (arg2.view.read _ f2) (arg3.view.read _ f3) b.val r ⊥ 3 x) (0 - rawm (arg2.view.read _ f2) (arg3.view.read _ f3) b.val r 0 3 x))
    (B : BlkAt SC AB v K (arg8.view.read _ f8) (arg9.view.read _ f9) (arg10.view.read _ f10) (arg11.view.read _ f11) b) (d : Fin 256) (r : Fin 512) :
    mid.sl.v711 c i arg2 arg3 arg4 arg8 arg9 arg10 arg12 arg13 arg14 f2 f3 f4 f8 f9 f10 (ix2 d r) = cO (SC b.val r) (v d.val) (K + 1024) * Ideal.div 1 (cL (SC b.val r) (K + 1024)) :=
  (mo3_at c i arg2 arg3 arg4 arg8 arg9 arg10 arg12 arg13 arg14 f2 f3 f4 f8 f9 f10 b hb d r).trans (congrArg₂ (fun x y => x * Ideal.div 1 y) ((mcol3 c i arg2 arg3 arg4 arg8 arg9 arg10 arg11 arg12 arg14 f2 f3 f4 f8 f9 f10 f11 b hb good hV hS B r).o d) (mcol3 c i arg2 arg3 arg4 arg8 arg9 arg10 arg11 arg12 arg14 f2 f3 f4 f8 f9 f10 f11 b hb good hV hS B r).l)

include arg12 in
/-- The block's largest score in absolute value. -/
theorem mabs3 (b : Fin 32) (hb : b.val = 4 * (i 1).val + 3) {SC AB : ℕ → Fin 512 → ℕ → EReal} {v : ℕ → ℕ → EReal} {K : ℕ} (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ 3 x ∧ AB b.val r (K + x) = max (rawm (arg2.view.read _ f2) (arg3.view.read _ f3) b.val r ⊥ 3 x) (0 - rawm (arg2.view.read _ f2) (arg3.view.read _ f3) b.val r 0 3 x))
    (B : BlkAt SC AB v K (arg8.view.read _ f8) (arg9.view.read _ f9) (arg10.view.read _ f10) (arg11.view.read _ f11) b) (r : Fin 512) : mid.sl.v718 c i arg2 arg3 arg11 arg14 f2 f3 f11 (ix2 0 r) = cA (AB b.val r) (K + 1024) * ((1 / 16 : ℝ) : EReal) :=
  (ma3_at c i arg2 arg3 arg11 arg14 f2 f3 f11 b hb r).trans (congrArg (fun x => x * ((1 / 16 : ℝ) : EReal)) (mcol3 c i arg2 arg3 arg4 arg8 arg9 arg10 arg11 arg12 arg14 f2 f3 f4 f8 f9 f10 f11 b hb good hV hS B r).a)

end

end Cert.Proof.KernelIdeal
-- ==== Proof.KernelIdealMidOut.lean ====
/-
  The diagonal blocks' results in the output windows.
-/
module

public import proofs.«01_k».proof.Proof.KernelIdealTail
public import proofs.«01_k».proof.Proof.KernelIdealRuns
public import proofs.«01_k».proof.Proof.KernelIdealMidPay0
public import proofs.«01_k».proof.Proof.KernelIdealMidPay1
public import proofs.«01_k».proof.Proof.KernelIdealMidPay2
public import proofs.«01_k».proof.Proof.KernelIdealMidPay3

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)

variable (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14)
  {SC AB : ℕ → Fin 512 → ℕ → EReal} {v : ℕ → ℕ → EReal} {K : ℕ}

theorem v155_at (a d : Fin 256) : mid.sl.v155 c i arg2 arg3 arg4 arg8 arg9 arg10 arg12 arg13 arg14 f2 f3 f4 f8 f9 f10 (ix4 0 0 a d) = mid.sl.v143 c i arg2 arg3 arg4 arg8 arg9 arg10 arg12 arg13 arg14 f2 f3 f4 f8 f9 f10 (ix2 d ⟨a.val, lt_trans a.isLt (by norm_num)⟩) := by
  pointwise [mid.sl.v155, mid.sl.v152, mid.sl.v151]

theorem v163_at (a : Fin 256) : mid.sl.v163 c i arg2 arg3 arg11 arg14 f2 f3 f11 (ix4 0 0 0 a) = mid.sl.v150 c i arg2 arg3 arg11 arg14 f2 f3 f11 (ix2 0 ⟨a.val, lt_trans a.isLt (by norm_num)⟩) := by
  pointwise [mid.sl.v163, mid.sl.v160]

theorem v159_at (a : Fin 256) : mid.sl.v159 c i arg2 arg3 arg4 arg8 arg9 arg10 arg12 arg13 arg14 f2 f3 f4 f8 f9 f10 (ix4 0 0 0 a) = mid.sl.v146 c i arg2 arg3 arg4 arg8 arg9 arg10 arg12 arg13 arg14 f2 f3 f4 f8 f9 f10 (ix2 0 ⟨a.val, lt_trans a.isLt (by norm_num)⟩) := by
  pointwise [mid.sl.v159, mid.sl.v156]

theorem v167_at (a d : Fin 256) : mid.sl.v167 c i arg2 arg3 arg4 arg8 arg9 arg10 arg12 arg13 arg14 f2 f3 f4 f8 f9 f10 (ix4 0 0 a d) = mid.sl.v143 c i arg2 arg3 arg4 arg8 arg9 arg10 arg12 arg13 arg14 f2 f3 f4 f8 f9 f10 (ix2 d ⟨256 + a.val, Nat.add_lt_add_left a.isLt 256⟩) := by
  pointwise [mid.sl.v167, mid.sl.v164, mid.sl.v151]

theorem v175_at (a : Fin 256) : mid.sl.v175 c i arg2 arg3 arg11 arg14 f2 f3 f11 (ix4 0 0 0 a) = mid.sl.v150 c i arg2 arg3 arg11 arg14 f2 f3 f11 (ix2 0 ⟨256 + a.val, Nat.add_lt_add_left a.isLt 256⟩) := by
  pointwise [mid.sl.v175, mid.sl.v172]

theorem v171_at (a : Fin 256) : mid.sl.v171 c i arg2 arg3 arg4 arg8 arg9 arg10 arg12 arg13 arg14 f2 f3 f4 f8 f9 f10 (ix4 0 0 0 a) = mid.sl.v146 c i arg2 arg3 arg4 arg8 arg9 arg10 arg12 arg13 arg14 f2 f3 f4 f8 f9 f10 (ix2 0 ⟨256 + a.val, Nat.add_lt_add_left a.isLt 256⟩) := by
  pointwise [mid.sl.v171, mid.sl.v168]

theorem v343_at (a d : Fin 256) : mid.sl.v343 c i arg2 arg3 arg4 arg8 arg9 arg10 arg12 arg13 arg14 f2 f3 f4 f8 f9 f10 (ix4 0 0 a d) = mid.sl.r_12 c i arg2 arg3 arg4 arg8 arg9 arg10 arg12 arg13 arg14 f2 f3 f4 f8 f9 f10 (ix2 d ⟨a.val, lt_trans a.isLt (by norm_num)⟩) := by
  pointwise [mid.sl.v343, mid.sl.v340, mid.sl.v339]

theorem v351_at (a : Fin 256) : mid.sl.v351 c i arg2 arg3 arg11 arg14 f2 f3 f11 (ix4 0 0 0 a) = mid.sl.v338 c i arg2 arg3 arg11 arg14 f2 f3 f11 (ix2 0 ⟨a.val, lt_trans a.isLt (by norm_num)⟩) := by
  pointwise [mid.sl.v351, mid.sl.v348]

theorem v347_at (a : Fin 256) : mid.sl.v347 c i arg2 arg3 arg4 arg8 arg9 arg10 arg12 arg13 arg14 f2 f3 f4 f8 f9 f10 (ix4 0 0 0 a) = mid.sl.v334 c i arg2 arg3 arg4 arg8 arg9 arg10 arg12 arg13 arg14 f2 f3 f4 f8 f9 f10 (ix2 0 ⟨a.val, lt_trans a.isLt (by norm_num)⟩) := by
  pointwise [mid.sl.v347, mid.sl.v344]

theorem v355_at (a d : Fin 256) : mid.sl.v355 c i arg2 arg3 arg4 arg8 arg9 arg10 arg12 arg13 arg14 f2 f3 f4 f8 f9 f10 (ix4 0 0 a d) = mid.sl.r_12 c i arg2 arg3 arg4 arg8 arg9 arg10 arg12 arg13 arg14 f2 f3 f4 f8 f9 f10 (ix2 d ⟨256 + a.val, Nat.add_lt_add_left a.isLt 256⟩) := by
  pointwise [mid.sl.v355, mid.sl.v352, mid.sl.v339]

theorem v363_at (a : Fin 256) : mid.sl.v363 c i arg2 arg3 arg11 arg14 f2 f3 f11 (ix4 0 0 0 a) = mid.sl.v338 c i arg2 arg3 arg11 arg14 f2 f3 f11 (ix2 0 ⟨256 + a.val, Nat.add_lt_add_left a.isLt 256⟩) := by
  pointwise [mid.sl.v363, mid.sl.v360]

theorem v359_at (a : Fin 256) : mid.sl.v359 c i arg2 arg3 arg4 arg8 arg9 arg10 arg12 arg13 arg14 f2 f3 f4 f8 f9 f10 (ix4 0 0 0 a) = mid.sl.v334 c i arg2 arg3 arg4 arg8 arg9 arg10 arg12 arg13 arg14 f2 f3 f4 f8 f9 f10 (ix2 0 ⟨256 + a.val, Nat.add_lt_add_left a.isLt 256⟩) := by
  pointwise [mid.sl.v359, mid.sl.v356]

theorem v559_at (a d : Fin 256) : mid.sl.v559 c i arg2 arg3 arg4 arg8 arg9 arg10 arg12 arg13 arg14 f2 f3 f4 f8 f9 f10 (ix4 0 0 a d) = mid.sl.v547 c i arg2 arg3 arg4 arg8 arg9 arg10 arg12 arg13 arg14 f2 f3 f4 f8 f9 f10 (ix2 d ⟨a.val, lt_trans a.isLt (by norm_num)⟩) := by
  pointwise [mid.sl.v559, mid.sl.v556, mid.sl.v555]

theorem v567_at (a : Fin 256) : mid.sl.v567 c i arg2 arg3 arg11 arg14 f2 f3 f11 (ix4 0 0 0 a) = mid.sl.v554 c i arg2 arg3 arg11 arg14 f2 f3 f11 (ix2 0 ⟨a.val, lt_trans a.isLt (by norm_num)⟩) := by
  pointwise [mid.sl.v567, mid.sl.v564]

theorem v563_at (a : Fin 256) : mid.sl.v563 c i arg2 arg3 arg4 arg8 arg9 arg10 arg12 arg13 arg14 f2 f3 f4 f8 f9 f10 (ix4 0 0 0 a) = mid.sl.v550 c i arg2 arg3 arg4 arg8 arg9 arg10 arg12 arg13 arg14 f2 f3 f4 f8 f9 f10 (ix2 0 ⟨a.val, lt_trans a.isLt (by norm_num)⟩) := by
  pointwise [mid.sl.v563, mid.sl.v560]

theorem v571_at (a d : Fin 256) : mid.sl.v571 c i arg2 arg3 arg4 arg8 arg9 arg10 arg12 arg13 arg14 f2 f3 f4 f8 f9 f10 (ix4 0 0 a d) = mid.sl.v547 c i arg2 arg3 arg4 arg8 arg9 arg10 arg12 arg13 arg14 f2 f3 f4 f8 f9 f10 (ix2 d ⟨256 + a.val, Nat.add_lt_add_left a.isLt 256⟩) := by
  pointwise [mid.sl.v571, mid.sl.v568, mid.sl.v555]

theorem v579_at (a : Fin 256) : mid.sl.v579 c i arg2 arg3 arg11 arg14 f2 f3 f11 (ix4 0 0 0 a) = mid.sl.v554 c i arg2 arg3 arg11 arg14 f2 f3 f11 (ix2 0 ⟨256 + a.val, Nat.add_lt_add_left a.isLt 256⟩) := by
  pointwise [mid.sl.v579, mid.sl.v576]

theorem v575_at (a : Fin 256) : mid.sl.v575 c i arg2 arg3 arg4 arg8 arg9 arg10 arg12 arg13 arg14 f2 f3 f4 f8 f9 f10 (ix4 0 0 0 a) = mid.sl.v550 c i arg2 arg3 arg4 arg8 arg9 arg10 arg12 arg13 arg14 f2 f3 f4 f8 f9 f10 (ix2 0 ⟨256 + a.val, Nat.add_lt_add_left a.isLt 256⟩) := by
  pointwise [mid.sl.v575, mid.sl.v572]

theorem v723_at (a d : Fin 256) : mid.sl.v723 c i arg2 arg3 arg4 arg8 arg9 arg10 arg12 arg13 arg14 f2 f3 f4 f8 f9 f10 (ix4 0 0 a d) = mid.sl.v711 c i arg2 arg3 arg4 arg8 arg9 arg10 arg12 arg13 arg14 f2 f3 f4 f8 f9 f10 (ix2 d ⟨a.val, lt_trans a.isLt (by norm_num)⟩) := by
  pointwise [mid.sl.v723, mid.sl.v720, mid.sl.v719]

theorem v731_at (a : Fin 256) : mid.sl.v731 c i arg2 arg3 arg11 arg14 f2 f3 f11 (ix4 0 0 0 a) = mid.sl.v718 c i arg2 arg3 arg11 arg14 f2 f3 f11 (ix2 0 ⟨a.val, lt_trans a.isLt (by norm_num)⟩) := by
  pointwise [mid.sl.v731, mid.sl.v728]

theorem v727_at (a : Fin 256) : mid.sl.v727 c i arg2 arg3 arg4 arg8 arg9 arg10 arg12 arg13 arg14 f2 f3 f4 f8 f9 f10 (ix4 0 0 0 a) = mid.sl.v714 c i arg2 arg3 arg4 arg8 arg9 arg10 arg12 arg13 arg14 f2 f3 f4 f8 f9 f10 (ix2 0 ⟨a.val, lt_trans a.isLt (by norm_num)⟩) := by
  pointwise [mid.sl.v727, mid.sl.v724]

theorem v735_at (a d : Fin 256) : mid.sl.v735 c i arg2 arg3 arg4 arg8 arg9 arg10 arg12 arg13 arg14 f2 f3 f4 f8 f9 f10 (ix4 0 0 a d) = mid.sl.v711 c i arg2 arg3 arg4 arg8 arg9 arg10 arg12 arg13 arg14 f2 f3 f4 f8 f9 f10 (ix2 d ⟨256 + a.val, Nat.add_lt_add_left a.isLt 256⟩) := by
  pointwise [mid.sl.v735, mid.sl.v732, mid.sl.v719]

theorem v743_at (a : Fin 256) : mid.sl.v743 c i arg2 arg3 arg11 arg14 f2 f3 f11 (ix4 0 0 0 a) = mid.sl.v718 c i arg2 arg3 arg11 arg14 f2 f3 f11 (ix2 0 ⟨256 + a.val, Nat.add_lt_add_left a.isLt 256⟩) := by
  pointwise [mid.sl.v743, mid.sl.v740]

theorem v739_at (a : Fin 256) : mid.sl.v739 c i arg2 arg3 arg4 arg8 arg9 arg10 arg12 arg13 arg14 f2 f3 f4 f8 f9 f10 (ix4 0 0 0 a) = mid.sl.v714 c i arg2 arg3 arg4 arg8 arg9 arg10 arg12 arg13 arg14 f2 f3 f4 f8 f9 f10 (ix2 0 ⟨256 + a.val, Nat.add_lt_add_left a.isLt 256⟩) := by
  pointwise [mid.sl.v739, mid.sl.v736]

theorem mid5_0_0 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 0 (ky (a.val + 0)) d) = mid.sl.v143 c i arg2 arg3 arg4 arg8 arg9 arg10 arg12 arg13 arg14 f2 f3 f4 f8 f9 f10 (ix2 d ⟨a.val, lt_trans a.isLt (by norm_num)⟩) := by
  dsimp only [mid]
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 1 (by simp [ky] <;> omega)).trans ?_
  refine (View.read_writes_cons_unit_of_mem _ _ _ _ _ _ (ix4 0 0 a d) rfl (by intro a; fin_cases a <;> simp [ky] <;> omega)).trans ?_
  exact v155_at c i arg2 arg3 arg4 arg8 arg9 arg10 arg12 arg13 arg14 f2 f3 f4 f8 f9 f10 a d

theorem mid6_0_0 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 0 (ky (a.val + 0))) = mid.sl.v150 c i arg2 arg3 arg11 arg14 f2 f3 f11 (ix2 0 ⟨a.val, lt_trans a.isLt (by norm_num)⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v163_at c i arg2 arg3 arg11 arg14 f2 f3 f11 a

theorem mid7_0_0 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 0 (ky (a.val + 0))) = mid.sl.v146 c i arg2 arg3 arg4 arg8 arg9 arg10 arg12 arg13 arg14 f2 f3 f4 f8 f9 f10 (ix2 0 ⟨a.val, lt_trans a.isLt (by norm_num)⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v159_at c i arg2 arg3 arg4 arg8 arg9 arg10 arg12 arg13 arg14 f2 f3 f4 f8 f9 f10 a

theorem mid5_0_1 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 1 (ky (a.val + 0)) d) = mid.sl.v143 c i arg2 arg3 arg4 arg8 arg9 arg10 arg12 arg13 arg14 f2 f3 f4 f8 f9 f10 (ix2 d ⟨256 + a.val, Nat.add_lt_add_left a.isLt 256⟩) := by
  dsimp only [mid]
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 a d) rfl (by intro a; fin_cases a <;> simp [ky] <;> omega)).trans ?_
  exact v167_at c i arg2 arg3 arg4 arg8 arg9 arg10 arg12 arg13 arg14 f2 f3 f4 f8 f9 f10 a d

theorem mid6_0_1 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 1 (ky (a.val + 0))) = mid.sl.v150 c i arg2 arg3 arg11 arg14 f2 f3 f11 (ix2 0 ⟨256 + a.val, Nat.add_lt_add_left a.isLt 256⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_mem _ _ _ _ _ _ (ix4 0 0 0 a) rfl (by intro a; fin_cases a <;> simp [ky] <;> omega)).trans ?_
  exact v175_at c i arg2 arg3 arg11 arg14 f2 f3 f11 a

theorem mid7_0_1 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 1 (ky (a.val + 0))) = mid.sl.v146 c i arg2 arg3 arg4 arg8 arg9 arg10 arg12 arg13 arg14 f2 f3 f4 f8 f9 f10 (ix2 0 ⟨256 + a.val, Nat.add_lt_add_left a.isLt 256⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_mem _ _ _ _ _ _ (ix4 0 0 0 a) rfl (by intro a; fin_cases a <;> simp [ky] <;> omega)).trans ?_
  exact v171_at c i arg2 arg3 arg4 arg8 arg9 arg10 arg12 arg13 arg14 f2 f3 f4 f8 f9 f10 a

theorem mid5_1_0 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 0 (ky (a.val + 256)) d) = mid.sl.r_12 c i arg2 arg3 arg4 arg8 arg9 arg10 arg12 arg13 arg14 f2 f3 f4 f8 f9 f10 (ix2 d ⟨a.val, lt_trans a.isLt (by norm_num)⟩) := by
  dsimp only [mid]
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 1 (by simp [ky] <;> omega)).trans ?_
  refine (View.read_writes_cons_unit_of_mem _ _ _ _ _ _ (ix4 0 0 a d) rfl (by intro a; fin_cases a <;> simp [ky] <;> omega)).trans ?_
  exact v343_at c i arg2 arg3 arg4 arg8 arg9 arg10 arg12 arg13 arg14 f2 f3 f4 f8 f9 f10 a d

theorem mid6_1_0 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 0 (ky (a.val + 256))) = mid.sl.v338 c i arg2 arg3 arg11 arg14 f2 f3 f11 (ix2 0 ⟨a.val, lt_trans a.isLt (by norm_num)⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v351_at c i arg2 arg3 arg11 arg14 f2 f3 f11 a

theorem mid7_1_0 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 0 (ky (a.val + 256))) = mid.sl.v334 c i arg2 arg3 arg4 arg8 arg9 arg10 arg12 arg13 arg14 f2 f3 f4 f8 f9 f10 (ix2 0 ⟨a.val, lt_trans a.isLt (by norm_num)⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v347_at c i arg2 arg3 arg4 arg8 arg9 arg10 arg12 arg13 arg14 f2 f3 f4 f8 f9 f10 a

theorem mid5_1_1 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 1 (ky (a.val + 256)) d) = mid.sl.r_12 c i arg2 arg3 arg4 arg8 arg9 arg10 arg12 arg13 arg14 f2 f3 f4 f8 f9 f10 (ix2 d ⟨256 + a.val, Nat.add_lt_add_left a.isLt 256⟩) := by
  dsimp only [mid]
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 a d) rfl (by intro a; fin_cases a <;> simp [ky] <;> omega)).trans ?_
  exact v355_at c i arg2 arg3 arg4 arg8 arg9 arg10 arg12 arg13 arg14 f2 f3 f4 f8 f9 f10 a d

theorem mid6_1_1 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 1 (ky (a.val + 256))) = mid.sl.v338 c i arg2 arg3 arg11 arg14 f2 f3 f11 (ix2 0 ⟨256 + a.val, Nat.add_lt_add_left a.isLt 256⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_mem _ _ _ _ _ _ (ix4 0 0 0 a) rfl (by intro a; fin_cases a <;> simp [ky] <;> omega)).trans ?_
  exact v363_at c i arg2 arg3 arg11 arg14 f2 f3 f11 a

theorem mid7_1_1 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 1 (ky (a.val + 256))) = mid.sl.v334 c i arg2 arg3 arg4 arg8 arg9 arg10 arg12 arg13 arg14 f2 f3 f4 f8 f9 f10 (ix2 0 ⟨256 + a.val, Nat.add_lt_add_left a.isLt 256⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_mem _ _ _ _ _ _ (ix4 0 0 0 a) rfl (by intro a; fin_cases a <;> simp [ky] <;> omega)).trans ?_
  exact v359_at c i arg2 arg3 arg4 arg8 arg9 arg10 arg12 arg13 arg14 f2 f3 f4 f8 f9 f10 a

theorem mid5_2_0 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 0 (ky (a.val + 512)) d) = mid.sl.v547 c i arg2 arg3 arg4 arg8 arg9 arg10 arg12 arg13 arg14 f2 f3 f4 f8 f9 f10 (ix2 d ⟨a.val, lt_trans a.isLt (by norm_num)⟩) := by
  dsimp only [mid]
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_not_mem _ _ _ _ _ _ rfl 1 (by simp [ky] <;> omega)).trans ?_
  refine (View.read_writes_cons_unit_of_mem _ _ _ _ _ _ (ix4 0 0 a d) rfl (by intro a; fin_cases a <;> simp [ky] <;> omega)).trans ?_
  exact v559_at c i arg2 arg3 arg4 arg8 arg9 arg10 arg12 arg13 arg14 f2 f3 f4 f8 f9 f10 a d

theorem mid6_2_0 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 0 (ky (a.val + 512))) = mid.sl.v554 c i arg2 arg3 arg11 arg14 f2 f3 f11 (ix2 0 ⟨a.val, lt_trans a.isLt (by norm_num)⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v567_at c i arg2 arg3 arg11 arg14 f2 f3 f11 a

theorem mid7_2_0 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 0 (ky (a.val + 512))) = mid.sl.v550 c i arg2 arg3 arg4 arg8 arg9 arg10 arg12 arg13 arg14 f2 f3 f4 f8 f9 f10 (ix2 0 ⟨a.val, lt_trans a.isLt (by norm_num)⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v563_at c i arg2 arg3 arg4 arg8 arg9 arg10 arg12 arg13 arg14 f2 f3 f4 f8 f9 f10 a

theorem mid5_2_1 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 1 (ky (a.val + 512)) d) = mid.sl.v547 c i arg2 arg3 arg4 arg8 arg9 arg10 arg12 arg13 arg14 f2 f3 f4 f8 f9 f10 (ix2 d ⟨256 + a.val, Nat.add_lt_add_left a.isLt 256⟩) := by
  dsimp only [mid]
  refine (View.read_writes_cons_unit_of_not_mem _ _ _ _ _ _ rfl 2 (by simp [ky] <;> omega)).trans ?_
  refine (View.read_writes_cons_unit_of_not_mem _ _ _ _ _ _ rfl 2 (by simp [ky] <;> omega)).trans ?_
  refine (View.read_writes_cons_unit_of_mem _ _ _ _ _ _ (ix4 0 0 a d) rfl (by intro a; fin_cases a <;> simp [ky] <;> omega)).trans ?_
  exact v571_at c i arg2 arg3 arg4 arg8 arg9 arg10 arg12 arg13 arg14 f2 f3 f4 f8 f9 f10 a d

theorem mid6_2_1 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 1 (ky (a.val + 512))) = mid.sl.v554 c i arg2 arg3 arg11 arg14 f2 f3 f11 (ix2 0 ⟨256 + a.val, Nat.add_lt_add_left a.isLt 256⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_mem _ _ _ _ _ _ (ix4 0 0 0 a) rfl (by intro a; fin_cases a <;> simp [ky] <;> omega)).trans ?_
  exact v579_at c i arg2 arg3 arg11 arg14 f2 f3 f11 a

theorem mid7_2_1 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 1 (ky (a.val + 512))) = mid.sl.v550 c i arg2 arg3 arg4 arg8 arg9 arg10 arg12 arg13 arg14 f2 f3 f4 f8 f9 f10 (ix2 0 ⟨256 + a.val, Nat.add_lt_add_left a.isLt 256⟩) := by
  dsimp only [mid]
  refine (View.read_writes_cons_unit_of_not_mem _ _ _ _ _ _ rfl 3 (by simp [ky] <;> omega)).trans ?_
  refine (View.read_writes_cons_unit_of_not_mem _ _ _ _ _ _ rfl 3 (by simp [ky] <;> omega)).trans ?_
  refine (View.read_writes_cons_unit_of_mem _ _ _ _ _ _ (ix4 0 0 0 a) rfl (by intro a; fin_cases a <;> simp [ky] <;> omega)).trans ?_
  exact v575_at c i arg2 arg3 arg4 arg8 arg9 arg10 arg12 arg13 arg14 f2 f3 f4 f8 f9 f10 a

theorem mid5_3_0 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 0 (ky (a.val + 768)) d) = mid.sl.v711 c i arg2 arg3 arg4 arg8 arg9 arg10 arg12 arg13 arg14 f2 f3 f4 f8 f9 f10 (ix2 d ⟨a.val, lt_trans a.isLt (by norm_num)⟩) := by
  dsimp only [mid]
  refine (View.read_writes_cons_unit_of_not_mem _ _ _ _ _ _ rfl 1 (by simp [ky] <;> omega)).trans ?_
  refine (View.read_writes_cons_unit_of_mem _ _ _ _ _ _ (ix4 0 0 a d) rfl (by intro a; fin_cases a <;> simp [ky] <;> omega)).trans ?_
  exact v723_at c i arg2 arg3 arg4 arg8 arg9 arg10 arg12 arg13 arg14 f2 f3 f4 f8 f9 f10 a d

theorem mid6_3_0 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 0 (ky (a.val + 768))) = mid.sl.v718 c i arg2 arg3 arg11 arg14 f2 f3 f11 (ix2 0 ⟨a.val, lt_trans a.isLt (by norm_num)⟩) := by
  dsimp only [mid]
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v731_at c i arg2 arg3 arg11 arg14 f2 f3 f11 a

theorem mid7_3_0 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 0 (ky (a.val + 768))) = mid.sl.v714 c i arg2 arg3 arg4 arg8 arg9 arg10 arg12 arg13 arg14 f2 f3 f4 f8 f9 f10 (ix2 0 ⟨a.val, lt_trans a.isLt (by norm_num)⟩) := by
  dsimp only [mid]
  refine (View.read_writes_cons_unit_of_not_mem _ _ _ _ _ _ rfl 2 (by simp [ky] <;> omega)).trans ?_
  refine (View.read_writes_cons_unit_of_mem _ _ _ _ _ _ (ix4 0 0 0 a) rfl (by intro a; fin_cases a <;> simp [ky] <;> omega)).trans ?_
  exact v727_at c i arg2 arg3 arg4 arg8 arg9 arg10 arg12 arg13 arg14 f2 f3 f4 f8 f9 f10 a

theorem mid5_3_1 (a d : Fin 256) : arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 1 (ky (a.val + 768)) d) = mid.sl.v711 c i arg2 arg3 arg4 arg8 arg9 arg10 arg12 arg13 arg14 f2 f3 f4 f8 f9 f10 (ix2 d ⟨256 + a.val, Nat.add_lt_add_left a.isLt 256⟩) := by
  dsimp only [mid]
  refine (View.read_writes_cons_unit_of_mem _ _ _ _ _ _ (ix4 0 0 a d) rfl (by intro a; fin_cases a <;> simp [ky] <;> omega)).trans ?_
  exact v735_at c i arg2 arg3 arg4 arg8 arg9 arg10 arg12 arg13 arg14 f2 f3 f4 f8 f9 f10 a d

theorem mid6_3_1 (a : Fin 256) : arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 1 (ky (a.val + 768))) = mid.sl.v718 c i arg2 arg3 arg11 arg14 f2 f3 f11 (ix2 0 ⟨256 + a.val, Nat.add_lt_add_left a.isLt 256⟩) := by
  dsimp only [mid]
  refine (View.read_writes_cons_unit_of_mem _ _ _ _ _ _ (ix4 0 0 0 a) rfl (by intro a; fin_cases a <;> simp [ky] <;> omega)).trans ?_
  exact v743_at c i arg2 arg3 arg11 arg14 f2 f3 f11 a

theorem mid7_3_1 (a : Fin 256) : arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 1 (ky (a.val + 768))) = mid.sl.v714 c i arg2 arg3 arg4 arg8 arg9 arg10 arg12 arg13 arg14 f2 f3 f4 f8 f9 f10 (ix2 0 ⟨256 + a.val, Nat.add_lt_add_left a.isLt 256⟩) := by
  dsimp only [mid]
  refine (View.read_writes_cons_unit_of_mem _ _ _ _ _ _ (ix4 0 0 0 a) rfl (by intro a; fin_cases a <;> simp [ky] <;> omega)).trans ?_
  exact v739_at c i arg2 arg3 arg4 arg8 arg9 arg10 arg12 arg13 arg14 f2 f3 f4 f8 f9 f10 a

/-- The outputs of the chunk's rows. -/
theorem mid_out (b : Fin 32) (q : ℕ) (hq : q < 4) (hb : b.val = 4 * (i 1).val + q) (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ q x ∧ AB b.val r (K + x) = max (rawm (arg2.view.read _ f2) (arg3.view.read _ f3) b.val r ⊥ q x) (0 - rawm (arg2.view.read _ f2) (arg3.view.read _ f3) b.val r 0 q x))
    (B : BlkAt SC AB v K (arg8.view.read _ f8) (arg9.view.read _ f9) (arg10.view.read _ f10) (arg11.view.read _ f11) b) (a d : Fin 256) (u : Fin 2) (r : Fin 512) (hr : r.val = a.val + 256 * u.val) :
    arg5.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a5 (ix4 0 u (ky (a.val + 256 * q)) d) = (cO (SC b.val r) (v d.val) (K + 256 * (q + 1)) * Ideal.div 1 (cL (SC b.val r) (K + 256 * (q + 1)))) := by
  match q, hq with
  | 0, _ =>
    match u with
    | 0 =>
      obtain rfl : r = ⟨a.val, lt_trans a.isLt (by norm_num)⟩ := Fin.ext (by simp at hr ⊢; omega)
      exact (mid5_0_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout0 (hb := hb) (good := good) (hV := hV) (hS := hS) (B := B) (d := d) (r := _) ..)
    | 1 =>
      obtain rfl : r = ⟨256 + a.val, Nat.add_lt_add_left a.isLt 256⟩ := Fin.ext (by simp at hr ⊢; omega)
      exact (mid5_0_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout0 (hb := hb) (good := good) (hV := hV) (hS := hS) (B := B) (d := d) (r := _) ..)
  | 1, _ =>
    match u with
    | 0 =>
      obtain rfl : r = ⟨a.val, lt_trans a.isLt (by norm_num)⟩ := Fin.ext (by simp at hr ⊢; omega)
      exact (mid5_1_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout1 (hb := hb) (good := good) (hV := hV) (hS := hS) (B := B) (d := d) (r := _) ..)
    | 1 =>
      obtain rfl : r = ⟨256 + a.val, Nat.add_lt_add_left a.isLt 256⟩ := Fin.ext (by simp at hr ⊢; omega)
      exact (mid5_1_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout1 (hb := hb) (good := good) (hV := hV) (hS := hS) (B := B) (d := d) (r := _) ..)
  | 2, _ =>
    match u with
    | 0 =>
      obtain rfl : r = ⟨a.val, lt_trans a.isLt (by norm_num)⟩ := Fin.ext (by simp at hr ⊢; omega)
      exact (mid5_2_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout2 (hb := hb) (good := good) (hV := hV) (hS := hS) (B := B) (d := d) (r := _) ..)
    | 1 =>
      obtain rfl : r = ⟨256 + a.val, Nat.add_lt_add_left a.isLt 256⟩ := Fin.ext (by simp at hr ⊢; omega)
      exact (mid5_2_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout2 (hb := hb) (good := good) (hV := hV) (hS := hS) (B := B) (d := d) (r := _) ..)
  | 3, _ =>
    match u with
    | 0 =>
      obtain rfl : r = ⟨a.val, lt_trans a.isLt (by norm_num)⟩ := Fin.ext (by simp at hr ⊢; omega)
      exact (mid5_3_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout3 (hb := hb) (good := good) (hV := hV) (hS := hS) (B := B) (d := d) (r := _) ..)
    | 1 =>
      obtain rfl : r = ⟨256 + a.val, Nat.add_lt_add_left a.isLt 256⟩ := Fin.ext (by simp at hr ⊢; omega)
      exact (mid5_3_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a d).trans (mout3 (hb := hb) (good := good) (hV := hV) (hS := hS) (B := B) (d := d) (r := _) ..)

/-- The largest score in absolute value of the chunk's rows. -/
theorem mid_amax (b : Fin 32) (q : ℕ) (hq : q < 4) (hb : b.val = 4 * (i 1).val + q) (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ q x ∧ AB b.val r (K + x) = max (rawm (arg2.view.read _ f2) (arg3.view.read _ f3) b.val r ⊥ q x) (0 - rawm (arg2.view.read _ f2) (arg3.view.read _ f3) b.val r 0 q x))
    (B : BlkAt SC AB v K (arg8.view.read _ f8) (arg9.view.read _ f9) (arg10.view.read _ f10) (arg11.view.read _ f11) b) (a : Fin 256) (u : Fin 2) (r : Fin 512) (hr : r.val = a.val + 256 * u.val) :
    arg6.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a6 (ix4 0 0 u (ky (a.val + 256 * q))) = cA (AB b.val r) (K + 256 * (q + 1)) * ((1 / 16 : ℝ) : EReal) := by
  match q, hq with
  | 0, _ =>
    match u with
    | 0 =>
      obtain rfl : r = ⟨a.val, lt_trans a.isLt (by norm_num)⟩ := Fin.ext (by simp at hr ⊢; omega)
      exact (mid6_0_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs0 (arg12 := arg12) (hb := hb) (good := good) (hV := hV) (hS := hS) (B := B) (r := _) ..)
    | 1 =>
      obtain rfl : r = ⟨256 + a.val, Nat.add_lt_add_left a.isLt 256⟩ := Fin.ext (by simp at hr ⊢; omega)
      exact (mid6_0_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs0 (arg12 := arg12) (hb := hb) (good := good) (hV := hV) (hS := hS) (B := B) (r := _) ..)
  | 1, _ =>
    match u with
    | 0 =>
      obtain rfl : r = ⟨a.val, lt_trans a.isLt (by norm_num)⟩ := Fin.ext (by simp at hr ⊢; omega)
      exact (mid6_1_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs1 (arg12 := arg12) (hb := hb) (good := good) (hV := hV) (hS := hS) (B := B) (r := _) ..)
    | 1 =>
      obtain rfl : r = ⟨256 + a.val, Nat.add_lt_add_left a.isLt 256⟩ := Fin.ext (by simp at hr ⊢; omega)
      exact (mid6_1_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs1 (arg12 := arg12) (hb := hb) (good := good) (hV := hV) (hS := hS) (B := B) (r := _) ..)
  | 2, _ =>
    match u with
    | 0 =>
      obtain rfl : r = ⟨a.val, lt_trans a.isLt (by norm_num)⟩ := Fin.ext (by simp at hr ⊢; omega)
      exact (mid6_2_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs2 (arg12 := arg12) (hb := hb) (good := good) (hV := hV) (hS := hS) (B := B) (r := _) ..)
    | 1 =>
      obtain rfl : r = ⟨256 + a.val, Nat.add_lt_add_left a.isLt 256⟩ := Fin.ext (by simp at hr ⊢; omega)
      exact (mid6_2_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs2 (arg12 := arg12) (hb := hb) (good := good) (hV := hV) (hS := hS) (B := B) (r := _) ..)
  | 3, _ =>
    match u with
    | 0 =>
      obtain rfl : r = ⟨a.val, lt_trans a.isLt (by norm_num)⟩ := Fin.ext (by simp at hr ⊢; omega)
      exact (mid6_3_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs3 (arg12 := arg12) (hb := hb) (good := good) (hV := hV) (hS := hS) (B := B) (r := _) ..)
    | 1 =>
      obtain rfl : r = ⟨256 + a.val, Nat.add_lt_add_left a.isLt 256⟩ := Fin.ext (by simp at hr ⊢; omega)
      exact (mid6_3_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans (mabs3 (arg12 := arg12) (hb := hb) (good := good) (hV := hV) (hS := hS) (B := B) (r := _) ..)

/-- The largest output in absolute value of the chunk's rows. -/
theorem mid_omax (b : Fin 32) (q : ℕ) (hq : q < 4) (hb : b.val = 4 * (i 1).val + q) (good : ∀ b r, Good (SC b r))
    (hV : ∀ (d : Fin 256) (x : Fin 1024), arg4.view.read _ f4 (ix4 0 0 d x) = v d.val (K + x.val))
    (hS : ∀ r x, x < 1024 → SC b.val r (K + x) = rawm (arg2.view.read _ f2) (arg3.view.read _ f3) b.val r ⊥ q x ∧ AB b.val r (K + x) = max (rawm (arg2.view.read _ f2) (arg3.view.read _ f3) b.val r ⊥ q x) (0 - rawm (arg2.view.read _ f2) (arg3.view.read _ f3) b.val r 0 q x))
    (B : BlkAt SC AB v K (arg8.view.read _ f8) (arg9.view.read _ f9) (arg10.view.read _ f10) (arg11.view.read _ f11) b) (a : Fin 256) (u : Fin 2) (r : Fin 512) (hr : r.val = a.val + 256 * u.val) :
    arg7.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.1.a7 (ix4 0 0 u (ky (a.val + 256 * q))) = Finset.univ.sup fun d : Fin 256 => max (cO (SC b.val r) (v d.val) (K + 256 * (q + 1)) * Ideal.div 1 (cL (SC b.val r) (K + 256 * (q + 1)))) (-(cO (SC b.val r) (v d.val) (K + 256 * (q + 1)) * Ideal.div 1 (cL (SC b.val r) (K + 256 * (q + 1))))) := by
  match q, hq with
  | 0, _ =>
    match u with
    | 0 =>
      obtain rfl : r = ⟨a.val, lt_trans a.isLt (by norm_num)⟩ := Fin.ext (by simp at hr ⊢; omega)
      exact (mid7_0_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr0_at c i arg2 arg3 arg4 arg8 arg9 arg10 arg12 arg13 arg14 f2 f3 f4 f8 f9 f10 _).trans (congrArg (Finset.univ.sup ·) (funext fun d => congrArg (fun x => max x (-x)) (mout0 (hb := hb) (good := good) (hV := hV) (hS := hS) (B := B) (d := d) (r := _) ..))))
    | 1 =>
      obtain rfl : r = ⟨256 + a.val, Nat.add_lt_add_left a.isLt 256⟩ := Fin.ext (by simp at hr ⊢; omega)
      exact (mid7_0_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr0_at c i arg2 arg3 arg4 arg8 arg9 arg10 arg12 arg13 arg14 f2 f3 f4 f8 f9 f10 _).trans (congrArg (Finset.univ.sup ·) (funext fun d => congrArg (fun x => max x (-x)) (mout0 (hb := hb) (good := good) (hV := hV) (hS := hS) (B := B) (d := d) (r := _) ..))))
  | 1, _ =>
    match u with
    | 0 =>
      obtain rfl : r = ⟨a.val, lt_trans a.isLt (by norm_num)⟩ := Fin.ext (by simp at hr ⊢; omega)
      exact (mid7_1_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr1_at c i arg2 arg3 arg4 arg8 arg9 arg10 arg12 arg13 arg14 f2 f3 f4 f8 f9 f10 _).trans (congrArg (Finset.univ.sup ·) (funext fun d => congrArg (fun x => max x (-x)) (mout1 (hb := hb) (good := good) (hV := hV) (hS := hS) (B := B) (d := d) (r := _) ..))))
    | 1 =>
      obtain rfl : r = ⟨256 + a.val, Nat.add_lt_add_left a.isLt 256⟩ := Fin.ext (by simp at hr ⊢; omega)
      exact (mid7_1_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr1_at c i arg2 arg3 arg4 arg8 arg9 arg10 arg12 arg13 arg14 f2 f3 f4 f8 f9 f10 _).trans (congrArg (Finset.univ.sup ·) (funext fun d => congrArg (fun x => max x (-x)) (mout1 (hb := hb) (good := good) (hV := hV) (hS := hS) (B := B) (d := d) (r := _) ..))))
  | 2, _ =>
    match u with
    | 0 =>
      obtain rfl : r = ⟨a.val, lt_trans a.isLt (by norm_num)⟩ := Fin.ext (by simp at hr ⊢; omega)
      exact (mid7_2_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr2_at c i arg2 arg3 arg4 arg8 arg9 arg10 arg12 arg13 arg14 f2 f3 f4 f8 f9 f10 _).trans (congrArg (Finset.univ.sup ·) (funext fun d => congrArg (fun x => max x (-x)) (mout2 (hb := hb) (good := good) (hV := hV) (hS := hS) (B := B) (d := d) (r := _) ..))))
    | 1 =>
      obtain rfl : r = ⟨256 + a.val, Nat.add_lt_add_left a.isLt 256⟩ := Fin.ext (by simp at hr ⊢; omega)
      exact (mid7_2_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr2_at c i arg2 arg3 arg4 arg8 arg9 arg10 arg12 arg13 arg14 f2 f3 f4 f8 f9 f10 _).trans (congrArg (Finset.univ.sup ·) (funext fun d => congrArg (fun x => max x (-x)) (mout2 (hb := hb) (good := good) (hV := hV) (hS := hS) (B := B) (d := d) (r := _) ..))))
  | 3, _ =>
    match u with
    | 0 =>
      obtain rfl : r = ⟨a.val, lt_trans a.isLt (by norm_num)⟩ := Fin.ext (by simp at hr ⊢; omega)
      exact (mid7_3_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr3_at c i arg2 arg3 arg4 arg8 arg9 arg10 arg12 arg13 arg14 f2 f3 f4 f8 f9 f10 _).trans (congrArg (Finset.univ.sup ·) (funext fun d => congrArg (fun x => max x (-x)) (mout3 (hb := hb) (good := good) (hV := hV) (hS := hS) (B := B) (d := d) (r := _) ..))))
    | 1 =>
      obtain rfl : r = ⟨256 + a.val, Nat.add_lt_add_left a.isLt 256⟩ := Fin.ext (by simp at hr ⊢; omega)
      exact (mid7_3_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 a).trans ((mr3_at c i arg2 arg3 arg4 arg8 arg9 arg10 arg12 arg13 arg14 f2 f3 f4 f8 f9 f10 _).trans (congrArg (Finset.univ.sup ·) (funext fun d => congrArg (fun x => max x (-x)) (mout3 (hb := hb) (good := good) (hV := hV) (hS := hS) (B := B) (d := d) (r := _) ..))))

end

end Cert.Proof.KernelIdeal
-- ==== Proof.KernelIdealMidReset.lean ====
/-
  The chunk's own blocks are reset, the others stay.
-/
module

public import proofs.«01_k».proof.Proof.KernelIdealTail
public import proofs.«01_k».proof.Proof.KernelIdealRuns

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)

variable (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14)
  {SC AB : ℕ → Fin 512 → ℕ → EReal} {v : ℕ → ℕ → EReal} {K : ℕ}

theorem v180_at (d : Fin 256) (r : Fin 512) : mid.sl.v180 (F := Ideal) (ix3 0 d r) = 0 := by
  pointwise [mid.sl.v180, mid.sl.v61, mid.sl.cst_44]
theorem v185_at (d : Fin 8) (r : Fin 512) : mid.sl.v185 (F := Ideal) (ix3 0 d r) = ⊥ := by
  pointwise [mid.sl.v185, mid.sl.v181, mid.sl.cst_45]
  exact neg_inf
theorem v190_at (d : Fin 8) (r : Fin 512) : mid.sl.v190 (F := Ideal) (ix3 0 d r) = 0 := by
  pointwise [mid.sl.v190, mid.sl.v186, mid.sl.cst_44]
theorem p303_at (d : Fin 8) (r : Fin 512) : k0_pay303 (F := Ideal) mid.sl.v186 (ix3 0 d r) = 0 := by
  pointwise [k0_pay303, mid.sl.v186, mid.sl.cst_44]

theorem reset8_0 (b : Fin 32) (hb : b.val = 4 * (i 1).val + 0) (d : Fin 256) (r : Fin 512) : arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r) = 0 := by
  dsimp only [mid]
  refine (View.read_writes_cons_unit_of_not_mem _ _ _ _ _ _ (k0_off5_eq i 3) 0 (by simp [hb])).trans ?_
  refine (View.read_writes_cons_unit_of_not_mem _ _ _ _ _ _ (k0_off5_eq i 2) 0 (by simp [hb])).trans ?_
  refine (View.read_writes_cons_unit_of_not_mem _ _ _ _ _ _ (k0_off5_eq i 1) 0 (by simp [hb])).trans ?_
  refine (View.read_writes_cons_unit_of_mem _ _ _ _ [] _ (ix3 0 d r) (k0_off5_eq i 0) (by intro a; fin_cases a <;> simp [hb])).trans ?_
  exact v180_at d r

theorem reset8_1 (b : Fin 32) (hb : b.val = 4 * (i 1).val + 1) (d : Fin 256) (r : Fin 512) : arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r) = 0 := by
  dsimp only [mid]
  refine (View.read_writes_cons_unit_of_not_mem _ _ _ _ _ _ (k0_off5_eq i 3) 0 (by simp [hb])).trans ?_
  refine (View.read_writes_cons_unit_of_not_mem _ _ _ _ _ _ (k0_off5_eq i 2) 0 (by simp [hb])).trans ?_
  refine (View.read_writes_cons_unit_of_mem _ _ _ _ _ _ (ix3 0 d r) (k0_off5_eq i 1) (by intro a; fin_cases a <;> simp [hb])).trans ?_
  exact v180_at d r

theorem reset8_2 (b : Fin 32) (hb : b.val = 4 * (i 1).val + 2) (d : Fin 256) (r : Fin 512) : arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r) = 0 := by
  dsimp only [mid]
  refine (View.read_writes_cons_unit_of_not_mem _ _ _ _ _ _ (k0_off5_eq i 3) 0 (by simp [hb])).trans ?_
  refine (View.read_writes_cons_unit_of_mem _ _ _ _ _ _ (ix3 0 d r) (k0_off5_eq i 2) (by intro a; fin_cases a <;> simp [hb])).trans ?_
  exact v180_at d r

theorem reset8_3 (b : Fin 32) (hb : b.val = 4 * (i 1).val + 3) (d : Fin 256) (r : Fin 512) : arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r) = 0 := by
  dsimp only [mid]
  refine (View.read_writes_cons_unit_of_mem _ _ _ _ _ _ (ix3 0 d r) (k0_off5_eq i 3) (by intro a; fin_cases a <;> simp [hb])).trans ?_
  exact v180_at d r

theorem keep8 (b : Fin 32) (hb : b.val < 4 * (i 1).val ∨ 4 * (i 1).val + 4 ≤ b.val) (d : Fin 256) (r : Fin 512) : arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r) = arg8.view.read _ f8 (ix3 b d r) := by
  dsimp only [mid]
  refine (View.read_writes_cons_unit_of_not_mem _ _ _ _ _ _ (k0_off5_eq i 3) 0 (by simp <;> omega)).trans ?_
  refine (View.read_writes_cons_unit_of_not_mem _ _ _ _ _ _ (k0_off5_eq i 2) 0 (by simp <;> omega)).trans ?_
  refine (View.read_writes_cons_unit_of_not_mem _ _ _ _ _ _ (k0_off5_eq i 1) 0 (by simp <;> omega)).trans ?_
  refine (View.read_writes_cons_unit_of_not_mem _ _ _ _ [] _ (k0_off5_eq i 0) 0 (by simp <;> omega)).trans ?_
  rfl

theorem reset9_0 (b : Fin 32) (hb : b.val = 4 * (i 1).val + 0) (d : Fin 8) (r : Fin 512) : arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b d r) = ⊥ := by
  dsimp only [mid]
  refine (View.read_writes_cons_unit_of_not_mem _ _ _ _ _ _ (k0_off4_eq i 3) 0 (by simp [hb])).trans ?_
  refine (View.read_writes_cons_unit_of_not_mem _ _ _ _ _ _ (k0_off4_eq i 2) 0 (by simp [hb])).trans ?_
  refine (View.read_writes_cons_unit_of_not_mem _ _ _ _ _ _ (k0_off4_eq i 1) 0 (by simp [hb])).trans ?_
  refine (View.read_writes_cons_unit_of_mem _ _ _ _ [] _ (ix3 0 d r) (k0_off4_eq i 0) (by intro a; fin_cases a <;> simp [hb])).trans ?_
  exact v185_at d r

theorem reset9_1 (b : Fin 32) (hb : b.val = 4 * (i 1).val + 1) (d : Fin 8) (r : Fin 512) : arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b d r) = ⊥ := by
  dsimp only [mid]
  refine (View.read_writes_cons_unit_of_not_mem _ _ _ _ _ _ (k0_off4_eq i 3) 0 (by simp [hb])).trans ?_
  refine (View.read_writes_cons_unit_of_not_mem _ _ _ _ _ _ (k0_off4_eq i 2) 0 (by simp [hb])).trans ?_
  refine (View.read_writes_cons_unit_of_mem _ _ _ _ _ _ (ix3 0 d r) (k0_off4_eq i 1) (by intro a; fin_cases a <;> simp [hb])).trans ?_
  exact v185_at d r

theorem reset9_2 (b : Fin 32) (hb : b.val = 4 * (i 1).val + 2) (d : Fin 8) (r : Fin 512) : arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b d r) = ⊥ := by
  dsimp only [mid]
  refine (View.read_writes_cons_unit_of_not_mem _ _ _ _ _ _ (k0_off4_eq i 3) 0 (by simp [hb])).trans ?_
  refine (View.read_writes_cons_unit_of_mem _ _ _ _ _ _ (ix3 0 d r) (k0_off4_eq i 2) (by intro a; fin_cases a <;> simp [hb])).trans ?_
  exact v185_at d r

theorem reset9_3 (b : Fin 32) (hb : b.val = 4 * (i 1).val + 3) (d : Fin 8) (r : Fin 512) : arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b d r) = ⊥ := by
  dsimp only [mid]
  refine (View.read_writes_cons_unit_of_mem _ _ _ _ _ _ (ix3 0 d r) (k0_off4_eq i 3) (by intro a; fin_cases a <;> simp [hb])).trans ?_
  exact v185_at d r

theorem keep9 (b : Fin 32) (hb : b.val < 4 * (i 1).val ∨ 4 * (i 1).val + 4 ≤ b.val) (d : Fin 8) (r : Fin 512) : arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b d r) = arg9.view.read _ f9 (ix3 b d r) := by
  dsimp only [mid]
  refine (View.read_writes_cons_unit_of_not_mem _ _ _ _ _ _ (k0_off4_eq i 3) 0 (by simp <;> omega)).trans ?_
  refine (View.read_writes_cons_unit_of_not_mem _ _ _ _ _ _ (k0_off4_eq i 2) 0 (by simp <;> omega)).trans ?_
  refine (View.read_writes_cons_unit_of_not_mem _ _ _ _ _ _ (k0_off4_eq i 1) 0 (by simp <;> omega)).trans ?_
  refine (View.read_writes_cons_unit_of_not_mem _ _ _ _ [] _ (k0_off4_eq i 0) 0 (by simp <;> omega)).trans ?_
  rfl

theorem reset10_0 (b : Fin 32) (hb : b.val = 4 * (i 1).val + 0) (d : Fin 8) (r : Fin 512) : arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b d r) = 0 := by
  dsimp only [mid]
  refine (View.read_writes_cons_unit_of_not_mem _ _ _ _ _ _ (k0_off4_eq i 3) 0 (by simp [hb])).trans ?_
  refine (View.read_writes_cons_unit_of_not_mem _ _ _ _ _ _ (k0_off4_eq i 2) 0 (by simp [hb])).trans ?_
  refine (View.read_writes_cons_unit_of_not_mem _ _ _ _ _ _ (k0_off4_eq i 1) 0 (by simp [hb])).trans ?_
  refine (View.read_writes_cons_unit_of_mem _ _ _ _ [] _ (ix3 0 d r) (k0_off4_eq i 0) (by intro a; fin_cases a <;> simp [hb])).trans ?_
  exact v190_at d r

theorem reset10_1 (b : Fin 32) (hb : b.val = 4 * (i 1).val + 1) (d : Fin 8) (r : Fin 512) : arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b d r) = 0 := by
  dsimp only [mid]
  refine (View.read_writes_cons_unit_of_not_mem _ _ _ _ _ _ (k0_off4_eq i 3) 0 (by simp [hb])).trans ?_
  refine (View.read_writes_cons_unit_of_not_mem _ _ _ _ _ _ (k0_off4_eq i 2) 0 (by simp [hb])).trans ?_
  refine (View.read_writes_cons_unit_of_mem _ _ _ _ _ _ (ix3 0 d r) (k0_off4_eq i 1) (by intro a; fin_cases a <;> simp [hb])).trans ?_
  exact v190_at d r

theorem reset10_2 (b : Fin 32) (hb : b.val = 4 * (i 1).val + 2) (d : Fin 8) (r : Fin 512) : arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b d r) = 0 := by
  dsimp only [mid]
  refine (View.read_writes_cons_unit_of_not_mem _ _ _ _ _ _ (k0_off4_eq i 3) 0 (by simp [hb])).trans ?_
  refine (View.read_writes_cons_unit_of_mem _ _ _ _ _ _ (ix3 0 d r) (k0_off4_eq i 2) (by intro a; fin_cases a <;> simp [hb])).trans ?_
  exact v190_at d r

theorem reset10_3 (b : Fin 32) (hb : b.val = 4 * (i 1).val + 3) (d : Fin 8) (r : Fin 512) : arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b d r) = 0 := by
  dsimp only [mid]
  refine (View.read_writes_cons_unit_of_mem _ _ _ _ _ _ (ix3 0 d r) (k0_off4_eq i 3) (by intro a; fin_cases a <;> simp [hb])).trans ?_
  exact v190_at d r

theorem keep10 (b : Fin 32) (hb : b.val < 4 * (i 1).val ∨ 4 * (i 1).val + 4 ≤ b.val) (d : Fin 8) (r : Fin 512) : arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b d r) = arg10.view.read _ f10 (ix3 b d r) := by
  dsimp only [mid]
  refine (View.read_writes_cons_unit_of_not_mem _ _ _ _ _ _ (k0_off4_eq i 3) 0 (by simp <;> omega)).trans ?_
  refine (View.read_writes_cons_unit_of_not_mem _ _ _ _ _ _ (k0_off4_eq i 2) 0 (by simp <;> omega)).trans ?_
  refine (View.read_writes_cons_unit_of_not_mem _ _ _ _ _ _ (k0_off4_eq i 1) 0 (by simp <;> omega)).trans ?_
  refine (View.read_writes_cons_unit_of_not_mem _ _ _ _ [] _ (k0_off4_eq i 0) 0 (by simp <;> omega)).trans ?_
  rfl

theorem reset11_0 (b : Fin 32) (hb : b.val = 4 * (i 1).val + 0) (d : Fin 8) (r : Fin 512) : arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b d r) = 0 := by
  dsimp only [mid]
  refine (View.read_writes_cons_unit_of_not_mem _ _ _ _ _ _ (k0_off4_eq i 3) 0 (by simp [hb])).trans ?_
  refine (View.read_writes_cons_unit_of_not_mem _ _ _ _ _ _ (k0_off4_eq i 2) 0 (by simp [hb])).trans ?_
  refine (View.read_writes_cons_unit_of_not_mem _ _ _ _ _ _ (k0_off4_eq i 1) 0 (by simp [hb])).trans ?_
  refine (View.read_writes_cons_unit_of_mem _ _ _ _ [] _ (ix3 0 d r) (k0_off4_eq i 0) (by intro a; fin_cases a <;> simp [hb])).trans ?_
  exact v190_at d r

theorem reset11_1 (b : Fin 32) (hb : b.val = 4 * (i 1).val + 1) (d : Fin 8) (r : Fin 512) : arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b d r) = 0 := by
  dsimp only [mid]
  refine (View.read_writes_cons_unit_of_not_mem _ _ _ _ _ _ (k0_off4_eq i 3) 0 (by simp [hb])).trans ?_
  refine (View.read_writes_cons_unit_of_not_mem _ _ _ _ _ _ (k0_off4_eq i 2) 0 (by simp [hb])).trans ?_
  refine (View.read_writes_cons_unit_of_mem _ _ _ _ _ _ (ix3 0 d r) (k0_off4_eq i 1) (by intro a; fin_cases a <;> simp [hb])).trans ?_
  exact v190_at d r

theorem reset11_2 (b : Fin 32) (hb : b.val = 4 * (i 1).val + 2) (d : Fin 8) (r : Fin 512) : arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b d r) = 0 := by
  dsimp only [mid]
  refine (View.read_writes_cons_unit_of_not_mem _ _ _ _ _ _ (k0_off4_eq i 3) 0 (by simp [hb])).trans ?_
  refine (View.read_writes_cons_unit_of_mem _ _ _ _ _ _ (ix3 0 d r) (k0_off4_eq i 2) (by intro a; fin_cases a <;> simp [hb])).trans ?_
  exact p303_at d r

theorem reset11_3 (b : Fin 32) (hb : b.val = 4 * (i 1).val + 3) (d : Fin 8) (r : Fin 512) : arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b d r) = 0 := by
  dsimp only [mid]
  refine (View.read_writes_cons_unit_of_mem _ _ _ _ _ _ (ix3 0 d r) (k0_off4_eq i 3) (by intro a; fin_cases a <;> simp [hb])).trans ?_
  exact v190_at d r

theorem keep11 (b : Fin 32) (hb : b.val < 4 * (i 1).val ∨ 4 * (i 1).val + 4 ≤ b.val) (d : Fin 8) (r : Fin 512) : arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b d r) = arg11.view.read _ f11 (ix3 b d r) := by
  dsimp only [mid]
  refine (View.read_writes_cons_unit_of_not_mem _ _ _ _ _ _ (k0_off4_eq i 3) 0 (by simp <;> omega)).trans ?_
  refine (View.read_writes_cons_unit_of_not_mem _ _ _ _ _ _ (k0_off4_eq i 2) 0 (by simp <;> omega)).trans ?_
  refine (View.read_writes_cons_unit_of_not_mem _ _ _ _ _ _ (k0_off4_eq i 1) 0 (by simp <;> omega)).trans ?_
  refine (View.read_writes_cons_unit_of_not_mem _ _ _ _ [] _ (k0_off4_eq i 0) 0 (by simp <;> omega)).trans ?_
  rfl

/-- The chunk's own blocks are reset for the next head. -/
theorem mid_reset (b : Fin 32) (hb : 4 * (i 1).val ≤ b.val) (hb' : b.val < 4 * (i 1).val + 4) : BlkS SC AB v 0 (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2 b := by
  intro r
  have hq : b.val = 4 * (i 1).val + 0 ∨ b.val = 4 * (i 1).val + 1 ∨ b.val = 4 * (i 1).val + 2 ∨ b.val = 4 * (i 1).val + 3 := by omega
  rcases hq with hb | hb | hb | hb
  · rw [show (fun s => arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b s r)) = fun _ => ⊥ from funext fun s => reset9_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b s r)) = fun _ => 0 from funext fun s => reset10_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b s r)) = fun _ => 0 from funext fun s => reset11_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun d => arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r)) = fun _ => 0 from funext fun d => reset8_0 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb d r]
    exact Col.zero
  · rw [show (fun s => arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b s r)) = fun _ => ⊥ from funext fun s => reset9_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b s r)) = fun _ => 0 from funext fun s => reset10_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b s r)) = fun _ => 0 from funext fun s => reset11_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun d => arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r)) = fun _ => 0 from funext fun d => reset8_1 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb d r]
    exact Col.zero
  · rw [show (fun s => arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b s r)) = fun _ => ⊥ from funext fun s => reset9_2 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b s r)) = fun _ => 0 from funext fun s => reset10_2 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b s r)) = fun _ => 0 from funext fun s => reset11_2 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun d => arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r)) = fun _ => 0 from funext fun d => reset8_2 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb d r]
    exact Col.zero
  · rw [show (fun s => arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b s r)) = fun _ => ⊥ from funext fun s => reset9_3 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b s r)) = fun _ => 0 from funext fun s => reset10_3 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b s r)) = fun _ => 0 from funext fun s => reset11_3 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun d => arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r)) = fun _ => 0 from funext fun d => reset8_3 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb d r]
    exact Col.zero

/-- The other blocks stay as they are. -/
theorem mid_keep (b : Fin 32) (hb : b.val < 4 * (i 1).val ∨ 4 * (i 1).val + 4 ≤ b.val)
    (B : BlkAt SC AB v K (arg8.view.read _ f8) (arg9.view.read _ f9) (arg10.view.read _ f10) (arg11.view.read _ f11) b) : BlkS SC AB v K (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2 b := by
  intro r
  rw [show (fun s => arg9.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a9 (ix3 b s r)) = _ from funext fun s => keep9 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg10.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a10 (ix3 b s r)) = _ from funext fun s => keep10 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun s => arg11.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a11 (ix3 b s r)) = _ from funext fun s => keep11 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb s r,
      show (fun d => arg8.view.read _ (mid c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1.2.a8 (ix3 b d r)) = _ from funext fun d => keep8 c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 b hb d r]
  exact B r

end

end Cert.Proof.KernelIdeal
-- ==== Proof.KernelIdealInit.lean ====
/-
  The reset at the first grid point: every block's accumulators start from no keys.
-/
module

public import proofs.«01_k».proof.Proof.KernelIdealTail
public import proofs.«01_k».proof.Proof.KernelIdealRuns

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)

variable (h : k0_cond1 i = 1#1) (f2 : Bf (F := Ideal) c arg2) (f3 : Bf (F := Ideal) c arg3) (f4 : Bf (F := Ideal) c arg4) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14)
  {SC AB : ℕ → Fin 512 → ℕ → EReal} {v : ℕ → ℕ → EReal} {K : ℕ}

theorem p165_at (d : Fin 256) (r : Fin 512) : k0_pay165 (F := Ideal) (ix3 0 d r) = 0 := by
  pointwise [k0_pay165]
theorem p166_at (b : Fin 32) (d : Fin 8) (r : Fin 512) : k0_pay166 (F := Ideal) (ix3 b d r) = ⊥ := by
  pointwise [k0_pay166]
  exact neg_inf
theorem p167_at (b : Fin 32) (d : Fin 8) (r : Fin 512) : k0_pay167 (F := Ideal) (ix3 b d r) = 0 := by
  pointwise [k0_pay167]
theorem p168_at (b : Fin 32) (d : Fin 8) (r : Fin 512) : k0_pay168 (F := Ideal) (ix3 b d r) = 0 := by
  pointwise [k0_pay168]

theorem trips1 : k0_t1_loop.trips = 32 := by decide +kernel

/-- After `n` trips of the reset loop the first `n` blocks' outputs are zero. -/
theorem pb_at (n : ℕ) (hn : n ≤ 32) (b : Fin 32) (hb : b.val < n) (d : Fin 256) (r : Fin 512) :
    arg8.view.read _ (arg8.view.writes (Elt Ideal) f8 (pb_k0_t1 Variants.none c none i arg2 harg2 arg3 harg3 arg4 harg4 arg5 harg5 arg6 harg6 arg7 harg7 arg8 harg8 arg9 harg9 arg10 harg10 arg11 harg11 arg12 harg12 arg13 harg13 arg14 harg14 h n)) (ix3 b d r) = 0 := by
  induction n with
  | zero => exact absurd hb (by omega)
  | succ n ih =>
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 h ⟨n, by rw [trips1]; omega⟩]
    unfold tripL_k0_t1 trip_k0_t1
    dsimp only
    rw [List.singleton_append]
    by_cases hbn : b.val = n
    · refine (View.read_writes_cons_unit_of_mem _ _ _ _ _ _ (ix3 0 d r) (k0_off1_eq ⟨n, by rw [trips1]; omega⟩) (by intro a; fin_cases a <;> simp [hbn])).trans ?_
      exact p165_at d r
    · refine (View.read_writes_cons_unit_of_not_mem _ _ _ _ _ _ (k0_off1_eq ⟨n, by rw [trips1]; omega⟩) 0 (by simp <;> omega)).trans ?_
      exact ih (by omega) (by omega)

theorem init8 (b : Fin 32) (d : Fin 256) (r : Fin 512) : arg8.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a8 (ix3 b d r) = 0 := by
  dsimp only [initZ]
  exact pb_at c i arg2 harg2 arg3 harg3 arg4 harg4 arg5 harg5 arg6 harg6 arg7 harg7 arg8 harg8 arg9 harg9 arg10 harg10 arg11 harg11 arg12 harg12 arg13 harg13 arg14 harg14 h f8 32 (le_refl _) b b.isLt d r
theorem init9 (b : Fin 32) (d : Fin 8) (r : Fin 512) : arg9.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a9 (ix3 b d r) = ⊥ := by
  dsimp only [initZ]
  refine (View.read_writes_cons_unit_of_mem _ _ _ _ [] _ (ix3 b d r) rfl (by intro a; fin_cases a <;> simp)).trans ?_
  exact p166_at b d r
theorem init10 (b : Fin 32) (d : Fin 8) (r : Fin 512) : arg10.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a10 (ix3 b d r) = 0 := by
  dsimp only [initZ]
  refine (View.read_writes_cons_unit_of_mem _ _ _ _ [] _ (ix3 b d r) rfl (by intro a; fin_cases a <;> simp)).trans ?_
  exact p167_at b d r
theorem init11 (b : Fin 32) (d : Fin 8) (r : Fin 512) : arg11.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a11 (ix3 b d r) = 0 := by
  dsimp only [initZ]
  refine (View.read_writes_cons_unit_of_mem _ _ _ _ [] _ (ix3 b d r) rfl (by intro a; fin_cases a <;> simp)).trans ?_
  exact p168_at b d r

/-- After the reset every block's accumulators hold no keys. -/
theorem init_zero (b : Fin 32) : BlkS SC AB v 0 (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1 b := by
  intro r
  rw [show (fun s => arg9.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a9 (ix3 b s r)) = fun _ => ⊥ from funext fun s => init9 c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14 b s r,
    show (fun s => arg10.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a10 (ix3 b s r)) = fun _ => 0 from funext fun s => init10 c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14 b s r,
    show (fun s => arg11.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a11 (ix3 b s r)) = fun _ => 0 from funext fun s => init11 c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14 b s r,
    show (fun d => arg8.view.read _ (initZ c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14).1.a8 (ix3 b d r)) = fun _ => 0 from funext fun d => init8 c i arg2 harg2 arg3 harg3 arg4 harg4 arg5 harg5 arg6 harg6 arg7 harg7 arg8 harg8 arg9 harg9 arg10 harg10 arg11 harg11 arg12 harg12 arg13 harg13 arg14 harg14 h f2 f3 f4 f8 f9 f10 f11 f12 f13 f14 b d r]
  exact Col.zero

end

end Cert.Proof.KernelIdeal
-- ==== Proof.KernelIdealBody.lean ====
/-
  A grid point's body on the accumulators: what it leaves in them for the next point, and the rows it finishes.
-/
module

public import proofs.«01_k».proof.Proof.KernelIdealTail
public import proofs.«01_k».proof.Proof.KernelIdealMidOut
public import proofs.«01_k».proof.Proof.KernelIdealMidReset
public import proofs.«01_k».proof.Proof.KernelIdealInit
public import proofs.«01_k».proof.Proof.KernelIdealRuns

@[expose] public section

set_option maxRecDepth 8192

noncomputable section

namespace Cert.Proof.KernelIdeal

open Idealize.ShloMosaic
open Cert.KernelIdeal Cert.KernelIdeal.Gen
open Cert.Proof.Cols

section
variable (c : Dev nD) (i : grid0.Coords) (arg2 : Memref sig .tc .vmem S1x1x2x8192x256 .bf16) (harg2 : arg2.IsWhole)
  (arg3 : Memref sig .tc .vmem S1x1x1024x256 .bf16) (harg3 : arg3.IsWhole)
  (arg4 : Memref sig .tc .vmem S1x1x256x1024 .bf16) (harg4 : arg4.IsWhole)
  (arg5 : Memref sig .tc .vmem S1x2x1024x256 .f32) (harg5 : arg5.IsWhole)
  (arg6 : Memref sig .tc .vmem S1x1x2x1024 .f32) (harg6 : arg6.IsWhole)
  (arg7 : Memref sig .tc .vmem S1x1x2x1024 .f32) (harg7 : arg7.IsWhole)
  (arg8 : Memref sig .tc .vmem S32x256x512 .f32) (harg8 : arg8.IsWhole)
  (arg9 : Memref sig .tc .vmem S32x8x512 .f32) (harg9 : arg9.IsWhole)
  (arg10 : Memref sig .tc .vmem S32x8x512 .f32) (harg10 : arg10.IsWhole)
  (arg11 : Memref sig .tc .vmem S32x8x512 .f32) (harg11 : arg11.IsWhole)
  (arg12 : Memref sig .tc .vmem S2x1024x512 .f32) (harg12 : arg12.IsWhole)
  (arg13 : Memref sig .tc .vmem S2x1024x512 .bf16) (harg13 : arg13.IsWhole)
  (arg14 : Memref sig .tc .vmem S2x2x8x512 .f32) (harg14 : arg14.IsWhole)

variable (f2 : Bf (F := Ideal) c arg2) (f3 : Bf (F := Ideal) c arg3) (f4 : Bf (F := Ideal) c arg4) (o : Outs (F := Ideal) c arg5 arg6 arg7)
  (s : Scr (F := Ideal) c arg8 arg9 arg10 arg11 arg12 arg13 arg14)
  {SC AB : ℕ → Fin 512 → ℕ → EReal} {v : ℕ → ℕ → EReal} {K : ℕ}

/-- No keys are the same for all columns. -/
theorem col_zero {sc ab sc' ab' : ℕ → EReal} {v v' : ℕ → ℕ → EReal} {M L A : Fin 8 → EReal} {O : Fin 256 → EReal} (h : Col sc ab v 0 M L A O) :
    Col sc' ab' v' 0 M L A O where
  m := h.m
  l := h.l.trans (by simp [cL])
  a := h.a
  o d := (h.o d).trans (by simp [cO])

/-- No keys are the same for all heads. -/
theorem blk_zero {SC' AB' : ℕ → Fin 512 → ℕ → EReal} {v' : ℕ → ℕ → EReal} {b : Fin 32} (B : BlkS SC AB v 0 s b) : BlkS SC' AB' v' 0 s b :=
  fun r => col_zero (B r)

/-- The accumulators after the first grid point's reset. -/
theorem init_blk (b : Fin 32) (n : ℕ) (h1 : k0_cond1 i = 1#1 → n = 0) (B : k0_cond1 i ≠ 1#1 → BlkS SC AB v n s b) : BlkS SC AB v n (initO c i arg2 harg2 arg3 harg3 arg4 harg4 arg5 harg5 arg6 harg6 arg7 harg7 arg8 harg8 arg9 harg9 arg10 harg10 arg11 harg11 arg12 harg12 arg13 harg13 arg14 harg14 f2 f3 f4 s) b := by
  unfold initO
  by_cases h : k0_cond1 i = 1#1
  · rw [dif_pos h, h1 h]
    exact init_zero c i arg2 harg2 arg3 harg3 arg4 harg4 arg5 harg5 arg6 harg6 arg7 harg7 arg8 harg8 arg9 harg9 arg10 harg10 arg11 harg11 arg12 harg12 arg13 harg13 arg14 harg14 h f2 f3 f4 s.a8 s.a9 s.a10 s.a11 s.a12 s.a13 s.a14 b
  · rw [dif_neg h]; exact B h

theorem bodyO_eq {s'} (hs : (initO c i arg2 harg2 arg3 harg3 arg4 harg4 arg5 harg5 arg6 harg6 arg7 harg7 arg8 harg8 arg9 harg9 arg10 harg10 arg11 harg11 arg12 harg12 arg13 harg13 arg14 harg14 f2 f3 f4 s) = s') : (bodyO c i arg2 harg2 arg3 harg3 arg4 harg4 arg5 harg5 arg6 harg6 arg7 harg7 arg8 harg8 arg9 harg9 arg10 harg10 arg11 harg11 arg12 harg12 arg13 harg13 arg14 harg14 f2 f3 f4 o s) = ((mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14).1.1, tailO c i arg2 harg2 arg3 harg3 arg4 harg4 arg5 harg5 arg6 harg6 arg7 harg7 arg8 harg8 arg9 harg9 arg10 harg10 arg11 harg11 arg12 harg12 arg13 harg13 arg14 harg14 f2 f3 f4 (mid c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14).1.2) := by
  subst hs; rfl

/-- The body's step: blocks of the chunk and before it hold no keys afterwards, the blocks after it 1024 keys more; the
    chunk's rows are finished. -/
theorem body_step (good : ∀ b r, Good (SC b r))
    (hV : ∀ (d : Fin 256) (x : Fin 1024), arg4.view.read _ f4 (ix4 0 0 d x) = v d.val (K + x.val))
    (hM : ∀ q, q < 4 → ∀ r x, x < 1024 → SC (4 * (i 1).val + q) r (K + x) = rawm (arg2.view.read _ f2) (arg3.view.read _ f3) (4 * (i 1).val + q) r ⊥ q x
      ∧ AB (4 * (i 1).val + q) r (K + x) = max (rawm (arg2.view.read _ f2) (arg3.view.read _ f3) (4 * (i 1).val + q) r ⊥ q x) (0 - rawm (arg2.view.read _ f2) (arg3.view.read _ f3) (4 * (i 1).val + q) r 0 q x))
    (hS : ∀ b, 4 * (i 1).val + 4 ≤ b → b < 32 → ∀ r x, x < 1024 → SC b r (K + x) = raw (arg2.view.read _ f2) (arg3.view.read _ f3) b r x ∧ AB b r (K + x) = max (raw (arg2.view.read _ f2) (arg3.view.read _ f3) b r x) (0 - raw (arg2.view.read _ f2) (arg3.view.read _ f3) b r x))
    (B : ∀ b : Fin 32, BlkS SC AB v (if b.val < 4 * (i 1).val then 0 else K) (initO c i arg2 harg2 arg3 harg3 arg4 harg4 arg5 harg5 arg6 harg6 arg7 harg7 arg8 harg8 arg9 harg9 arg10 harg10 arg11 harg11 arg12 harg12 arg13 harg13 arg14 harg14 f2 f3 f4 s) b) :
    (∀ b : Fin 32, BlkS SC AB v (if b.val < 4 * (i 1).val + 4 then 0 else K + 1024) (bodyO c i arg2 harg2 arg3 harg3 arg4 harg4 arg5 harg5 arg6 harg6 arg7 harg7 arg8 harg8 arg9 harg9 arg10 harg10 arg11 harg11 arg12 harg12 arg13 harg13 arg14 harg14 f2 f3 f4 o s).2 b)
    ∧ (∀ (q : ℕ) (hq : q < 4) (a d : Fin 256) (u : Fin 2) (r : Fin 512) (hr : r.val = a.val + 256 * u.val),
      arg5.view.read _ (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a5 (ix4 0 u (ky (a.val + 256 * q)) d) = cO (SC (4 * (i 1).val + q) r) (v d.val) (K + 256 * (q + 1)) * Ideal.div 1 (cL (SC (4 * (i 1).val + q) r) (K + 256 * (q + 1))))
    ∧ (∀ (q : ℕ) (hq : q < 4) (a : Fin 256) (u : Fin 2) (r : Fin 512) (hr : r.val = a.val + 256 * u.val),
      arg6.view.read _ (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a6 (ix4 0 0 u (ky (a.val + 256 * q))) = cA (AB (4 * (i 1).val + q) r) (K + 256 * (q + 1)) * ((1 / 16 : ℝ) : EReal))
    ∧ (∀ (q : ℕ) (hq : q < 4) (a : Fin 256) (u : Fin 2) (r : Fin 512) (hr : r.val = a.val + 256 * u.val),
      arg7.view.read _ (bodyO c i arg2 harg2 arg3 harg3 arg4 harg4 arg5 harg5 arg6 harg6 arg7 harg7 arg8 harg8 arg9 harg9 arg10 harg10 arg11 harg11 arg12 harg12 arg13 harg13 arg14 harg14 f2 f3 f4 o s).1.a7 (ix4 0 0 u (ky (a.val + 256 * q))) = Finset.univ.sup fun d : Fin 256 =>
        max (cO (SC (4 * (i 1).val + q) r) (v d.val) (K + 256 * (q + 1)) * Ideal.div 1 (cL (SC (4 * (i 1).val + q) r) (K + 256 * (q + 1))))
          (-(cO (SC (4 * (i 1).val + q) r) (v d.val) (K + 256 * (q + 1)) * Ideal.div 1 (cL (SC (4 * (i 1).val + q) r) (K + 256 * (q + 1)))))) := by
  generalize hs : (initO c i arg2 harg2 arg3 harg3 arg4 harg4 arg5 harg5 arg6 harg6 arg7 harg7 arg8 harg8 arg9 harg9 arg10 harg10 arg11 harg11 arg12 harg12 arg13 harg13 arg14 harg14 f2 f3 f4 s) = s' at B
  rw [bodyO_eq c i arg2 harg2 arg3 harg3 arg4 harg4 arg5 harg5 arg6 harg6 arg7 harg7 arg8 harg8 arg9 harg9 arg10 harg10 arg11 harg11 arg12 harg12 arg13 harg13 arg14 harg14 f2 f3 f4 o s hs]
  clear hs
  have hj := (i 1).isLt
  have hj8 : (i 1).val < 8 := hj
  have Bq : ∀ (q : ℕ) (hq : q < 4), BlkAt SC AB v K (arg8.view.read _ s'.a8) (arg9.view.read _ s'.a9) (arg10.view.read _ s'.a10) (arg11.view.read _ s'.a11) ⟨4 * (i 1).val + q, by omega⟩ := fun q hq => by
    have := B ⟨4 * (i 1).val + q, by omega⟩
    rw [if_neg (by simp)] at this
    exact this
  dsimp only
  refine ⟨fun b => ?_, fun q hq a d u r hr => ?_, fun q hq a u r hr => ?_, fun q hq a u r hr => ?_⟩
  · by_cases h0 : b.val < 4 * (i 1).val + 4
    · rw [if_pos h0]
      refine tail_low c i arg2 harg2 arg3 harg3 arg4 harg4 arg5 harg5 arg6 harg6 arg7 harg7 arg8 harg8 arg9 harg9 arg10 harg10 arg11 harg11 arg12 harg12 arg13 harg13 arg14 harg14 f2 f3 f4 _ b h0 ?_
      by_cases h1 : b.val < 4 * (i 1).val
      · have := B b
        rw [if_pos h1] at this
        exact mid_keep c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14 b (Or.inl h1) this
      · exact mid_reset c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14 b (by omega) h0
    · rw [if_neg h0]
      refine tail_val c i arg2 harg2 arg3 harg3 arg4 harg4 arg5 harg5 arg6 harg6 arg7 harg7 arg8 harg8 arg9 harg9 arg10 harg10 arg11 harg11 arg12 harg12 arg13 harg13 arg14 harg14 f2 f3 f4 _ good hV hS (fun b hb => ?_) b (by omega)
      have := B b
      rw [if_neg (by omega)] at this
      exact mid_keep c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14 b (Or.inr hb) this
  · exact mid_out c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14 ⟨4 * (i 1).val + q, by omega⟩ q hq rfl good hV (hM q hq) (Bq q hq) a d u r hr
  · exact mid_amax c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14 ⟨4 * (i 1).val + q, by omega⟩ q hq rfl good hV (hM q hq) (Bq q hq) a u r hr
  · exact mid_omax c i arg2 harg2 arg3 harg3 arg4 harg4 arg5 harg5 arg6 harg6 arg7 harg7 arg8 harg8 arg9 harg9 arg10 harg10 arg11 harg11 arg12 harg12 arg13 harg13 arg14 harg14 f2 f3 f4 o.a5 o.a6 o.a7 s'.a8 s'.a9 s'.a10 s'.a11 s'.a12 s'.a13 s'.a14 ⟨4 * (i 1).val + q, by omega⟩ q hq rfl good hV (hM q hq) (Bq q hq) a u r hr

end

end Cert.Proof.KernelIdeal
-- ==== Proof.Rows.lean ====
/-
  A row of attention, finished: the accumulators of a column after the keys up to its query are the masked softmax's
  output, and the largest masked score in absolute value.
-/
module

public import proofs.«01_k».proof.Proof.Cols

@[expose] public section

set_option maxRecDepth 8192

noncomputable section

namespace Cert.Proof.Rows

open Idealize.ShloMosaic
open Cert.Proof.Cols

/-- The scale of the scores. -/
def sx : EReal := ((1 / 16 : ℝ) : EReal)

variable (s : ℕ → ℝ) (p : ℕ)

/-- The raw scores of a column, −∞ past its query. -/
def scol (k : ℕ) : EReal := if k ≤ p then (s k : EReal) else ⊥
/-- Their absolute values, 0 past the query. -/
def acol (k : ℕ) : EReal := if k ≤ p then max (s k : EReal) (0 - (s k : EReal)) else 0
/-- The scaled, masked scores. -/
def mcol (k : ℕ) : EReal := if k ≤ p then (s k : EReal) * sx else ⊥

theorem scol_good : Good (scol s p) where
  zero := ⟨s 0, by simp [scol]⟩
  ne_top k := by unfold scol; split_ifs <;> simp

theorem sup_fold {ι : Type} (t : Finset ι) (f : ι → EReal) : t.fold max ⊥ f = t.sup f := rfl

theorem sum_coe {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sup_fin (n : ℕ) (f : ℕ → EReal) : (Finset.univ.sup fun k : Fin n => f k.val) = (Finset.range n).sup f := by
  apply le_antisymm
  · exact Finset.sup_le fun k _ => Finset.le_sup (f := f) (Finset.mem_range.2 k.isLt)
  · exact Finset.sup_le fun k hk => Finset.le_sup (f := fun k : Fin n => f k.val) (Finset.mem_univ (⟨k, Finset.mem_range.1 hk⟩ : Fin n))

theorem sup_mul {ι : Type} (t : Finset ι) (f : ι → EReal) : (t.sup f) * sx = t.sup fun i => f i * sx := by
  classical
  have hs : (0 : EReal) < sx := by unfold sx; exact_mod_cast (by norm_num : (0 : ℝ) < 1 / 16)
  induction t using Finset.induction_on with
  | empty => simp only [Finset.sup_empty]; unfold sx; exact EReal.bot_mul_coe_of_pos (by norm_num)
  | insert a t ha ih =>
    rw [Finset.sup_insert, Finset.sup_insert, ← ih]
    have mono : Monotone fun x : EReal => x * sx := fun a b h => mul_le_mul_of_nonneg_right h hs.le
    exact mono.map_max

variable {n N : ℕ} (hN : p < N) (hn : N ≤ n)
include hN hn

/-- Past the query the running maximum is the row's maximum. -/
theorem cM_row : cM (scol s p) N = (Finset.range n).sup (scol s p) := by
  apply le_antisymm
  · exact Finset.sup_mono (Finset.range_mono hn)
  · refine Finset.sup_le fun k hk => ?_
    by_cases h : k ≤ p
    · exact Finset.le_sup (f := scol s p) (Finset.mem_range.2 (by omega))
    · rw [show scol s p k = ⊥ by simp [scol, h]]; exact bot_le

theorem mcol_eq (k : ℕ) : mcol s p k = scol s p k * sx := by
  unfold mcol scol sx; split_ifs
  · rfl
  · exact (EReal.bot_mul_coe_of_pos (by norm_num)).symm

/-- The row's maximum of the scaled scores. -/
theorem max_row : max ⊥ (Finset.univ.fold max ⊥ fun k : Fin n => mcol s p k.val) = cM (scol s p) N * sx := by
  rw [sup_fold, sup_fin n (mcol s p), cM_row s p hN hn, sup_mul]
  simp only [bot_le, max_eq_right]
  exact Finset.sup_congr rfl fun k _ => mcol_eq s p hN hn k

theorem amax_row : cA (acol s p) N * sx = Finset.univ.fold max ⊥ fun k : Fin n => if k.val ≤ p then max ((s k.val : EReal) * sx) (-((s k.val : EReal) * sx)) else 0 := by
  have h0 : (0 : EReal) ≤ (Finset.range N).sup (acol s p) := by
    refine le_trans ?_ (Finset.le_sup (f := acol s p) (Finset.mem_range.2 (by omega : 0 < N)))
    simp only [acol, Nat.zero_le, if_true]
    rcases le_total (0 : EReal) (s 0 : EReal) with h | h
    · exact le_max_of_le_left h
    · refine le_max_of_le_right ?_
      rw [zero_sub]
      exact EReal.neg_nonneg.2 h
  rw [sup_fold, sup_fin n (fun k => if k ≤ p then max ((s k : EReal) * sx) (-((s k : EReal) * sx)) else 0)]
  unfold cA
  rw [max_eq_right h0, sup_mul]
  have e : ∀ k, acol s p k * sx = if k ≤ p then max ((s k : EReal) * sx) (-((s k : EReal) * sx)) else 0 := fun k => by
    unfold acol sx; split_ifs
    · have hc : ∀ a b : ℝ, max (a : EReal) (b : EReal) = ((max a b : ℝ) : EReal) := fun a b => (EReal.coe_strictMono.monotone.map_max).symm
      rw [zero_sub, ← EReal.coe_neg, hc, ← EReal.coe_mul, ← EReal.coe_mul, ← EReal.coe_neg, hc]
      congr 1
      rw [max_mul_of_nonneg _ _ (by norm_num), neg_mul]
    · simp
  simp only [e]
  apply le_antisymm
  · exact Finset.sup_mono (Finset.range_mono hn)
  · refine Finset.sup_le fun k hk => ?_
    by_cases h : k ≤ p
    · exact Finset.le_sup (f := fun k => if k ≤ p then max ((s k : EReal) * sx) (-((s k : EReal) * sx)) else 0) (Finset.mem_range.2 (by omega))
    · rw [if_neg h]
      have := h0
      refine le_trans ?_ (Finset.le_sup (f := fun k => if k ≤ p then max ((s k : EReal) * sx) (-((s k : EReal) * sx)) else 0) (Finset.mem_range.2 (by omega : 0 < N)))
      simp only [Nat.zero_le, if_true]
      rcases le_total (0 : EReal) ((s 0 : EReal) * sx) with h | h
      · exact le_max_of_le_left h
      · exact le_max_of_le_right (EReal.neg_nonneg.2 h)

/-- A weight of the running softmax is the exponential of the scaled score less the scaled maximum. -/
theorem exp_row (k : ℕ) : Ideal.exp (mcol s p k - max ⊥ (Finset.univ.fold max ⊥ fun k : Fin n => mcol s p k.val)) = W (cM (scol s p) N) (scol s p k) := by
  rw [max_row s p hN hn, mcol_eq s p hN hn]
  obtain ⟨M, hM⟩ := cM_real (scol_good s p) (K := N) (by omega)
  rw [hM]
  unfold scol sx
  split_ifs
  · rw [W_coe, ← EReal.coe_mul, ← EReal.coe_mul, ← EReal.coe_sub]
    refine congrArg (fun x : ℝ => (x : EReal)) ?_
    rw [Real.rpow_def_of_pos (by norm_num : (0 : ℝ) < 2)]
    refine congrArg Real.exp ?_
    have hl : Real.log 2 ≠ 0 := (Real.log_pos (by norm_num)).ne'
    unfold kc
    field_simp
  · rw [W_bot, EReal.bot_mul_coe_of_pos (by norm_num), EReal.bot_sub]; rfl

/-- The output of a row. -/
theorem out_row (v : ℕ → EReal) : cO (scol s p) v N * Ideal.div 1 (cL (scol s p) N)
    = ∑ k : Fin n, Ideal.div (Ideal.exp (mcol s p k.val - max ⊥ (Finset.univ.fold max ⊥ fun k : Fin n => mcol s p k.val)))
        (0 + ∑ k : Fin n, Ideal.exp (mcol s p k.val - max ⊥ (Finset.univ.fold max ⊥ fun k : Fin n => mcol s p k.val))) * v k.val := by
  simp only [exp_row s p hN hn, zero_add]
  obtain ⟨M, hM⟩ := cM_real (scol_good s p) (K := N) (by omega)
  have hz : ∀ k, N ≤ k → W (cM (scol s p) N) (scol s p k) = 0 := fun k hk => by
    rw [hM, show scol s p k = ⊥ by simp [scol, show ¬ k ≤ p by omega]]; exact W_bot M
  rw [Fin.sum_univ_eq_sum_range (fun k => W (cM (scol s p) N) (scol s p k)) n]
  rw [show ∑ k ∈ Finset.range n, W (cM (scol s p) N) (scol s p k) = cL (scol s p) N from
    (Finset.sum_subset (Finset.range_mono hn) fun k _ hk => hz k (by simpa using hk)).symm]
  rw [Fin.sum_univ_eq_sum_range (fun k => Ideal.div (W (cM (scol s p) N) (scol s p k)) (cL (scol s p) N) * v k) n]
  have hL : ∃ z : ℝ, 0 < z ∧ cL (scol s p) N = z := by
    have hw : ∀ k, ∃ w : ℝ, 0 ≤ w ∧ W (cM (scol s p) N) (scol s p k) = w := fun k => by
      rw [hM]; exact W_real M ((scol_good s p).ne_top k)
    choose w hw0 hw using hw
    refine ⟨∑ k ∈ Finset.range N, w k, Finset.sum_pos' (fun k _ => hw0 k) ⟨0, Finset.mem_range.2 (by omega), ?_⟩, ?_⟩
    · have h := hw 0
      rw [hM, show scol s p 0 = (s 0 : EReal) by simp [scol], W_coe] at h
      rw [← EReal.coe_eq_coe_iff.1 h]
      positivity
    · unfold cL
      simp only [hw]
      exact (sum_coe _ _).symm
  obtain ⟨z, hz0, hLz⟩ := hL
  rw [hLz]
  have hd : ∀ x : EReal, Ideal.div x (z : EReal) = x * ((z⁻¹ : ℝ) : EReal) := fun x => by
    unfold Ideal.div
    rw [if_neg (by exact_mod_cast hz0.ne'), EReal.coe_inv]
  simp only [hd, one_mul]
  unfold cO
  rw [sum_mul _ _ (inv_nonneg.2 hz0.le)]
  rw [← Finset.sum_subset (Finset.range_mono hn) (f := fun k => W (cM (scol s p) N) (scol s p k) * ((z⁻¹ : ℝ) : EReal) * v k) fun k _ hk => by
    rw [hz k (by simpa using hk), zero_mul, zero_mul]]
  refine Finset.sum_congr rfl fun k _ => ?_
  rw [mul_assoc, mul_comm]

end Cert.Proof.Rows
-- ==== Proof.KernelIdealGrid.lean ====
/-
  The columns of every head as functions of the three arguments, the values of the three results' blocks, and the
  invariant of the accumulators from one grid point to the next.
-/
module

public import proofs.«01_k».proof.Proof.KernelIdealBody
public import proofs.«01_k».proof.Proof.KernelIdealFrame
public import proofs.«01_k».proof.Proof.Rows
public import Idealize.ShloMosaic.Lib.Pipeline.ValueKit

@[expose] public section

set_option maxRecDepth 16384

noncomputable section

namespace Cert.Proof.KernelIdeal

open Idealize.ShloMosaic Idealize.ShloMosaic.TcCoe
open Cert.KernelIdeal Cert.KernelIdeal.Gen
open Cert.Proof.Cols Cert.Proof.Rows

/-! ## Columns -/

/-- Head `h`'s batch. -/
def nb (h : ℕ) : Fin 3 := ⟨h / 4 % 3, Nat.mod_lt _ (by norm_num)⟩
/-- Head `h`'s key head. -/
def nh (h : ℕ) : Fin 4 := ⟨h % 4, Nat.mod_lt _ (by norm_num)⟩
/-- Key `k`. -/
def kp (k : ℕ) : Fin 8192 := ⟨k % 8192, Nat.mod_lt _ (by norm_num)⟩
/-- Output lane `d`. -/
def dp (d : ℕ) : Fin 256 := ⟨d % 256, Nat.mod_lt _ (by norm_num)⟩
/-- Column `a + 256 u` of a block: query row `a` of head `u` of the pair. -/
def rcol (a u : ℕ) : Fin 512 := ⟨(a % 256 + 256 * u) % 512, Nat.mod_lt _ (by norm_num)⟩

section cols
variable (Q : S3x4x2x8192x256.Idx → EReal) (K : S3x4x8192x256.Idx → EReal) (V : S3x4x256x8192.Idx → EReal)

/-- The raw score of key `k` against column `r` of block `b`. -/
def sraw (h b : ℕ) (r : Fin 512) (k : ℕ) : EReal := ∑ x : Fin 256, K (ix4 (nb h) (nh h) (kp k) x) * Q (ix5 (nb h) (nh h) (hd r) (qpos b r) x)
/-- The masked scores of a column. -/
def SCh (h b : ℕ) (r : Fin 512) (k : ℕ) : EReal := if k ≤ 256 * b + r.val % 256 then sraw Q K h b r k else ⊥
/-- The masked absolute scores of a column. -/
def ABh (h b : ℕ) (r : Fin 512) (k : ℕ) : EReal := if k ≤ 256 * b + r.val % 256 then max (sraw Q K h b r k) (0 - sraw Q K h b r k) else 0
/-- The values of a head, a lane at a time. -/
def vh (h d k : ℕ) : EReal := V (ix4 (nb h) (nh h) (dp d) (kp k))
/-- A row's output. -/
def outAt (h b : ℕ) (r : Fin 512) (d : ℕ) : EReal := cO (SCh Q K h b r) (vh V h d) (256 * (b + 1)) * Ideal.div 1 (cL (SCh Q K h b r) (256 * (b + 1)))
/-- A row's largest absolute score. -/
def amaxAt (h b : ℕ) (r : Fin 512) : EReal := cA (ABh Q K h b r) (256 * (b + 1)) * ((1 / 16 : ℝ) : EReal)
/-- A row's largest absolute output. -/
def omaxAt (h b : ℕ) (r : Fin 512) : EReal := Finset.univ.sup fun d : Fin 256 => max (outAt Q K V h b r d.val) (-outAt Q K V h b r d.val)

/-- The result `o`. -/
def G3 (i : S3x8x8192x256.Idx) : EReal := outAt Q K V (4 * (i 0).val + (i 1).val / 2) ((i 2).val / 256) (rcol (i 2).val ((i 1).val % 2)) (i 3).val
/-- The result of the largest absolute scores. -/
def G4 (i : S3x4x2x8192.Idx) : EReal := amaxAt Q K (4 * (i 0).val + (i 1).val) ((i 3).val / 256) (rcol (i 3).val (i 2).val)
/-- The result of the largest absolute outputs. -/
def G5 (i : S3x4x2x8192.Idx) : EReal := omaxAt Q K V (4 * (i 0).val + (i 1).val) ((i 3).val / 256) (rcol (i 3).val (i 2).val)

/-- Every score is finite. -/
def Fin_ : Prop := ∀ h b r k, ∃ x : ℝ, sraw Q K h b r k = x

theorem good_of (hf : Fin_ Q K) (h b : ℕ) (r : Fin 512) : Good (SCh Q K h b r) where
  zero := by obtain ⟨x, hx⟩ := hf h b r 0; exact ⟨x, by rw [SCh, if_pos (Nat.zero_le _)]; exact hx⟩
  ne_top k := by
    unfold SCh
    split_ifs
    · obtain ⟨x, hx⟩ := hf h b r k; rw [hx]; exact EReal.coe_ne_top x
    · exact bot_ne_top

end cols

/-! ## The grid -/

theorem co0 : ∀ t : Fin cfg0.N, (grid0.coords t 0).val = t.val / 8 := by decide +kernel
theorem co1 : ∀ t : Fin cfg0.N, (grid0.coords t 1).val = t.val % 8 := by decide +kernel
theorem first : ∀ t : Fin cfg0.N, k0_cond1 (grid0.coords t) = 1#1 ↔ t.val = 0 := by decide +kernel
theorem idx0 : ∀ t : Fin cfg0.N, win0_0.index t = ![t.val / 32, t.val / 8 % 4, 0, 0, 0] := by decide +kernel
theorem idx1 : ∀ t : Fin cfg0.N, win0_1.index t = ![t.val / 32, t.val / 8 % 4, t.val % 8, 0] := by decide +kernel
theorem idx2 : ∀ t : Fin cfg0.N, win0_2.index t = ![t.val / 32, t.val / 8 % 4, 0, t.val % 8] := by decide +kernel
theorem idx3 : ∀ t : Fin cfg0.N, win0_3.index t = ![t.val / 32, t.val / 8 % 4, t.val % 8, 0] := by decide +kernel
theorem idx4 : ∀ t : Fin cfg0.N, win0_4.index t = ![t.val / 32, t.val / 8 % 4, 0, t.val % 8] := by decide +kernel
theorem idx5 : ∀ t : Fin cfg0.N, win0_5.index t = ![t.val / 32, t.val / 8 % 4, 0, t.val % 8] := by decide +kernel
theorem t_lt (t : Fin cfg0.N) : t.val < 96 := t.isLt

variable (m : (ℓ : Loc nD τ sig) → Buf (Elt Ideal) ℓ) (c : Dev nD)

/-- The three arguments. -/
abbrev aQ : S3x4x2x8192x256.Idx → EReal := m ((c : Thread nD τ).loc main_arg0)
abbrev aK : S3x4x8192x256.Idx → EReal := m ((c : Thread nD τ).loc main_arg1)
abbrev aV : S3x4x256x8192.Idx → EReal := m ((c : Thread nD τ).loc main_arg2)

/-- A point's queries. -/
theorem blk0 (t : Fin cfg0.N) (u : Fin 2) (p : Fin 8192) (x : Fin 256) :
    (iblk m c 0 t : S1x1x2x8192x256.Idx → EReal) (ix5 0 0 u p x) = aQ m c (ix5 (nb (t.val / 8)) (nh (t.val / 8)) u p x) := by
  have ht := t_lt t
  blk_ext [iblk, V, idx0 t, nb, nh]
/-- A point's keys. -/
theorem blk1 (t : Fin cfg0.N) (k : Fin 1024) (x : Fin 256) :
    (iblk m c 1 t : S1x1x1024x256.Idx → EReal) (ix4 0 0 k x) = aK m c (ix4 (nb (t.val / 8)) (nh (t.val / 8)) (kp (1024 * (t.val % 8) + k.val)) x) := by
  have ht := t_lt t
  blk_ext [iblk, V, idx1 t, nb, nh, kp]
/-- A point's values. -/
theorem blk2 (t : Fin cfg0.N) (d : Fin 256) (k : Fin 1024) :
    (iblk m c 2 t : S1x1x256x1024.Idx → EReal) (ix4 0 0 d k) = aV m c (ix4 (nb (t.val / 8)) (nh (t.val / 8)) d (kp (1024 * (t.val % 8) + k.val))) := by
  have ht := t_lt t
  blk_ext [iblk, V, idx2 t, nb, nh, kp]

/-- A point's raw scores are its head's. -/
theorem raw_blk (t : Fin cfg0.N) (b : ℕ) (r : Fin 512) (x : ℕ) (hx : x < 1024) :
    raw (iblk m c 0 t) (iblk m c 1 t) b r x = sraw (aQ m c) (aK m c) (t.val / 8) b r (1024 * (t.val % 8) + x) := by
  unfold raw sraw
  refine Finset.sum_congr rfl fun y _ => ?_
  rw [blk0, blk1, show (ky x).val = x from Nat.mod_eq_of_lt hx]

/-- The invariant of the accumulators before point `n`: nothing at the first point; later, the blocks of the chunks past
    hold no keys, the others those of the chunks past. -/
def Inv (n : ℕ) (s : ScrW (F := Ideal) c) : Prop := n ≠ 0 → ∀ b : Fin 32,
  BlkS (SCh (aQ m c) (aK m c) (n / 8)) (ABh (aQ m c) (aK m c) (n / 8)) (vh (aV m c) (n / 8)) (if b.val < 4 * (n % 8) then 0 else 1024 * (n % 8)) s b

/-- The block of `o` a point writes. -/
def T3 (t : Fin cfg0.N) (y : S1x2x1024x256.Idx) : EReal :=
  outAt (aQ m c) (aK m c) (aV m c) (t.val / 8) (4 * (t.val % 8) + (y 2).val / 256) (rcol (y 2).val (y 1).val) (y 3).val
/-- The block of the largest absolute scores a point writes. -/
def T4 (t : Fin cfg0.N) (y : S1x1x2x1024.Idx) : EReal :=
  amaxAt (aQ m c) (aK m c) (t.val / 8) (4 * (t.val % 8) + (y 3).val / 256) (rcol (y 3).val (y 2).val)
/-- The block of the largest absolute outputs a point writes. -/
def T5 (t : Fin cfg0.N) (y : S1x1x2x1024.Idx) : EReal :=
  omaxAt (aQ m c) (aK m c) (aV m c) (t.val / 8) (4 * (t.val % 8) + (y 3).val / 256) (rcol (y 3).val (y 2).val)

/-- A row of a result block, by its block, query row and head. -/
theorem y3_eq (y : S1x2x1024x256.Idx) : y = ix4 0 (y 1) (ky ((dp (y 2).val).val + 256 * ((y 2).val / 256))) (y 3) := by
  funext a
  have h2 : (y 2).val < 1024 := (y 2).isLt
  fin_cases a
  · exact Subsingleton.elim (α := Fin 1) _ _
  · rfl
  · refine Fin.ext ?_
    show (y 2).val = ((y 2).val % 256 + 256 * ((y 2).val / 256)) % 1024
    omega
  · rfl
theorem y4_eq (y : S1x1x2x1024.Idx) : y = ix4 0 0 (y 2) (ky ((dp (y 3).val).val + 256 * ((y 3).val / 256))) := by
  funext a
  have h2 : (y 3).val < 1024 := (y 3).isLt
  fin_cases a
  · exact Subsingleton.elim (α := Fin 1) _ _
  · exact Subsingleton.elim (α := Fin 1) _ _
  · rfl
  · refine Fin.ext ?_
    show (y 3).val = ((y 3).val % 256 + 256 * ((y 3).val / 256)) % 1024
    omega

theorem rcol_val (a : ℕ) (u : Fin 2) : (rcol a u.val).val = (dp a).val + 256 * u.val := by
  have := u.isLt
  show (a % 256 + 256 * u.val) % 512 = a % 256 + 256 * u.val
  omega

/-- One grid point, from the invariant to the invariant, with the blocks it writes. -/
theorem step (hf : Fin_ (aQ m c) (aK m c)) (t : Fin cfg0.N) (f2 : Bf (F := Ideal) c (st0_0 t)) (f3 : Bf (F := Ideal) c (st0_1 t)) (f4 : Bf (F := Ideal) c (st0_2 t))
    (o : OutsW (F := Ideal) c t) (s : ScrW (F := Ideal) c) (e2 : (st0_0 t).view.read (Elt Ideal) f2 = iblk m c 0 t)
    (e3 : (st0_1 t).view.read (Elt Ideal) f3 = iblk m c 1 t) (e4 : (st0_2 t).view.read (Elt Ideal) f4 = iblk m c 2 t) (I : Inv m c t.val s) :
    Inv m c (t.val + 1) (bodyT c t f2 f3 f4 o s).2 ∧ (st0_3 t).view.read (Elt Ideal) (bodyT c t f2 f3 f4 o s).1.a5 = T3 m c t
      ∧ (st0_4 t).view.read (Elt Ideal) (bodyT c t f2 f3 f4 o s).1.a6 = T4 m c t ∧ (st0_5 t).view.read (Elt Ideal) (bodyT c t f2 f3 f4 o s).1.a7 = T5 m c t := by
  have ht := t_lt t
  have c1 := co1 t
  have hfst := first t
  have H := body_step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f2 f3 f4 o s
    (SC := SCh (aQ m c) (aK m c) (t.val / 8)) (AB := ABh (aQ m c) (aK m c) (t.val / 8)) (v := vh (aV m c) (t.val / 8)) (K := 1024 * (t.val % 8))
    (good_of _ _ hf (t.val / 8)) ?hV ?hM ?hS ?B
  case hV =>
    intro d x
    rw [e4]
    refine (blk2 m c t d x).trans ?_
    unfold vh
    rw [show dp d.val = d from Fin.ext (Nat.mod_eq_of_lt d.isLt)]
  case hM =>
    intro q hq r x hx
    rw [e2, e3, c1]
    unfold rawm SCh ABh
    rw [raw_blk m c t _ r x hx]
    by_cases h : x ≤ 256 * q + r.val % 256
    · have h' : 1024 * (t.val % 8) + x ≤ 256 * (4 * (t.val % 8) + q) + r.val % 256 := by omega
      rw [if_pos h, if_pos h', if_pos h', if_pos h]
      exact ⟨rfl, rfl⟩
    · have h' : ¬ 1024 * (t.val % 8) + x ≤ 256 * (4 * (t.val % 8) + q) + r.val % 256 := by omega
      rw [if_neg h, if_neg h', if_neg h', if_neg h]
      exact ⟨rfl, by simp⟩
  case hS =>
    intro b hb hb' r x hx
    rw [c1] at hb
    rw [e2, e3]
    unfold SCh ABh
    rw [raw_blk m c t _ r x hx]
    have h' : 1024 * (t.val % 8) + x ≤ 256 * b + r.val % 256 := by omega
    rw [if_pos h', if_pos h']
    exact ⟨rfl, rfl⟩
  case B =>
    intro b
    rw [c1]
    refine init_blk c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f2 f3 f4 s b _ (fun h => ?_) (fun h => ?_)
    · have := hfst.1 h
      simp [this]
    · exact I (fun h0 => h (hfst.2 h0)) b
  obtain ⟨H1, H2, H3, H4⟩ := H
  rw [c1] at H1 H2 H3 H4
  refine ⟨fun _ b => ?_, funext fun y => ?_, funext fun y => ?_, funext fun y => ?_⟩
  · have B := H1 b
    by_cases h7 : t.val % 8 = 7
    · have hb := b.isLt
      rw [if_pos (by omega)] at B
      rw [show (if b.val < 4 * ((t.val + 1) % 8) then 0 else 1024 * ((t.val + 1) % 8)) = 0 by split_ifs <;> omega]
      exact fun r => col_zero (B r)
    · rw [show (t.val + 1) / 8 = t.val / 8 by omega, show (t.val + 1) % 8 = t.val % 8 + 1 by omega]
      exact B
  · have h2 : (y 2).val < 1024 := (y 2).isLt
    refine (congrArg _ (y3_eq y)).trans ((H2 ((y 2).val / 256) (by omega) (dp (y 2).val) (y 3) (y 1) (rcol (y 2).val (y 1).val) (rcol_val _ _)).trans ?_)
    unfold T3 outAt
    rw [show 1024 * (t.val % 8) + 256 * ((y 2).val / 256 + 1) = 256 * (4 * (t.val % 8) + (y 2).val / 256 + 1) by omega]
  · have h2 : (y 3).val < 1024 := (y 3).isLt
    refine (congrArg _ (y4_eq y)).trans ((H3 ((y 3).val / 256) (by omega) (dp (y 3).val) (y 2) (rcol (y 3).val (y 2).val) (rcol_val _ _)).trans ?_)
    unfold T4 amaxAt
    rw [show 1024 * (t.val % 8) + 256 * ((y 3).val / 256 + 1) = 256 * (4 * (t.val % 8) + (y 3).val / 256 + 1) by omega]
  · have h2 : (y 3).val < 1024 := (y 3).isLt
    refine (congrArg _ (y4_eq y)).trans ((H4 ((y 3).val / 256) (by omega) (dp (y 3).val) (y 2) (rcol (y 3).val (y 2).val) (rcol_val _ _)).trans ?_)
    unfold T5 omaxAt outAt
    rw [show 1024 * (t.val % 8) + 256 * ((y 3).val / 256 + 1) = 256 * (4 * (t.val % 8) + (y 3).val / 256 + 1) by omega]

end Cert.Proof.KernelIdeal
-- ==== Proof.KernelIdealOut.lean ====
/-
  The kernel's run with its three results named.
-/
module

public import proofs.«01_k».proof.Proof.KernelIdealGrid

@[expose] public section

set_option maxRecDepth 16384

noncomputable section

namespace Cert.Proof.KernelIdeal

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

theorem rcol_eq {a a' u u' : ℕ} (ha : a % 256 = a' % 256) (hu : u = u') : rcol a u = rcol a' u' := by
  unfold rcol; subst hu; simp only [ha]

/-- The columns depend on the head's number only. -/
theorem outAt_eq {Q : S3x4x2x8192x256.Idx → EReal} {K : S3x4x8192x256.Idx → EReal} {V : S3x4x256x8192.Idx → EReal} {h h' b b' : ℕ} {r r' : Fin 512} {d : ℕ}
    (eh : h = h') (eb : b = b') (er : r = r') : outAt Q K V h b r d = outAt Q K V h' b' r' d := by rw [eh, eb, er]
theorem amaxAt_eq {Q : S3x4x2x8192x256.Idx → EReal} {K : S3x4x8192x256.Idx → EReal} {h h' b b' : ℕ} {r r' : Fin 512}
    (eh : h = h') (eb : b = b') (er : r = r') : amaxAt Q K h b r = amaxAt Q K h' b' r' := by rw [eh, eb, er]
theorem omaxAt_eq {Q : S3x4x2x8192x256.Idx → EReal} {K : S3x4x8192x256.Idx → EReal} {V : S3x4x256x8192.Idx → EReal} {h h' b b' : ℕ} {r r' : Fin 512}
    (eh : h = h') (eb : b = b') (er : r = r') : omaxAt Q K V h b r = omaxAt Q K V h' b' r' := by rw [eh, eb, er]

/-- The result `o` after the run. -/
theorem arr3 : (dats m (fun c => Inv m c) (fun c => T3 m c) (fun c => T4 m c) (fun c => T5 m c) 0 c).arrAt 3 cfg0.N = G3 (aQ m c) (aK m c) (aV m c) := by
  refine (dats m (fun c => Inv m c) (fun c => T3 m c) (fun c => T4 m c) (fun c => T5 m c) 0 c).arrAt_eq_of_covers 3 _ (by decide +kernel) fun t hf y => ?_
  have ht := t_lt t
  have h1 : (y 1).val < 2 := (y 1).isLt
  have h2 : (y 2).val < 1024 := (y 2).isLt
  show T3 m c t y = _
  unfold T3 G3
  blk_simp [idx3 t]
  exact outAt_eq (by omega) (by omega) (rcol_eq (by omega) (by omega))

/-- The largest absolute scores after the run. -/
theorem arr4 : (dats m (fun c => Inv m c) (fun c => T3 m c) (fun c => T4 m c) (fun c => T5 m c) 0 c).arrAt 4 cfg0.N = G4 (aQ m c) (aK m c) := by
  refine (dats m (fun c => Inv m c) (fun c => T3 m c) (fun c => T4 m c) (fun c => T5 m c) 0 c).arrAt_eq_of_covers 4 _ (by decide +kernel) fun t hf y => ?_
  have ht := t_lt t
  have h1 : (y 2).val < 2 := (y 2).isLt
  have h2 : (y 3).val < 1024 := (y 3).isLt
  show T4 m c t y = _
  unfold T4 G4
  blk_simp [idx4 t]
  exact amaxAt_eq (by omega) (by omega) (rcol_eq (by omega) (by omega))

/-- The largest absolute outputs after the run. -/
theorem arr5 : (dats m (fun c => Inv m c) (fun c => T3 m c) (fun c => T4 m c) (fun c => T5 m c) 0 c).arrAt 5 cfg0.N = G5 (aQ m c) (aK m c) (aV m c) := by
  refine (dats m (fun c => Inv m c) (fun c => T3 m c) (fun c => T4 m c) (fun c => T5 m c) 0 c).arrAt_eq_of_covers 5 _ (by decide +kernel) fun t hf y => ?_
  have ht := t_lt t
  have h1 : (y 2).val < 2 := (y 2).isLt
  have h2 : (y 3).val < 1024 := (y 3).isLt
  show T5 m c t y = _
  unfold T5 G5
  blk_simp [idx5 t]
  exact omaxAt_eq (by omega) (by omega) (rcol_eq (by omega) (by omega))

/-- The run: the three results at the columns' values, the arguments unchanged. -/
theorem run (hf : ∀ c, Fin_ (aQ m c) (aK m c)) :
    θ_run defs (onTc (τ := τ) (main (F := Ideal))) ⟨m, fun _ => 0, ρ⟩ fun r => ∀ c : Dev nD,
      r.2.mem ((c.tc : Thread nD τ).loc main_v0_0) = G3 (aQ m c) (aK m c) (aV m c)
      ∧ r.2.mem ((c.tc : Thread nD τ).loc main_v0_1) = G4 (aQ m c) (aK m c)
      ∧ r.2.mem ((c.tc : Thread nD τ).loc main_v0_2) = G5 (aQ m c) (aK m c) (aV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (arr3 m c), ((h c).1 4).trans (arr4 m c), ((h c).1 5).trans (arr5 m c),
      ((h c).1 0).trans ((dats m (fun c => Inv m c) (fun c => T3 m c) (fun c => T4 m c) (fun c => T5 m c) 0 c).arrAt_in 0 rfl _),
      ((h c).1 1).trans ((dats m (fun c => Inv m c) (fun c => T3 m c) (fun c => T4 m c) (fun c => T5 m c) 0 c).arrAt_in 1 rfl _),
      ((h c).1 2).trans ((dats m (fun c => Inv m c) (fun c => T3 m c) (fun c => T4 m c) (fun c => T5 m c) 0 c).arrAt_in 2 rfl _)⟩)
    (run_named m ρ (fun c => Inv m c) (fun c => T3 m c) (fun c => T4 m c) (fun c => T5 m c) (fun c s h => absurd rfl h)
      fun c t f2 f3 f4 o s e2 e3 e4 I => step m c (hf c) t f2 f3 f4 o s e2 e3 e4 I)

end Cert.Proof.KernelIdeal
-- ==== Proof.Ref.lean ====
/-
  The reference's run: its operations in order, what they leave in the three result buffers (`out_o`, `out_rs`, `out_ro`
  of the three arguments), and its frame.
-/
module

public import proofs.«01_k».proof.Proof.Gen.ReferenceIdeal
public import Idealize.ShloMosaic.Lib.StableHlo.Run
public import Idealize.ShloMosaic.Lib.Quiescent
public import Idealize.ShloMosaic.Lib.Tactic

@[expose] public section

set_option maxRecDepth 8192

noncomputable section

namespace Cert.Proof.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.ReferenceIdeal Cert.ReferenceIdeal.Gen Idealize.ShloMosaic.StableHlo
variable {F : FTy → Type} [FloatOps F]

/-- @main's operations, in order. -/
abbrev ops : List (HloOp τ sig (Elt F)) :=
  [ binary main_arg0 main_arg1 main_v0 ((fun l r => Host.dotGeneral dot_S3x4x2x8192x256_S3x4x8192x256_S3x4x2x8192x8192_4_3_23_2_01_01 none l r) : (⟨S3x4x2x8192x256, .bf16⟩ : BufTy).Contents (Elt F) → (⟨S3x4x8192x256, .bf16⟩ : BufTy).Contents (Elt F) → (⟨S3x4x2x8192x8192, .f32⟩ : BufTy).Contents (Elt F)),
    nullary main_cst (constant S_ .f32 0x3D800000#32),
    unary main_cst main_v1 (broadcastInDim S3x4x2x8192x8192 ![] bcast_S_S3x4x2x8192x8192 : (⟨S_, .f32⟩ : BufTy).Contents (Elt F) → (⟨S3x4x2x8192x8192, .f32⟩ : BufTy).Contents (Elt F)),
    binary main_v0 main_v1 main_v2 (mulf : (⟨S3x4x2x8192x8192, .f32⟩ : BufTy).Contents (Elt F) → (⟨S3x4x2x8192x8192, .f32⟩ : BufTy).Contents (Elt F) → (⟨S3x4x2x8192x8192, .f32⟩ : BufTy).Contents (Elt F)),
    nullary main_v3 (iotaInDim S8192 32 0),
    unary main_v3 main_v4 (broadcastInDim S1x8192 ![1] bcast_S8192_S1x8192_1 : (⟨S8192, .i32⟩ : BufTy).Contents (Elt F) → (⟨S1x8192, .i32⟩ : BufTy).Contents (Elt F)),
    unary main_v3 main_v5 (broadcastInDim S8192x1 ![0] bcast_S8192_S8192x1_0 : (⟨S8192, .i32⟩ : BufTy).Contents (Elt F) → (⟨S8192x1, .i32⟩ : BufTy).Contents (Elt F)),
    unary main_v4 main_v6 (broadcastInDim S8192x8192 ![0, 1] bcast_S1x8192_S8192x8192_0_1 : (⟨S1x8192, .i32⟩ : BufTy).Contents (Elt F) → (⟨S8192x8192, .i32⟩ : BufTy).Contents (Elt F)),
    unary main_v5 main_v7 (broadcastInDim S8192x8192 ![0, 1] bcast_S8192x1_S8192x8192_0_1 : (⟨S8192x1, .i32⟩ : BufTy).Contents (Elt F) → (⟨S8192x8192, .i32⟩ : BufTy).Contents (Elt F)),
    binary main_v6 main_v7 main_v8 (cmpi .sle : (⟨S8192x8192, .i32⟩ : BufTy).Contents (Elt F) → (⟨S8192x8192, .i32⟩ : BufTy).Contents (Elt F) → (⟨S8192x8192, .i1⟩ : BufTy).Contents (Elt F)),
    unary main_v8 main_v9 (broadcastInDim S1x1x1x8192x8192 ![3, 4] bcast_S8192x8192_S1x1x1x8192x8192_3_4 : (⟨S8192x8192, .i1⟩ : BufTy).Contents (Elt F) → (⟨S1x1x1x8192x8192, .i1⟩ : BufTy).Contents (Elt F)),
    unary main_v2 main_v10 (Host.absf : (⟨S3x4x2x8192x8192, .f32⟩ : BufTy).Contents (Elt F) → (⟨S3x4x2x8192x8192, .f32⟩ : BufTy).Contents (Elt F)),
    nullary main_cst_0 (constant S_ .f32 0x00000000#32),
    TRef.unary (TRef.of main_v9 : TRef sig ⟨S1x1x1x8192x8192, .i1⟩) main_call0.v0 (broadcastInDim S3x4x2x8192x8192 ![0, 1, 2, 3, 4] bcast_S1x1x1x8192x8192_S3x4x2x8192x8192_0_1_2_3_4),
    TRef.unary (TRef.of main_cst_0 : TRef sig ⟨S_, .f32⟩) main_call0.v1 (broadcastInDim S3x4x2x8192x8192 ![] bcast_S_S3x4x2x8192x8192),
    TRef.ternary main_call0.v0 (TRef.of main_v10 : TRef sig ⟨S3x4x2x8192x8192, .f32⟩) main_call0.v1 main_call0.v2 select,
    nullary main_cst_1 (constant S_ .f32 0xFF800000#32),
    binary main_v11 main_cst_1 main_v12 ((fun x v => Host.reduce FloatOps.maximumf x v reducesTo_S3x4x2x8192x8192_S3x4x2x8192_d4 h_S_) : (⟨S3x4x2x8192x8192, .f32⟩ : BufTy).Contents (Elt F) → (⟨S_, .f32⟩ : BufTy).Contents (Elt F) → (⟨S3x4x2x8192, .f32⟩ : BufTy).Contents (Elt F)),
    nullary main_cst_2 (constant S_ .f32 0xFF800000#32),
    TRef.unary (TRef.of main_cst_2 : TRef sig ⟨S_, .f32⟩) main_call1.v0 id,
    TRef.unary (TRef.of main_v9 : TRef sig ⟨S1x1x1x8192x8192, .i1⟩) main_call1.v1 (broadcastInDim S3x4x2x8192x8192 ![0, 1, 2, 3, 4] bcast_S1x1x1x8192x8192_S3x4x2x8192x8192_0_1_2_3_4),
    TRef.unary main_call1.v0 main_call1.v2 (broadcastInDim S3x4x2x8192x8192 ![] bcast_S_S3x4x2x8192x8192),
    TRef.ternary main_call1.v1 (TRef.of main_v2 : TRef sig ⟨S3x4x2x8192x8192, .f32⟩) main_call1.v2 main_call1.v3 select,
    nullary main_cst_3 (constant S_ .f32 0xFF800000#32),
    binary main_v13 main_cst_3 main_v14 ((fun x v => Host.reduce FloatOps.maximumf x v reducesTo_S3x4x2x8192x8192_S3x4x2x8192_d4 h_S_) : (⟨S3x4x2x8192x8192, .f32⟩ : BufTy).Contents (Elt F) → (⟨S_, .f32⟩ : BufTy).Contents (Elt F) → (⟨S3x4x2x8192, .f32⟩ : BufTy).Contents (Elt F)),
    nullary main_cst_4 (constant S_ .f32 0xFF800000#32),
    unary main_cst_4 main_v15 (broadcastInDim S3x4x2x8192 ![] bcast_S_S3x4x2x8192 : (⟨S_, .f32⟩ : BufTy).Contents (Elt F) → (⟨S3x4x2x8192, .f32⟩ : BufTy).Contents (Elt F)),
    binary main_v15 main_v14 main_v16 (maximumf : (⟨S3x4x2x8192, .f32⟩ : BufTy).Contents (Elt F) → (⟨S3x4x2x8192, .f32⟩ : BufTy).Contents (Elt F) → (⟨S3x4x2x8192, .f32⟩ : BufTy).Contents (Elt F)),
    unary main_v16 main_v17 (broadcastInDim S3x4x2x8192x1 ![0, 1, 2, 3] bcast_S3x4x2x8192_S3x4x2x8192x1_0_1_2_3 : (⟨S3x4x2x8192, .f32⟩ : BufTy).Contents (Elt F) → (⟨S3x4x2x8192x1, .f32⟩ : BufTy).Contents (Elt F)),
    unary main_v17 main_v18 (broadcastInDim S3x4x2x8192x8192 ![0, 1, 2, 3, 4] bcast_S3x4x2x8192x1_S3x4x2x8192x8192_0_1_2_3_4 : (⟨S3x4x2x8192x1, .f32⟩ : BufTy).Contents (Elt F) → (⟨S3x4x2x8192x8192, .f32⟩ : BufTy).Contents (Elt F)),
    binary main_v13 main_v18 main_v19 (subf : (⟨S3x4x2x8192x8192, .f32⟩ : BufTy).Contents (Elt F) → (⟨S3x4x2x8192x8192, .f32⟩ : BufTy).Contents (Elt F) → (⟨S3x4x2x8192x8192, .f32⟩ : BufTy).Contents (Elt F)),
    unary main_v19 main_v20 (Host.exp : (⟨S3x4x2x8192x8192, .f32⟩ : BufTy).Contents (Elt F) → (⟨S3x4x2x8192x8192, .f32⟩ : BufTy).Contents (Elt F)),
    nullary main_cst_5 (constant S_ .f32 0x00000000#32),
    binary main_v20 main_cst_5 main_v21 ((fun x v => Host.reduceAdd x v reducesTo_S3x4x2x8192x8192_S3x4x2x8192_d4 h_S_) : (⟨S3x4x2x8192x8192, .f32⟩ : BufTy).Contents (Elt F) → (⟨S_, .f32⟩ : BufTy).Contents (Elt F) → (⟨S3x4x2x8192, .f32⟩ : BufTy).Contents (Elt F)),
    unary main_v21 main_v22 (broadcastInDim S3x4x2x8192x1 ![0, 1, 2, 3] bcast_S3x4x2x8192_S3x4x2x8192x1_0_1_2_3 : (⟨S3x4x2x8192, .f32⟩ : BufTy).Contents (Elt F) → (⟨S3x4x2x8192x1, .f32⟩ : BufTy).Contents (Elt F)),
    unary main_v22 main_v23 (broadcastInDim S3x4x2x8192x8192 ![0, 1, 2, 3, 4] bcast_S3x4x2x8192x1_S3x4x2x8192x8192_0_1_2_3_4 : (⟨S3x4x2x8192x1, .f32⟩ : BufTy).Contents (Elt F) → (⟨S3x4x2x8192x8192, .f32⟩ : BufTy).Contents (Elt F)),
    binary main_v20 main_v23 main_v24 (Host.divf : (⟨S3x4x2x8192x8192, .f32⟩ : BufTy).Contents (Elt F) → (⟨S3x4x2x8192x8192, .f32⟩ : BufTy).Contents (Elt F) → (⟨S3x4x2x8192x8192, .f32⟩ : BufTy).Contents (Elt F)),
    unary main_v24 main_v25 ((truncf .bf16 · bitsLt_bf16_f32) : (⟨S3x4x2x8192x8192, .f32⟩ : BufTy).Contents (Elt F) → (⟨S3x4x2x8192x8192, .bf16⟩ : BufTy).Contents (Elt F)),
    binary main_v25 main_arg2 main_v26 ((fun l r => Host.dotGeneral dot_S3x4x2x8192x8192_S3x4x256x8192_S3x4x2x8192x256_4_3_23_2_01_01 none l r) : (⟨S3x4x2x8192x8192, .bf16⟩ : BufTy).Contents (Elt F) → (⟨S3x4x256x8192, .bf16⟩ : BufTy).Contents (Elt F) → (⟨S3x4x2x8192x256, .f32⟩ : BufTy).Contents (Elt F)),
    unary main_v26 main_v27 (Host.absf : (⟨S3x4x2x8192x256, .f32⟩ : BufTy).Contents (Elt F) → (⟨S3x4x2x8192x256, .f32⟩ : BufTy).Contents (Elt F)),
    nullary main_cst_6 (constant S_ .f32 0xFF800000#32),
    binary main_v27 main_cst_6 main_v28 ((fun x v => Host.reduce FloatOps.maximumf x v reducesTo_S3x4x2x8192x256_S3x4x2x8192_d4 h_S_) : (⟨S3x4x2x8192x256, .f32⟩ : BufTy).Contents (Elt F) → (⟨S_, .f32⟩ : BufTy).Contents (Elt F) → (⟨S3x4x2x8192, .f32⟩ : BufTy).Contents (Elt F)),
    reshape main_v26 main_v29 (rfl : (.f32 : EltTy) = .f32) shapeCasts_S3x4x2x8192x256_S3x8x8192x256 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., nullary_bufs_sub .., unary_bufs_sub .., unary_bufs_sub .., ternary_bufs_sub .., nullary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., nullary_bufs_sub .., binary_bufs_sub .., reshape_bufs_sub ..⟩

/-! ## The values -/

/-- The queries, the keys, the transposed values. -/
abbrev Q := FVec F S3x4x2x8192x256 .bf16
abbrev K := FVec F S3x4x8192x256 .bf16
abbrev Vt := FVec F S3x4x256x8192 .bf16

/-- The scores: every query row against every key, by 1/16. -/
def scores (q : Q (F := F)) (k : K (F := F)) : FVec F S3x4x2x8192x8192 .f32 :=
  mulf (Host.dotGeneral dot_S3x4x2x8192x256_S3x4x8192x256_S3x4x2x8192x8192_4_3_23_2_01_01 none q k)
    (broadcastInDim S3x4x2x8192x8192 ![] bcast_S_S3x4x2x8192x8192 (constant S_ .f32 0x3D800000#32))

/-- The causal mask: key not after query. -/
def mask : IVec S3x4x2x8192x8192 1 :=
  broadcastInDim S3x4x2x8192x8192 ![0, 1, 2, 3, 4] bcast_S1x1x1x8192x8192_S3x4x2x8192x8192_0_1_2_3_4
    (broadcastInDim S1x1x1x8192x8192 ![3, 4] bcast_S8192x8192_S1x1x1x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

/-- The largest score in absolute value of each query row, over the keys not after it. -/
def rs (q : Q (F := F)) (k : K (F := F)) : FVec F S3x4x2x8192 .f32 :=
  Host.reduce FloatOps.maximumf (select mask (Host.absf (scores q k)) (broadcastInDim S3x4x2x8192x8192 ![] bcast_S_S3x4x2x8192x8192 (constant S_ .f32 0x00000000#32)))
    (constant S_ .f32 0xFF800000#32) reducesTo_S3x4x2x8192x8192_S3x4x2x8192_d4 h_S_

/-- The masked scores. -/
def masked (q : Q (F := F)) (k : K (F := F)) : FVec F S3x4x2x8192x8192 .f32 :=
  select mask (scores q k) (broadcastInDim S3x4x2x8192x8192 ![] bcast_S_S3x4x2x8192x8192 (constant S_ .f32 0xFF800000#32))

/-- Their row maxima. -/
def mx (q : Q (F := F)) (k : K (F := F)) : FVec F S3x4x2x8192 .f32 :=
  maximumf (broadcastInDim S3x4x2x8192 ![] bcast_S_S3x4x2x8192 (constant S_ .f32 0xFF800000#32))
    (Host.reduce FloatOps.maximumf (masked q k) (constant S_ .f32 0xFF800000#32) reducesTo_S3x4x2x8192x8192_S3x4x2x8192_d4 h_S_)

/-- A value per query row, along the keys. -/
def along (x : FVec F S3x4x2x8192 .f32) : FVec F S3x4x2x8192x8192 .f32 :=
  broadcastInDim S3x4x2x8192x8192 ![0, 1, 2, 3, 4] bcast_S3x4x2x8192x1_S3x4x2x8192x8192_0_1_2_3_4
    (broadcastInDim S3x4x2x8192x1 ![0, 1, 2, 3] bcast_S3x4x2x8192_S3x4x2x8192x1_0_1_2_3 x)

/-- The exponentials. -/
def ex (q : Q (F := F)) (k : K (F := F)) : FVec F S3x4x2x8192x8192 .f32 := Host.exp (subf (masked q k) (along (mx q k)))

/-- The weights: the exponentials over their sum. -/
def wts (q : Q (F := F)) (k : K (F := F)) : FVec F S3x4x2x8192x8192 .f32 :=
  Host.divf (ex q k) (along (Host.reduceAdd (ex q k) (constant S_ .f32 0x00000000#32) reducesTo_S3x4x2x8192x8192_S3x4x2x8192_d4 h_S_))

/-- The outputs, per head and query row. -/
def o5 (q : Q (F := F)) (k : K (F := F)) (v : Vt (F := F)) : FVec F S3x4x2x8192x256 .f32 :=
  Host.dotGeneral dot_S3x4x2x8192x8192_S3x4x256x8192_S3x4x2x8192x256_4_3_23_2_01_01 none (truncf .bf16 (wts q k) bitsLt_bf16_f32) v

/-- The largest output in absolute value of each query row. -/
def ro (q : Q (F := F)) (k : K (F := F)) (v : Vt (F := F)) : FVec F S3x4x2x8192 .f32 :=
  Host.reduce FloatOps.maximumf (Host.absf (o5 q k v)) (constant S_ .f32 0xFF800000#32) reducesTo_S3x4x2x8192x256_S3x4x2x8192_d4 h_S_

/-- The outputs, the heads of a group side by side. -/
def o (q : Q (F := F)) (k : K (F := F)) (v : Vt (F := F)) : FVec F S3x8x8192x256 .f32 :=
  shapeCast S3x8x8192x256 (o5 q k v) shapeCasts_S3x4x2x8192x256_S3x8x8192x256

/-- The run: the three results at the values above, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = o (m ((c.tc : Thread nD τ).loc main_arg0)) (m ((c.tc : Thread nD τ).loc main_arg1)) (m ((c.tc : Thread nD τ).loc main_arg2))
      ∧ r.2.mem ((c.tc : Thread nD τ).loc main_v12) = rs (m ((c.tc : Thread nD τ).loc main_arg0)) (m ((c.tc : Thread nD τ).loc main_arg1))
      ∧ r.2.mem ((c.tc : Thread nD τ).loc main_v28) = ro (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (by after_results; rfl), (h c main_v12).trans (by after_results; rfl),
      (h c main_v28).trans (by after_results; rfl), (h c main_arg0).trans (by after_results), (h c main_arg1).trans (by after_results),
      (h c main_arg2).trans (by after_results)⟩)
    (run_seq scopedRefs_eq scopedSems_eq defs main (fun _ => ops) main_eq (fun _ => ops_sub) m ρ)

/-- The frame. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c).2.2.2.1, (h c).2.2.2.2.1, (h c).2.2.2.2.2⟩,
      Idealize.ShloMosaic.sem_eq_zero_of_no_sems (by decide) r.2⟩) (run m ρ)

end Cert.Proof.Ref
-- ==== Proof.Pre.lean ====
/-
  The precondition's side conditions, and what it says of an argument: every entry of the queries and of the keys is real.
-/
module

public import proofs.«01_k».proof.Pre_finite_scores
public import Idealize.ShloMosaic.Lib.Pointwise

@[expose] public section

noncomputable section

namespace Cert.Proof.Pre

open Idealize.ShloMosaic
open Cert.Pre_finite_scores

/-- The side conditions hold. -/
theorem facts : Cert.Pre_finite_scores.Facts where
  bcast_S_S3x4x2x8192x256 := by decide
  bcast_S_S3x4x8192x256 := by decide

/-- The bits of +∞. -/
theorem inf_bf16 : Ideal.ofBits FTy.bf16 0x7F80#16 = ⊤ := by
  simp [Ideal.ofBits, Ideal.ieee]

/-- An extended real whose absolute value is below +∞ is real. -/
theorem real_of (x : EReal) (h : Ideal.cmp .olt (max x (-x)) ⊤ = 1#1) : ∃ y : ℝ, x = y := by
  have hl : max x (-x) < ⊤ := by
    by_contra hn
    simp [Ideal.cmp, hn] at h
  induction x with
  | bot => simp at hl
  | coe y => exact ⟨y, rfl⟩
  | top => simp at hl

variable [Facts] (q : FVec Ideal S3x4x2x8192x256 .bf16) (k : FVec Ideal S3x4x8192x256 .bf16) (v : FVec Ideal S3x4x256x8192 .bf16)

/-- Every query entry is real. -/
theorem q_real (h : (fn q k v).1 = fun _ => 1#1) (i : S3x4x2x8192x256.Idx) : ∃ y : ℝ, q i = y := by
  have e := congrFun h i
  dsimp only [fn] at e
  refine real_of _ ?_
  rw [← inf_bf16]
  exact e

/-- Every key entry is real. -/
theorem k_real (h : (fn q k v).2 = fun _ => 1#1) (i : S3x4x8192x256.Idx) : ∃ y : ℝ, k i = y := by
  have e := congrFun h i
  dsimp only [fn] at e
  refine real_of _ ?_
  rw [← inf_bf16]
  exact e

end Cert.Proof.Pre
-- ==== Proof.RefRows.lean ====
/-
  The reference's three results at an index.
-/
module

public import proofs.«01_k».proof.Proof.Ref
public import proofs.«01_k».proof.Proof.Rows
public import Idealize.ShloMosaic.Lib.Pointwise

@[expose] public section

set_option maxRecDepth 100000

noncomputable section

namespace Cert.Proof.Ref

open Idealize.ShloMosaic
open Cert.ReferenceIdeal Cert.ReferenceIdeal.Gen
open Cert.Proof.Cols Cert.Proof.Rows

variable (q : Q (F := Ideal)) (k : K (F := Ideal)) (v : Vt (F := Ideal))

/-- The largest entry of each row. -/
theorem red_at (X : FVec Ideal S3x4x2x8192x8192 .f32) (b : Fin 3) (h : Fin 4) (u : Fin 2) (p : Fin 8192) :
    Host.reduce FloatOps.maximumf X (constant S_ .f32 0xFF800000#32) reducesTo_S3x4x2x8192x8192_S3x4x2x8192_d4 h_S_ (ix4 b h u p)
      = Finset.univ.fold max ⊥ fun j : Fin 8192 => X (ix5 b h u p j) := by
  rw [Host.reduce_eq_fold]
  refine (Shape.ReducesTo.fold_fiber_r5_a4 _ _ _ _ _).trans ?_
  exact congrArg (fun z => Finset.univ.fold max z fun j : Fin 8192 => X (ix5 b h u p j)) neg_inf

theorem sx_f32 : Ideal.ofBits FTy.f32 0x3D800000#32 = sx := by
  unfold sx
  simp [Ideal.ofBits, Ideal.ieee]
  rw [← EReal.coe_mul]
  exact congrArg _ (by norm_num)

/-- The score of query `p` and key `j`. -/
theorem scores_at (b : Fin 3) (h : Fin 4) (u : Fin 2) (p j : Fin 8192) :
    scores q k (ix5 b h u p j) = (∑ x : Fin 256, q (ix5 b h u p x) * k (ix4 b h j x)) * sx := by
  pointwise [scores]
  rw [show Ideal.ofBits FTy.f32 1031798784#32 = sx from sx_f32]

/-- The mask: key not after query. -/
theorem mask_at (b : Fin 3) (h : Fin 4) (u : Fin 2) (p j : Fin 8192) :
    mask (ix5 b h u p j) = if j.val ≤ p.val then 1#1 else 0#1 := by
  pointwise [mask]
  have hj := j.isLt
  have hp := p.isLt
  have e : ∀ x : Fin 8192, (BitVec.ofNat 32 x.val).toInt = x.val := fun x => by
    have := x.isLt
    rw [BitVec.toInt_eq_toNat_of_lt (by rw [BitVec.toNat_ofNat]; omega), BitVec.toNat_ofNat]
    omega
  unfold IntOp.cmpi
  simp only [BitVec.sle, e]
  by_cases h : j.val ≤ p.val
  · simp [h]
  · simp [h]

theorem select_if {P : Prop} [Decidable P] (x y : EReal) : Scalar.select (if P then 1#1 else 0#1) x y = if P then x else y := by
  by_cases h : P
  · rw [if_pos h, if_pos h]; rfl
  · rw [if_neg h, if_neg h]; rfl

/-- The masked score. -/
theorem masked_at (b : Fin 3) (h : Fin 4) (u : Fin 2) (p j : Fin 8192) :
    masked q k (ix5 b h u p j) = if j.val ≤ p.val then scores q k (ix5 b h u p j) else ⊥ := by
  pointwise [masked]
  rw [mask_at, select_if, show Ideal.ofBits FTy.f32 4286578688#32 = ⊥ from neg_inf]

/-- The larger of −∞ and an entry. -/
theorem maxbot_at (Y : FVec Ideal S3x4x2x8192 .f32) (b : Fin 3) (h : Fin 4) (u : Fin 2) (p : Fin 8192) :
    maximumf (broadcastInDim S3x4x2x8192 ![] bcast_S_S3x4x2x8192 (constant S_ .f32 0xFF800000#32)) Y (ix4 b h u p) = max ⊥ (Y (ix4 b h u p)) := by
  pointwise []
  exact congrArg (fun z => max z (Y (ix4 b h u p))) neg_inf

/-- A row's maximum. -/
theorem mx_at (b : Fin 3) (h : Fin 4) (u : Fin 2) (p : Fin 8192) :
    mx q k (ix4 b h u p) = max ⊥ (Finset.univ.fold max ⊥ fun j : Fin 8192 => masked q k (ix5 b h u p j)) :=
  (maxbot_at _ b h u p).trans (congrArg (fun z => max ⊥ z) (red_at (masked q k) b h u p))

/-- A row's largest absolute score. -/
theorem rs_at (b : Fin 3) (h : Fin 4) (u : Fin 2) (p : Fin 8192) :
    rs q k (ix4 b h u p) = Finset.univ.fold max ⊥ fun j : Fin 8192 => if j.val ≤ p.val then max (scores q k (ix5 b h u p j)) (-(scores q k (ix5 b h u p j))) else 0 := by
  unfold rs
  rw [red_at]
  refine congrArg (fun f => Finset.univ.fold max ⊥ f) (funext fun j => ?_)
  have e : (select mask (Host.absf (scores q k)) (broadcastInDim S3x4x2x8192x8192 ![] bcast_S_S3x4x2x8192x8192 (constant S_ .f32 0x00000000#32)) : FVec Ideal S3x4x2x8192x8192 .f32) (ix5 b h u p j)
      = Scalar.select (mask (ix5 b h u p j)) (max (scores q k (ix5 b h u p j)) (-(scores q k (ix5 b h u p j)))) 0 := by
    pointwise []
    rfl
  rw [e, mask_at, select_if]

/-- An exponential. -/
theorem ex_at (b : Fin 3) (h : Fin 4) (u : Fin 2) (p j : Fin 8192) :
    ex q k (ix5 b h u p j) = Ideal.exp (masked q k (ix5 b h u p j) - mx q k (ix4 b h u p)) := by
  pointwise [ex, along]

/-- A weight. -/
theorem wts_at (b : Fin 3) (h : Fin 4) (u : Fin 2) (p j : Fin 8192) :
    wts q k (ix5 b h u p j) = Ideal.div (ex q k (ix5 b h u p j)) (0 + ∑ j : Fin 8192, ex q k (ix5 b h u p j)) := by
  pointwise [wts, along]

/-- An output. -/
theorem o5_at (b : Fin 3) (h : Fin 4) (u : Fin 2) (p : Fin 8192) (d : Fin 256) :
    o5 q k v (ix5 b h u p d) = ∑ j : Fin 8192, wts q k (ix5 b h u p j) * v (ix4 b h d j) := by
  pointwise [o5]

/-- A row's largest absolute output. -/
theorem ro_at (b : Fin 3) (h : Fin 4) (u : Fin 2) (p : Fin 8192) :
    ro q k v (ix4 b h u p) = Finset.univ.sup fun d : Fin 256 => max (o5 q k v (ix5 b h u p d)) (-(o5 q k v (ix5 b h u p d))) := by
  pointwise [ro]
  exact congrArg (fun z => Finset.univ.fold max z fun d : Fin 256 => max (o5 q k v (ix5 b h u p d)) (-(o5 q k v (ix5 b h u p d)))) neg_inf

/-- An output of the result, by its head. -/
theorem o_at (i : S3x8x8192x256.Idx) :
    o q k v i = o5 q k v (ix5 (i 0) ⟨(i 1).val / 2, by have : (i 1).val < 8 := (i 1).isLt; omega⟩ ⟨(i 1).val % 2, Nat.mod_lt _ (by norm_num)⟩ (i 2) (i 3)) := by
  pointwise [o]

end Cert.Proof.Ref
-- ==== Proof.Tie.lean ====
/-
  Kernel and reference agree: the three arrays the kernel leaves are the reference's three results, when every score is
  finite.
-/
module

public import proofs.«01_k».proof.Proof.KernelIdealGrid
public import proofs.«01_k».proof.Proof.RefRows

@[expose] public section

set_option maxRecDepth 100000

noncomputable section

namespace Cert.Proof.Tie

open Idealize.ShloMosaic
open Cert.ReferenceIdeal
open Cert.Proof.Cols Cert.Proof.Rows Cert.Proof.Ref
open Cert.Proof.KernelIdeal (sraw SCh ABh vh outAt amaxAt omaxAt G3 G4 G5 Fin_ rcol nb nh kp dp)

variable (q : Ref.Q (F := Ideal)) (k : Ref.K (F := Ideal)) (v : Ref.Vt (F := Ideal))

/-- A column's position in its block is its query's. -/
theorem pos_eq (u : Fin 2) (p : Fin 8192) : 256 * (p.val / 256) + (rcol p.val u.val).val % 256 = p.val := by
  have := u.isLt
  have := p.isLt
  show 256 * (p.val / 256) + (p.val % 256 + 256 * u.val) % 512 % 256 = p.val
  omega

/-- The kernel's raw score is the product of the reference's query and key. -/
theorem sraw_eq (b : Fin 3) (h : Fin 4) (u : Fin 2) (p j : Fin 8192) :
    sraw q k (4 * b.val + h.val) (p.val / 256) (rcol p.val u.val) j.val = ∑ x : Fin 256, q (ix5 b h u p x) * k (ix4 b h j x) := by
  have hb := b.isLt
  have hh := h.isLt
  have hu := u.isLt
  have hp := p.isLt
  have hj := j.isLt
  have e1 : nb (4 * b.val + h.val) = b := Fin.ext (show (4 * b.val + h.val) / 4 % 3 = b.val by omega)
  have e2 : nh (4 * b.val + h.val) = h := Fin.ext (show (4 * b.val + h.val) % 4 = h.val by omega)
  have e3 : kp j.val = j := Fin.ext (show j.val % 8192 = j.val by omega)
  have e4 : Cert.Proof.KernelIdeal.hd (rcol p.val u.val) = u := Fin.ext (show (p.val % 256 + 256 * u.val) % 512 / 256 = u.val by omega)
  have e5 : Cert.Proof.KernelIdeal.qpos (p.val / 256) (rcol p.val u.val) = p :=
    Fin.ext (show (256 * (p.val / 256) + (p.val % 256 + 256 * u.val) % 512 % 256) % 8192 = p.val by omega)
  unfold sraw
  rw [e1, e2, e3, e4, e5]
  exact Finset.sum_congr rfl fun x _ => mul_comm _ _

/-- A row of the reference, and the kernel's column of it, by the row's raw scores. -/
theorem row (hf : Fin_ q k) (b : Fin 3) (h : Fin 4) (u : Fin 2) (p : Fin 8192) : ∃ s : ℕ → ℝ,
    SCh q k (4 * b.val + h.val) (p.val / 256) (rcol p.val u.val) = scol s p.val
      ∧ ABh q k (4 * b.val + h.val) (p.val / 256) (rcol p.val u.val) = acol s p.val
      ∧ (∀ j : Fin 8192, scores q k (ix5 b h u p j) = s j.val * sx)
      ∧ ∀ j : Fin 8192, masked q k (ix5 b h u p j) = mcol s p.val j.val := by
  choose s hs using hf (4 * b.val + h.val) (p.val / 256) (rcol p.val u.val)
  have hsc : ∀ j : Fin 8192, scores q k (ix5 b h u p j) = s j.val * sx := fun j => by
    rw [scores_at, ← sraw_eq, hs]
  refine ⟨s, funext fun j => ?_, funext fun j => ?_, hsc, fun j => ?_⟩
  · unfold SCh scol
    rw [pos_eq, hs]
  · unfold ABh acol
    rw [pos_eq, hs]
  · rw [masked_at, hsc]
    rfl

/-- A row's largest absolute score. -/
theorem rs_row (hf : Fin_ q k) (b : Fin 3) (h : Fin 4) (u : Fin 2) (p : Fin 8192) :
    rs q k (ix4 b h u p) = amaxAt q k (4 * b.val + h.val) (p.val / 256) (rcol p.val u.val) := by
  obtain ⟨s, -, hA, hsc, -⟩ := row q k hf b h u p
  have hp := p.isLt
  rw [rs_at]
  unfold amaxAt
  rw [hA]
  refine Eq.trans ?_ (amax_row (n := 8192) s p.val (show p.val < 256 * (p.val / 256 + 1) by omega) (by omega)).symm
  refine congrArg (fun f => Finset.univ.fold max ⊥ f) (funext fun j => ?_)
  rw [hsc]

/-- A row's output. -/
theorem o_row (hf : Fin_ q k) (b : Fin 3) (h : Fin 4) (u : Fin 2) (p : Fin 8192) (d : Fin 256) :
    o5 q k v (ix5 b h u p d) = outAt q k v (4 * b.val + h.val) (p.val / 256) (rcol p.val u.val) d.val := by
  obtain ⟨s, hS, -, -, hm⟩ := row q k hf b h u p
  have hp := p.isLt
  have hb := b.isLt
  have hh := h.isLt
  have e1 : nb (4 * b.val + h.val) = b := Fin.ext (show (4 * b.val + h.val) / 4 % 3 = b.val by omega)
  have e2 : nh (4 * b.val + h.val) = h := Fin.ext (show (4 * b.val + h.val) % 4 = h.val by omega)
  have e6 : dp d.val = d := Fin.ext (Nat.mod_eq_of_lt d.isLt)
  have hmx : mx q k (ix4 b h u p) = max ⊥ (Finset.univ.fold max ⊥ fun j : Fin 8192 => mcol s p.val j.val) := by
    rw [mx_at]
    exact congrArg (fun f => max ⊥ (Finset.univ.fold max ⊥ f)) (funext hm)
  have hex : ∀ j : Fin 8192, ex q k (ix5 b h u p j) = Ideal.exp (mcol s p.val j.val - max ⊥ (Finset.univ.fold max ⊥ fun j : Fin 8192 => mcol s p.val j.val)) := fun j => by
    rw [ex_at, hm, hmx]
  rw [o5_at]
  unfold outAt
  rw [hS]
  refine Eq.trans ?_ (out_row (n := 8192) s p.val (show p.val < 256 * (p.val / 256 + 1) by omega) (by omega) _).symm
  refine Finset.sum_congr rfl fun j _ => ?_
  have e3 : kp j.val = j := Fin.ext (Nat.mod_eq_of_lt j.isLt)
  unfold vh
  rw [e1, e2, e3, e6, wts_at, hex]
  exact congrArg (fun z => Ideal.div _ (0 + z) * v (ix4 b h d j)) (Finset.sum_congr rfl fun j _ => hex j)

theorem eta4 (i : S3x4x2x8192.Idx) : i = ix4 (i 0) (i 1) (i 2) (i 3) := by
  funext a
  fin_cases a <;> rfl

/-- The largest absolute scores agree. -/
theorem rs_eq (hf : Fin_ q k) : rs q k = G4 q k := by
  funext i
  rw [eta4 i]
  exact rs_row q k hf (i 0) (i 1) (i 2) (i 3)

/-- The largest absolute outputs agree. -/
theorem ro_eq (hf : Fin_ q k) : ro q k v = G5 q k v := by
  funext i
  rw [eta4 i]
  refine (ro_at q k v (i 0) (i 1) (i 2) (i 3)).trans ?_
  have e : ∀ d : Fin 256, max (o5 q k v (ix5 (i 0) (i 1) (i 2) (i 3) d)) (-(o5 q k v (ix5 (i 0) (i 1) (i 2) (i 3) d)))
      = max (outAt q k v (4 * (i 0).val + (i 1).val) ((i 3).val / 256) (rcol (i 3).val (i 2).val) d.val)
        (-outAt q k v (4 * (i 0).val + (i 1).val) ((i 3).val / 256) (rcol (i 3).val (i 2).val) d.val) := fun d =>
    congrArg (fun z : EReal => max z (-z)) (o_row q k v hf (i 0) (i 1) (i 2) (i 3) d)
  exact congrArg (fun f : Fin 256 → EReal => Finset.univ.sup f) (funext e)

/-- The outputs agree. -/
theorem o_eq (hf : Fin_ q k) : o q k v = G3 q k v := by
  funext i
  exact (o_at q k v i).trans (o_row q k v hf (i 0) ⟨(i 1).val / 2, by have : (i 1).val < 8 := (i 1).isLt; omega⟩ ⟨(i 1).val % 2, Nat.mod_lt _ (by norm_num)⟩ (i 2) (i 3))

/-- A sum of products of reals is real. -/
theorem sum_real {n : ℕ} (f g : Fin n → EReal) (hf : ∀ x, ∃ y : ℝ, f x = y) (hg : ∀ x, ∃ y : ℝ, g x = y) :
    ∃ y : ℝ, ∑ x, f x * g x = y := by
  choose a ha using hf
  choose b hb using hg
  refine ⟨∑ x, a x * b x, ?_⟩
  rw [sum_coe]
  exact Finset.sum_congr rfl fun x _ => by rw [ha, hb, EReal.coe_mul]

/-- Finite queries and keys make finite scores. -/
theorem fin_of (hq : ∀ i, ∃ y : ℝ, q i = y) (hk : ∀ i, ∃ y : ℝ, k i = y) : Fin_ q k := fun _ _ _ _ =>
  sum_real _ _ (fun _ => hk _) (fun _ => hq _)

end Cert.Proof.Tie
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.KernelIdealFrame
public import proofs.«01_k».proof.Proof.KernelIdealOut
public import proofs.«01_k».proof.Proof.Ref
public import proofs.«01_k».proof.Proof.Pre
public import proofs.«01_k».proof.Proof.Tie

@[expose] public section

noncomputable section

namespace Cert.Proof

open Idealize.ShloMosaic Idealize.SL.Sem

attribute [local instance] Cert.KernelIdeal.Gen.facts Cert.ReferenceIdeal.Gen.facts Cert.Proof.Pre.facts

/-- The precondition makes every score finite. -/
theorem scores_finite (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    KernelIdeal.Fin_ (KernelIdeal.aQ m c) (KernelIdeal.aK m c) :=
  Tie.fin_of _ _ (Pre.q_real _ _ _ (h c).1) (Pre.k_real _ _ _ (h c).2)

/-- The idealized kernel and the idealized reference leave the same three results. -/
theorem algebraic : Cert.algebraic_KernelIdeal_ReferenceIdeal_pre_finite_scores := by
  intro m g m' g' hpre hargs
  have hf := scores_finite m hpre
  refine ⟨fun c => KernelIdeal.G3 (KernelIdeal.aQ m c) (KernelIdeal.aK m c) (KernelIdeal.aV m c), fun c => KernelIdeal.G4 (KernelIdeal.aQ m c) (KernelIdeal.aK m c),
    fun c => KernelIdeal.G5 (KernelIdeal.aQ m c) (KernelIdeal.aK m c) (KernelIdeal.aV m c), KernelIdeal.run m g hf, ?_⟩
  refine (θ_run Cert.ReferenceIdeal.defs _ _).mono (fun r h c => ?_) (Ref.run m' g')
  obtain ⟨h0, h1, h2, ha⟩ := h c
  obtain ⟨e0, e1, e2⟩ := hargs c
  refine ⟨h0.trans ?_, h1.trans ?_, h2.trans ?_, ha⟩
  · rw [e0, e1, e2]
    exact Tie.o_eq _ _ _ (hf c)
  · rw [e0, e1]
    exact Tie.rs_eq _ _ (hf c)
  · rw [e0, e1, e2]
    exact Tie.ro_eq _ _ _ (hf c)

/-- The claim. -/
theorem claim : Cert.Claim :=
  ⟨Cert.Kernel.Gen.facts, Cert.KernelIdeal.Gen.facts, Cert.ReferenceIdeal.Gen.facts, Pre.facts,
    fun m ρ _ => Kernel.frame m ρ, fun m ρ _ => KernelIdeal.frame m ρ, fun m ρ _ => KernelIdeal.frame m ρ,
    fun m ρ _ => Ref.frame m ρ, fun m ρ _ => Ref.frame m ρ,
    IdealRules.named_const.statement Cert.KernelIdeal.κ "exp2_scale" .f32 0x3DB8AA3B#32 _ rfl, algebraic⟩

end Cert.Proof

end
